-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v93) = v0 c
          ∧ r.2.mem ((c.tc : Thread Cert.Reference3Ideal.nD Cert.Reference3Ideal.τ).loc Cert.Reference3Ideal.main_v95) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  IdealRules.named_const.Statement Cert.Kernel4Ideal.κ "scale_a" .f32 0x3E38AA3B#32 ((((Real.sqrt 64) * (Real.log 2))⁻¹ : ℝ) : EReal)
  ∧ IdealRules.named_const.Statement Cert.Kernel4Ideal.κ "scale_b" .f32 0x3E0293EE#32 ((((Real.sqrt 128) * (Real.log 2))⁻¹ : ℝ) : EReal)
  ∧ IdealRules.named_const.Statement Cert.Kernel4Ideal.κ "scale_c" .f32 0x3DB504F3#32 (((Real.sqrt 128)⁻¹ : ℝ) : EReal)
  ∧ IdealRules.named_const.Statement Cert.Kernel4Ideal.κ "scale_d" .f32 0x3DD53B95#32 ((((Real.sqrt 192) * (Real.log 2))⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v70_0)) (v1 : (c : Dev Cert.Kernel4Ideal.nD) → Buf (Elt Ideal) ((c.tc : Thread Cert.Kernel4Ideal.nD Cert.Kernel4Ideal.τ).loc Cert.Kernel4Ideal.main_v70_1)) (v2 : (c : Dev Cert.Kernel4Ideal.nD) → Buf (Elt Ideal) ((c.tc : Thread Cert.Kernel4Ideal.nD Cert.Kernel4Ideal.τ).loc Cert.Kernel4Ideal.main_v70_2)) (v3 : (c : Dev Cert.Kernel4Ideal.nD) → Buf (Elt Ideal) ((c.tc : Thread Cert.Kernel4Ideal.nD Cert.Kernel4Ideal.τ).loc Cert.Kernel4Ideal.main_v70_3)) (v4 : (c : Dev Cert.Kernel4Ideal.nD) → Buf (Elt Ideal) ((c.tc : Thread Cert.Kernel4Ideal.nD Cert.Kernel4Ideal.τ).loc Cert.Kernel4Ideal.main_v70_4)) (v5 : (c : Dev Cert.Kernel4Ideal.nD) → Buf (Elt Ideal) ((c.tc : Thread Cert.Kernel4Ideal.nD Cert.Kernel4Ideal.τ).loc Cert.Kernel4Ideal.main_v70_5)) (v6 : (c : Dev Cert.Kernel4Ideal.nD) → Buf (Elt Ideal) ((c.tc : Thread Cert.Kernel4Ideal.nD Cert.Kernel4Ideal.τ).loc Cert.Kernel4Ideal.main_v70_6)) (v7 : (c : Dev Cert.Kernel4Ideal.nD) → Buf (Elt Ideal) ((c.tc : Thread Cert.Kernel4Ideal.nD Cert.Kernel4Ideal.τ).loc Cert.Kernel4Ideal.main_v70_7)) (v8 : (c : Dev Cert.Kernel4Ideal.nD) → Buf (Elt Ideal) ((c.tc : Thread Cert.Kernel4Ideal.nD Cert.Kernel4Ideal.τ).loc Cert.Kernel4Ideal.main_v70_8)) (v9 : (c : Dev Cert.Kernel4Ideal.nD) → Buf (Elt Ideal) ((c.tc : Thread Cert.Kernel4Ideal.nD Cert.Kernel4Ideal.τ).loc Cert.Kernel4Ideal.main_v70_9)) (v10 : (c : Dev Cert.Kernel4Ideal.nD) → Buf (Elt Ideal) ((c.tc : Thread Cert.Kernel4Ideal.nD Cert.Kernel4Ideal.τ).loc Cert.Kernel4Ideal.main_v70_10)) (v11 : (c : Dev Cert.Kernel4Ideal.nD) → Buf (Elt Ideal) ((c.tc : Thread Cert.Kernel4Ideal.nD Cert.Kernel4Ideal.τ).loc Cert.Kernel4Ideal.main_v70_11)) (v12 : (c : Dev Cert.Kernel4Ideal.nD) → Buf (Elt Ideal) ((c.tc : Thread Cert.Kernel4Ideal.nD Cert.Kernel4Ideal.τ).loc Cert.Kernel4Ideal.main_v70_12)) (v13 : (c : Dev Cert.Kernel4Ideal.nD) → Buf (Elt Ideal) ((c.tc : Thread Cert.Kernel4Ideal.nD Cert.Kernel4Ideal.τ).loc Cert.Kernel4Ideal.main_v70_13)) (v14 : (c : Dev Cert.Kernel4Ideal.nD) → Buf (Elt Ideal) ((c.tc : Thread Cert.Kernel4Ideal.nD Cert.Kernel4Ideal.τ).loc Cert.Kernel4Ideal.main_v70_14)) (v15 : (c : Dev Cert.Kernel4Ideal.nD) → Buf (Elt Ideal) ((c.tc : Thread Cert.Kernel4Ideal.nD Cert.Kernel4Ideal.τ).loc Cert.Kernel4Ideal.main_v71)) (v16 : (c : Dev Cert.Kernel4Ideal.nD) → Buf (Elt Ideal) ((c.tc : Thread Cert.Kernel4Ideal.nD Cert.Kernel4Ideal.τ).loc Cert.Kernel4Ideal.main_v70_16)) (v17 : (c : Dev Cert.Kernel4Ideal.nD) → Buf (Elt Ideal) ((c.tc : Thread Cert.Kernel4Ideal.nD Cert.Kernel4Ideal.τ).loc Cert.Kernel4Ideal.main_v70_17)) (v18 : (c : Dev Cert.Kernel4Ideal.nD) → Buf (Elt Ideal) ((c.tc : Thread Cert.Kernel4Ideal.nD Cert.Kernel4Ideal.τ).loc Cert.Kernel4Ideal.main_v70_18)) (v19 : (c : Dev Cert.Kernel4Ideal.nD) → Buf (Elt Ideal) ((c.tc : Thread Cert.Kernel4Ideal.nD Cert.Kernel4Ideal.τ).loc Cert.Kernel4Ideal.main_v70_19)) (v20 : (c : Dev Cert.Kernel4Ideal.nD) → Buf (Elt Ideal) ((c.tc : Thread Cert.Kernel4Ideal.nD Cert.Kernel4Ideal.τ).loc Cert.Kernel4Ideal.main_v70_20)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v70_0) = v0 c
          ∧ r.2.mem ((c.tc : Thread Cert.Kernel4Ideal.nD Cert.Kernel4Ideal.τ).loc Cert.Kernel4Ideal.main_v70_1) = v1 c
          ∧ r.2.mem ((c.tc : Thread Cert.Kernel4Ideal.nD Cert.Kernel4Ideal.τ).loc Cert.Kernel4Ideal.main_v70_2) = v2 c
          ∧ r.2.mem ((c.tc : Thread Cert.Kernel4Ideal.nD Cert.Kernel4Ideal.τ).loc Cert.Kernel4Ideal.main_v70_3) = v3 c
          ∧ r.2.mem ((c.tc : Thread Cert.Kernel4Ideal.nD Cert.Kernel4Ideal.τ).loc Cert.Kernel4Ideal.main_v70_4) = v4 c
          ∧ r.2.mem ((c.tc : Thread Cert.Kernel4Ideal.nD Cert.Kernel4Ideal.τ).loc Cert.Kernel4Ideal.main_v70_5) = v5 c
          ∧ r.2.mem ((c.tc : Thread Cert.Kernel4Ideal.nD Cert.Kernel4Ideal.τ).loc Cert.Kernel4Ideal.main_v70_6) = v6 c
          ∧ r.2.mem ((c.tc : Thread Cert.Kernel4Ideal.nD Cert.Kernel4Ideal.τ).loc Cert.Kernel4Ideal.main_v70_7) = v7 c
          ∧ r.2.mem ((c.tc : Thread Cert.Kernel4Ideal.nD Cert.Kernel4Ideal.τ).loc Cert.Kernel4Ideal.main_v70_8) = v8 c
          ∧ r.2.mem ((c.tc : Thread Cert.Kernel4Ideal.nD Cert.Kernel4Ideal.τ).loc Cert.Kernel4Ideal.main_v70_9) = v9 c
          ∧ r.2.mem ((c.tc : Thread Cert.Kernel4Ideal.nD Cert.Kernel4Ideal.τ).loc Cert.Kernel4Ideal.main_v70_10) = v10 c
          ∧ r.2.mem ((c.tc : Thread Cert.Kernel4Ideal.nD Cert.Kernel4Ideal.τ).loc Cert.Kernel4Ideal.main_v70_11) = v11 c
          ∧ r.2.mem ((c.tc : Thread Cert.Kernel4Ideal.nD Cert.Kernel4Ideal.τ).loc Cert.Kernel4Ideal.main_v70_12) = v12 c
          ∧ r.2.mem ((c.tc : Thread Cert.Kernel4Ideal.nD Cert.Kernel4Ideal.τ).loc Cert.Kernel4Ideal.main_v70_13) = v13 c
          ∧ r.2.mem ((c.tc : Thread Cert.Kernel4Ideal.nD Cert.Kernel4Ideal.τ).loc Cert.Kernel4Ideal.main_v70_14) = v14 c
          ∧ r.2.mem ((c.tc : Thread Cert.Kernel4Ideal.nD Cert.Kernel4Ideal.τ).loc Cert.Kernel4Ideal.main_v71) = v15 c
          ∧ r.2.mem ((c.tc : Thread Cert.Kernel4Ideal.nD Cert.Kernel4Ideal.τ).loc Cert.Kernel4Ideal.main_v70_16) = v16 c
          ∧ r.2.mem ((c.tc : Thread Cert.Kernel4Ideal.nD Cert.Kernel4Ideal.τ).loc Cert.Kernel4Ideal.main_v70_17) = v17 c
          ∧ r.2.mem ((c.tc : Thread Cert.Kernel4Ideal.nD Cert.Kernel4Ideal.τ).loc Cert.Kernel4Ideal.main_v70_18) = v18 c
          ∧ r.2.mem ((c.tc : Thread Cert.Kernel4Ideal.nD Cert.Kernel4Ideal.τ).loc Cert.Kernel4Ideal.main_v70_19) = v19 c
          ∧ r.2.mem ((c.tc : Thread Cert.Kernel4Ideal.nD Cert.Kernel4Ideal.τ).loc Cert.Kernel4Ideal.main_v70_20) = v20 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v164) = v0 c
          ∧ r.2.mem ((c.tc : Thread Cert.Reference4Ideal.nD Cert.Reference4Ideal.τ).loc Cert.Reference4Ideal.main_v29) = v1 c
          ∧ r.2.mem ((c.tc : Thread Cert.Reference4Ideal.nD Cert.Reference4Ideal.τ).loc Cert.Reference4Ideal.main_v30) = v2 c
          ∧ r.2.mem ((c.tc : Thread Cert.Reference4Ideal.nD Cert.Reference4Ideal.τ).loc Cert.Reference4Ideal.main_v165) = v3 c
          ∧ r.2.mem ((c.tc : Thread Cert.Reference4Ideal.nD Cert.Reference4Ideal.τ).loc Cert.Reference4Ideal.main_v166) = v4 c
          ∧ r.2.mem ((c.tc : Thread Cert.Reference4Ideal.nD Cert.Reference4Ideal.τ).loc Cert.Reference4Ideal.main_v167) = v5 c
          ∧ r.2.mem ((c.tc : Thread Cert.Reference4Ideal.nD Cert.Reference4Ideal.τ).loc Cert.Reference4Ideal.main_v35) = v6 c
          ∧ r.2.mem ((c.tc : Thread Cert.Reference4Ideal.nD Cert.Reference4Ideal.τ).loc Cert.Reference4Ideal.main_v36) = v7 c
          ∧ r.2.mem ((c.tc : Thread Cert.Reference4Ideal.nD Cert.Reference4Ideal.τ).loc Cert.Reference4Ideal.main_v168) = v8 c
          ∧ r.2.mem ((c.tc : Thread Cert.Reference4Ideal.nD Cert.Reference4Ideal.τ).loc Cert.Reference4Ideal.main_v169) = v9 c
          ∧ r.2.mem ((c.tc : Thread Cert.Reference4Ideal.nD Cert.Reference4Ideal.τ).loc Cert.Reference4Ideal.main_v170) = v10 c
          ∧ r.2.mem ((c.tc : Thread Cert.Reference4Ideal.nD Cert.Reference4Ideal.τ).loc Cert.Reference4Ideal.main_v41) = v11 c
          ∧ r.2.mem ((c.tc : Thread Cert.Reference4Ideal.nD Cert.Reference4Ideal.τ).loc Cert.Reference4Ideal.main_v42) = v12 c
          ∧ r.2.mem ((c.tc : Thread Cert.Reference4Ideal.nD Cert.Reference4Ideal.τ).loc Cert.Reference4Ideal.main_v171) = v13 c
          ∧ r.2.mem ((c.tc : Thread Cert.Reference4Ideal.nD Cert.Reference4Ideal.τ).loc Cert.Reference4Ideal.main_v172) = v14 c
          ∧ r.2.mem ((c.tc : Thread Cert.Reference4Ideal.nD Cert.Reference4Ideal.τ).loc Cert.Reference4Ideal.main_v173) = v15 c
          ∧ r.2.mem ((c.tc : Thread Cert.Reference4Ideal.nD Cert.Reference4Ideal.τ).loc Cert.Reference4Ideal.main_v177) = v16 c
          ∧ r.2.mem ((c.tc : Thread Cert.Reference4Ideal.nD Cert.Reference4Ideal.τ).loc Cert.Reference4Ideal.main_v178) = v17 c
          ∧ r.2.mem ((c.tc : Thread Cert.Reference4Ideal.nD Cert.Reference4Ideal.τ).loc Cert.Reference4Ideal.main_v179) = v18 c
          ∧ r.2.mem ((c.tc : Thread Cert.Reference4Ideal.nD Cert.Reference4Ideal.τ).loc Cert.Reference4Ideal.main_v183) = v19 c
          ∧ r.2.mem ((c.tc : Thread Cert.Reference4Ideal.nD Cert.Reference4Ideal.τ).loc Cert.Reference4Ideal.main_v184) = v20 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v7)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v12_0)) (v1 : (c : Dev Cert.Kernel6Ideal.nD) → Buf (Elt Ideal) ((c.tc : Thread Cert.Kernel6Ideal.nD Cert.Kernel6Ideal.τ).loc Cert.Kernel6Ideal.main_v12_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v12_0) = v0 c
          ∧ r.2.mem ((c.tc : Thread Cert.Kernel6Ideal.nD Cert.Kernel6Ideal.τ).loc Cert.Kernel6Ideal.main_v12_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v93) = v0 c
          ∧ r.2.mem ((c.tc : Thread Cert.Reference6Ideal.nD Cert.Reference6Ideal.τ).loc Cert.Reference6Ideal.main_v95) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v13) = v0 c
          ∧ r.2.mem ((c.tc : Thread Cert.Reference7Ideal.nD Cert.Reference7Ideal.τ).loc Cert.Reference7Ideal.main_v15) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  IdealRules.named_const.Statement Cert.Kernel8Ideal.κ "mask" .f32 0xF149F2CA#32 ⊥

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v22)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v22) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  IdealRules.named_const.Statement Cert.Kernel9Ideal.κ "log2e" .f32 0x3FB8AA3B#32 (((Real.log 2)⁻¹ : ℝ) : EReal)

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v17)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v17) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v23) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Kernel.lean ====
abbrev S4x8192x4x192 : Shape := ⟨4, ![4, 8192, 4, 192]⟩
abbrev S4x8192x4x128 : Shape := ⟨4, ![4, 8192, 4, 128]⟩
abbrev S_ : Shape := ⟨0, ![]⟩
abbrev S32768x4x192 : Shape := ⟨3, ![32768, 4, 192]⟩
abbrev S4x32768x192 : Shape := ⟨3, ![4, 32768, 192]⟩
abbrev S4x32768x256 : Shape := ⟨3, ![4, 32768, 256]⟩
abbrev S32768x512 : Shape := ⟨2, ![32768, 512]⟩
abbrev S1x1024x256 : Shape := ⟨3, ![1, 1024, 256]⟩
abbrev S1x8192x256 : Shape := ⟨3, ![1, 8192, 256]⟩
abbrev S8192x128 : Shape := ⟨2, ![8192, 128]⟩
abbrev S1024x128 : Shape := ⟨2, ![1024, 128]⟩
abbrev S1x256x256 : Shape := ⟨3, ![1, 256, 256]⟩
abbrev S256x256 : Shape := ⟨2, ![256, 256]⟩
abbrev S1024x256 : Shape := ⟨2, ![1024, 256]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 27
  | .vmem => 11
  | .smem => 0
  | _ => 0

abbrev bufTy : (tb : Table) → Fin (tcTables nBuf tb) → BufTy
  | .hbm, ⟨0, _⟩ => ⟨S4x8192x4x192, .f32⟩
  | .hbm, ⟨1, _⟩ => ⟨S4x8192x4x192, .f32⟩
  | .hbm, ⟨2, _⟩ => ⟨S4x8192x4x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S4x8192x4x192, .f32⟩
  | .hbm, ⟨11, _⟩ => ⟨S4x8192x4x192, .f32⟩
  | .hbm, ⟨12, _⟩ => ⟨S32768x4x192, .f32⟩
  | .hbm, ⟨13, _⟩ => ⟨S4x32768x192, .f32⟩
  | .hbm, ⟨14, _⟩ => ⟨S_, .i32⟩
  | .hbm, ⟨15, _⟩ => ⟨S_, .f32⟩
  | .hbm, ⟨16, _⟩ => ⟨S4x32768x256, .f32⟩
  | .hbm, ⟨17, _⟩ => ⟨S4x32768x256, .bf16⟩
  | .hbm, ⟨18, _⟩ => ⟨S32768x4x192, .f32⟩
  | .hbm, ⟨19, _⟩ => ⟨S4x32768x192, .f32⟩
  | .hbm, ⟨20, _⟩ => ⟨S_, .i32⟩
  | .hbm, ⟨21, _⟩ => ⟨S_, .f32⟩
  | .hbm, ⟨22, _⟩ => ⟨S4x32768x256, .f32⟩
  | .hbm, ⟨23, _⟩ => ⟨S4x32768x256, .bf16⟩
  | .hbm, ⟨24, _⟩ => ⟨S32768x512, .f32⟩
  | .hbm, ⟨25, _⟩ => ⟨S32768x512, .bf16⟩
  | .hbm, ⟨26, _⟩ => ⟨S32768x512, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S8192x128, .bf16⟩
  | .local _ .vmem, ⟨5, _⟩ => ⟨S8192x128, .bf16⟩
  | .local _ .vmem, ⟨6, _⟩ => ⟨S1024x128, .bf16⟩
  | .local _ .vmem, ⟨7, _⟩ => ⟨S1024x128, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | _, _ => ⟨S4x8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_call1_v0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_15 : BitVec 32 := 0#32
  let arg2 : BitVec 32 := BitVec.ofNat 32 (i 2).val
  let c1_i32_13 : BitVec 32 := 1#32
  let v20 : BitVec 32 := Scalar.muli arg2 c1_i32_13
  let v21 : BitVec 32 := Scalar.subi v20 c0_i32_15
  let c1_i32_16 : BitVec 32 := 1#32
  let v23 : BitVec 32 := Scalar.divsi v21 c1_i32_16
  let v24 : BitVec 32 := Scalar.muli v23 c1_i32_16
  let v25 : BitVec 32 := Scalar.addi c0_i32_15 v24
  let c1_i32_17 : BitVec 32 := 1#32
  ⟨c0_i32_15, v25, c1_i32_17⟩
def k0_mult1 (i : grid0.Coords) (k0_t1 : Fin (k0_t1_loop i).trips) : BitVec 32 :=
  let c0_i32_15 : BitVec 32 := 0#32
  let c1_i32_17 : BitVec 32 := 1#32
  let arg10 : BitVec 32 := Scf.iv c0_i32_15 c1_i32_17 k0_t1
  let c1024_i32_184 : BitVec 32 := 1024#32
  let v433 : BitVec 32 := Scalar.muli arg10 c1024_i32_184
  v433
def k0_off1 (i : grid0.Coords) (k0_t1 : Fin (k0_t1_loop i).trips) : Fin 3 → Nat :=
  let c0_185 : Index := 0#32
  let c0_i32_15 : BitVec 32 := 0#32
  let c1_i32_17 : BitVec 32 := 1#32
  let arg10 : BitVec 32 := Scf.iv c0_i32_15 c1_i32_17 k0_t1
  let c1024_i32_184 : BitVec 32 := 1024#32
  let v433 : BitVec 32 := Scalar.muli arg10 c1024_i32_184
  let v434 : BitVec 32 := v433
  let v435 : Index := Scalar.indexCast v434
  let c0_186 : Index := 0#32
  ![0, v435.toNat, 0]
def k0_mult2 (i : grid0.Coords) (k0_t1 : Fin (k0_t1_loop i).trips) : BitVec 32 :=
  let c0_i32_15 : BitVec 32 := 0#32
  let c1_i32_17 : BitVec 32 := 1#32
  let arg10 : BitVec 32 := Scf.iv c0_i32_15 c1_i32_17 k0_t1
  let c1024_i32_191 : BitVec 32 := 1024#32
  let v441 : BitVec 32 := Scalar.muli arg10 c1024_i32_191
  v441
def k0_mult3 (i : grid0.Coords) (k0_t1 : Fin (k0_t1_loop i).trips) : BitVec 32 :=
  let c0_i32_15 : BitVec 32 := 0#32
  let c1_i32_17 : BitVec 32 := 1#32
  let arg10 : BitVec 32 := Scf.iv c0_i32_15 c1_i32_17 k0_t1
  let c1024_i32_198 : BitVec 32 := 1024#32
  let v449 : BitVec 32 := Scalar.muli arg10 c1024_i32_198
  v449
def k0_mult4 (i : grid0.Coords) (k0_t1 : Fin (k0_t1_loop i).trips) : BitVec 32 :=
  let c0_i32_15 : BitVec 32 := 0#32
  let c1_i32_17 : BitVec 32 := 1#32
  let arg10 : BitVec 32 := Scf.iv c0_i32_15 c1_i32_17 k0_t1
  let c1024_i32_210 : BitVec 32 := 1024#32
  let v474 : BitVec 32 := Scalar.muli arg10 c1024_i32_210
  v474
def k0_off2 (i : grid0.Coords) (k0_t1 : Fin (k0_t1_loop i).trips) : Fin 2 → Nat :=
  let c0_i32_15 : BitVec 32 := 0#32
  let c1_i32_17 : BitVec 32 := 1#32
  let arg10 : BitVec 32 := Scf.iv c0_i32_15 c1_i32_17 k0_t1
  let c1024_i32_210 : BitVec 32 := 1024#32
  let v474 : BitVec 32 := Scalar.muli arg10 c1024_i32_210
  let v475 : BitVec 32 := v474
  let v476 : Index := Scalar.indexCast v475
  let c0_211 : Index := 0#32
  ![v476.toNat, 0]
def k0_mult5 (i : grid0.Coords) (k0_t1 : Fin (k0_t1_loop i).trips) : BitVec 32 :=
  let c0_i32_15 : BitVec 32 := 0#32
  let c1_i32_17 : BitVec 32 := 1#32
  let arg10 : BitVec 32 := Scf.iv c0_i32_15 c1_i32_17 k0_t1
  let c1024_i32_222 : BitVec 32 := 1024#32
  let v492 : BitVec 32 := Scalar.muli arg10 c1024_i32_222
  v492
def k0_mult6 (i : grid0.Coords) (k0_t1 : Fin (k0_t1_loop i).trips) : BitVec 32 :=
  let c0_i32_15 : BitVec 32 := 0#32
  let c1_i32_17 : BitVec 32 := 1#32
  let arg10 : BitVec 32 := Scf.iv c0_i32_15 c1_i32_17 k0_t1
  let c1024_i32_234 : BitVec 32 := 1024#32
  let v517 : BitVec 32 := Scalar.muli arg10 c1024_i32_234
  v517
def k0_mult7 (i : grid0.Coords) (k0_t1 : Fin (k0_t1_loop i).trips) : BitVec 32 :=
  let c0_i32_15 : BitVec 32 := 0#32
  let c1_i32_17 : BitVec 32 := 1#32
  let arg10 : BitVec 32 := Scf.iv c0_i32_15 c1_i32_17 k0_t1
  let c1024_i32_251 : BitVec 32 := 1024#32
  let v552 : BitVec 32 := Scalar.muli arg10 c1024_i32_251
  v552
def k0_mult8 (i : grid0.Coords) (k0_t1 : Fin (k0_t1_loop i).trips) : BitVec 32 :=
  let c0_i32_15 : BitVec 32 := 0#32
  let c1_i32_17 : BitVec 32 := 1#32
  let arg10 : BitVec 32 := Scf.iv c0_i32_15 c1_i32_17 k0_t1
  let c1024_i32_268 : BitVec 32 := 1024#32
  let v587 : BitVec 32 := Scalar.muli arg10 c1024_i32_268
  v587
@[reducible] def k0_t2_loop (i : grid0.Coords) : Scf.Loop 32 :=
  let c0_i32_15 : BitVec 32 := 0#32
  let arg2 : BitVec 32 := BitVec.ofNat 32 (i 2).val
  let c1_i32_13 : BitVec 32 := 1#32
  let v20 : BitVec 32 := Scalar.muli arg2 c1_i32_13
  let v21 : BitVec 32 := Scalar.subi v20 c0_i32_15
  let c1_i32_16 : BitVec 32 := 1#32
  let v23 : BitVec 32 := Scalar.divsi v21 c1_i32_16
  let v24 : BitVec 32 := Scalar.muli v23 c1_i32_16
  let v25 : BitVec 32 := Scalar.addi c0_i32_15 v24
  let v22 : BitVec 32 := Scalar.addi c0_i32_15 v21
  let c1_i32_18 : BitVec 32 := 1#32
  ⟨v25, v22, c1_i32_18⟩
def k0_mult9 (i : grid0.Coords) (k0_t2 : Fin (k0_t2_loop i).trips) : BitVec 32 :=
  let c0_i32_15 : BitVec 32 := 0#32
  let arg2 : BitVec 32 := BitVec.ofNat 32 (i 2).val
  let c1_i32_13 : BitVec 32 := 1#32
  let v20 : BitVec 32 := Scalar.muli arg2 c1_i32_13
  let v21 : BitVec 32 := Scalar.subi v20 c0_i32_15
  let c1_i32_16 : BitVec 32 := 1#32
  let v23 : BitVec 32 := Scalar.divsi v21 c1_i32_16
  let v24 : BitVec 32 := Scalar.muli v23 c1_i32_16
  let v25 : BitVec 32 := Scalar.addi c0_i32_15 v24
  let c1_i32_18 : BitVec 32 := 1#32
  let arg10 : BitVec 32 := Scf.iv v25 c1_i32_18 k0_t2
  let c1024_i32_184 : BitVec 32 := 1024#32
  let v433 : BitVec 32 := Scalar.muli arg10 c1024_i32_184
  v433
def k0_off3 (i : grid0.Coords) (k0_t2 : Fin (k0_t2_loop i).trips) : Fin 3 → Nat :=
  let c0_185 : Index := 0#32
  let c0_i32_15 : BitVec 32 := 0#32
  let arg2 : BitVec 32 := BitVec.ofNat 32 (i 2).val
  let c1_i32_13 : BitVec 32 := 1#32
  let v20 : BitVec 32 := Scalar.muli arg2 c1_i32_13
  let v21 : BitVec 32 := Scalar.subi v20 c0_i32_15
  let c1_i32_16 : BitVec 32 := 1#32
  let v23 : BitVec 32 := Scalar.divsi v21 c1_i32_16
  let v24 : BitVec 32 := Scalar.muli v23 c1_i32_16
  let v25 : BitVec 32 := Scalar.addi c0_i32_15 v24
  let c1_i32_18 : BitVec 32 := 1#32
  let arg10 : BitVec 32 := Scf.iv v25 c1_i32_18 k0_t2
  let c1024_i32_184 : BitVec 32 := 1024#32
  let v433 : BitVec 32 := Scalar.muli arg10 c1024_i32_184
  let v434 : BitVec 32 := v433
  let v435 : Index := Scalar.indexCast v434
  let c0_186 : Index := 0#32
  ![0, v435.toNat, 0]
def k0_mult10 (i : grid0.Coords) (k0_t2 : Fin (k0_t2_loop i).trips) : BitVec 32 :=
  let c0_i32_15 : BitVec 32 := 0#32
  let arg2 : BitVec 32 := BitVec.ofNat 32 (i 2).val
  let c1_i32_13 : BitVec 32 := 1#32
  let v20 : BitVec 32 := Scalar.muli arg2 c1_i32_13
  let v21 : BitVec 32 := Scalar.subi v20 c0_i32_15
  let c1_i32_16 : BitVec 32 := 1#32
  let v23 : BitVec 32 := Scalar.divsi v21 c1_i32_16
  let v24 : BitVec 32 := Scalar.muli v23 c1_i32_16
  let v25 : BitVec 32 := Scalar.addi c0_i32_15 v24
  let c1_i32_18 : BitVec 32 := 1#32
  let arg10 : BitVec 32 := Scf.iv v25 c1_i32_18 k0_t2
  let c1024_i32_191 : BitVec 32 := 1024#32
  let v441 : BitVec 32 := Scalar.muli arg10 c1024_i32_191
  v441
def k0_mult11 (i : grid0.Coords) (k0_t2 : Fin (k0_t2_loop i).trips) : BitVec 32 :=
  let c0_i32_15 : BitVec 32 := 0#32
  let arg2 : BitVec 32 := BitVec.ofNat 32 (i 2).val
  let c1_i32_13 : BitVec 32 := 1#32
  let v20 : BitVec 32 := Scalar.muli arg2 c1_i32_13
  let v21 : BitVec 32 := Scalar.subi v20 c0_i32_15
  let c1_i32_16 : BitVec 32 := 1#32
  let v23 : BitVec 32 := Scalar.divsi v21 c1_i32_16
  let v24 : BitVec 32 := Scalar.muli v23 c1_i32_16
  let v25 : BitVec 32 := Scalar.addi c0_i32_15 v24
  let c1_i32_18 : BitVec 32 := 1#32
  let arg10 : BitVec 32 := Scf.iv v25 c1_i32_18 k0_t2
  let c1024_i32_198 : BitVec 32 := 1024#32
  let v449 : BitVec 32 := Scalar.muli arg10 c1024_i32_198
  v449
def k0_mult12 (i : grid0.Coords) (k0_t2 : Fin (k0_t2_loop i).trips) : BitVec 32 :=
  let c0_i32_15 : BitVec 32 := 0#32
  let arg2 : BitVec 32 := BitVec.ofNat 32 (i 2).val
  let c1_i32_13 : BitVec 32 := 1#32
  let v20 : BitVec 32 := Scalar.muli arg2 c1_i32_13
  let v21 : BitVec 32 := Scalar.subi v20 c0_i32_15
  let c1_i32_16 : BitVec 32 := 1#32
  let v23 : BitVec 32 := Scalar.divsi v21 c1_i32_16
  let v24 : BitVec 32 := Scalar.muli v23 c1_i32_16
  let v25 : BitVec 32 := Scalar.addi c0_i32_15 v24
  let c1_i32_18 : BitVec 32 := 1#32
  let arg10 : BitVec 32 := Scf.iv v25 c1_i32_18 k0_t2
  let c1024_i32_210 : BitVec 32 := 1024#32
  let v474 : BitVec 32 := Scalar.muli arg10 c1024_i32_210
  v474
def k0_off4 (i : grid0.Coords) (k0_t2 : Fin (k0_t2_loop i).trips) : Fin 2 → Nat :=
  let c0_i32_15 : BitVec 32 := 0#32
  let arg2 : BitVec 32 := BitVec.ofNat 32 (i 2).val
  let c1_i32_13 : BitVec 32 := 1#32
  let v20 : BitVec 32 := Scalar.muli arg2 c1_i32_13
  let v21 : BitVec 32 := Scalar.subi v20 c0_i32_15
  let c1_i32_16 : BitVec 32 := 1#32
  let v23 : BitVec 32 := Scalar.divsi v21 c1_i32_16
  let v24 : BitVec 32 := Scalar.muli v23 c1_i32_16
  let v25 : BitVec 32 := Scalar.addi c0_i32_15 v24
  let c1_i32_18 : BitVec 32 := 1#32
  let arg10 : BitVec 32 := Scf.iv v25 c1_i32_18 k0_t2
  let c1024_i32_210 : BitVec 32 := 1024#32
  let v474 : BitVec 32 := Scalar.muli arg10 c1024_i32_210
  let v475 : BitVec 32 := v474
  let v476 : Index := Scalar.indexCast v475
  let c0_211 : Index := 0#32
  ![v476.toNat, 0]
def k0_mult13 (i : grid0.Coords) (k0_t2 : Fin (k0_t2_loop i).trips) : BitVec 32 :=
  let c0_i32_15 : BitVec 32 := 0#32
  let arg2 : BitVec 32 := BitVec.ofNat 32 (i 2).val
  let c1_i32_13 : BitVec 32 := 1#32
  let v20 : BitVec 32 := Scalar.muli arg2 c1_i32_13
  let v21 : BitVec 32 := Scalar.subi v20 c0_i32_15
  let c1_i32_16 : BitVec 32 := 1#32
  let v23 : BitVec 32 := Scalar.divsi v21 c1_i32_16
  let v24 : BitVec 32 := Scalar.muli v23 c1_i32_16
  let v25 : BitVec 32 := Scalar.addi c0_i32_15 v24
  let c1_i32_18 : BitVec 32 := 1#32
  let arg10 : BitVec 32 := Scf.iv v25 c1_i32_18 k0_t2
  let c1024_i32_222 : BitVec 32 := 1024#32
  let v492 : BitVec 32 := Scalar.muli arg10 c1024_i32_222
  v492
def k0_mult14 (i : grid0.Coords) (k0_t2 : Fin (k0_t2_loop i).trips) : BitVec 32 :=
  let c0_i32_15 : BitVec 32 := 0#32
  let arg2 : BitVec 32 := BitVec.ofNat 32 (i 2).val
  let c1_i32_13 : BitVec 32 := 1#32
  let v20 : BitVec 32 := Scalar.muli arg2 c1_i32_13
  let v21 : BitVec 32 := Scalar.subi v20 c0_i32_15
  let c1_i32_16 : BitVec 32 := 1#32
  let v23 : BitVec 32 := Scalar.divsi v21 c1_i32_16
  let v24 : BitVec 32 := Scalar.muli v23 c1_i32_16
  let v25 : BitVec 32 := Scalar.addi c0_i32_15 v24
  let c1_i32_18 : BitVec 32 := 1#32
  let arg10 : BitVec 32 := Scf.iv v25 c1_i32_18 k0_t2
  let c1024_i32_234 : BitVec 32 := 1024#32
  let v517 : BitVec 32 := Scalar.muli arg10 c1024_i32_234
  v517
def k0_mult15 (i : grid0.Coords) (k0_t2 : Fin (k0_t2_loop i).trips) : BitVec 32 :=
  let c0_i32_15 : BitVec 32 := 0#32
  let arg2 : BitVec 32 := BitVec.ofNat 32 (i 2).val
  let c1_i32_13 : BitVec 32 := 1#32
  let v20 : BitVec 32 := Scalar.muli arg2 c1_i32_13
  let v21 : BitVec 32 := Scalar.subi v20 c0_i32_15
  let c1_i32_16 : BitVec 32 := 1#32
  let v23 : BitVec 32 := Scalar.divsi v21 c1_i32_16
  let v24 : BitVec 32 := Scalar.muli v23 c1_i32_16
  let v25 : BitVec 32 := Scalar.addi c0_i32_15 v24
  let c1_i32_18 : BitVec 32 := 1#32
  let arg10 : BitVec 32 := Scf.iv v25 c1_i32_18 k0_t2
  let c1024_i32_251 : BitVec 32 := 1024#32
  let v552 : BitVec 32 := Scalar.muli arg10 c1024_i32_251
  v552
def k0_mult16 (i : grid0.Coords) (k0_t2 : Fin (k0_t2_loop i).trips) : BitVec 32 :=
  let c0_i32_15 : BitVec 32 := 0#32
  let arg2 : BitVec 32 := BitVec.ofNat 32 (i 2).val
  let c1_i32_13 : BitVec 32 := 1#32
  let v20 : BitVec 32 := Scalar.muli arg2 c1_i32_13
  let v21 : BitVec 32 := Scalar.subi v20 c0_i32_15
  let c1_i32_16 : BitVec 32 := 1#32
  let v23 : BitVec 32 := Scalar.divsi v21 c1_i32_16
  let v24 : BitVec 32 := Scalar.muli v23 c1_i32_16
  let v25 : BitVec 32 := Scalar.addi c0_i32_15 v24
  let c1_i32_18 : BitVec 32 := 1#32
  let arg10 : BitVec 32 := Scf.iv v25 c1_i32_18 k0_t2
  let c1024_i32_268 : BitVec 32 := 1024#32
  let v587 : BitVec 32 := Scalar.muli arg10 c1024_i32_268
  v587
def k0_mult17 (i : grid0.Coords) : BitVec 32 :=
  let arg2 : BitVec 32 := BitVec.ofNat 32 (i 2).val
  let c1_i32 : BitVec 32 := 1#32
  let v12 : BitVec 32 := Scalar.muli arg2 c1_i32
  let c0_i32 : BitVec 32 := 0#32
  let v13 : BitVec 32 := Scalar.addi v12 c0_i32
  let c1024_i32 : BitVec 32 := 1024#32
  let v28 : BitVec 32 := Scalar.muli v13 c1024_i32
  v28
def k0_off5 (i : grid0.Coords) : Fin 3 → Nat :=
  let c0_22 : Index := 0#32
  let arg2 : BitVec 32 := BitVec.ofNat 32 (i 2).val
  let c1_i32 : BitVec 32 := 1#32
  let v12 : BitVec 32 := Scalar.muli arg2 c1_i32
  let c0_i32 : BitVec 32 := 0#32
  let v13 : BitVec 32 := Scalar.addi v12 c0_i32
  let c1024_i32 : BitVec 32 := 1024#32
  let v28 : BitVec 32 := Scalar.muli v13 c1024_i32
  let v29 : BitVec 32 := v28
  let v30 : Index := Scalar.indexCast v29
  let c0_23 : Index := 0#32
  ![0, v30.toNat, 0]
def k0_mult18 (i : grid0.Coords) : BitVec 32 :=
  let arg2 : BitVec 32 := BitVec.ofNat 32 (i 2).val
  let c1_i32_7 : BitVec 32 := 1#32
  let v14 : BitVec 32 := Scalar.muli arg2 c1_i32_7
  let c0_i32_8 : BitVec 32 := 0#32
  let v15 : BitVec 32 := Scalar.addi v14 c0_i32_8
  let c1024_i32_27 : BitVec 32 := 1024#32
  let v36 : BitVec 32 := Scalar.muli v15 c1024_i32_27
  v36
def k0_mult19 (i : grid0.Coords) : BitVec 32 :=
  let arg2 : BitVec 32 := BitVec.ofNat 32 (i 2).val
  let c1_i32_9 : BitVec 32 := 1#32
  let v16 : BitVec 32 := Scalar.muli arg2 c1_i32_9
  let c0_i32_10 : BitVec 32 := 0#32
  let v17 : BitVec 32 := Scalar.addi v16 c0_i32_10
  let c1024_i32_33 : BitVec 32 := 1024#32
  let v44 : BitVec 32 := Scalar.muli v17 c1024_i32_33
  v44
def k0_mult20 (i : grid0.Coords) : BitVec 32 :=
  let arg2 : BitVec 32 := BitVec.ofNat 32 (i 2).val
  let c1_i32 : BitVec 32 := 1#32
  let v12 : BitVec 32 := Scalar.muli arg2 c1_i32
  let c0_i32 : BitVec 32 := 0#32
  let v13 : BitVec 32 := Scalar.addi v12 c0_i32
  let c1024_i32_61 : BitVec 32 := 1024#32
  let v126 : BitVec 32 := Scalar.muli v13 c1024_i32_61
  v126
def k0_off6 (i : grid0.Coords) : Fin 2 → Nat :=
  let arg2 : BitVec 32 := BitVec.ofNat 32 (i 2).val
  let c1_i32 : BitVec 32 := 1#32
  let v12 : BitVec 32 := Scalar.muli arg2 c1_i32
  let c0_i32 : BitVec 32 := 0#32
  let v13 : BitVec 32 := Scalar.addi v12 c0_i32
  let c1024_i32_61 : BitVec 32 := 1024#32
  let v126 : BitVec 32 := Scalar.muli v13 c1024_i32_61
  let v127 : BitVec 32 := v126
  let v128 : Index := Scalar.indexCast v127
  let c0_62 : Index := 0#32
  ![v128.toNat, 0]
def k0_mult21 (i : grid0.Coords) : BitVec 32 :=
  let arg2 : BitVec 32 := BitVec.ofNat 32 (i 2).val
  let c1_i32_11 : BitVec 32 := 1#32
  let v18 : BitVec 32 := Scalar.muli arg2 c1_i32_11
  let c0_i32_12 : BitVec 32 := 0#32
  let v19 : BitVec 32 := Scalar.addi v18 c0_i32_12
  let c1024_i32_72 : BitVec 32 := 1024#32
  let v144 : BitVec 32 := Scalar.muli v19 c1024_i32_72
  v144
def k0_mult22 (i : grid0.Coords) : BitVec 32 :=
  let arg2 : BitVec 32 := BitVec.ofNat 32 (i 2).val
  let c1_i32_7 : BitVec 32 := 1#32
  let v14 : BitVec 32 := Scalar.muli arg2 c1_i32_7
  let c0_i32_8 : BitVec 32 := 0#32
  let v15 : BitVec 32 := Scalar.addi v14 c0_i32_8
  let c1024_i32_100 : BitVec 32 := 1024#32
  let v226 : BitVec 32 := Scalar.muli v15 c1024_i32_100
  v226
def k0_mult23 (i : grid0.Coords) : BitVec 32 :=
  let arg2 : BitVec 32 := BitVec.ofNat 32 (i 2).val
  let c1_i32_9 : BitVec 32 := 1#32
  let v16 : BitVec 32 := Scalar.muli arg2 c1_i32_9
  let c0_i32_10 : BitVec 32 := 0#32
  let v17 : BitVec 32 := Scalar.addi v16 c0_i32_10
  let c1024_i32_133 : BitVec 32 := 1024#32
  let v318 : BitVec 32 := Scalar.muli v17 c1024_i32_133
  v318
def k0_mult24 (i : grid0.Coords) : BitVec 32 :=
  let arg2 : BitVec 32 := BitVec.ofNat 32 (i 2).val
  let c1_i32_11 : BitVec 32 := 1#32
  let v18 : BitVec 32 := Scalar.muli arg2 c1_i32_11
  let c0_i32_12 : BitVec 32 := 0#32
  let v19 : BitVec 32 := Scalar.addi v18 c0_i32_12
  let c1024_i32_166 : BitVec 32 := 1024#32
  let v410 : BitVec 32 := Scalar.muli v19 c1024_i32_166
  v410
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, v1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S1x1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x8192x4x192 : Shape := ⟨4, ![4, 8192, 4, 192]⟩
abbrev S4x8192x4x128 : Shape := ⟨4, ![4, 8192, 4, 128]⟩
abbrev S8192 : Shape := ⟨1, ![8192]⟩
abbrev S4x4x8192x8192 : Shape := ⟨4, ![4, 4, 8192, 8192]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S32768x512 : Shape := ⟨2, ![32768, 512]⟩

abbrev nBuf : Space → Nat
  | .hbm => 71
  | .vmem => 0
  | .smem => 0
  | _ => 0

abbrev bufTy : (tb : Table) → Fin (tcTables nBuf tb) → BufTy
  | .hbm, ⟨0, _⟩ => ⟨S4x8192x4x192, .f32⟩
  | .hbm, ⟨1, _⟩ => ⟨S4x8192x4x192, .f32⟩
  | .hbm, ⟨2, _⟩ => ⟨S4x8192x4x128, .f32⟩
  | .hbm, ⟨3, _⟩ => ⟨S8192, .i32⟩
  | .hbm, ⟨4, _⟩ => ⟨S4x4x8192x8192, .f32⟩
  | .hbm, ⟨5, _⟩ => ⟨S_, .f32⟩
  | .hbm, ⟨6, _⟩ => ⟨S_, .f32⟩
  | .hbm, ⟨7, _⟩ => ⟨S4x4x8192x8192, .f32⟩
  | .hbm, ⟨8, _⟩ => ⟨S4x4x8192x8192, .f32⟩
  | .hbm, ⟨9, _⟩ => ⟨S_, .i32⟩
  | .hbm, ⟨10, _⟩ => ⟨S_, .i32⟩
  | .hbm, ⟨11, _⟩ => ⟨S8192, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i1⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S8192, .i1⟩
  | .hbm, ⟨23, _⟩ => ⟨S_, .i32⟩
  | .hbm, ⟨24, _⟩ => ⟨S8192, .i32⟩
  | .hbm, ⟨25, _⟩ => ⟨S8192, .i32⟩
  | .hbm, ⟨26, _⟩ => ⟨S8192, .i32⟩
  | .hbm, ⟨27, _⟩ => ⟨S1x8192, .i32⟩
  | .hbm, ⟨28, _⟩ => ⟨S_, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S8192, .i1⟩
  | .hbm, ⟨42, _⟩ => ⟨S_, .i32⟩
  | .hbm, ⟨43, _⟩ => ⟨S8192, .i32⟩
  | .hbm, ⟨44, _⟩ => ⟨S8192, .i32⟩
  | .hbm, ⟨45, _⟩ => ⟨S8192, .i32⟩
  | .hbm, ⟨46, _⟩ => ⟨S8192x1, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S_, .f32⟩
  | .hbm, ⟨51, _⟩ => ⟨S_, .f32⟩
  | .hbm, ⟨52, _⟩ => ⟨S4x4x8192x8192, .i1⟩
  | .hbm, ⟨53, _⟩ => ⟨S4x4x8192x8192, .f32⟩
  | .hbm, ⟨54, _⟩ => ⟨S4x4x8192x8192, .f32⟩
  | .hbm, ⟨55, _⟩ => ⟨S_, .f32⟩
  | .hbm, ⟨56, _⟩ => ⟨S4x4x8192, .f32⟩
  | .hbm, ⟨57, _⟩ => ⟨S4x4x8192x1, .f32⟩
  | .hbm, ⟨58, _⟩ => ⟨S4x4x8192x8192, .f32⟩
  | .hbm, ⟨59, _⟩ => ⟨S4x4x8192x8192, .f32⟩
  | .hbm, ⟨60, _⟩ => ⟨S4x4x8192x8192, .f32⟩
  | .hbm, ⟨61, _⟩ => ⟨S_, .f32⟩
  | .hbm, ⟨62, _⟩ => ⟨S4x4x8192, .f32⟩
  | .hbm, ⟨63, _⟩ => ⟨S4x4x128x8192, .f32⟩
  | .hbm, ⟨64, _⟩ => ⟨S4x8192x4x128, .f32⟩
  | .hbm, ⟨65, _⟩ => ⟨S4x8192x4, .f32⟩
  | .hbm, ⟨66, _⟩ => ⟨S4x8192x4x1, .f32⟩
  | .hbm, ⟨67, _⟩ => ⟨S4x8192x4x128, .f32⟩
  | .hbm, ⟨68, _⟩ => ⟨S4x8192x4x128, .f32⟩
  | .hbm, ⟨69, _⟩ => ⟨S32768x512, .f32⟩
  | .hbm, ⟨70, _⟩ => ⟨S32768x512, .bf16⟩
  | _, _ => ⟨S4x8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v5 : Ref sig .tc := ⟨.hbm, 26, rfl⟩
abbrev main_v6 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_cst_1 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_v12 : Ref sig .tc := ⟨.hbm, 54, rfl⟩
abbrev main_cst_2 : Ref sig .tc := ⟨.hbm, 55, rfl⟩
abbrev main_v13 : Ref sig .tc := ⟨.hbm, 56, rfl⟩
abbrev main_v14 : Ref sig .tc := ⟨.hbm, 57, rfl⟩
abbrev main_v15 : Ref sig .tc := ⟨.hbm, 58, rfl⟩
abbrev main_v16 : Ref sig .tc := ⟨.hbm, 59, rfl⟩
abbrev main_v17 : Ref sig .tc := ⟨.hbm, 60, rfl⟩
abbrev main_cst_3 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩

abbrev nD : Nat := 1
abbrev τ : Topo := Topo.v7x

variable {F : FTy → Type} [FloatOps F]
-- ==== Kernel2.lean ====
abbrev S4x8192x2048 : Shape := ⟨3, ![4, 8192, 2048]⟩
abbrev S2048x5632 : Shape := ⟨2, ![2048, 5632]⟩
abbrev S5632x2048 : Shape := ⟨2, ![5632, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S2048x512 : Shape := ⟨2, ![2048, 512]⟩
abbrev S256x2048 : Shape := ⟨2, ![256, 2048]⟩
abbrev S256x512 : Shape := ⟨2, ![256, 512]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S32768x2048, .f32⟩
  | .hbm, ⟨7, _⟩ => ⟨S32768x2048, .bf16⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S32768x2048, .f32⟩
  | .hbm, ⟨12, _⟩ => ⟨S1x2048, .f32⟩
  | .hbm, ⟨13, _⟩ => ⟨S32768x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S4x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v43 : BitVec 1 := Scalar.cmpi .eq arg1 c10_i32
  let v44 : BitVec 32 := Scalar.extui v43
  let c0_i32_28 : BitVec 32 := 0#32
  let v45 : BitVec 1 := Scalar.cmpi .ne v44 c0_i32_28
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S4x8192x2048 : Shape := ⟨3, ![4, 8192, 2048]⟩
abbrev S2048x5632 : Shape := ⟨2, ![2048, 5632]⟩
abbrev S5632x2048 : Shape := ⟨2, ![5632, 2048]⟩
abbrev S2048 : Shape := ⟨1, ![2048]⟩
abbrev S4x8192x5632 : Shape := ⟨3, ![4, 8192, 5632]⟩
abbrev S_ : Shape := ⟨0, ![]⟩
abbrev S4x8192 : Shape := ⟨2, ![4, 8192]⟩
abbrev S4x8192x1 : Shape := ⟨3, ![4, 8192, 1]⟩
abbrev S1x1x2048 : Shape := ⟨3, ![1, 1, 2048]⟩
abbrev S32768x2048 : Shape := ⟨2, ![32768, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S4x8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S4x8192x5632, .f32⟩
  | .hbm, ⟨7, _⟩ => ⟨S4x8192x5632, .f32⟩
  | .hbm, ⟨8, _⟩ => ⟨S4x8192x5632, .f32⟩
  | .hbm, ⟨9, _⟩ => ⟨S_, .f32⟩
  | .hbm, ⟨10, _⟩ => ⟨S4x8192x5632, .f32⟩
  | .hbm, ⟨11, _⟩ => ⟨S4x8192x5632, .f32⟩
  | .hbm, ⟨12, _⟩ => ⟨S_, .f32⟩
  | .hbm, ⟨13, _⟩ => ⟨S4x8192x5632, .f32⟩
  | .hbm, ⟨14, _⟩ => ⟨S4x8192x5632, .f32⟩
  | .hbm, ⟨15, _⟩ => ⟨S4x8192x5632, .f32⟩
  | .hbm, ⟨16, _⟩ => ⟨S4x8192x5632, .f32⟩
  | .hbm, ⟨17, _⟩ => ⟨S4x8192x5632, .f32⟩
  | .hbm, ⟨18, _⟩ => ⟨S4x8192x2048, .f32⟩
  | .hbm, ⟨19, _⟩ => ⟨S4x8192x2048, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S_, .f32⟩
  | .hbm, ⟨24, _⟩ => ⟨S4x8192x1, .f32⟩
  | .hbm, ⟨25, _⟩ => ⟨S4x8192x1, .f32⟩
  | .hbm, ⟨26, _⟩ => ⟨S_, .f32⟩
  | .hbm, ⟨27, _⟩ => ⟨S4x8192x1, .f32⟩
  | .hbm, ⟨28, _⟩ => ⟨S4x8192x1, .f32⟩
  | .hbm, ⟨29, _⟩ => ⟨S4x8192x1, .f32⟩
  | .hbm, ⟨30, _⟩ => ⟨S4x8192x2048, .f32⟩
  | .hbm, ⟨31, _⟩ => ⟨S4x8192x2048, .f32⟩
  | .hbm, ⟨32, _⟩ => ⟨S1x1x2048, .f32⟩
  | .hbm, ⟨33, _⟩ => ⟨S4x8192x2048, .f32⟩
  | .hbm, ⟨34, _⟩ => ⟨S4x8192x2048, .f32⟩
  | .hbm, ⟨35, _⟩ => ⟨S4x8192x2048, .f32⟩
  | .hbm, ⟨36, _⟩ => ⟨S32768x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Kernel3.lean ====
abbrev S4x8192x8x64 : Shape := ⟨4, ![4, 8192, 8, 64]⟩
abbrev S4x8192x4x128 : Shape := ⟨4, ![4, 8192, 4, 128]⟩
abbrev S4x8192x2048 : Shape := ⟨3, ![4, 8192, 2048]⟩
abbrev S4x512 : Shape := ⟨2, ![4, 512]⟩
abbrev S2048x2048 : Shape := ⟨2, ![2048, 2048]⟩
abbrev S2048 : Shape := ⟨1, ![2048]⟩
abbrev S32768x512 : Shape := ⟨2, ![32768, 512]⟩
abbrev S32768x2048 : Shape := ⟨2, ![32768, 2048]⟩
abbrev S1x2048 : Shape := ⟨2, ![1, 2048]⟩
abbrev S512x512 : Shape := ⟨2, ![512, 512]⟩
abbrev S512x2048 : Shape := ⟨2, ![512, 2048]⟩
abbrev S1x512 : Shape := ⟨2, ![1, 512]⟩
abbrev S512 : Shape := ⟨1, ![512]⟩
abbrev S512x1 : Shape := ⟨2, ![512, 1]⟩

abbrev nBuf : Space → Nat
  | .hbm => 23
  | .vmem => 18
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x4x128, .f32⟩
  | .hbm, ⟨2, _⟩ => ⟨S4x8192x4x128, .f32⟩
  | .hbm, ⟨3, _⟩ => ⟨S4x8192x4x128, .f32⟩
  | .hbm, ⟨4, _⟩ => ⟨S4x8192x2048, .f32⟩
  | .hbm, ⟨5, _⟩ => ⟨S4x512, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S32768x512, .f32⟩
  | .hbm, ⟨10, _⟩ => ⟨S32768x512, .bf16⟩
  | .hbm, ⟨11, _⟩ => ⟨S32768x512, .f32⟩
  | .hbm, ⟨12, _⟩ => ⟨S32768x512, .bf16⟩
  | .hbm, ⟨13, _⟩ => ⟨S32768x512, .f32⟩
  | .hbm, ⟨14, _⟩ => ⟨S32768x512, .bf16⟩
  | .hbm, ⟨15, _⟩ => ⟨S32768x512, .f32⟩
  | .hbm, ⟨16, _⟩ => ⟨S32768x512, .bf16⟩
  | .hbm, ⟨17, _⟩ => ⟨S2048x2048, .bf16⟩
  | .hbm, ⟨18, _⟩ => ⟨S32768x2048, .f32⟩
  | .hbm, ⟨19, _⟩ => ⟨S1x2048, .f32⟩
  | .hbm, ⟨20, _⟩ => ⟨S1x2048, .f32⟩
  | .hbm, ⟨21, _⟩ => ⟨S32768x2048, .f32⟩
  | .hbm, ⟨22, _⟩ => ⟨S32768x2048, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S4x512, .f32⟩
  | .local _ .vmem, ⟨9, _⟩ => ⟨S2048x2048, .bf16⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S4x8192x8x64 : Shape := ⟨4, ![4, 8192, 8, 64]⟩
abbrev S4x8192x4x128 : Shape := ⟨4, ![4, 8192, 4, 128]⟩
abbrev S4x8192x2048 : Shape := ⟨3, ![4, 8192, 2048]⟩
abbrev S4x512 : Shape := ⟨2, ![4, 512]⟩
abbrev S2048x2048 : Shape := ⟨2, ![2048, 2048]⟩
abbrev S2048 : Shape := ⟨1, ![2048]⟩
abbrev S4x8192x512 : Shape := ⟨3, ![4, 8192, 512]⟩
abbrev S1x512 : Shape := ⟨2, ![1, 512]⟩
abbrev S512 : Shape := ⟨1, ![512]⟩
abbrev S_ : Shape := ⟨0, ![]⟩
abbrev S4x8192 : Shape := ⟨2, ![4, 8192]⟩
abbrev S4x8192x1 : Shape := ⟨3, ![4, 8192, 1]⟩
abbrev S1x1x512 : Shape := ⟨3, ![1, 1, 512]⟩
abbrev S1x1x2048 : Shape := ⟨3, ![1, 1, 2048]⟩
abbrev S32768x2048 : Shape := ⟨2, ![32768, 2048]⟩

abbrev nBuf : Space → Nat
  | .hbm => 123
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x4x128, .f32⟩
  | .hbm, ⟨2, _⟩ => ⟨S4x8192x4x128, .f32⟩
  | .hbm, ⟨3, _⟩ => ⟨S4x8192x4x128, .f32⟩
  | .hbm, ⟨4, _⟩ => ⟨S4x8192x2048, .f32⟩
  | .hbm, ⟨5, _⟩ => ⟨S4x512, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S4x8192x512, .f32⟩
  | .hbm, ⟨10, _⟩ => ⟨S1x512, .f32⟩
  | .hbm, ⟨11, _⟩ => ⟨S512, .f32⟩
  | .hbm, ⟨12, _⟩ => ⟨S4x8192x512, .f32⟩
  | .hbm, ⟨13, _⟩ => ⟨S_, .f32⟩
  | .hbm, ⟨14, _⟩ => ⟨S4x8192, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S4x8192x1, .f32⟩
  | .hbm, ⟨23, _⟩ => ⟨S4x8192x512, .f32⟩
  | .hbm, ⟨24, _⟩ => ⟨S4x8192x512, .f32⟩
  | .hbm, ⟨25, _⟩ => ⟨S1x1x512, .f32⟩
  | .hbm, ⟨26, _⟩ => ⟨S4x8192x512, .f32⟩
  | .hbm, ⟨27, _⟩ => ⟨S4x8192x512, .f32⟩
  | .hbm, ⟨28, _⟩ => ⟨S4x8192x512, .f32⟩
  | .hbm, ⟨29, _⟩ => ⟨S1x512, .f32⟩
  | .hbm, ⟨30, _⟩ => ⟨S512, .f32⟩
  | .hbm, ⟨31, _⟩ => ⟨S4x8192x512, .f32⟩
  | .hbm, ⟨32, _⟩ => ⟨S_, .f32⟩
  | .hbm, ⟨33, _⟩ => ⟨S4x8192, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S_, .f32⟩
  | .hbm, ⟨39, _⟩ => ⟨S4x8192x1, .f32⟩
  | .hbm, ⟨40, _⟩ => ⟨S4x8192x1, .f32⟩
  | .hbm, ⟨41, _⟩ => ⟨S4x8192x1, .f32⟩
  | .hbm, ⟨42, _⟩ => ⟨S4x8192x512, .f32⟩
  | .hbm, ⟨43, _⟩ => ⟨S4x8192x512, .f32⟩
  | .hbm, ⟨44, _⟩ => ⟨S1x1x512, .f32⟩
  | .hbm, ⟨45, _⟩ => ⟨S4x8192x512, .f32⟩
  | .hbm, ⟨46, _⟩ => ⟨S4x8192x512, .f32⟩
  | .hbm, ⟨47, _⟩ => ⟨S4x8192x512, .f32⟩
  | .hbm, ⟨48, _⟩ => ⟨S1x512, .f32⟩
  | .hbm, ⟨49, _⟩ => ⟨S512, .f32⟩
  | .hbm, ⟨50, _⟩ => ⟨S4x8192x512, .f32⟩
  | .hbm, ⟨51, _⟩ => ⟨S_, .f32⟩
  | .hbm, ⟨52, _⟩ => ⟨S4x8192, .f32⟩
  | .hbm, ⟨53, _⟩ => ⟨S4x8192x1, .f32⟩
  | .hbm, ⟨54, _⟩ => ⟨S_, .f32⟩
  | .hbm, ⟨55, _⟩ => ⟨S4x8192x1, .f32⟩
  | .hbm, ⟨56, _⟩ => ⟨S4x8192x1, .f32⟩
  | .hbm, ⟨57, _⟩ => ⟨S_, .f32⟩
  | .hbm, ⟨58, _⟩ => ⟨S4x8192x1, .f32⟩
  | .hbm, ⟨59, _⟩ => ⟨S4x8192x1, .f32⟩
  | .hbm, ⟨60, _⟩ => ⟨S4x8192x1, .f32⟩
  | .hbm, ⟨61, _⟩ => ⟨S4x8192x512, .f32⟩
  | .hbm, ⟨62, _⟩ => ⟨S4x8192x512, .f32⟩
  | .hbm, ⟨63, _⟩ => ⟨S1x1x512, .f32⟩
  | .hbm, ⟨64, _⟩ => ⟨S4x8192x512, .f32⟩
  | .hbm, ⟨65, _⟩ => ⟨S4x8192x512, .f32⟩
  | .hbm, ⟨66, _⟩ => ⟨S4x8192x512, .f32⟩
  | .hbm, ⟨67, _⟩ => ⟨S1x512, .f32⟩
  | .hbm, ⟨68, _⟩ => ⟨S512, .f32⟩
  | .hbm, ⟨69, _⟩ => ⟨S4x8192x512, .f32⟩
  | .hbm, ⟨70, _⟩ => ⟨S_, .f32⟩
  | .hbm, ⟨71, _⟩ => ⟨S4x8192, .f32⟩
  | .hbm, ⟨72, _⟩ => ⟨S4x8192x1, .f32⟩
  | .hbm, ⟨73, _⟩ => ⟨S_, .f32⟩
  | .hbm, ⟨74, _⟩ => ⟨S4x8192x1, .f32⟩
  | .hbm, ⟨75, _⟩ => ⟨S4x8192x1, .f32⟩
  | .hbm, ⟨76, _⟩ => ⟨S_, .f32⟩
  | .hbm, ⟨77, _⟩ => ⟨S4x8192x1, .f32⟩
  | .hbm, ⟨78, _⟩ => ⟨S4x8192x1, .f32⟩
  | .hbm, ⟨79, _⟩ => ⟨S4x8192x1, .f32⟩
  | .hbm, ⟨80, _⟩ => ⟨S4x8192x512, .f32⟩
  | .hbm, ⟨81, _⟩ => ⟨S4x8192x512, .f32⟩
  | .hbm, ⟨82, _⟩ => ⟨S1x1x512, .f32⟩
  | .hbm, ⟨83, _⟩ => ⟨S4x8192x512, .f32⟩
  | .hbm, ⟨84, _⟩ => ⟨S4x8192x512, .f32⟩
  | .hbm, ⟨85, _⟩ => ⟨S4x8192x2048, .f32⟩
  | .hbm, ⟨86, _⟩ => ⟨S4x8192x2048, .f32⟩
  | .hbm, ⟨87, _⟩ => ⟨S4x8192x2048, .f32⟩
  | .hbm, ⟨88, _⟩ => ⟨S_, .f32⟩
  | .hbm, ⟨89, _⟩ => ⟨S4x8192, .f32⟩
  | .hbm, ⟨90, _⟩ => ⟨S4x8192x1, .f32⟩
  | .hbm, ⟨91, _⟩ => ⟨S_, .f32⟩
  | .hbm, ⟨92, _⟩ => ⟨S4x8192x1, .f32⟩
  | .hbm, ⟨93, _⟩ => ⟨S4x8192x1, .f32⟩
  | .hbm, ⟨94, _⟩ => ⟨S_, .f32⟩
  | .hbm, ⟨95, _⟩ => ⟨S4x8192x1, .f32⟩
  | .hbm, ⟨96, _⟩ => ⟨S4x8192x1, .f32⟩
  | .hbm, ⟨97, _⟩ => ⟨S4x8192x1, .f32⟩
  | .hbm, ⟨98, _⟩ => ⟨S4x8192x2048, .f32⟩
  | .hbm, ⟨99, _⟩ => ⟨S4x8192x2048, .f32⟩
  | .hbm, ⟨100, _⟩ => ⟨S1x1x2048, .f32⟩
  | .hbm, ⟨101, _⟩ => ⟨S4x8192x2048, .f32⟩
  | .hbm, ⟨102, _⟩ => ⟨S4x8192x2048, .f32⟩
  | .hbm, ⟨103, _⟩ => ⟨S4x8192x2048, .f32⟩
  | .hbm, ⟨104, _⟩ => ⟨S4x8192x2048, .f32⟩
  | .hbm, ⟨105, _⟩ => ⟨S_, .f32⟩
  | .hbm, ⟨106, _⟩ => ⟨S4x8192, .f32⟩
  | .hbm, ⟨107, _⟩ => ⟨S4x8192x1, .f32⟩
  | .hbm, ⟨108, _⟩ => ⟨S_, .f32⟩
  | .hbm, ⟨109, _⟩ => ⟨S4x8192x1, .f32⟩
  | .hbm, ⟨110, _⟩ => ⟨S4x8192x1, .f32⟩
  | .hbm, ⟨111, _⟩ => ⟨S_, .f32⟩
  | .hbm, ⟨112, _⟩ => ⟨S4x8192x1, .f32⟩
  | .hbm, ⟨113, _⟩ => ⟨S4x8192x1, .f32⟩
  | .hbm, ⟨114, _⟩ => ⟨S4x8192x1, .f32⟩
  | .hbm, ⟨115, _⟩ => ⟨S4x8192x2048, .f32⟩
  | .hbm, ⟨116, _⟩ => ⟨S4x8192x2048, .f32⟩
  | .hbm, ⟨117, _⟩ => ⟨S1x1x2048, .f32⟩
  | .hbm, ⟨118, _⟩ => ⟨S4x8192x2048, .f32⟩
  | .hbm, ⟨119, _⟩ => ⟨S4x8192x2048, .f32⟩
  | .hbm, ⟨120, _⟩ => ⟨S32768x2048, .f32⟩
  | .hbm, ⟨121, _⟩ => ⟨S32768x2048, .f32⟩
  | .hbm, ⟨122, _⟩ => ⟨S32768x2048, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_14 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_cst_16 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩

abbrev nD : Nat := 1
abbrev τ : Topo := Topo.v7x

variable {F : FTy → Type} [FloatOps F]
-- ==== Kernel4.lean ====
abbrev S16x16x2048 : Shape := ⟨3, ![16, 16, 2048]⟩
abbrev S2048 : Shape := ⟨1, ![2048]⟩
abbrev S2048x5316 : Shape := ⟨2, ![2048, 5316]⟩
abbrev S4 : Shape := ⟨1, ![4]⟩
abbrev S384 : Shape := ⟨1, ![384]⟩
abbrev S256 : Shape := ⟨1, ![256]⟩
abbrev S384x768 : Shape := ⟨2, ![384, 768]⟩
abbrev S256x512 : Shape := ⟨2, ![256, 512]⟩
abbrev S16 : Shape := ⟨1, ![16]⟩
abbrev S_ : Shape := ⟨0, ![]⟩
abbrev S1x16 : Shape := ⟨2, ![1, 16]⟩
abbrev S16x16 : Shape := ⟨2, ![16, 16]⟩
abbrev S32 : Shape := ⟨1, ![32]⟩
abbrev S256x1 : Shape := ⟨2, ![256, 1]⟩
abbrev S1x32 : Shape := ⟨2, ![1, 32]⟩
abbrev S256x32 : Shape := ⟨2, ![256, 32]⟩
abbrev S256x64 : Shape := ⟨2, ![256, 64]⟩
abbrev S256x128 : Shape := ⟨2, ![256, 128]⟩
abbrev S5316x2048 : Shape := ⟨2, ![5316, 2048]⟩
abbrev S3072x2048 : Shape := ⟨2, ![3072, 2048]⟩
abbrev S2244x2048 : Shape := ⟨2, ![2244, 2048]⟩
abbrev S2304x2048 : Shape := ⟨2, ![2304, 2048]⟩
abbrev S384x128 : Shape := ⟨2, ![384, 128]⟩
abbrev S384x64 : Shape := ⟨2, ![384, 64]⟩
abbrev S384x1024 : Shape := ⟨2, ![384, 1024]⟩
abbrev S384x32 : Shape := ⟨2, ![384, 32]⟩
abbrev S384x512 : Shape := ⟨2, ![384, 512]⟩
abbrev S1x4 : Shape := ⟨2, ![1, 4]⟩
abbrev S1x128 : Shape := ⟨2, ![1, 128]⟩
abbrev S1x384 : Shape := ⟨2, ![1, 384]⟩
abbrev S1x256 : Shape := ⟨2, ![1, 256]⟩
abbrev S256x2048 : Shape := ⟨2, ![256, 2048]⟩
abbrev S1x2048 : Shape := ⟨2, ![1, 2048]⟩
abbrev S4x256x256 : Shape := ⟨3, ![4, 256, 256]⟩
abbrev S256x256 : Shape := ⟨2, ![256, 256]⟩
abbrev S256x2304 : Shape := ⟨2, ![256, 2304]⟩
abbrev S512x2048 : Shape := ⟨2, ![512, 2048]⟩
abbrev S256x384 : Shape := ⟨2, ![256, 384]⟩
abbrev S1x256x128 : Shape := ⟨3, ![1, 256, 128]⟩
abbrev S256x1024 : Shape := ⟨2, ![256, 1024]⟩
abbrev S256x4 : Shape := ⟨2, ![256, 4]⟩

abbrev nBuf : Space → Nat
  | .hbm => 125
  | .vmem => 34
  | .smem => 0
  | _ => 0

abbrev bufTy : (tb : Table) → Fin (tcTables nBuf tb) → BufTy
  | .hbm, ⟨0, _⟩ => ⟨S16x16x2048, .f32⟩
  | .hbm, ⟨1, _⟩ => ⟨S2048, .f32⟩
  | .hbm, ⟨2, _⟩ => ⟨S2048x5316, .f32⟩
  | .hbm, ⟨3, _⟩ => ⟨S4, .f32⟩
  | .hbm, ⟨4, _⟩ => ⟨S384, .f32⟩
  | .hbm, ⟨5, _⟩ => ⟨S256, .f32⟩
  | .hbm, ⟨6, _⟩ => ⟨S384x768, .f32⟩
  | .hbm, ⟨7, _⟩ => ⟨S256x512, .f32⟩
  | .hbm, ⟨8, _⟩ => ⟨S256x512, .f32⟩
  | .hbm, ⟨9, _⟩ => ⟨S16, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S1x16, .i32⟩
  | .hbm, ⟨14, _⟩ => ⟨S16x16, .i32⟩
  | .hbm, ⟨15, _⟩ => ⟨S256, .i32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S256, .f32⟩
  | .hbm, ⟨25, _⟩ => ⟨S256x1, .f32⟩
  | .hbm, ⟨26, _⟩ => ⟨S1x32, .f32⟩
  | .hbm, ⟨27, _⟩ => ⟨S256x32, .f32⟩
  | .hbm, ⟨28, _⟩ => ⟨S256x32, .f32⟩
  | .hbm, ⟨29, _⟩ => ⟨S256x32, .f32⟩
  | .hbm, ⟨30, _⟩ => ⟨S256x32, .f32⟩
  | .hbm, ⟨31, _⟩ => ⟨S256x32, .f32⟩
  | .hbm, ⟨32, _⟩ => ⟨S_, .f32⟩
  | .hbm, ⟨33, _⟩ => ⟨S256x64, .f32⟩
  | .hbm, ⟨34, _⟩ => ⟨S256x128, .f32⟩
  | .hbm, ⟨35, _⟩ => ⟨S256x32, .f32⟩
  | .hbm, ⟨36, _⟩ => ⟨S256x128, .f32⟩
  | .hbm, ⟨37, _⟩ => ⟨S5316x2048, .f32⟩
  | .hbm, ⟨38, _⟩ => ⟨S3072x2048, .f32⟩
  | .hbm, ⟨39, _⟩ => ⟨S3072x2048, .bf16⟩
  | .hbm, ⟨40, _⟩ => ⟨S2244x2048, .f32⟩
  | .hbm, ⟨41, _⟩ => ⟨S_, .i32⟩
  | .hbm, ⟨42, _⟩ => ⟨S_, .f32⟩
  | .hbm, ⟨43, _⟩ => ⟨S2304x2048, .f32⟩
  | .hbm, ⟨44, _⟩ => ⟨S2304x2048, .bf16⟩
  | .hbm, ⟨45, _⟩ => ⟨S384x128, .f32⟩
  | .hbm, ⟨46, _⟩ => ⟨S384x128, .f32⟩
  | .hbm, ⟨47, _⟩ => ⟨S384x128, .f32⟩
  | .hbm, ⟨48, _⟩ => ⟨S384x128, .f32⟩
  | .hbm, ⟨49, _⟩ => ⟨S384x64, .f32⟩
  | .hbm, ⟨50, _⟩ => ⟨S384x64, .f32⟩
  | .hbm, ⟨51, _⟩ => ⟨S384x64, .f32⟩
  | .hbm, ⟨52, _⟩ => ⟨S384x64, .f32⟩
  | .hbm, ⟨53, _⟩ => ⟨S_, .i32⟩
  | .hbm, ⟨54, _⟩ => ⟨S_, .f32⟩
  | .hbm, ⟨55, _⟩ => ⟨S384x128, .f32⟩
  | .hbm, ⟨56, _⟩ => ⟨S_, .i32⟩
  | .hbm, ⟨57, _⟩ => ⟨S_, .f32⟩
  | .hbm, ⟨58, _⟩ => ⟨S384x128, .f32⟩
  | .hbm, ⟨59, _⟩ => ⟨S_, .i32⟩
  | .hbm, ⟨60, _⟩ => ⟨S_, .f32⟩
  | .hbm, ⟨61, _⟩ => ⟨S384x128, .f32⟩
  | .hbm, ⟨62, _⟩ => ⟨S_, .i32⟩
  | .hbm, ⟨63, _⟩ => ⟨S_, .f32⟩
  | .hbm, ⟨64, _⟩ => ⟨S384x128, .f32⟩
  | .hbm, ⟨65, _⟩ => ⟨S384x1024, .f32⟩
  | .hbm, ⟨66, _⟩ => ⟨S384x1024, .bf16⟩
  | .hbm, ⟨67, _⟩ => ⟨S384x32, .f32⟩
  | .hbm, ⟨68, _⟩ => ⟨S384x32, .f32⟩
  | .hbm, ⟨69, _⟩ => ⟨S384x64, .f32⟩
  | .hbm, ⟨70, _⟩ => ⟨S_, .i32⟩
  | .hbm, ⟨71, _⟩ => ⟨S_, .f32⟩
  | .hbm, ⟨72, _⟩ => ⟨S384x128, .f32⟩
  | .hbm, ⟨73, _⟩ => ⟨S384x32, .f32⟩
  | .hbm, ⟨74, _⟩ => ⟨S384x32, .f32⟩
  | .hbm, ⟨75, _⟩ => ⟨S384x64, .f32⟩
  | .hbm, ⟨76, _⟩ => ⟨S_, .i32⟩
  | .hbm, ⟨77, _⟩ => ⟨S_, .f32⟩
  | .hbm, ⟨78, _⟩ => ⟨S384x128, .f32⟩
  | .hbm, ⟨79, _⟩ => ⟨S384x32, .f32⟩
  | .hbm, ⟨80, _⟩ => ⟨S384x32, .f32⟩
  | .hbm, ⟨81, _⟩ => ⟨S384x64, .f32⟩
  | .hbm, ⟨82, _⟩ => ⟨S_, .i32⟩
  | .hbm, ⟨83, _⟩ => ⟨S_, .f32⟩
  | .hbm, ⟨84, _⟩ => ⟨S384x128, .f32⟩
  | .hbm, ⟨85, _⟩ => ⟨S384x32, .f32⟩
  | .hbm, ⟨86, _⟩ => ⟨S384x32, .f32⟩
  | .hbm, ⟨87, _⟩ => ⟨S384x64, .f32⟩
  | .hbm, ⟨88, _⟩ => ⟨S_, .i32⟩
  | .hbm, ⟨89, _⟩ => ⟨S_, .f32⟩
  | .hbm, ⟨90, _⟩ => ⟨S384x128, .f32⟩
  | .hbm, ⟨91, _⟩ => ⟨S384x512, .f32⟩
  | .hbm, ⟨92, _⟩ => ⟨S384x512, .bf16⟩
  | .hbm, ⟨93, _⟩ => ⟨S1x4, .f32⟩
  | .hbm, ⟨94, _⟩ => ⟨S_, .i32⟩
  | .hbm, ⟨95, _⟩ => ⟨S_, .f32⟩
  | .hbm, ⟨96, _⟩ => ⟨S1x128, .f32⟩
  | .hbm, ⟨97, _⟩ => ⟨S1x384, .f32⟩
  | .hbm, ⟨98, _⟩ => ⟨S1x256, .f32⟩
  | .hbm, ⟨99, _⟩ => ⟨S256x512, .bf16⟩
  | .hbm, ⟨100, _⟩ => ⟨S256x512, .bf16⟩
  | .hbm, ⟨101, _⟩ => ⟨S256x2048, .f32⟩
  | .hbm, ⟨102, _⟩ => ⟨S1x2048, .f32⟩
  | .hbm, ⟨103, _⟩ => ⟨S256x512, .bf16⟩
  | .hbm, ⟨104, _⟩ => ⟨S256x512, .f32⟩
  | .hbm, ⟨105, _⟩ => ⟨S256x512, .f32⟩
  | .hbm, ⟨106, _⟩ => ⟨S256x512, .bf16⟩
  | .hbm, ⟨107, _⟩ => ⟨S256x512, .bf16⟩
  | .hbm, ⟨108, _⟩ => ⟨S256x512, .bf16⟩
  | .hbm, ⟨109, _⟩ => ⟨S256x512, .f32⟩
  | .hbm, ⟨110, _⟩ => ⟨S256x512, .f32⟩
  | .hbm, ⟨111, _⟩ => ⟨S256x512, .bf16⟩
  | .hbm, ⟨112, _⟩ => ⟨S256x512, .bf16⟩
  | .hbm, ⟨113, _⟩ => ⟨S256x512, .bf16⟩
  | .hbm, ⟨114, _⟩ => ⟨S256x512, .f32⟩
  | .hbm, ⟨115, _⟩ => ⟨S256x512, .f32⟩
  | .hbm, ⟨116, _⟩ => ⟨S256x512, .bf16⟩
  | .hbm, ⟨117, _⟩ => ⟨S256x512, .bf16⟩
  | .hbm, ⟨118, _⟩ => ⟨S256x128, .f32⟩
  | .hbm, ⟨119, _⟩ => ⟨S4x256x256, .bf16⟩
  | .hbm, ⟨120, _⟩ => ⟨S256x256, .f32⟩
  | .hbm, ⟨121, _⟩ => ⟨S256x64, .f32⟩
  | .hbm, ⟨122, _⟩ => ⟨S4x256x256, .bf16⟩
  | .hbm, ⟨123, _⟩ => ⟨S256x512, .bf16⟩
  | .hbm, ⟨124, _⟩ => ⟨S256x4, .f32⟩
  | .local _ .vmem, ⟨0, _⟩ => ⟨S256x2048, .f32⟩
  | .local _ .vmem, ⟨1, _⟩ => ⟨S1x2048, .f32⟩
  | .local _ .vmem, ⟨2, _⟩ => ⟨S3072x2048, .bf16⟩
  | .local _ .vmem, ⟨3, _⟩ => ⟨S2304x2048, .bf16⟩
  | .local _ .vmem, ⟨4, _⟩ => ⟨S1x128, .f32⟩
  | .local _ .vmem, ⟨5, _⟩ => ⟨S1x384, .f32⟩
  | .local _ .vmem, ⟨6, _⟩ => ⟨S1x256, .f32⟩
  | .local _ .vmem, ⟨7, _⟩ => ⟨S384x1024, .bf16⟩
  | .local _ .vmem, ⟨8, _⟩ => ⟨S384x512, .bf16⟩
  | .local _ .vmem, ⟨9, _⟩ => ⟨S256x512, .bf16⟩
  | .local _ .vmem, ⟨10, _⟩ => ⟨S256x512, .bf16⟩
  | .local _ .vmem, ⟨11, _⟩ => ⟨S256x128, .f32⟩
  | .local _ .vmem, ⟨12, _⟩ => ⟨S256x128, .f32⟩
  | .local _ .vmem, ⟨13, _⟩ => ⟨S256x512, .bf16⟩
  | .local _ .vmem, ⟨14, _⟩ => ⟨S256x512, .f32⟩
  | .local _ .vmem, ⟨15, _⟩ => ⟨S256x512, .f32⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .f32⟩
  | .local _ .vmem, ⟨20, _⟩ => ⟨S256x512, .f32⟩
  | .local _ .vmem, ⟨21, _⟩ => ⟨S256x512, .bf16⟩
  | .local _ .vmem, ⟨22, _⟩ => ⟨S256x512, .bf16⟩
  | .local _ .vmem, ⟨23, _⟩ => ⟨S256x512, .bf16⟩
  | .local _ .vmem, ⟨24, _⟩ => ⟨S256x512, .f32⟩
  | .local _ .vmem, ⟨25, _⟩ => ⟨S256x512, .f32⟩
  | .local _ .vmem, ⟨26, _⟩ => ⟨S256x512, .bf16⟩
  | .local _ .vmem, ⟨27, _⟩ => ⟨S256x512, .bf16⟩
  | .local _ .vmem, ⟨28, _⟩ => ⟨S256x128, .f32⟩
  | .local _ .vmem, ⟨29, _⟩ => ⟨S4x256x256, .bf16⟩
  | .local _ .vmem, ⟨30, _⟩ => ⟨S256x256, .f32⟩
  | .local _ .vmem, ⟨31, _⟩ => ⟨S256x64, .f32⟩
  | .local _ .vmem, ⟨32, _⟩ => ⟨S4x256x256, .bf16⟩
  | .local _ .vmem, ⟨33, _⟩ => ⟨S256x512, .bf16⟩
  | _, _ => ⟨S16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_2 : Ref sig .tc := ⟨.hbm, 41, rfl⟩
abbrev main_call0_v0 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_3 : Ref sig .tc := ⟨.hbm, 53, rfl⟩
abbrev main_call1_v0 : Ref sig .tc := ⟨.hbm, 54, rfl⟩
abbrev main_v38 : Ref sig .tc := ⟨.hbm, 55, rfl⟩
abbrev main_c_4 : Ref sig .tc := ⟨.hbm, 56, rfl⟩
abbrev main_call2_v0 : Ref sig .tc := ⟨.hbm, 57, rfl⟩
abbrev main_v39 : Ref sig .tc := ⟨.hbm, 58, rfl⟩
abbrev main_c_5 : Ref sig .tc := ⟨.hbm, 59, rfl⟩
abbrev main_call3_v0 : Ref sig .tc := ⟨.hbm, 60, rfl⟩
abbrev main_v40 : Ref sig .tc := ⟨.hbm, 61, rfl⟩
abbrev main_c_6 : Ref sig .tc := ⟨.hbm, 62, rfl⟩
abbrev main_call4_v0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_7 : Ref sig .tc := ⟨.hbm, 70, rfl⟩
abbrev main_call5_v0 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_c_8 : Ref sig .tc := ⟨.hbm, 76, rfl⟩
abbrev main_call6_v0 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_9 : Ref sig .tc := ⟨.hbm, 82, rfl⟩
abbrev main_call7_v0 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_c_10 : Ref sig .tc := ⟨.hbm, 88, rfl⟩
abbrev main_call8_v0 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_c_11 : Ref sig .tc := ⟨.hbm, 94, rfl⟩
abbrev main_call9_v0 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70_0 : Ref sig .tc := ⟨.hbm, 103, rfl⟩
abbrev main_v70_1 : Ref sig .tc := ⟨.hbm, 104, rfl⟩
abbrev main_v70_2 : Ref sig .tc := ⟨.hbm, 105, rfl⟩
abbrev main_v70_3 : Ref sig .tc := ⟨.hbm, 106, rfl⟩
abbrev main_v70_4 : Ref sig .tc := ⟨.hbm, 107, rfl⟩
abbrev main_v70_5 : Ref sig .tc := ⟨.hbm, 108, rfl⟩
abbrev main_v70_6 : Ref sig .tc := ⟨.hbm, 109, rfl⟩
abbrev main_v70_7 : Ref sig .tc := ⟨.hbm, 110, rfl⟩
abbrev main_v70_8 : Ref sig .tc := ⟨.hbm, 111, rfl⟩
abbrev main_v70_9 : Ref sig .tc := ⟨.hbm, 112, rfl⟩
abbrev main_v70_10 : Ref sig .tc := ⟨.hbm, 113, rfl⟩
abbrev main_v70_11 : Ref sig .tc := ⟨.hbm, 114, rfl⟩
abbrev main_v70_12 : Ref sig .tc := ⟨.hbm, 115, rfl⟩
abbrev main_v70_13 : Ref sig .tc := ⟨.hbm, 116, rfl⟩
abbrev main_v70_14 : Ref sig .tc := ⟨.hbm, 117, rfl⟩
abbrev main_v70_15 : Ref sig .tc := ⟨.hbm, 118, rfl⟩
abbrev main_v70_16 : Ref sig .tc := ⟨.hbm, 119, rfl⟩
abbrev main_v70_17 : Ref sig .tc := ⟨.hbm, 120, rfl⟩
abbrev main_v70_18 : Ref sig .tc := ⟨.hbm, 121, rfl⟩
abbrev main_v70_19 : Ref sig .tc := ⟨.hbm, 122, rfl⟩
abbrev main_v70_20 : Ref sig .tc := ⟨.hbm, 123, rfl⟩
abbrev main_v71 : Ref sig .tc := ⟨.hbm, 124, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_28 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_29 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_32 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2304x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S256x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S256x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S256x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S256x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]

abbrev stage0_18 : Fin 1 → Memref sig .tc .vmem S256x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![true]

abbrev stage0_19 : Fin 1 → Memref sig .tc .vmem S256x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![true]

abbrev stage0_20 : Fin 1 → Memref sig .tc .vmem S256x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![true]

abbrev stage0_21 : Fin 1 → Memref sig .tc .vmem S256x512 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![true]

abbrev stage0_22 : Fin 1 → Memref sig .tc .vmem S256x512 .bf16 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![true]

abbrev stage0_23 : Fin 1 → Memref sig .tc .vmem S256x512 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![true]

abbrev stage0_24 : Fin 1 → Memref sig .tc .vmem S256x512 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![true]

abbrev stage0_25 : Fin 1 → Memref sig .tc .vmem S256x512 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![true]

abbrev stage0_26 : Fin 1 → Memref sig .tc .vmem S256x512 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![true]

abbrev stage0_27 : Fin 1 → Memref sig .tc .vmem S256x512 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![true]

abbrev stage0_28 : Fin 1 → Memref sig .tc .vmem S256x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![true]

abbrev stage0_29 : Fin 1 → Memref sig .tc .vmem S4x256x256 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![true]

abbrev stage0_30 : Fin 1 → Memref sig .tc .vmem S256x256 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![true]

abbrev stage0_31 : Fin 1 → Memref sig .tc .vmem S256x64 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![true]

abbrev stage0_32 : Fin 1 → Memref sig .tc .vmem S4x256x256 .bf16 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![true]

abbrev stage0_33 : Fin 1 → Memref sig .tc .vmem S256x512 .bf16 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![true]
-- ==== Kernel4Ideal.lean ====
variable {F : FTy → Type} [FloatOps F] [Named F]
def κ : String → Option EReal := fun
  | "scale_a" => some ((((Real.sqrt 64) * (Real.log 2))⁻¹ : ℝ) : EReal)
  | "scale_b" => some ((((Real.sqrt 128) * (Real.log 2))⁻¹ : ℝ) : EReal)
  | "scale_c" => some (((Real.sqrt 128)⁻¹ : ℝ) : EReal)
  | "scale_d" => some ((((Real.sqrt 192) * (Real.log 2))⁻¹ : ℝ) : EReal)
  | _ => none
-- ==== Reference4Ideal.lean ====
abbrev S16x16x2048 : Shape := ⟨3, ![16, 16, 2048]⟩
abbrev S2048 : Shape := ⟨1, ![2048]⟩
abbrev S2048x5316 : Shape := ⟨2, ![2048, 5316]⟩
abbrev S4 : Shape := ⟨1, ![4]⟩
abbrev S384 : Shape := ⟨1, ![384]⟩
abbrev S256 : Shape := ⟨1, ![256]⟩
abbrev S384x768 : Shape := ⟨2, ![384, 768]⟩
abbrev S256x512 : Shape := ⟨2, ![256, 512]⟩
abbrev S16 : Shape := ⟨1, ![16]⟩
abbrev S_ : Shape := ⟨0, ![]⟩
abbrev S16x16 : Shape := ⟨2, ![16, 16]⟩
abbrev S16x16x1 : Shape := ⟨3, ![16, 16, 1]⟩
abbrev S1x1x2048 : Shape := ⟨3, ![1, 1, 2048]⟩
abbrev S16x16x5316 : Shape := ⟨3, ![16, 16, 5316]⟩
abbrev S16x16x1536 : Shape := ⟨3, ![16, 16, 1536]⟩
abbrev S16x16x4 : Shape := ⟨3, ![16, 16, 4]⟩
abbrev S16x16x384 : Shape := ⟨3, ![16, 16, 384]⟩
abbrev S16x16x256 : Shape := ⟨3, ![16, 16, 256]⟩
abbrev S16x16x64 : Shape := ⟨3, ![16, 16, 64]⟩
abbrev S16x16x512 : Shape := ⟨3, ![16, 16, 512]⟩
abbrev S1x1x4 : Shape := ⟨3, ![1, 1, 4]⟩
abbrev S1x1x384 : Shape := ⟨3, ![1, 1, 384]⟩
abbrev S16x16x768 : Shape := ⟨3, ![16, 16, 768]⟩
abbrev S16x16x4x192 : Shape := ⟨4, ![16, 16, 4, 192]⟩
abbrev S16x16x4x128 : Shape := ⟨4, ![16, 16, 4, 128]⟩
abbrev S16x16x4x64 : Shape := ⟨4, ![16, 16, 4, 64]⟩
abbrev S32 : Shape := ⟨1, ![32]⟩
abbrev S16x1 : Shape := ⟨2, ![16, 1]⟩
abbrev S1x32 : Shape := ⟨2, ![1, 32]⟩
abbrev S16x32 : Shape := ⟨2, ![16, 32]⟩
abbrev S1x16x1x32 : Shape := ⟨4, ![1, 16, 1, 32]⟩
abbrev S16x16x4x32 : Shape := ⟨4, ![16, 16, 4, 32]⟩
abbrev S1x1x256 : Shape := ⟨3, ![1, 1, 256]⟩
abbrev S16x16x1x64 : Shape := ⟨4, ![16, 16, 1, 64]⟩
abbrev S16x16x1x32 : Shape := ⟨4, ![16, 16, 1, 32]⟩
abbrev S256x4 : Shape := ⟨2, ![256, 4]⟩
abbrev S256x4x192 : Shape := ⟨3, ![256, 4, 192]⟩
abbrev S4x256x192 : Shape := ⟨3, ![4, 256, 192]⟩
abbrev S4x256x256 : Shape := ⟨3, ![4, 256, 256]⟩
abbrev S256x256 : Shape := ⟨2, ![256, 256]⟩
abbrev S256x64 : Shape := ⟨2, ![256, 64]⟩

abbrev nBuf : Space → Nat
  | .hbm => 236
  | .vmem => 0
  | .smem => 0
  | _ => 0

abbrev hbmTy0_0 (i : Nat) : BufTy := match i % 128 with
  | 0 => ⟨S16x16x2048, .f32⟩
  | 1 => ⟨S2048, .f32⟩
  | 2 => ⟨S2048x5316, .f32⟩
  | 3 => ⟨S4, .f32⟩
  | 4 => ⟨S384, .f32⟩
  | 5 => ⟨S256, .f32⟩
  | 6 => ⟨S384x768, .f32⟩
  | 7 => ⟨S256x512, .f32⟩
  | 8 => ⟨S256x512, .f32⟩
  | 9 => ⟨S16, .i32⟩
  | 10 => ⟨S_, .i32⟩
  | 11 => ⟨S16, .i32⟩
  | 12 => ⟨S16, .i32⟩
  | 13 => ⟨S_, .f32⟩
  | 14 => ⟨S_, .f32⟩
  | 15 => ⟨S16x16x2048, .f32⟩
  | 16 => ⟨S_, .f32⟩
  | 17 => ⟨S16x16, .f32⟩
  | 18 => ⟨S16x16x1, .f32⟩
  | 19 => ⟨S_, .f32⟩
  | 20 => ⟨S16x16x1, .f32⟩
  | 21 => ⟨S16x16x1, .f32⟩
  | 22 => ⟨S_, .f32⟩
  | 23 => ⟨S16x16x1, .f32⟩
  | 24 => ⟨S16x16x1, .f32⟩
  | 25 => ⟨S16x16x1, .f32⟩
  | 26 => ⟨S16x16x2048, .f32⟩
  | 27 => ⟨S16x16x2048, .f32⟩
  | 28 => ⟨S1x1x2048, .f32⟩
  | 29 => ⟨S16x16x2048, .f32⟩
  | 30 => ⟨S16x16x2048, .f32⟩
  | 31 => ⟨S16x16x5316, .f32⟩
  | 32 => ⟨S16x16x1536, .f32⟩
  | 33 => ⟨S16x16x1536, .f32⟩
  | 34 => ⟨S16x16x4, .f32⟩
  | 35 => ⟨S16x16x1536, .f32⟩
  | 36 => ⟨S16x16x384, .f32⟩
  | 37 => ⟨S16x16x256, .f32⟩
  | 38 => ⟨S16x16x64, .f32⟩
  | 39 => ⟨S16x16x512, .f32⟩
  | 40 => ⟨S16x16x512, .f32⟩
  | 41 => ⟨S16x16x512, .f32⟩
  | 42 => ⟨S256x512, .f32⟩
  | 43 => ⟨S256x512, .f32⟩
  | 44 => ⟨S256x512, .f32⟩
  | 45 => ⟨S16x16x512, .f32⟩
  | 46 => ⟨S16x16x512, .f32⟩
  | 47 => ⟨S16x16x512, .f32⟩
  | 48 => ⟨S256x512, .f32⟩
  | 49 => ⟨S256x512, .f32⟩
  | 50 => ⟨S256x512, .f32⟩
  | 51 => ⟨S16x16x512, .f32⟩
  | 52 => ⟨S16x16x512, .f32⟩
  | 53 => ⟨S16x16x512, .f32⟩
  | 54 => ⟨S256x512, .f32⟩
  | 55 => ⟨S256x512, .f32⟩
  | 56 => ⟨S256x512, .f32⟩
  | 57 => ⟨S_, .f32⟩
  | 58 => ⟨S_, .f32⟩
  | 59 => ⟨S_, .f32⟩
  | 60 => ⟨S_, .f32⟩
  | 61 => ⟨S_, .f32⟩
  | 62 => ⟨S256x512, .f32⟩
  | 63 => ⟨S256x512, .f32⟩
  | 64 => ⟨S_, .f32⟩
  | 65 => ⟨S_, .f32⟩
  | 66 => ⟨S_, .f32⟩
  | 67 => ⟨S_, .f32⟩
  | 68 => ⟨S_, .f32⟩
  | 69 => ⟨S256x512, .f32⟩
  | 70 => ⟨S256x512, .f32⟩
  | 71 => ⟨S_, .f32⟩
  | 72 => ⟨S_, .f32⟩
  | 73 => ⟨S_, .f32⟩
  | 74 => ⟨S_, .f32⟩
  | 75 => ⟨S256x512, .f32⟩
  | 76 => ⟨S256x512, .f32⟩
  | 77 => ⟨S1x1x4, .f32⟩
  | 78 => ⟨S16x16x4, .f32⟩
  | 79 => ⟨S16x16x4, .f32⟩
  | 80 => ⟨S16x16x4, .f32⟩
  | 81 => ⟨S_, .f32⟩
  | 82 => ⟨S16x16x4, .f32⟩
  | 83 => ⟨S16x16x4, .f32⟩
  | 84 => ⟨S16x16x4, .f32⟩
  | 85 => ⟨S16x16x4, .f32⟩
  | 86 => ⟨S16x16x4, .i1⟩
  | 87 => ⟨S16x16x4, .f32⟩
  | 88 => ⟨S16x16x4, .f32⟩
  | 89 => ⟨S16x16x4, .f32⟩
  | 90 => ⟨S16x16x4, .f32⟩
  | 91 => ⟨S16x16x4, .f32⟩
  | 92 => ⟨S16x16x4, .f32⟩
  | 93 => ⟨S16x16x4, .f32⟩
  | 94 => ⟨S16x16x4, .f32⟩
  | 95 => ⟨S16x16x4, .f32⟩
  | 96 => ⟨S16x16x384, .f32⟩
  | 97 => ⟨S_, .f32⟩
  | 98 => ⟨S16x16, .f32⟩
  | 99 => ⟨S16x16x1, .f32⟩
  | 100 => ⟨S_, .f32⟩
  | 101 => ⟨S16x16x1, .f32⟩
  | 102 => ⟨S16x16x1, .f32⟩
  | 103 => ⟨S_, .f32⟩
  | 104 => ⟨S16x16x1, .f32⟩
  | 105 => ⟨S16x16x1, .f32⟩
  | 106 => ⟨S16x16x1, .f32⟩
  | 107 => ⟨S16x16x384, .f32⟩
  | 108 => ⟨S16x16x384, .f32⟩
  | 109 => ⟨S1x1x384, .f32⟩
  | 110 => ⟨S16x16x384, .f32⟩
  | 111 => ⟨S16x16x384, .f32⟩
  | 112 => ⟨S16x16x768, .f32⟩
  | 113 => ⟨S16x16x4x192, .f32⟩
  | 114 => ⟨S16x16x4x128, .f32⟩
  | 115 => ⟨S16x16x4x64, .f32⟩
  | 116 => ⟨S32, .f32⟩
  | 117 => ⟨S32, .f32⟩
  | 118 => ⟨S_, .f32⟩
  | 119 => ⟨S32, .f32⟩
  | 120 => ⟨S32, .f32⟩
  | 121 => ⟨S_, .f32⟩
  | 122 => ⟨S32, .f32⟩
  | 123 => ⟨S32, .f32⟩
  | 124 => ⟨S16, .f32⟩
  | 125 => ⟨S16x1, .f32⟩
  | 126 => ⟨S1x32, .f32⟩
  | 127 => ⟨S16x32, .f32⟩
  | _ => ⟨S16x16x2048, .f32⟩

abbrev hbmTy0_1 (i : Nat) : BufTy := match i % 128 with
  | 0 => ⟨S16x32, .f32⟩
  | 1 => ⟨S16x32, .f32⟩
  | 2 => ⟨S16x32, .f32⟩
  | 3 => ⟨S1x16x1x32, .f32⟩
  | 4 => ⟨S16x32, .f32⟩
  | 5 => ⟨S1x16x1x32, .f32⟩
  | 6 => ⟨S16x16x4x32, .f32⟩
  | 7 => ⟨S16x16x4x32, .f32⟩
  | 8 => ⟨S16x16x4x32, .f32⟩
  | 9 => ⟨S16x16x4x32, .f32⟩
  | 10 => ⟨S16x16x4x32, .f32⟩
  | 11 => ⟨S16x16x4x32, .f32⟩
  | 12 => ⟨S16x16x4x32, .f32⟩
  | 13 => ⟨S16x16x4x32, .f32⟩
  | 14 => ⟨S16x16x4x32, .f32⟩
  | 15 => ⟨S16x16x4x32, .f32⟩
  | 16 => ⟨S16x16x4x32, .f32⟩
  | 17 => ⟨S16x16x4x32, .f32⟩
  | 18 => ⟨S16x16x4x64, .f32⟩
  | 19 => ⟨S16x16x4x192, .f32⟩
  | 20 => ⟨S_, .f32⟩
  | 21 => ⟨S_, .f32⟩
  | 22 => ⟨S_, .f32⟩
  | 23 => ⟨S_, .f32⟩
  | 24 => ⟨S_, .f32⟩
  | 25 => ⟨S16x16x4x192, .f32⟩
  | 26 => ⟨S16x16x4x192, .f32⟩
  | 27 => ⟨S16x16x256, .f32⟩
  | 28 => ⟨S_, .f32⟩
  | 29 => ⟨S16x16, .f32⟩
  | 30 => ⟨S16x16x1, .f32⟩
  | 31 => ⟨S_, .f32⟩
  | 32 => ⟨S16x16x1, .f32⟩
  | 33 => ⟨S16x16x1, .f32⟩
  | 34 => ⟨S_, .f32⟩
  | 35 => ⟨S16x16x1, .f32⟩
  | 36 => ⟨S16x16x1, .f32⟩
  | 37 => ⟨S16x16x1, .f32⟩
  | 38 => ⟨S16x16x256, .f32⟩
  | 39 => ⟨S16x16x256, .f32⟩
  | 40 => ⟨S1x1x256, .f32⟩
  | 41 => ⟨S16x16x256, .f32⟩
  | 42 => ⟨S16x16x256, .f32⟩
  | 43 => ⟨S16x16x1x64, .f32⟩
  | 44 => ⟨S32, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S16, .f32⟩
  | 53 => ⟨S16x1, .f32⟩
  | 54 => ⟨S1x32, .f32⟩
  | 55 => ⟨S16x32, .f32⟩
  | 56 => ⟨S16x32, .f32⟩
  | 57 => ⟨S16x32, .f32⟩
  | 58 => ⟨S16x32, .f32⟩
  | 59 => ⟨S1x16x1x32, .f32⟩
  | 60 => ⟨S16x32, .f32⟩
  | 61 => ⟨S1x16x1x32, .f32⟩
  | 62 => ⟨S16x16x1x32, .f32⟩
  | 63 => ⟨S16x16x1x32, .f32⟩
  | 64 => ⟨S16x16x1x32, .f32⟩
  | 65 => ⟨S16x16x1x32, .f32⟩
  | 66 => ⟨S16x16x1x32, .f32⟩
  | 67 => ⟨S16x16x1x32, .f32⟩
  | 68 => ⟨S16x16x1x32, .f32⟩
  | 69 => ⟨S16x16x1x32, .f32⟩
  | 70 => ⟨S16x16x1x32, .f32⟩
  | 71 => ⟨S16x16x1x32, .f32⟩
  | 72 => ⟨S16x16x1x32, .f32⟩
  | 73 => ⟨S16x16x1x32, .f32⟩
  | 74 => ⟨S16x16x1x64, .f32⟩
  | 75 => ⟨S16x16x64, .f32⟩
  | 76 => ⟨S16x16x512, .f32⟩
  | 77 => ⟨S16x16x4x128, .f32⟩
  | 78 => ⟨S16x16x1x64, .f32⟩
  | 79 => ⟨S16x16x4x64, .f32⟩
  | 80 => ⟨S16x16x4x192, .f32⟩
  | 81 => ⟨S16x16x512, .f32⟩
  | 82 => ⟨S256x512, .f32⟩
  | 83 => ⟨S256x512, .bf16⟩
  | 84 => ⟨S256x512, .bf16⟩
  | 85 => ⟨S256x512, .bf16⟩
  | 86 => ⟨S256x512, .bf16⟩
  | 87 => ⟨S256x512, .bf16⟩
  | 88 => ⟨S256x512, .bf16⟩
  | 89 => ⟨S256x512, .bf16⟩
  | 90 => ⟨S256x512, .bf16⟩
  | 91 => ⟨S256x512, .bf16⟩
  | 92 => ⟨S256x4, .f32⟩
  | 93 => ⟨S256x4x192, .f32⟩
  | 94 => ⟨S4x256x192, .f32⟩
  | 95 => ⟨S_, .i32⟩
  | 96 => ⟨S_, .f32⟩
  | 97 => ⟨S4x256x256, .f32⟩
  | 98 => ⟨S4x256x256, .bf16⟩
  | 99 => ⟨S256x256, .f32⟩
  | 100 => ⟨S256x64, .f32⟩
  | 101 => ⟨S256x4x192, .f32⟩
  | 102 => ⟨S4x256x192, .f32⟩
  | 103 => ⟨S_, .i32⟩
  | 104 => ⟨S_, .f32⟩
  | 105 => ⟨S4x256x256, .f32⟩
  | 106 => ⟨S4x256x256, .bf16⟩
  | 107 => ⟨S256x512, .bf16⟩
  | _ => ⟨S16x16x2048, .f32⟩

abbrev hbmTy (i : Nat) : BufTy := match i / 128 with
  | 0 => hbmTy0_0 i
  | 1 => hbmTy0_1 i
  | _ => ⟨S16x16x2048, .f32⟩

abbrev bufTy : (tb : Table) → Fin (tcTables nBuf tb) → BufTy
  | .hbm, ⟨i, _⟩ => hbmTy i
  | _, _ => ⟨S16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_3 : Ref sig .tc := ⟨.hbm, 57, rfl⟩
abbrev main_v43 : Ref sig .tc := ⟨.hbm, 58, rfl⟩
abbrev main_v44 : Ref sig .tc := ⟨.hbm, 59, rfl⟩
abbrev main_cst_4 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_5 : Ref sig .tc := ⟨.hbm, 64, rfl⟩
abbrev main_v48 : Ref sig .tc := ⟨.hbm, 65, rfl⟩
abbrev main_v49 : Ref sig .tc := ⟨.hbm, 66, rfl⟩
abbrev main_cst_6 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_call0_v0 : Ref sig .tc := ⟨.hbm, 80, rfl⟩
abbrev main_call0_call0_cst : Ref sig .tc := ⟨.hbm, 81, rfl⟩
abbrev main_call0_call0_v0 : Ref sig .tc := ⟨.hbm, 82, rfl⟩
abbrev main_call0_call0_v1 : Ref sig .tc := ⟨.hbm, 83, rfl⟩
abbrev main_call0_call0_v2 : Ref sig .tc := ⟨.hbm, 84, rfl⟩
abbrev main_call0_call0_v3 : Ref sig .tc := ⟨.hbm, 85, rfl⟩
abbrev main_call0_call0_v4 : Ref sig .tc := ⟨.hbm, 86, rfl⟩
abbrev main_call0_call0_v5 : Ref sig .tc := ⟨.hbm, 87, rfl⟩
abbrev main_call0_call0_v6 : Ref sig .tc := ⟨.hbm, 88, rfl⟩
abbrev main_call0_call0_v7 : Ref sig .tc := ⟨.hbm, 89, rfl⟩
abbrev main_call0_call0_v8 : Ref sig .tc := ⟨.hbm, 90, rfl⟩
abbrev main_call0_call0_v9 : Ref sig .tc := ⟨.hbm, 91, rfl⟩
abbrev main_call0_call0_v10 : Ref sig .tc := ⟨.hbm, 92, rfl⟩
abbrev main_call0_call0_v11 : Ref sig .tc := ⟨.hbm, 93, rfl⟩
abbrev main_call0_v1 : Ref sig .tc := ⟨.hbm, 94, rfl⟩
abbrev main_v60 : Ref sig .tc := ⟨.hbm, 95, rfl⟩
abbrev main_v61 : Ref sig .tc := ⟨.hbm, 96, rfl⟩
abbrev main_cst_9 : Ref sig .tc := ⟨.hbm, 97, rfl⟩
abbrev main_v62 : Ref sig .tc := ⟨.hbm, 98, rfl⟩
abbrev main_v63 : Ref sig .tc := ⟨.hbm, 99, rfl⟩
abbrev main_cst_10 : Ref sig .tc := ⟨.hbm, 100, rfl⟩
abbrev main_v64 : Ref sig .tc := ⟨.hbm, 101, rfl⟩
abbrev main_v65 : Ref sig .tc := ⟨.hbm, 102, rfl⟩
abbrev main_cst_11 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_12 : Ref sig .tc := ⟨.hbm, 118, rfl⟩
abbrev main_v80 : Ref sig .tc := ⟨.hbm, 119, rfl⟩
abbrev main_v81 : Ref sig .tc := ⟨.hbm, 120, rfl⟩
abbrev main_cst_13 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_14 : Ref sig .tc := ⟨.hbm, 148, rfl⟩
abbrev main_v108 : Ref sig .tc := ⟨.hbm, 149, rfl⟩
abbrev main_v109 : Ref sig .tc := ⟨.hbm, 150, rfl⟩
abbrev main_cst_15 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_16 : Ref sig .tc := ⟨.hbm, 156, rfl⟩
abbrev main_v114 : Ref sig .tc := ⟨.hbm, 157, rfl⟩
abbrev main_v115 : Ref sig .tc := ⟨.hbm, 158, rfl⟩
abbrev main_cst_17 : Ref sig .tc := ⟨.hbm, 159, rfl⟩
abbrev main_v116 : Ref sig .tc := ⟨.hbm, 160, rfl⟩
abbrev main_v117 : Ref sig .tc := ⟨.hbm, 161, rfl⟩
abbrev main_cst_18 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_19 : Ref sig .tc := ⟨.hbm, 174, rfl⟩
abbrev main_v129 : Ref sig .tc := ⟨.hbm, 175, rfl⟩
abbrev main_v130 : Ref sig .tc := ⟨.hbm, 176, rfl⟩
abbrev main_cst_20 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_c_21 : Ref sig .tc := ⟨.hbm, 223, rfl⟩
abbrev main_call1_v0 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_c_22 : Ref sig .tc := ⟨.hbm, 231, rfl⟩
abbrev main_call2_v0 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩

abbrev nD : Nat := 1
abbrev τ : Topo := Topo.v7x

variable {F : FTy → Type} [FloatOps F]
-- ==== Kernel5.lean ====
abbrev S16x16x2048 : Shape := ⟨3, ![16, 16, 2048]⟩
abbrev S2048x5632 : Shape := ⟨2, ![2048, 5632]⟩
abbrev S5632x2048 : Shape := ⟨2, ![5632, 2048]⟩
abbrev S2048 : Shape := ⟨1, ![2048]⟩
abbrev S256x2048 : Shape := ⟨2, ![256, 2048]⟩
abbrev S1x2048 : Shape := ⟨2, ![1, 2048]⟩
abbrev S2048x512 : Shape := ⟨2, ![2048, 512]⟩
abbrev S512x2048 : Shape := ⟨2, ![512, 2048]⟩
abbrev S256x512 : Shape := ⟨2, ![256, 512]⟩
abbrev S256 : Shape := ⟨1, ![256]⟩
abbrev S256x1 : Shape := ⟨2, ![256, 1]⟩

abbrev nBuf : Space → Nat
  | .hbm => 14
  | .vmem => 11
  | .smem => 0
  | _ => 0

abbrev bufTy : (tb : Table) → Fin (tcTables nBuf tb) → BufTy
  | .hbm, ⟨0, _⟩ => ⟨S16x16x2048, .f32⟩
  | .hbm, ⟨1, _⟩ => ⟨S16x16x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S256x2048, .f32⟩
  | .hbm, ⟨7, _⟩ => ⟨S256x2048, .bf16⟩
  | .hbm, ⟨8, _⟩ => ⟨S2048x5632, .bf16⟩
  | .hbm, ⟨9, _⟩ => ⟨S2048x5632, .bf16⟩
  | .hbm, ⟨10, _⟩ => ⟨S5632x2048, .bf16⟩
  | .hbm, ⟨11, _⟩ => ⟨S256x2048, .f32⟩
  | .hbm, ⟨12, _⟩ => ⟨S1x2048, .f32⟩
  | .hbm, ⟨13, _⟩ => ⟨S256x2048, .f32⟩
  | .local _ .vmem, ⟨0, _⟩ => ⟨S256x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S256x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .f32⟩
  | _, _ => ⟨S16x16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def k0_cond2 (i : grid0.Coords) : BitVec 1 :=
  let arg1 : BitVec 32 := BitVec.ofNat 32 (i 1).val
  let c10_i32 : BitVec 32 := 10#32
  let v23 : BitVec 1 := Scalar.cmpi .eq arg1 c10_i32
  let v24 : BitVec 32 := Scalar.extui v23
  let c0_i32_14 : BitVec 32 := 0#32
  let v25 : BitVec 1 := Scalar.cmpi .ne v24 c0_i32_14
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== Reference5Ideal.lean ====
abbrev S16x16x2048 : Shape := ⟨3, ![16, 16, 2048]⟩
abbrev S2048x5632 : Shape := ⟨2, ![2048, 5632]⟩
abbrev S5632x2048 : Shape := ⟨2, ![5632, 2048]⟩
abbrev S2048 : Shape := ⟨1, ![2048]⟩
abbrev S16x16x5632 : Shape := ⟨3, ![16, 16, 5632]⟩
abbrev S_ : Shape := ⟨0, ![]⟩
abbrev S16x16 : Shape := ⟨2, ![16, 16]⟩
abbrev S16x16x1 : Shape := ⟨3, ![16, 16, 1]⟩
abbrev S1x1x2048 : Shape := ⟨3, ![1, 1, 2048]⟩
abbrev S256x2048 : Shape := ⟨2, ![256, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16x16x2048, .f32⟩
  | .hbm, ⟨1, _⟩ => ⟨S16x16x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S16x16x5632, .f32⟩
  | .hbm, ⟨7, _⟩ => ⟨S16x16x5632, .f32⟩
  | .hbm, ⟨8, _⟩ => ⟨S16x16x5632, .f32⟩
  | .hbm, ⟨9, _⟩ => ⟨S_, .f32⟩
  | .hbm, ⟨10, _⟩ => ⟨S16x16x5632, .f32⟩
  | .hbm, ⟨11, _⟩ => ⟨S16x16x5632, .f32⟩
  | .hbm, ⟨12, _⟩ => ⟨S_, .f32⟩
  | .hbm, ⟨13, _⟩ => ⟨S16x16x5632, .f32⟩
  | .hbm, ⟨14, _⟩ => ⟨S16x16x5632, .f32⟩
  | .hbm, ⟨15, _⟩ => ⟨S16x16x5632, .f32⟩
  | .hbm, ⟨16, _⟩ => ⟨S16x16x5632, .f32⟩
  | .hbm, ⟨17, _⟩ => ⟨S16x16x5632, .f32⟩
  | .hbm, ⟨18, _⟩ => ⟨S16x16x2048, .f32⟩
  | .hbm, ⟨19, _⟩ => ⟨S16x16x2048, .f32⟩
  | .hbm, ⟨20, _⟩ => ⟨S_, .f32⟩
  | .hbm, ⟨21, _⟩ => ⟨S16x16, .f32⟩
  | .hbm, ⟨22, _⟩ => ⟨S16x16x1, .f32⟩
  | .hbm, ⟨23, _⟩ => ⟨S_, .f32⟩
  | .hbm, ⟨24, _⟩ => ⟨S16x16x1, .f32⟩
  | .hbm, ⟨25, _⟩ => ⟨S16x16x1, .f32⟩
  | .hbm, ⟨26, _⟩ => ⟨S_, .f32⟩
  | .hbm, ⟨27, _⟩ => ⟨S16x16x1, .f32⟩
  | .hbm, ⟨28, _⟩ => ⟨S16x16x1, .f32⟩
  | .hbm, ⟨29, _⟩ => ⟨S16x16x1, .f32⟩
  | .hbm, ⟨30, _⟩ => ⟨S16x16x2048, .f32⟩
  | .hbm, ⟨31, _⟩ => ⟨S16x16x2048, .f32⟩
  | .hbm, ⟨32, _⟩ => ⟨S1x1x2048, .f32⟩
  | .hbm, ⟨33, _⟩ => ⟨S16x16x2048, .f32⟩
  | .hbm, ⟨34, _⟩ => ⟨S16x16x2048, .f32⟩
  | .hbm, ⟨35, _⟩ => ⟨S16x16x2048, .f32⟩
  | .hbm, ⟨36, _⟩ => ⟨S256x2048, .f32⟩
  | _, _ => ⟨S16x16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩

abbrev nD : Nat := 1
abbrev τ : Topo := Topo.v7x

variable {F : FTy → Type} [FloatOps F]
-- ==== Kernel6.lean ====
abbrev S16x16x8x64 : Shape := ⟨4, ![16, 16, 8, 64]⟩
abbrev S16x16x4x128 : Shape := ⟨4, ![16, 16, 4, 128]⟩
abbrev S16x16x2048 : Shape := ⟨3, ![16, 16, 2048]⟩
abbrev S4x512 : Shape := ⟨2, ![4, 512]⟩
abbrev S2048x2048 : Shape := ⟨2, ![2048, 2048]⟩
abbrev S2048 : Shape := ⟨1, ![2048]⟩
abbrev S256x512 : Shape := ⟨2, ![256, 512]⟩
abbrev S256x2048 : Shape := ⟨2, ![256, 2048]⟩
abbrev S1x2048 : Shape := ⟨2, ![1, 2048]⟩
abbrev S1x512 : Shape := ⟨2, ![1, 512]⟩
abbrev S256 : Shape := ⟨1, ![256]⟩
abbrev S256x1 : Shape := ⟨2, ![256, 1]⟩
abbrev S512x2048 : Shape := ⟨2, ![512, 2048]⟩

abbrev nBuf : Space → Nat
  | .hbm => 23
  | .vmem => 11
  | .smem => 0
  | _ => 0

abbrev bufTy : (tb : Table) → Fin (tcTables nBuf tb) → BufTy
  | .hbm, ⟨0, _⟩ => ⟨S16x16x8x64, .f32⟩
  | .hbm, ⟨1, _⟩ => ⟨S16x16x4x128, .f32⟩
  | .hbm, ⟨2, _⟩ => ⟨S16x16x4x128, .f32⟩
  | .hbm, ⟨3, _⟩ => ⟨S16x16x4x128, .f32⟩
  | .hbm, ⟨4, _⟩ => ⟨S16x16x2048, .f32⟩
  | .hbm, ⟨5, _⟩ => ⟨S4x512, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S256x512, .f32⟩
  | .hbm, ⟨10, _⟩ => ⟨S256x512, .bf16⟩
  | .hbm, ⟨11, _⟩ => ⟨S256x512, .f32⟩
  | .hbm, ⟨12, _⟩ => ⟨S256x512, .bf16⟩
  | .hbm, ⟨13, _⟩ => ⟨S256x512, .f32⟩
  | .hbm, ⟨14, _⟩ => ⟨S256x512, .bf16⟩
  | .hbm, ⟨15, _⟩ => ⟨S256x512, .f32⟩
  | .hbm, ⟨16, _⟩ => ⟨S256x512, .bf16⟩
  | .hbm, ⟨17, _⟩ => ⟨S2048x2048, .bf16⟩
  | .hbm, ⟨18, _⟩ => ⟨S256x2048, .f32⟩
  | .hbm, ⟨19, _⟩ => ⟨S1x2048, .f32⟩
  | .hbm, ⟨20, _⟩ => ⟨S1x2048, .f32⟩
  | .hbm, ⟨21, _⟩ => ⟨S256x2048, .f32⟩
  | .hbm, ⟨22, _⟩ => ⟨S256x2048, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S4x512, .f32⟩
  | .local _ .vmem, ⟨5, _⟩ => ⟨S2048x2048, .bf16⟩
  | .local _ .vmem, ⟨6, _⟩ => ⟨S256x2048, .f32⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | .local _ .vmem, ⟨10, _⟩ => ⟨S256x2048, .bf16⟩
  | _, _ => ⟨S16x16x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference6Ideal.lean ====
abbrev S16x16x8x64 : Shape := ⟨4, ![16, 16, 8, 64]⟩
abbrev S16x16x4x128 : Shape := ⟨4, ![16, 16, 4, 128]⟩
abbrev S16x16x2048 : Shape := ⟨3, ![16, 16, 2048]⟩
abbrev S4x512 : Shape := ⟨2, ![4, 512]⟩
abbrev S2048x2048 : Shape := ⟨2, ![2048, 2048]⟩
abbrev S2048 : Shape := ⟨1, ![2048]⟩
abbrev S16x16x512 : Shape := ⟨3, ![16, 16, 512]⟩
abbrev S1x512 : Shape := ⟨2, ![1, 512]⟩
abbrev S512 : Shape := ⟨1, ![512]⟩
abbrev S_ : Shape := ⟨0, ![]⟩
abbrev S16x16 : Shape := ⟨2, ![16, 16]⟩
abbrev S16x16x1 : Shape := ⟨3, ![16, 16, 1]⟩
abbrev S1x1x512 : Shape := ⟨3, ![1, 1, 512]⟩
abbrev S1x1x2048 : Shape := ⟨3, ![1, 1, 2048]⟩
abbrev S256x2048 : Shape := ⟨2, ![256, 2048]⟩

abbrev nBuf : Space → Nat
  | .hbm => 123
  | .vmem => 0
  | .smem => 0
  | _ => 0

abbrev bufTy : (tb : Table) → Fin (tcTables nBuf tb) → BufTy
  | .hbm, ⟨0, _⟩ => ⟨S16x16x8x64, .f32⟩
  | .hbm, ⟨1, _⟩ => ⟨S16x16x4x128, .f32⟩
  | .hbm, ⟨2, _⟩ => ⟨S16x16x4x128, .f32⟩
  | .hbm, ⟨3, _⟩ => ⟨S16x16x4x128, .f32⟩
  | .hbm, ⟨4, _⟩ => ⟨S16x16x2048, .f32⟩
  | .hbm, ⟨5, _⟩ => ⟨S4x512, .f32⟩
  | .hbm, ⟨6, _⟩ => ⟨S2048x2048, .f32⟩
  | .hbm, ⟨7, _⟩ => ⟨S2048, .f32⟩
  | .hbm, ⟨8, _⟩ => ⟨S2048, .f32⟩
  | .hbm, ⟨9, _⟩ => ⟨S16x16x512, .f32⟩
  | .hbm, ⟨10, _⟩ => ⟨S1x512, .f32⟩
  | .hbm, ⟨11, _⟩ => ⟨S512, .f32⟩
  | .hbm, ⟨12, _⟩ => ⟨S16x16x512, .f32⟩
  | .hbm, ⟨13, _⟩ => ⟨S_, .f32⟩
  | .hbm, ⟨14, _⟩ => ⟨S16x16, .f32⟩
  | .hbm, ⟨15, _⟩ => ⟨S16x16x1, .f32⟩
  | .hbm, ⟨16, _⟩ => ⟨S_, .f32⟩
  | .hbm, ⟨17, _⟩ => ⟨S16x16x1, .f32⟩
  | .hbm, ⟨18, _⟩ => ⟨S16x16x1, .f32⟩
  | .hbm, ⟨19, _⟩ => ⟨S_, .f32⟩
  | .hbm, ⟨20, _⟩ => ⟨S16x16x1, .f32⟩
  | .hbm, ⟨21, _⟩ => ⟨S16x16x1, .f32⟩
  | .hbm, ⟨22, _⟩ => ⟨S16x16x1, .f32⟩
  | .hbm, ⟨23, _⟩ => ⟨S16x16x512, .f32⟩
  | .hbm, ⟨24, _⟩ => ⟨S16x16x512, .f32⟩
  | .hbm, ⟨25, _⟩ => ⟨S1x1x512, .f32⟩
  | .hbm, ⟨26, _⟩ => ⟨S16x16x512, .f32⟩
  | .hbm, ⟨27, _⟩ => ⟨S16x16x512, .f32⟩
  | .hbm, ⟨28, _⟩ => ⟨S16x16x512, .f32⟩
  | .hbm, ⟨29, _⟩ => ⟨S1x512, .f32⟩
  | .hbm, ⟨30, _⟩ => ⟨S512, .f32⟩
  | .hbm, ⟨31, _⟩ => ⟨S16x16x512, .f32⟩
  | .hbm, ⟨32, _⟩ => ⟨S_, .f32⟩
  | .hbm, ⟨33, _⟩ => ⟨S16x16, .f32⟩
  | .hbm, ⟨34, _⟩ => ⟨S16x16x1, .f32⟩
  | .hbm, ⟨35, _⟩ => ⟨S_, .f32⟩
  | .hbm, ⟨36, _⟩ => ⟨S16x16x1, .f32⟩
  | .hbm, ⟨37, _⟩ => ⟨S16x16x1, .f32⟩
  | .hbm, ⟨38, _⟩ => ⟨S_, .f32⟩
  | .hbm, ⟨39, _⟩ => ⟨S16x16x1, .f32⟩
  | .hbm, ⟨40, _⟩ => ⟨S16x16x1, .f32⟩
  | .hbm, ⟨41, _⟩ => ⟨S16x16x1, .f32⟩
  | .hbm, ⟨42, _⟩ => ⟨S16x16x512, .f32⟩
  | .hbm, ⟨43, _⟩ => ⟨S16x16x512, .f32⟩
  | .hbm, ⟨44, _⟩ => ⟨S1x1x512, .f32⟩
  | .hbm, ⟨45, _⟩ => ⟨S16x16x512, .f32⟩
  | .hbm, ⟨46, _⟩ => ⟨S16x16x512, .f32⟩
  | .hbm, ⟨47, _⟩ => ⟨S16x16x512, .f32⟩
  | .hbm, ⟨48, _⟩ => ⟨S1x512, .f32⟩
  | .hbm, ⟨49, _⟩ => ⟨S512, .f32⟩
  | .hbm, ⟨50, _⟩ => ⟨S16x16x512, .f32⟩
  | .hbm, ⟨51, _⟩ => ⟨S_, .f32⟩
  | .hbm, ⟨52, _⟩ => ⟨S16x16, .f32⟩
  | .hbm, ⟨53, _⟩ => ⟨S16x16x1, .f32⟩
  | .hbm, ⟨54, _⟩ => ⟨S_, .f32⟩
  | .hbm, ⟨55, _⟩ => ⟨S16x16x1, .f32⟩
  | .hbm, ⟨56, _⟩ => ⟨S16x16x1, .f32⟩
  | .hbm, ⟨57, _⟩ => ⟨S_, .f32⟩
  | .hbm, ⟨58, _⟩ => ⟨S16x16x1, .f32⟩
  | .hbm, ⟨59, _⟩ => ⟨S16x16x1, .f32⟩
  | .hbm, ⟨60, _⟩ => ⟨S16x16x1, .f32⟩
  | .hbm, ⟨61, _⟩ => ⟨S16x16x512, .f32⟩
  | .hbm, ⟨62, _⟩ => ⟨S16x16x512, .f32⟩
  | .hbm, ⟨63, _⟩ => ⟨S1x1x512, .f32⟩
  | .hbm, ⟨64, _⟩ => ⟨S16x16x512, .f32⟩
  | .hbm, ⟨65, _⟩ => ⟨S16x16x512, .f32⟩
  | .hbm, ⟨66, _⟩ => ⟨S16x16x512, .f32⟩
  | .hbm, ⟨67, _⟩ => ⟨S1x512, .f32⟩
  | .hbm, ⟨68, _⟩ => ⟨S512, .f32⟩
  | .hbm, ⟨69, _⟩ => ⟨S16x16x512, .f32⟩
  | .hbm, ⟨70, _⟩ => ⟨S_, .f32⟩
  | .hbm, ⟨71, _⟩ => ⟨S16x16, .f32⟩
  | .hbm, ⟨72, _⟩ => ⟨S16x16x1, .f32⟩
  | .hbm, ⟨73, _⟩ => ⟨S_, .f32⟩
  | .hbm, ⟨74, _⟩ => ⟨S16x16x1, .f32⟩
  | .hbm, ⟨75, _⟩ => ⟨S16x16x1, .f32⟩
  | .hbm, ⟨76, _⟩ => ⟨S_, .f32⟩
  | .hbm, ⟨77, _⟩ => ⟨S16x16x1, .f32⟩
  | .hbm, ⟨78, _⟩ => ⟨S16x16x1, .f32⟩
  | .hbm, ⟨79, _⟩ => ⟨S16x16x1, .f32⟩
  | .hbm, ⟨80, _⟩ => ⟨S16x16x512, .f32⟩
  | .hbm, ⟨81, _⟩ => ⟨S16x16x512, .f32⟩
  | .hbm, ⟨82, _⟩ => ⟨S1x1x512, .f32⟩
  | .hbm, ⟨83, _⟩ => ⟨S16x16x512, .f32⟩
  | .hbm, ⟨84, _⟩ => ⟨S16x16x512, .f32⟩
  | .hbm, ⟨85, _⟩ => ⟨S16x16x2048, .f32⟩
  | .hbm, ⟨86, _⟩ => ⟨S16x16x2048, .f32⟩
  | .hbm, ⟨87, _⟩ => ⟨S16x16x2048, .f32⟩
  | .hbm, ⟨88, _⟩ => ⟨S_, .f32⟩
  | .hbm, ⟨89, _⟩ => ⟨S16x16, .f32⟩
  | .hbm, ⟨90, _⟩ => ⟨S16x16x1, .f32⟩
  | .hbm, ⟨91, _⟩ => ⟨S_, .f32⟩
  | .hbm, ⟨92, _⟩ => ⟨S16x16x1, .f32⟩
  | .hbm, ⟨93, _⟩ => ⟨S16x16x1, .f32⟩
  | .hbm, ⟨94, _⟩ => ⟨S_, .f32⟩
  | .hbm, ⟨95, _⟩ => ⟨S16x16x1, .f32⟩
  | .hbm, ⟨96, _⟩ => ⟨S16x16x1, .f32⟩
  | .hbm, ⟨97, _⟩ => ⟨S16x16x1, .f32⟩
  | .hbm, ⟨98, _⟩ => ⟨S16x16x2048, .f32⟩
  | .hbm, ⟨99, _⟩ => ⟨S16x16x2048, .f32⟩
  | .hbm, ⟨100, _⟩ => ⟨S1x1x2048, .f32⟩
  | .hbm, ⟨101, _⟩ => ⟨S16x16x2048, .f32⟩
  | .hbm, ⟨102, _⟩ => ⟨S16x16x2048, .f32⟩
  | .hbm, ⟨103, _⟩ => ⟨S16x16x2048, .f32⟩
  | .hbm, ⟨104, _⟩ => ⟨S16x16x2048, .f32⟩
  | .hbm, ⟨105, _⟩ => ⟨S_, .f32⟩
  | .hbm, ⟨106, _⟩ => ⟨S16x16, .f32⟩
  | .hbm, ⟨107, _⟩ => ⟨S16x16x1, .f32⟩
  | .hbm, ⟨108, _⟩ => ⟨S_, .f32⟩
  | .hbm, ⟨109, _⟩ => ⟨S16x16x1, .f32⟩
  | .hbm, ⟨110, _⟩ => ⟨S16x16x1, .f32⟩
  | .hbm, ⟨111, _⟩ => ⟨S_, .f32⟩
  | .hbm, ⟨112, _⟩ => ⟨S16x16x1, .f32⟩
  | .hbm, ⟨113, _⟩ => ⟨S16x16x1, .f32⟩
  | .hbm, ⟨114, _⟩ => ⟨S16x16x1, .f32⟩
  | .hbm, ⟨115, _⟩ => ⟨S16x16x2048, .f32⟩
  | .hbm, ⟨116, _⟩ => ⟨S16x16x2048, .f32⟩
  | .hbm, ⟨117, _⟩ => ⟨S1x1x2048, .f32⟩
  | .hbm, ⟨118, _⟩ => ⟨S16x16x2048, .f32⟩
  | .hbm, ⟨119, _⟩ => ⟨S16x16x2048, .f32⟩
  | .hbm, ⟨120, _⟩ => ⟨S256x2048, .f32⟩
  | .hbm, ⟨121, _⟩ => ⟨S256x2048, .f32⟩
  | .hbm, ⟨122, _⟩ => ⟨S256x2048, .bf16⟩
  | _, _ => ⟨S16x16x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_cst_8 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_cst_10 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_11 : Ref sig .tc := ⟨.hbm, 88, rfl⟩
abbrev main_v67 : Ref sig .tc := ⟨.hbm, 89, rfl⟩
abbrev main_v68 : Ref sig .tc := ⟨.hbm, 90, rfl⟩
abbrev main_cst_12 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_14 : Ref sig .tc := ⟨.hbm, 105, rfl⟩
abbrev main_v81 : Ref sig .tc := ⟨.hbm, 106, rfl⟩
abbrev main_v82 : Ref sig .tc := ⟨.hbm, 107, rfl⟩
abbrev main_cst_15 : Ref sig .tc := ⟨.hbm, 108, rfl⟩
abbrev main_v83 : Ref sig .tc := ⟨.hbm, 109, rfl⟩
abbrev main_v84 : Ref sig .tc := ⟨.hbm, 110, rfl⟩
abbrev main_cst_16 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩

abbrev nD : Nat := 1
abbrev τ : Topo := Topo.v7x

variable {F : FTy → Type} [FloatOps F]
-- ==== Kernel7.lean ====
abbrev S4x16x2048x256 : Shape := ⟨4, ![4, 16, 2048, 256]⟩
abbrev S4x16x2048x64 : Shape := ⟨4, ![4, 16, 2048, 64]⟩
abbrev S256x512 : Shape := ⟨2, ![256, 512]⟩
abbrev S131072x256 : Shape := ⟨2, ![131072, 256]⟩
abbrev S131072x64 : Shape := ⟨2, ![131072, 64]⟩
abbrev S_ : Shape := ⟨0, ![]⟩
abbrev S131072x128 : Shape := ⟨2, ![131072, 128]⟩
abbrev S4x32768x256 : Shape := ⟨3, ![4, 32768, 256]⟩
abbrev S32768x512 : Shape := ⟨2, ![32768, 512]⟩
abbrev S512x256 : Shape := ⟨2, ![512, 256]⟩
abbrev S512x128 : Shape := ⟨2, ![512, 128]⟩
abbrev S4x512x256 : Shape := ⟨3, ![4, 512, 256]⟩
abbrev S512x512 : Shape := ⟨2, ![512, 512]⟩
abbrev S1x512x128 : Shape := ⟨3, ![1, 512, 128]⟩

abbrev nBuf : Space → Nat
  | .hbm => 13
  | .vmem => 10
  | .smem => 0
  | _ => 0

abbrev bufTy : (tb : Table) → Fin (tcTables nBuf tb) → BufTy
  | .hbm, ⟨0, _⟩ => ⟨S4x16x2048x256, .f32⟩
  | .hbm, ⟨1, _⟩ => ⟨S4x16x2048x64, .f32⟩
  | .hbm, ⟨2, _⟩ => ⟨S256x512, .f32⟩
  | .hbm, ⟨3, _⟩ => ⟨S256x512, .f32⟩
  | .hbm, ⟨4, _⟩ => ⟨S131072x256, .f32⟩
  | .hbm, ⟨5, _⟩ => ⟨S131072x64, .f32⟩
  | .hbm, ⟨6, _⟩ => ⟨S_, .i32⟩
  | .hbm, ⟨7, _⟩ => ⟨S_, .f32⟩
  | .hbm, ⟨8, _⟩ => ⟨S131072x128, .f32⟩
  | .hbm, ⟨9, _⟩ => ⟨S256x512, .bf16⟩
  | .hbm, ⟨10, _⟩ => ⟨S256x512, .bf16⟩
  | .hbm, ⟨11, _⟩ => ⟨S4x32768x256, .bf16⟩
  | .hbm, ⟨12, _⟩ => ⟨S32768x512, .bf16⟩
  | .local _ .vmem, ⟨0, _⟩ => ⟨S512x256, .f32⟩
  | .local _ .vmem, ⟨1, _⟩ => ⟨S512x256, .f32⟩
  | .local _ .vmem, ⟨2, _⟩ => ⟨S512x128, .f32⟩
  | .local _ .vmem, ⟨3, _⟩ => ⟨S512x128, .f32⟩
  | .local _ .vmem, ⟨4, _⟩ => ⟨S256x512, .bf16⟩
  | .local _ .vmem, ⟨5, _⟩ => ⟨S256x512, .bf16⟩
  | .local _ .vmem, ⟨6, _⟩ => ⟨S4x512x256, .bf16⟩
  | .local _ .vmem, ⟨7, _⟩ => ⟨S4x512x256, .bf16⟩
  | .local _ .vmem, ⟨8, _⟩ => ⟨S512x512, .bf16⟩
  | .local _ .vmem, ⟨9, _⟩ => ⟨S512x512, .bf16⟩
  | _, _ => ⟨S4x16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S4x16x2048x256 : Shape := ⟨4, ![4, 16, 2048, 256]⟩
abbrev S4x16x2048x64 : Shape := ⟨4, ![4, 16, 2048, 64]⟩
abbrev S256x512 : Shape := ⟨2, ![256, 512]⟩
abbrev S1x16x2048x256 : Shape := ⟨4, ![1, 16, 2048, 256]⟩
abbrev S16x2048x256 : Shape := ⟨3, ![16, 2048, 256]⟩
abbrev S1x16x2048x64 : Shape := ⟨4, ![1, 16, 2048, 64]⟩
abbrev S16x2048x64 : Shape := ⟨3, ![16, 2048, 64]⟩
abbrev S16x2048x512 : Shape := ⟨3, ![16, 2048, 512]⟩
abbrev S16x2048x4x128 : Shape := ⟨4, ![16, 2048, 4, 128]⟩
abbrev S16x2048x1x64 : Shape := ⟨4, ![16, 2048, 1, 64]⟩
abbrev S16x2048x4x64 : Shape := ⟨4, ![16, 2048, 4, 64]⟩
abbrev S16x2048x4x192 : Shape := ⟨4, ![16, 2048, 4, 192]⟩
abbrev S32768x4x192 : Shape := ⟨3, ![32768, 4, 192]⟩
abbrev S4x32768x192 : Shape := ⟨3, ![4, 32768, 192]⟩
abbrev S_ : Shape := ⟨0, ![]⟩
abbrev S4x32768x256 : Shape := ⟨3, ![4, 32768, 256]⟩
abbrev S32768x512 : Shape := ⟨2, ![32768, 512]⟩

abbrev nBuf : Space → Nat
  | .hbm => 22
  | .vmem => 0
  | .smem => 0
  | _ => 0

abbrev bufTy : (tb : Table) → Fin (tcTables nBuf tb) → BufTy
  | .hbm, ⟨0, _⟩ => ⟨S4x16x2048x256, .f32⟩
  | .hbm, ⟨1, _⟩ => ⟨S4x16x2048x64, .f32⟩
  | .hbm, ⟨2, _⟩ => ⟨S256x512, .f32⟩
  | .hbm, ⟨3, _⟩ => ⟨S256x512, .f32⟩
  | .hbm, ⟨4, _⟩ => ⟨S1x16x2048x256, .f32⟩
  | .hbm, ⟨5, _⟩ => ⟨S16x2048x256, .f32⟩
  | .hbm, ⟨6, _⟩ => ⟨S1x16x2048x64, .f32⟩
  | .hbm, ⟨7, _⟩ => ⟨S16x2048x64, .f32⟩
  | .hbm, ⟨8, _⟩ => ⟨S16x2048x512, .f32⟩
  | .hbm, ⟨9, _⟩ => ⟨S16x2048x4x128, .f32⟩
  | .hbm, ⟨10, _⟩ => ⟨S16x2048x1x64, .f32⟩
  | .hbm, ⟨11, _⟩ => ⟨S16x2048x4x64, .f32⟩
  | .hbm, ⟨12, _⟩ => ⟨S16x2048x4x192, .f32⟩
  | .hbm, ⟨13, _⟩ => ⟨S16x2048x512, .f32⟩
  | .hbm, ⟨14, _⟩ => ⟨S32768x4x192, .f32⟩
  | .hbm, ⟨15, _⟩ => ⟨S4x32768x192, .f32⟩
  | .hbm, ⟨16, _⟩ => ⟨S_, .i32⟩
  | .hbm, ⟨17, _⟩ => ⟨S_, .f32⟩
  | .hbm, ⟨18, _⟩ => ⟨S4x32768x256, .f32⟩
  | .hbm, ⟨19, _⟩ => ⟨S4x32768x256, .bf16⟩
  | .hbm, ⟨20, _⟩ => ⟨S32768x512, .f32⟩
  | .hbm, ⟨21, _⟩ => ⟨S32768x512, .bf16⟩
  | _, _ => ⟨S4x16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_call0_v0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel8.lean ====
abbrev S16x16x4x192 : Shape := ⟨4, ![16, 16, 4, 192]⟩
abbrev S16x2048x4x192 : Shape := ⟨4, ![16, 2048, 4, 192]⟩
abbrev S16x2048x4x128 : Shape := ⟨4, ![16, 2048, 4, 128]⟩
abbrev S16x16x4x128 : Shape := ⟨4, ![16, 16, 4, 128]⟩
abbrev S_ : Shape := ⟨0, ![]⟩
abbrev S256x4x192 : Shape := ⟨3, ![256, 4, 192]⟩
abbrev S4x256x192 : Shape := ⟨3, ![4, 256, 192]⟩
abbrev S4x256x256 : Shape := ⟨3, ![4, 256, 256]⟩
abbrev S32768x4x192 : Shape := ⟨3, ![32768, 4, 192]⟩
abbrev S4x32768x192 : Shape := ⟨3, ![4, 32768, 192]⟩
abbrev S4x32768x256 : Shape := ⟨3, ![4, 32768, 256]⟩
abbrev S32768x512 : Shape := ⟨2, ![32768, 512]⟩
abbrev S256x512 : Shape := ⟨2, ![256, 512]⟩
abbrev S4x16x256 : Shape := ⟨3, ![4, 16, 256]⟩
abbrev S4x2048x256 : Shape := ⟨3, ![4, 2048, 256]⟩
abbrev S2048x512 : Shape := ⟨2, ![2048, 512]⟩
abbrev S16x512 : Shape := ⟨2, ![16, 512]⟩
abbrev S16x2176 : Shape := ⟨2, ![16, 2176]⟩
abbrev S1x2048x256 : Shape := ⟨3, ![1, 2048, 256]⟩
abbrev S2048x256 : Shape := ⟨2, ![2048, 256]⟩
abbrev S1x16x256 : Shape := ⟨3, ![1, 16, 256]⟩
abbrev S16x256 : Shape := ⟨2, ![16, 256]⟩
abbrev S112x256 : Shape := ⟨2, ![112, 256]⟩
abbrev S2176x256 : Shape := ⟨2, ![2176, 256]⟩
abbrev S2048x128 : Shape := ⟨2, ![2048, 128]⟩
abbrev S16x128 : Shape := ⟨2, ![16, 128]⟩
abbrev S112x128 : Shape := ⟨2, ![112, 128]⟩
abbrev S2176x128 : Shape := ⟨2, ![2176, 128]⟩
abbrev S16 : Shape := ⟨1, ![16]⟩
abbrev S16x1 : Shape := ⟨2, ![16, 1]⟩

abbrev nBuf : Space → Nat
  | .hbm => 37
  | .vmem => 12
  | .smem => 0
  | _ => 0

abbrev bufTy : (tb : Table) → Fin (tcTables nBuf tb) → BufTy
  | .hbm, ⟨0, _⟩ => ⟨S16x16x4x192, .f32⟩
  | .hbm, ⟨1, _⟩ => ⟨S16x2048x4x192, .f32⟩
  | .hbm, ⟨2, _⟩ => ⟨S16x2048x4x128, .f32⟩
  | .hbm, ⟨3, _⟩ => ⟨S16x16x4x192, .f32⟩
  | .hbm, ⟨4, _⟩ => ⟨S16x16x4x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S16x16x4x192, .f32⟩
  | .hbm, ⟨13, _⟩ => ⟨S16x16x4x192, .f32⟩
  | .hbm, ⟨14, _⟩ => ⟨S256x4x192, .f32⟩
  | .hbm, ⟨15, _⟩ => ⟨S4x256x192, .f32⟩
  | .hbm, ⟨16, _⟩ => ⟨S_, .i32⟩
  | .hbm, ⟨17, _⟩ => ⟨S_, .f32⟩
  | .hbm, ⟨18, _⟩ => ⟨S4x256x256, .f32⟩
  | .hbm, ⟨19, _⟩ => ⟨S4x256x256, .bf16⟩
  | .hbm, ⟨20, _⟩ => ⟨S32768x4x192, .f32⟩
  | .hbm, ⟨21, _⟩ => ⟨S4x32768x192, .f32⟩
  | .hbm, ⟨22, _⟩ => ⟨S_, .i32⟩
  | .hbm, ⟨23, _⟩ => ⟨S_, .f32⟩
  | .hbm, ⟨24, _⟩ => ⟨S4x32768x256, .f32⟩
  | .hbm, ⟨25, _⟩ => ⟨S4x32768x256, .bf16⟩
  | .hbm, ⟨26, _⟩ => ⟨S32768x512, .f32⟩
  | .hbm, ⟨27, _⟩ => ⟨S32768x512, .bf16⟩
  | .hbm, ⟨28, _⟩ => ⟨S256x4x192, .f32⟩
  | .hbm, ⟨29, _⟩ => ⟨S4x256x192, .f32⟩
  | .hbm, ⟨30, _⟩ => ⟨S_, .i32⟩
  | .hbm, ⟨31, _⟩ => ⟨S_, .f32⟩
  | .hbm, ⟨32, _⟩ => ⟨S4x256x256, .f32⟩
  | .hbm, ⟨33, _⟩ => ⟨S4x256x256, .bf16⟩
  | .hbm, ⟨34, _⟩ => ⟨S256x512, .f32⟩
  | .hbm, ⟨35, _⟩ => ⟨S256x512, .bf16⟩
  | .hbm, ⟨36, _⟩ => ⟨S256x512, .bf16⟩
  | .local _ .vmem, ⟨0, _⟩ => ⟨S4x16x256, .bf16⟩
  | .local _ .vmem, ⟨1, _⟩ => ⟨S4x16x256, .bf16⟩
  | .local _ .vmem, ⟨2, _⟩ => ⟨S4x2048x256, .bf16⟩
  | .local _ .vmem, ⟨3, _⟩ => ⟨S4x2048x256, .bf16⟩
  | .local _ .vmem, ⟨4, _⟩ => ⟨S2048x512, .bf16⟩
  | .local _ .vmem, ⟨5, _⟩ => ⟨S2048x512, .bf16⟩
  | .local _ .vmem, ⟨6, _⟩ => ⟨S4x16x256, .bf16⟩
  | .local _ .vmem, ⟨7, _⟩ => ⟨S4x16x256, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | _, _ => ⟨S16x16x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_2 : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_call2_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x16x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x16x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel8Ideal.lean ====
variable {F : FTy → Type} [FloatOps F] [Named F]
def κ : String → Option EReal := fun
  | "mask" => some ⊥
  | _ => none
-- ==== Reference8Ideal.lean ====
abbrev S16x16x4x192 : Shape := ⟨4, ![16, 16, 4, 192]⟩
abbrev S16x2048x4x192 : Shape := ⟨4, ![16, 2048, 4, 192]⟩
abbrev S16x2048x4x128 : Shape := ⟨4, ![16, 2048, 4, 128]⟩
abbrev S16x16x4x128 : Shape := ⟨4, ![16, 16, 4, 128]⟩
abbrev S16 : Shape := ⟨1, ![16]⟩
abbrev S_ : Shape := ⟨0, ![]⟩
abbrev S2064 : Shape := ⟨1, ![2064]⟩
abbrev S16x2064x4x192 : Shape := ⟨4, ![16, 2064, 4, 192]⟩
abbrev S16x2064x4x128 : Shape := ⟨4, ![16, 2064, 4, 128]⟩
abbrev S16x4x16x2064 : Shape := ⟨4, ![16, 4, 16, 2064]⟩
abbrev S1x2064 : Shape := ⟨2, ![1, 2064]⟩
abbrev S16x1 : Shape := ⟨2, ![16, 1]⟩
abbrev S16x2064 : Shape := ⟨2, ![16, 2064]⟩
abbrev S16x4x16 : Shape := ⟨3, ![16, 4, 16]⟩
abbrev S16x4x16x1 : Shape := ⟨4, ![16, 4, 16, 1]⟩
abbrev S16x4x128x16 : Shape := ⟨4, ![16, 4, 128, 16]⟩
abbrev S16x16x4 : Shape := ⟨3, ![16, 16, 4]⟩
abbrev S16x16x4x1 : Shape := ⟨4, ![16, 16, 4, 1]⟩
abbrev S256x512 : Shape := ⟨2, ![256, 512]⟩

abbrev nBuf : Space → Nat
  | .hbm => 79
  | .vmem => 0
  | .smem => 0
  | _ => 0

abbrev bufTy : (tb : Table) → Fin (tcTables nBuf tb) → BufTy
  | .hbm, ⟨0, _⟩ => ⟨S16x16x4x192, .f32⟩
  | .hbm, ⟨1, _⟩ => ⟨S16x2048x4x192, .f32⟩
  | .hbm, ⟨2, _⟩ => ⟨S16x2048x4x128, .f32⟩
  | .hbm, ⟨3, _⟩ => ⟨S16x16x4x192, .f32⟩
  | .hbm, ⟨4, _⟩ => ⟨S16x16x4x128, .f32⟩
  | .hbm, ⟨5, _⟩ => ⟨S16, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S2064, .i32⟩
  | .hbm, ⟨10, _⟩ => ⟨S16x2064x4x192, .f32⟩
  | .hbm, ⟨11, _⟩ => ⟨S16x2064x4x128, .f32⟩
  | .hbm, ⟨12, _⟩ => ⟨S16x4x16x2064, .f32⟩
  | .hbm, ⟨13, _⟩ => ⟨S_, .f32⟩
  | .hbm, ⟨14, _⟩ => ⟨S_, .f32⟩
  | .hbm, ⟨15, _⟩ => ⟨S16x4x16x2064, .f32⟩
  | .hbm, ⟨16, _⟩ => ⟨S16x4x16x2064, .f32⟩
  | .hbm, ⟨17, _⟩ => ⟨S_, .i32⟩
  | .hbm, ⟨18, _⟩ => ⟨S_, .i32⟩
  | .hbm, ⟨19, _⟩ => ⟨S2064, .i32⟩
  | .hbm, ⟨20, _⟩ => ⟨S2064, .i32⟩
  | .hbm, ⟨21, _⟩ => ⟨S2064, .i32⟩
  | .hbm, ⟨22, _⟩ => ⟨S_, .i32⟩
  | .hbm, ⟨23, _⟩ => ⟨S2064, .i32⟩
  | .hbm, ⟨24, _⟩ => ⟨S2064, .i1⟩
  | .hbm, ⟨25, _⟩ => ⟨S2064, .i32⟩
  | .hbm, ⟨26, _⟩ => ⟨S2064, .i32⟩
  | .hbm, ⟨27, _⟩ => ⟨S_, .i32⟩
  | .hbm, ⟨28, _⟩ => ⟨S2064, .i32⟩
  | .hbm, ⟨29, _⟩ => ⟨S2064, .i1⟩
  | .hbm, ⟨30, _⟩ => ⟨S2064, .i1⟩
  | .hbm, ⟨31, _⟩ => ⟨S_, .i32⟩
  | .hbm, ⟨32, _⟩ => ⟨S2064, .i32⟩
  | .hbm, ⟨33, _⟩ => ⟨S2064, .i32⟩
  | .hbm, ⟨34, _⟩ => ⟨S2064, .i32⟩
  | .hbm, ⟨35, _⟩ => ⟨S1x2064, .i32⟩
  | .hbm, ⟨36, _⟩ => ⟨S_, .i32⟩
  | .hbm, ⟨37, _⟩ => ⟨S_, .i32⟩
  | .hbm, ⟨38, _⟩ => ⟨S16, .i32⟩
  | .hbm, ⟨39, _⟩ => ⟨S16, .i32⟩
  | .hbm, ⟨40, _⟩ => ⟨S16, .i32⟩
  | .hbm, ⟨41, _⟩ => ⟨S_, .i32⟩
  | .hbm, ⟨42, _⟩ => ⟨S16, .i32⟩
  | .hbm, ⟨43, _⟩ => ⟨S16, .i1⟩
  | .hbm, ⟨44, _⟩ => ⟨S16, .i32⟩
  | .hbm, ⟨45, _⟩ => ⟨S16, .i32⟩
  | .hbm, ⟨46, _⟩ => ⟨S_, .i32⟩
  | .hbm, ⟨47, _⟩ => ⟨S16, .i32⟩
  | .hbm, ⟨48, _⟩ => ⟨S16, .i1⟩
  | .hbm, ⟨49, _⟩ => ⟨S16, .i1⟩
  | .hbm, ⟨50, _⟩ => ⟨S_, .i32⟩
  | .hbm, ⟨51, _⟩ => ⟨S16, .i32⟩
  | .hbm, ⟨52, _⟩ => ⟨S16, .i32⟩
  | .hbm, ⟨53, _⟩ => ⟨S16, .i32⟩
  | .hbm, ⟨54, _⟩ => ⟨S16x1, .i32⟩
  | .hbm, ⟨55, _⟩ => ⟨S16x2064, .i32⟩
  | .hbm, ⟨56, _⟩ => ⟨S16x2064, .i32⟩
  | .hbm, ⟨57, _⟩ => ⟨S16x2064, .i1⟩
  | .hbm, ⟨58, _⟩ => ⟨S_, .f32⟩
  | .hbm, ⟨59, _⟩ => ⟨S_, .f32⟩
  | .hbm, ⟨60, _⟩ => ⟨S16x4x16x2064, .i1⟩
  | .hbm, ⟨61, _⟩ => ⟨S16x4x16x2064, .f32⟩
  | .hbm, ⟨62, _⟩ => ⟨S16x4x16x2064, .f32⟩
  | .hbm, ⟨63, _⟩ => ⟨S_, .f32⟩
  | .hbm, ⟨64, _⟩ => ⟨S16x4x16, .f32⟩
  | .hbm, ⟨65, _⟩ => ⟨S16x4x16x1, .f32⟩
  | .hbm, ⟨66, _⟩ => ⟨S16x4x16x2064, .f32⟩
  | .hbm, ⟨67, _⟩ => ⟨S16x4x16x2064, .f32⟩
  | .hbm, ⟨68, _⟩ => ⟨S16x4x16x2064, .f32⟩
  | .hbm, ⟨69, _⟩ => ⟨S_, .f32⟩
  | .hbm, ⟨70, _⟩ => ⟨S16x4x16, .f32⟩
  | .hbm, ⟨71, _⟩ => ⟨S16x4x128x16, .f32⟩
  | .hbm, ⟨72, _⟩ => ⟨S16x16x4x128, .f32⟩
  | .hbm, ⟨73, _⟩ => ⟨S16x16x4, .f32⟩
  | .hbm, ⟨74, _⟩ => ⟨S16x16x4x1, .f32⟩
  | .hbm, ⟨75, _⟩ => ⟨S16x16x4x128, .f32⟩
  | .hbm, ⟨76, _⟩ => ⟨S16x16x4x128, .f32⟩
  | .hbm, ⟨77, _⟩ => ⟨S256x512, .f32⟩
  | .hbm, ⟨78, _⟩ => ⟨S256x512, .bf16⟩
  | _, _ => ⟨S16x16x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v10 : Ref sig .tc := ⟨.hbm, 34, rfl⟩
abbrev main_v11 : Ref sig .tc := ⟨.hbm, 35, rfl⟩
abbrev main_c_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst_2 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v17 : Ref sig .tc := ⟨.hbm, 62, rfl⟩
abbrev main_cst_3 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩

abbrev nD : Nat := 1
abbrev τ : Topo := Topo.v7x

variable {F : FTy → Type} [FloatOps F]
-- ==== Kernel9.lean ====
abbrev S16x16x8x64 : Shape := ⟨4, ![16, 16, 8, 64]⟩
abbrev S16x512x8x64 : Shape := ⟨4, ![16, 512, 8, 64]⟩
abbrev S8x16x640 : Shape := ⟨3, ![8, 16, 640]⟩
abbrev S_ : Shape := ⟨0, ![]⟩
abbrev S640 : Shape := ⟨1, ![640]⟩
abbrev S1x1x640 : Shape := ⟨3, ![1, 1, 640]⟩
abbrev S256x512 : Shape := ⟨2, ![256, 512]⟩
abbrev S8192x512 : Shape := ⟨2, ![8192, 512]⟩
abbrev S16x512 : Shape := ⟨2, ![16, 512]⟩
abbrev S512x512 : Shape := ⟨2, ![512, 512]⟩
abbrev S16x128 : Shape := ⟨2, ![16, 128]⟩
abbrev S512x128 : Shape := ⟨2, ![512, 128]⟩
abbrev S112x128 : Shape := ⟨2, ![112, 128]⟩
abbrev S640x128 : Shape := ⟨2, ![640, 128]⟩
abbrev S1x16x640 : Shape := ⟨3, ![1, 16, 640]⟩
abbrev S16x640 : Shape := ⟨2, ![16, 640]⟩
abbrev S16 : Shape := ⟨1, ![16]⟩
abbrev S16x1 : Shape := ⟨2, ![16, 1]⟩

abbrev nBuf : Space → Nat
  | .hbm => 32
  | .vmem => 13
  | .smem => 0
  | _ => 0

abbrev bufTy : (tb : Table) → Fin (tcTables nBuf tb) → BufTy
  | .hbm, ⟨0, _⟩ => ⟨S16x16x8x64, .f32⟩
  | .hbm, ⟨1, _⟩ => ⟨S16x512x8x64, .f32⟩
  | .hbm, ⟨2, _⟩ => ⟨S16x512x8x64, .f32⟩
  | .hbm, ⟨3, _⟩ => ⟨S16x16x8x64, .f32⟩
  | .hbm, ⟨4, _⟩ => ⟨S16x16x8x64, .f32⟩
  | .hbm, ⟨5, _⟩ => ⟨S8x16x640, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S640, .i32⟩
  | .hbm, ⟨14, _⟩ => ⟨S_, .i32⟩
  | .hbm, ⟨15, _⟩ => ⟨S640, .i32⟩
  | .hbm, ⟨16, _⟩ => ⟨S640, .i1⟩
  | .hbm, ⟨17, _⟩ => ⟨S1x1x640, .i1⟩
  | .hbm, ⟨18, _⟩ => ⟨S_, .f32⟩
  | .hbm, ⟨19, _⟩ => ⟨S_, .f32⟩
  | .hbm, ⟨20, _⟩ => ⟨S8x16x640, .i1⟩
  | .hbm, ⟨21, _⟩ => ⟨S8x16x640, .f32⟩
  | .hbm, ⟨22, _⟩ => ⟨S8x16x640, .f32⟩
  | .hbm, ⟨23, _⟩ => ⟨S16x16x8x64, .f32⟩
  | .hbm, ⟨24, _⟩ => ⟨S16x16x8x64, .f32⟩
  | .hbm, ⟨25, _⟩ => ⟨S256x512, .f32⟩
  | .hbm, ⟨26, _⟩ => ⟨S256x512, .bf16⟩
  | .hbm, ⟨27, _⟩ => ⟨S8192x512, .f32⟩
  | .hbm, ⟨28, _⟩ => ⟨S8192x512, .f32⟩
  | .hbm, ⟨29, _⟩ => ⟨S256x512, .f32⟩
  | .hbm, ⟨30, _⟩ => ⟨S256x512, .f32⟩
  | .hbm, ⟨31, _⟩ => ⟨S256x512, .bf16⟩
  | .local _ .vmem, ⟨0, _⟩ => ⟨S16x512, .bf16⟩
  | .local _ .vmem, ⟨1, _⟩ => ⟨S16x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S16x512, .f32⟩
  | .local _ .vmem, ⟨7, _⟩ => ⟨S16x512, .f32⟩
  | .local _ .vmem, ⟨8, _⟩ => ⟨S16x512, .f32⟩
  | .local _ .vmem, ⟨9, _⟩ => ⟨S16x512, .f32⟩
  | .local _ .vmem, ⟨10, _⟩ => ⟨S8x16x640, .f32⟩
  | .local _ .vmem, ⟨11, _⟩ => ⟨S16x512, .bf16⟩
  | .local _ .vmem, ⟨12, _⟩ => ⟨S16x512, .bf16⟩
  | _, _ => ⟨S16x16x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x16x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel9Ideal.lean ====
variable {F : FTy → Type} [FloatOps F] [Named F]
def κ : String → Option EReal := fun
  | "log2e" => some (((Real.log 2)⁻¹ : ℝ) : EReal)
  | _ => none
-- ==== Reference9Ideal.lean ====
abbrev S16x16x8x64 : Shape := ⟨4, ![16, 16, 8, 64]⟩
abbrev S16x512x8x64 : Shape := ⟨4, ![16, 512, 8, 64]⟩
abbrev S8x16x640 : Shape := ⟨3, ![8, 16, 640]⟩
abbrev S16x528x8x64 : Shape := ⟨4, ![16, 528, 8, 64]⟩
abbrev S16x8x16x528 : Shape := ⟨4, ![16, 8, 16, 528]⟩
abbrev S_ : Shape := ⟨0, ![]⟩
abbrev S8x16x528 : Shape := ⟨3, ![8, 16, 528]⟩
abbrev S1x8x16x528 : Shape := ⟨4, ![1, 8, 16, 528]⟩
abbrev S16x8x16 : Shape := ⟨3, ![16, 8, 16]⟩
abbrev S16x8x16x1 : Shape := ⟨4, ![16, 8, 16, 1]⟩
abbrev S16x8x64x16 : Shape := ⟨4, ![16, 8, 64, 16]⟩
abbrev S16x16x8 : Shape := ⟨3, ![16, 16, 8]⟩
abbrev S16x16x8x1 : Shape := ⟨4, ![16, 16, 8, 1]⟩
abbrev S256x512 : Shape := ⟨2, ![256, 512]⟩

abbrev nBuf : Space → Nat
  | .hbm => 33
  | .vmem => 0
  | .smem => 0
  | _ => 0

abbrev bufTy : (tb : Table) → Fin (tcTables nBuf tb) → BufTy
  | .hbm, ⟨0, _⟩ => ⟨S16x16x8x64, .f32⟩
  | .hbm, ⟨1, _⟩ => ⟨S16x512x8x64, .f32⟩
  | .hbm, ⟨2, _⟩ => ⟨S16x512x8x64, .f32⟩
  | .hbm, ⟨3, _⟩ => ⟨S16x16x8x64, .f32⟩
  | .hbm, ⟨4, _⟩ => ⟨S16x16x8x64, .f32⟩
  | .hbm, ⟨5, _⟩ => ⟨S8x16x640, .f32⟩
  | .hbm, ⟨6, _⟩ => ⟨S16x528x8x64, .f32⟩
  | .hbm, ⟨7, _⟩ => ⟨S16x528x8x64, .f32⟩
  | .hbm, ⟨8, _⟩ => ⟨S16x8x16x528, .f32⟩
  | .hbm, ⟨9, _⟩ => ⟨S_, .f32⟩
  | .hbm, ⟨10, _⟩ => ⟨S_, .f32⟩
  | .hbm, ⟨11, _⟩ => ⟨S16x8x16x528, .f32⟩
  | .hbm, ⟨12, _⟩ => ⟨S16x8x16x528, .f32⟩
  | .hbm, ⟨13, _⟩ => ⟨S8x16x528, .f32⟩
  | .hbm, ⟨14, _⟩ => ⟨S1x8x16x528, .f32⟩
  | .hbm, ⟨15, _⟩ => ⟨S16x8x16x528, .f32⟩
  | .hbm, ⟨16, _⟩ => ⟨S16x8x16x528, .f32⟩
  | .hbm, ⟨17, _⟩ => ⟨S_, .f32⟩
  | .hbm, ⟨18, _⟩ => ⟨S16x8x16, .f32⟩
  | .hbm, ⟨19, _⟩ => ⟨S16x8x16x1, .f32⟩
  | .hbm, ⟨20, _⟩ => ⟨S16x8x16x528, .f32⟩
  | .hbm, ⟨21, _⟩ => ⟨S16x8x16x528, .f32⟩
  | .hbm, ⟨22, _⟩ => ⟨S16x8x16x528, .f32⟩
  | .hbm, ⟨23, _⟩ => ⟨S_, .f32⟩
  | .hbm, ⟨24, _⟩ => ⟨S16x8x16, .f32⟩
  | .hbm, ⟨25, _⟩ => ⟨S16x8x64x16, .f32⟩
  | .hbm, ⟨26, _⟩ => ⟨S16x16x8x64, .f32⟩
  | .hbm, ⟨27, _⟩ => ⟨S16x16x8, .f32⟩
  | .hbm, ⟨28, _⟩ => ⟨S16x16x8x1, .f32⟩
  | .hbm, ⟨29, _⟩ => ⟨S16x16x8x64, .f32⟩
  | .hbm, ⟨30, _⟩ => ⟨S16x16x8x64, .f32⟩
  | .hbm, ⟨31, _⟩ => ⟨S256x512, .f32⟩
  | .hbm, ⟨32, _⟩ => ⟨S256x512, .bf16⟩
  | _, _ => ⟨S16x16x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Proof.ProjFrameIdeal.lean ====
/- The frame of the idealized input projection: it ends without fault, with its arguments unchanged and its counters at zero. The module
   follows the set-up that the other calls' launches have, with more steps allowed for the two facts about the body, which
   has thirty-four windows here. -/
module

public import proofs.«01_k».proof.Proof.Gen.Kernel4Ideal.Launch
public import proofs.«01_k».proof.Proof.Gen.Kernel4Ideal.Skeleton
public import proofs.«01_k».proof.Proof.Gen.Kernel4Ideal.Points
public import Idealize.ShloMosaic.Lib.Pipeline.FrameBody
public import Idealize.ShloMosaic.Lib.Pipeline.FrameSuffix
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Kernel4Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The host lines around the kernel -/

/-- What the buffers hold when the kernel begins: the host lines before it have run. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20]) (fun b => m (c, b))
/-- One buffer of them. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! The program is the host lines before the kernel, the kernel, and the line after it. -/

set_option maxHeartbeats 800000 in
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh⟩) main_chain

/-! The line after the kernel reads what it may, takes no new buffer and writes none of the kernel's arrays. -/

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] <;> exact StableHlo.devRef_ne_of_ne (by decide)

/-! The host lines before the kernel write none of the arguments, and neither does the line after it. -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c

/-! ## The blocks -/

/-- Window `w`'s block at grid point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input's buffer holds its block when the body begins. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The arguments, from a run: each ends as it began -/

set_option maxHeartbeats 2040000 in
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      (((h c).2 main_arg4 (Pipeline.mem_restRefs_of main_arg4 (by decide) (by decide))).trans (W_main_arg4 m dats c)),
      (((h c).2 main_arg5 (Pipeline.mem_restRefs_of main_arg5 (by decide) (by decide))).trans (W_main_arg5 m dats c)),
      (((h c).2 main_arg6 (Pipeline.mem_restRefs_of main_arg6 (by decide) (by decide))).trans (W_main_arg6 m dats c)),
      (((h c).2 main_arg7 (Pipeline.mem_restRefs_of main_arg7 (by decide) (by decide))).trans (W_main_arg7 m dats c)),
      (((h c).2 main_arg8 (Pipeline.mem_restRefs_of main_arg8 (by decide) (by decide))).trans (W_main_arg8 m dats c))⟩) h

/-! ## The rectangles that the body reads and writes -/

abbrev r0_0 : Rect S256x2048 := Rect.unit (s := S256x2048) ![0, 0] S256x2048.size inb_S256x2048_S256x2048_0_0
abbrev r0_1 : Rect S1x2048 := Rect.unit (s := S1x2048) ![0, 0] S1x2048.size inb_S1x2048_S1x2048_0_0
abbrev r0_2 : Rect S2304x2048 := Rect.unit (s := S2304x2048) ![0, 0] S2304x2048.size inb_S2304x2048_S2304x2048_0_0
abbrev r0_3 : Rect S3072x2048 := Rect.unit (s := S3072x2048) ![0, 0] S512x2048.size inb_S3072x2048_S512x2048_0_0
abbrev r0_4 : Rect S256x512 := Rect.unit (s := S256x512) ![0, 0] S256x512.size inb_S256x512_S256x512_0_0
abbrev r0_5 : Rect S3072x2048 := Rect.unit (s := S3072x2048) ![512, 0] S512x2048.size inb_S3072x2048_S512x2048_512_0
abbrev r0_6 : Rect S3072x2048 := Rect.unit (s := S3072x2048) ![1024, 0] S512x2048.size inb_S3072x2048_S512x2048_1024_0
abbrev r0_7 : Rect S3072x2048 := Rect.unit (s := S3072x2048) ![1536, 0] S512x2048.size inb_S3072x2048_S512x2048_1536_0
abbrev r0_8 : Rect S3072x2048 := Rect.unit (s := S3072x2048) ![2048, 0] S512x2048.size inb_S3072x2048_S512x2048_2048_0
abbrev r0_9 : Rect S3072x2048 := Rect.unit (s := S3072x2048) ![2560, 0] S512x2048.size inb_S3072x2048_S512x2048_2560_0
abbrev r0_10 : Rect S1x128 := Rect.unit (s := S1x128) ![0, 0] S1x128.size inb_S1x128_S1x128_0_0
abbrev r0_11 : Rect S256x128 := Rect.unit (s := S256x128) ![0, 0] S256x128.size inb_S256x128_S256x128_0_0
abbrev r0_12 : Rect S1x256 := Rect.unit (s := S1x256) ![0, 0] S1x256.size inb_S1x256_S1x256_0_0
abbrev r0_13 : Rect S256x256 := Rect.unit (s := S256x256) ![0, 0] S256x256.size inb_S256x256_S256x256_0_0
abbrev r0_14 : Rect S256x64 := Rect.unit (s := S256x64) ![0, 0] S256x64.size inb_S256x64_S256x64_0_0
abbrev r0_15 : Rect S4x256x256 := Rect.unit (s := S4x256x256) ![0, 0, 0] S1x256x128.size inb_S4x256x256_S1x256x128_0_0_0
abbrev r0_16 : Rect S4x256x256 := Rect.unit (s := S4x256x256) ![0, 0, 128] S1x256x128.size inb_S4x256x256_S1x256x128_0_0_128
abbrev r0_17 : Rect S4x256x256 := Rect.unit (s := S4x256x256) ![1, 0, 0] S1x256x128.size inb_S4x256x256_S1x256x128_1_0_0
abbrev r0_18 : Rect S4x256x256 := Rect.unit (s := S4x256x256) ![1, 0, 128] S1x256x128.size inb_S4x256x256_S1x256x128_1_0_128
abbrev r0_19 : Rect S4x256x256 := Rect.unit (s := S4x256x256) ![2, 0, 0] S1x256x128.size inb_S4x256x256_S1x256x128_2_0_0
abbrev r0_20 : Rect S4x256x256 := Rect.unit (s := S4x256x256) ![2, 0, 128] S1x256x128.size inb_S4x256x256_S1x256x128_2_0_128
abbrev r0_21 : Rect S4x256x256 := Rect.unit (s := S4x256x256) ![3, 0, 0] S1x256x128.size inb_S4x256x256_S1x256x128_3_0_0
abbrev r0_22 : Rect S4x256x256 := Rect.unit (s := S4x256x256) ![3, 0, 128] S1x256x128.size inb_S4x256x256_S1x256x128_3_0_128
abbrev r0_23 : Rect S1x384 := Rect.unit (s := S1x384) ![0, 0] S1x384.size inb_S1x384_S1x384_0_0
abbrev r0_24 : Rect S384x1024 := Rect.unit (s := S384x1024) ![0, 0] S384x1024.size inb_S384x1024_S384x1024_0_0
abbrev r0_25 : Rect S384x512 := Rect.unit (s := S384x512) ![0, 0] S384x512.size inb_S384x512_S384x512_0_0

/-! ## What the body leaves in each result's buffer

First the values that several stores share: normalised rows, the rolled product and its columns, the rotary tables, keys and queries. -/

def k0_pay54 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : FVec F S256x2048 .bf16 :=
  k0_pay3 (View.ld x0 r0_0) (View.ld x1 r0_1)
def k0_pay55 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : FVec F S256x2304 .f32 :=
  k0_pay6 (View.ld x0 r0_0) (View.ld x1 r0_1) (View.ld x3 r0_2)
def k0_pay56 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : FVec F S256x384 .f32 :=
  k0_pay22 (k0_pay55 x0 x1 x2 x3 x4 x5 x6 x7 x8 x9 x10 x11 x12)
def k0_pay57 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : FVec F S256x256 .f32 :=
  k0_pay23 (k0_pay55 x0 x1 x2 x3 x4 x5 x6 x7 x8 x9 x10 x11 x12)
def k0_pay58 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : FVec F S256x128 .f32 :=
  k0_pay24 (k0_pay55 x0 x1 x2 x3 x4 x5 x6 x7 x8 x9 x10 x11 x12)
def k0_pay59 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : FVec F S256x128 .f32 :=
  k0_pay25 (k0_pay55 x0 x1 x2 x3 x4 x5 x6 x7 x8 x9 x10 x11 x12)
def k0_pay60 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : FVec F S256x128 .f32 :=
  k0_pay28 (View.ld x11 r0_11)
def k0_pay61 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : FVec F S256x128 .f32 :=
  k0_pay29 (View.ld x12 r0_11)
def k0_pay62 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : FVec F S256x128 .f32 :=
  k0_pay30 (k0_pay58 x0 x1 x2 x3 x4 x5 x6 x7 x8 x9 x10 x11 x12) (k0_pay59 x0 x1 x2 x3 x4 x5 x6 x7 x8 x9 x10 x11 x12) (View.ld x11 r0_11) (View.ld x12 r0_11)
def k0_pay63 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : FVec F S256x512 .f32 :=
  k0_pay33 (k0_pay57 x0 x1 x2 x3 x4 x5 x6 x7 x8 x9 x10 x11 x12) (View.ld x6 r0_12) (View.ld x9 r0_4)
def k0_pay64 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : FVec F S256x1024 .f32 :=
  k0_pay45 (k0_pay56 x0 x1 x2 x3 x4 x5 x6 x7 x8 x9 x10 x11 x12) (View.ld x5 r0_23) (View.ld x7 r0_24)
def k0_pay65 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : FVec F S256x512 .f32 :=
  k0_pay46 (k0_pay56 x0 x1 x2 x3 x4 x5 x6 x7 x8 x9 x10 x11 x12) (View.ld x5 r0_23) (View.ld x8 r0_25)

/-! Then each result's buffer after its stores, and that the stores cover it. -/

def out0_13 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x512 .bf16 :=
  View.canon [⟨r0_4, k0_pay7 (View.ld x0 r0_0) (View.ld x1 r0_1) (View.ld x2 r0_3)⟩]

theorem cover0_13 (p0 : Vec F S256x512 .bf16) (y : S256x512.Idx) :
    ∃ pc ∈ ([⟨r0_4, p0⟩] : List (View.Piece (Elt F) S256x512 .bf16)), y ∈ pc.1.set :=
  View.cover_of_tiled [⟨r0_4, p0⟩] S256x512.size (by rfl) y

def out0_14 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x512 .f32 :=
  View.canon [⟨r0_4, k0_pay8 (View.ld x0 r0_0) (View.ld x1 r0_1) (View.ld x2 r0_5)⟩]

theorem cover0_14 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

def out0_15 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x512 .f32 :=
  View.canon [⟨r0_4, k0_pay10 (k0_pay54 x0 x1 x2 x3 x4 x5 x6 x7 x8 x9 x10 x11 x12) (View.ld x2 r0_6)⟩]

theorem cover0_15 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

def out0_16 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x512 .bf16 :=
  View.canon [⟨r0_4, k0_pay9 (View.ld x0 r0_0) (View.ld x1 r0_1) (View.ld x2 r0_5)⟩]

theorem cover0_16 (p0 : Vec F S256x512 .bf16) (y : S256x512.Idx) :
    ∃ pc ∈ ([⟨r0_4, p0⟩] : List (View.Piece (Elt F) S256x512 .bf16)), y ∈ pc.1.set :=
  View.cover_of_tiled [⟨r0_4, p0⟩] S256x512.size (by rfl) y

def out0_17 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x512 .bf16 :=
  View.canon [⟨r0_4, k0_pay11 (k0_pay54 x0 x1 x2 x3 x4 x5 x6 x7 x8 x9 x10 x11 x12) (View.ld x2 r0_6)⟩]

theorem cover0_17 (p0 : Vec F S256x512 .bf16) (y : S256x512.Idx) :
    ∃ pc ∈ ([⟨r0_4, p0⟩] : List (View.Piece (Elt F) S256x512 .bf16)), y ∈ pc.1.set :=
  View.cover_of_tiled [⟨r0_4, p0⟩] S256x512.size (by rfl) y

def out0_18 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x512 .bf16 :=
  View.canon [⟨r0_4, k0_pay12 (k0_pay54 x0 x1 x2 x3 x4 x5 x6 x7 x8 x9 x10 x11 x12) (View.ld x2 r0_7)⟩]

theorem cover0_18 (p0 : Vec F S256x512 .bf16) (y : S256x512.Idx) :
    ∃ pc ∈ ([⟨r0_4, p0⟩] : List (View.Piece (Elt F) S256x512 .bf16)), y ∈ pc.1.set :=
  View.cover_of_tiled [⟨r0_4, p0⟩] S256x512.size (by rfl) y

def out0_19 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x512 .f32 :=
  View.canon [⟨r0_4, k0_pay13 (k0_pay54 x0 x1 x2 x3 x4 x5 x6 x7 x8 x9 x10 x11 x12) (View.ld x2 r0_8)⟩]

theorem cover0_19 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

def out0_20 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x512 .f32 :=
  View.canon [⟨r0_4, k0_pay15 (k0_pay54 x0 x1 x2 x3 x4 x5 x6 x7 x8 x9 x10 x11 x12) (View.ld x2 r0_9)⟩]

theorem cover0_20 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

def out0_21 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x512 .bf16 :=
  View.canon [⟨r0_4, k0_pay14 (k0_pay54 x0 x1 x2 x3 x4 x5 x6 x7 x8 x9 x10 x11 x12) (View.ld x2 r0_8)⟩]

theorem cover0_21 (p0 : Vec F S256x512 .bf16) (y : S256x512.Idx) :
    ∃ pc ∈ ([⟨r0_4, p0⟩] : List (View.Piece (Elt F) S256x512 .bf16)), y ∈ pc.1.set :=
  View.cover_of_tiled [⟨r0_4, p0⟩] S256x512.size (by rfl) y

def out0_22 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x512 .bf16 :=
  View.canon [⟨r0_4, k0_pay16 (k0_pay54 x0 x1 x2 x3 x4 x5 x6 x7 x8 x9 x10 x11 x12) (View.ld x2 r0_9)⟩]

theorem cover0_22 (p0 : Vec F S256x512 .bf16) (y : S256x512.Idx) :
    ∃ pc ∈ ([⟨r0_4, p0⟩] : List (View.Piece (Elt F) S256x512 .bf16)), y ∈ pc.1.set :=
  View.cover_of_tiled [⟨r0_4, p0⟩] S256x512.size (by rfl) y

def out0_23 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x512 .bf16 :=
  View.canon [⟨r0_4, k0_pay17 (k0_pay55 x0 x1 x2 x3 x4 x5 x6 x7 x8 x9 x10 x11 x12)⟩]

theorem cover0_23 (p0 : Vec F S256x512 .bf16) (y : S256x512.Idx) :
    ∃ pc ∈ ([⟨r0_4, p0⟩] : List (View.Piece (Elt F) S256x512 .bf16)), y ∈ pc.1.set :=
  View.cover_of_tiled [⟨r0_4, p0⟩] S256x512.size (by rfl) y

def out0_24 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x512 .f32 :=
  View.canon [⟨r0_4, k0_pay18 (k0_pay55 x0 x1 x2 x3 x4 x5 x6 x7 x8 x9 x10 x11 x12)⟩]

theorem cover0_24 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

def out0_25 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x512 .f32 :=
  View.canon [⟨r0_4, k0_pay20 (k0_pay55 x0 x1 x2 x3 x4 x5 x6 x7 x8 x9 x10 x11 x12)⟩]

theorem cover0_25 (p0 : Vec F S256x512 .f32) (y : S256x512.Idx) :
    ∃ pc ∈ ([⟨r0_4, p0⟩] : List (View.Piece (Elt F) S256x512 .f32)), y ∈ pc.1.set :=
  View.cover_of_tiled [⟨r0_4, p0⟩] S256x512.size (by rfl) y

def out0_26 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x512 .bf16 :=
  View.canon [⟨r0_4, k0_pay19 (k0_pay55 x0 x1 x2 x3 x4 x5 x6 x7 x8 x9 x10 x11 x12)⟩]

theorem cover0_26 (p0 : Vec F S256x512 .bf16) (y : S256x512.Idx) :
    ∃ pc ∈ ([⟨r0_4, p0⟩] : List (View.Piece (Elt F) S256x512 .bf16)), y ∈ pc.1.set :=
  View.cover_of_tiled [⟨r0_4, p0⟩] S256x512.size (by rfl) y

def out0_27 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x512 .bf16 :=
  View.canon [⟨r0_4, k0_pay21 (k0_pay55 x0 x1 x2 x3 x4 x5 x6 x7 x8 x9 x10 x11 x12)⟩]

theorem cover0_27 (p0 : Vec F S256x512 .bf16) (y : S256x512.Idx) :
    ∃ pc ∈ ([⟨r0_4, p0⟩] : List (View.Piece (Elt F) S256x512 .bf16)), y ∈ pc.1.set :=
  View.cover_of_tiled [⟨r0_4, p0⟩] S256x512.size (by rfl) y

def out0_28 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x128 .f32 :=
  View.canon [⟨r0_11, k0_pay26 (k0_pay5 (View.ld x0 r0_0) (View.ld x1 r0_1) (View.ld x3 r0_2)) (View.ld x4 r0_10)⟩]

theorem cover0_28 (p0 : Vec F S256x128 .f32) (y : S256x128.Idx) :
    ∃ pc ∈ ([⟨r0_11, p0⟩] : List (View.Piece (Elt F) S256x128 .f32)), y ∈ pc.1.set :=
  View.cover_of_tiled [⟨r0_11, p0⟩] S256x128.size (by rfl) y

def out0_29 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S4x256x256 .bf16 :=
  View.canon [⟨r0_22, k0_pay2 (k0_pay60 x0 x1 x2 x3 x4 x5 x6 x7 x8 x9 x10 x11 x12) (k0_pay61 x0 x1 x2 x3 x4 x5 x6 x7 x8 x9 x10 x11 x12) (k0_pay64 x0 x1 x2 x3 x4 x5 x6 x7 x8 x9 x10 x11 x12) (k0_pay65 x0 x1 x2 x3 x4 x5 x6 x7 x8 x9 x10 x11 x12)⟩,
    ⟨r0_21, k0_pay1 (k0_pay64 x0 x1 x2 x3 x4 x5 x6 x7 x8 x9 x10 x11 x12)⟩,
    ⟨r0_20, k0_pay53 (k0_pay60 x0 x1 x2 x3 x4 x5 x6 x7 x8 x9 x10 x11 x12) (k0_pay61 x0 x1 x2 x3 x4 x5 x6 x7 x8 x9 x10 x11 x12) (k0_pay64 x0 x1 x2 x3 x4 x5 x6 x7 x8 x9 x10 x11 x12) (k0_pay65 x0 x1 x2 x3 x4 x5 x6 x7 x8 x9 x10 x11 x12)⟩,
    ⟨r0_19, k0_pay52 (k0_pay64 x0 x1 x2 x3 x4 x5 x6 x7 x8 x9 x10 x11 x12)⟩,
    ⟨r0_18, k0_pay51 (k0_pay60 x0 x1 x2 x3 x4 x5 x6 x7 x8 x9 x10 x11 x12) (k0_pay61 x0 x1 x2 x3 x4 x5 x6 x7 x8 x9 x10 x11 x12) (k0_pay64 x0 x1 x2 x3 x4 x5 x6 x7 x8 x9 x10 x11 x12) (k0_pay65 x0 x1 x2 x3 x4 x5 x6 x7 x8 x9 x10 x11 x12)⟩,
    ⟨r0_17, k0_pay50 (k0_pay64 x0 x1 x2 x3 x4 x5 x6 x7 x8 x9 x10 x11 x12)⟩,
    ⟨r0_16, k0_pay49 (k0_pay48 (k0_pay56 x0 x1 x2 x3 x4 x5 x6 x7 x8 x9 x10 x11 x12) (k0_pay60 x0 x1 x2 x3 x4 x5 x6 x7 x8 x9 x10 x11 x12) (k0_pay61 x0 x1 x2 x3 x4 x5 x6 x7 x8 x9 x10 x11 x12) (View.ld x5 r0_23) (View.ld x7 r0_24) (View.ld x8 r0_25))⟩,
    ⟨r0_15, k0_pay47 (k0_pay56 x0 x1 x2 x3 x4 x5 x6 x7 x8 x9 x10 x11 x12) (View.ld x5 r0_23) (View.ld x7 r0_24)⟩]

theorem cover0_29 (p0 : Vec F S1x256x128 .bf16) (p1 : Vec F S1x256x128 .bf16) (p2 : Vec F S1x256x128 .bf16) (p3 : Vec F S1x256x128 .bf16) (p4 : Vec F S1x256x128 .bf16) (p5 : Vec F S1x256x128 .bf16) (p6 : Vec F S1x256x128 .bf16) (p7 : Vec F S1x256x128 .bf16) (y : S4x256x256.Idx) :
    ∃ pc ∈ ([⟨r0_22, p0⟩, ⟨r0_21, p1⟩, ⟨r0_20, p2⟩, ⟨r0_19, p3⟩, ⟨r0_18, p4⟩, ⟨r0_17, p5⟩, ⟨r0_16, p6⟩, ⟨r0_15, p7⟩] : List (View.Piece (Elt F) S4x256x256 .bf16)), y ∈ pc.1.set :=
  View.cover_of_tiled [⟨r0_22, p0⟩, ⟨r0_21, p1⟩, ⟨r0_20, p2⟩, ⟨r0_19, p3⟩, ⟨r0_18, p4⟩, ⟨r0_17, p5⟩, ⟨r0_16, p6⟩, ⟨r0_15, p7⟩] S1x256x128.size (by rfl) y

def out0_30 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x256 .f32 :=
  View.canon [⟨r0_13, k0_pay27 (k0_pay57 x0 x1 x2 x3 x4 x5 x6 x7 x8 x9 x10 x11 x12) (View.ld x6 r0_12)⟩]

theorem cover0_30 (p0 : Vec F S256x256 .f32) (y : S256x256.Idx) :
    ∃ pc ∈ ([⟨r0_13, p0⟩] : List (View.Piece (Elt F) S256x256 .f32)), y ∈ pc.1.set :=
  View.cover_of_tiled [⟨r0_13, p0⟩] S256x256.size (by rfl) y

def out0_31 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x64 .f32 :=
  View.canon [⟨r0_14, k0_pay31 (k0_pay58 x0 x1 x2 x3 x4 x5 x6 x7 x8 x9 x10 x11 x12) (k0_pay59 x0 x1 x2 x3 x4 x5 x6 x7 x8 x9 x10 x11 x12) (View.ld x11 r0_11) (View.ld x12 r0_11)⟩]

theorem cover0_31 (p0 : Vec F S256x64 .f32) (y : S256x64.Idx) :
    ∃ pc ∈ ([⟨r0_14, p0⟩] : List (View.Piece (Elt F) S256x64 .f32)), y ∈ pc.1.set :=
  View.cover_of_tiled [⟨r0_14, p0⟩] S256x64.size (by rfl) y

def out0_32 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S4x256x256 .bf16 :=
  View.canon [⟨r0_22, k0_pay43 (k0_pay35 (k0_pay62 x0 x1 x2 x3 x4 x5 x6 x7 x8 x9 x10 x11 x12))⟩,
    ⟨r0_21, k0_pay42 (k0_pay63 x0 x1 x2 x3 x4 x5 x6 x7 x8 x9 x10 x11 x12)⟩,
    ⟨r0_20, k0_pay41 (k0_pay62 x0 x1 x2 x3 x4 x5 x6 x7 x8 x9 x10 x11 x12)⟩,
    ⟨r0_19, k0_pay40 (k0_pay63 x0 x1 x2 x3 x4 x5 x6 x7 x8 x9 x10 x11 x12)⟩,
    ⟨r0_18, k0_pay39 (k0_pay62 x0 x1 x2 x3 x4 x5 x6 x7 x8 x9 x10 x11 x12)⟩,
    ⟨r0_17, k0_pay38 (k0_pay63 x0 x1 x2 x3 x4 x5 x6 x7 x8 x9 x10 x11 x12)⟩,
    ⟨r0_16, k0_pay37 (k0_pay62 x0 x1 x2 x3 x4 x5 x6 x7 x8 x9 x10 x11 x12)⟩,
    ⟨r0_15, k0_pay36 (k0_pay63 x0 x1 x2 x3 x4 x5 x6 x7 x8 x9 x10 x11 x12)⟩]

theorem cover0_32 (p0 : Vec F S1x256x128 .bf16) (p1 : Vec F S1x256x128 .bf16) (p2 : Vec F S1x256x128 .bf16) (p3 : Vec F S1x256x128 .bf16) (p4 : Vec F S1x256x128 .bf16) (p5 : Vec F S1x256x128 .bf16) (p6 : Vec F S1x256x128 .bf16) (p7 : Vec F S1x256x128 .bf16) (y : S4x256x256.Idx) :
    ∃ pc ∈ ([⟨r0_22, p0⟩, ⟨r0_21, p1⟩, ⟨r0_20, p2⟩, ⟨r0_19, p3⟩, ⟨r0_18, p4⟩, ⟨r0_17, p5⟩, ⟨r0_16, p6⟩, ⟨r0_15, p7⟩] : List (View.Piece (Elt F) S4x256x256 .bf16)), y ∈ pc.1.set :=
  View.cover_of_tiled [⟨r0_22, p0⟩, ⟨r0_21, p1⟩, ⟨r0_20, p2⟩, ⟨r0_19, p3⟩, ⟨r0_18, p4⟩, ⟨r0_17, p5⟩, ⟨r0_16, p6⟩, ⟨r0_15, p7⟩] S1x256x128.size (by rfl) y

def out0_33 (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) : Vec F S256x512 .bf16 :=
  View.canon [⟨r0_4, k0_pay34 (k0_pay57 x0 x1 x2 x3 x4 x5 x6 x7 x8 x9 x10 x11 x12) (View.ld x6 r0_12) (View.ld x10 r0_4)⟩]

theorem cover0_33 (p0 : Vec F S256x512 .bf16) (y : S256x512.Idx) :
    ∃ pc ∈ ([⟨r0_4, p0⟩] : List (View.Piece (Elt F) S256x512 .bf16)), y ∈ pc.1.set :=
  View.cover_of_tiled [⟨r0_4, p0⟩] S256x512.size (by rfl) y

/-! ## The body, run through once -/

set_option maxHeartbeats 1000000 in
theorem sound_kernel (c : Dev nD) (E : Set ℕ) (i : grid0.Coords) (arg1 : Memref sig .tc .vmem S256x2048 .f32) (harg1 : arg1.IsWhole) (arg2 : Memref sig .tc .vmem S1x2048 .f32) (harg2 : arg2.IsWhole) (arg3 : Memref sig .tc .vmem S3072x2048 .bf16) (harg3 : arg3.IsWhole) (arg4 : Memref sig .tc .vmem S2304x2048 .bf16) (harg4 : arg4.IsWhole) (arg5 : Memref sig .tc .vmem S1x128 .f32) (harg5 : arg5.IsWhole) (arg6 : Memref sig .tc .vmem S1x384 .f32) (harg6 : arg6.IsWhole) (arg7 : Memref sig .tc .vmem S1x256 .f32) (harg7 : arg7.IsWhole) (arg8 : Memref sig .tc .vmem S384x1024 .bf16) (harg8 : arg8.IsWhole) (arg9 : Memref sig .tc .vmem S384x512 .bf16) (harg9 : arg9.IsWhole) (arg10 : Memref sig .tc .vmem S256x512 .bf16) (harg10 : arg10.IsWhole) (arg11 : Memref sig .tc .vmem S256x512 .bf16) (harg11 : arg11.IsWhole) (arg12 : Memref sig .tc .vmem S256x128 .f32) (harg12 : arg12.IsWhole) (arg13 : Memref sig .tc .vmem S256x128 .f32) (harg13 : arg13.IsWhole) (arg14 : Memref sig .tc .vmem S256x512 .bf16) (harg14 : arg14.IsWhole) (arg15 : Memref sig .tc .vmem S256x512 .f32) (harg15 : arg15.IsWhole) (arg16 : Memref sig .tc .vmem S256x512 .f32) (harg16 : arg16.IsWhole) (arg17 : Memref sig .tc .vmem S256x512 .bf16) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .f32) (harg20 : arg20.IsWhole) (arg21 : Memref sig .tc .vmem S256x512 .f32) (harg21 : arg21.IsWhole) (arg22 : Memref sig .tc .vmem S256x512 .bf16) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .f32) (harg25 : arg25.IsWhole) (arg26 : Memref sig .tc .vmem S256x512 .f32) (harg26 : arg26.IsWhole) (arg27 : Memref sig .tc .vmem S256x512 .bf16) (harg27 : arg27.IsWhole) (arg28 : Memref sig .tc .vmem S256x512 .bf16) (harg28 : arg28.IsWhole) (arg29 : Memref sig .tc .vmem S256x128 .f32) (harg29 : arg29.IsWhole) (arg30 : Memref sig .tc .vmem S4x256x256 .bf16) (harg30 : arg30.IsWhole) (arg31 : Memref sig .tc .vmem S256x256 .f32) (harg31 : arg31.IsWhole) (arg32 : Memref sig .tc .vmem S256x64 .f32) (harg32 : arg32.IsWhole) (arg33 : Memref sig .tc .vmem S4x256x256 .bf16) (harg33 : arg33.IsWhole) (arg34 : Memref sig .tc .vmem S256x512 .bf16) (harg34 : arg34.IsWhole)
    (x0 : Vec F S256x2048 .f32) (x1 : Vec F S1x2048 .f32) (x2 : Vec F S3072x2048 .bf16) (x3 : Vec F S2304x2048 .bf16) (x4 : Vec F S1x128 .f32) (x5 : Vec F S1x384 .f32) (x6 : Vec F S1x256 .f32) (x7 : Vec F S384x1024 .bf16) (x8 : Vec F S384x512 .bf16) (x9 : Vec F S256x512 .bf16) (x10 : Vec F S256x512 .bf16) (x11 : Vec F S256x128 .f32) (x12 : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12) ∗ owns (c : Thread nD τ) arg16 fullShare (out0_15 x0 x1 x2 x3 x4 x5 x6 x7 x8 x9 x10 x11 x12) ∗ owns (c : Thread nD τ) arg17 fullShare (out0_16 x0 x1 x2 x3 x4 x5 x6 x7 x8 x9 x10 x11 x12) ∗ owns (c : Thread nD τ) arg18 fullShare (out0_17 x0 x1 x2 x3 x4 x5 x6 x7 x8 x9 x10 x11 x12) ∗ owns (c : Thread nD τ) arg19 fullShare (out0_18 x0 x1 x2 x3 x4 x5 x6 x7 x8 x9 x10 x11 x12) ∗ owns (c : Thread nD τ) arg20 fullShare (out0_19 x0 x1 x2 x3 x4 x5 x6 x7 x8 x9 x10 x11 x12) ∗ owns (c : Thread nD τ) arg21 fullShare (out0_20 x0 x1 x2 x3 x4 x5 x6 x7 x8 x9 x10 x11 x12) ∗ owns (c : Thread nD τ) arg22 fullShare (out0_21 x0 x1 x2 x3 x4 x5 x6 x7 x8 x9 x10 x11 x12) ∗ owns (c : Thread nD τ) arg23 fullShare (out0_22 x0 x1 x2 x3 x4 x5 x6 x7 x8 x9 x10 x11 x12) ∗ owns (c : Thread nD τ) arg24 fullShare (out0_23 x0 x1 x2 x3 x4 x5 x6 x7 x8 x9 x10 x11 x12) ∗ owns (c : Thread nD τ) arg25 fullShare (out0_24 x0 x1 x2 x3 x4 x5 x6 x7 x8 x9 x10 x11 x12) ∗ owns (c : Thread nD τ) arg26 fullShare (out0_25 x0 x1 x2 x3 x4 x5 x6 x7 x8 x9 x10 x11 x12) ∗ owns (c : Thread nD τ) arg27 fullShare (out0_26 x0 x1 x2 x3 x4 x5 x6 x7 x8 x9 x10 x11 x12) ∗ owns (c : Thread nD τ) arg28 fullShare (out0_27 x0 x1 x2 x3 x4 x5 x6 x7 x8 x9 x10 x11 x12) ∗ owns (c : Thread nD τ) arg29 fullShare (out0_28 x0 x1 x2 x3 x4 x5 x6 x7 x8 x9 x10 x11 x12) ∗ owns (c : Thread nD τ) arg30 fullShare (out0_29 x0 x1 x2 x3 x4 x5 x6 x7 x8 x9 x10 x11 x12) ∗ owns (c : Thread nD τ) arg31 fullShare (out0_30 x0 x1 x2 x3 x4 x5 x6 x7 x8 x9 x10 x11 x12) ∗ owns (c : Thread nD τ) arg32 fullShare (out0_31 x0 x1 x2 x3 x4 x5 x6 x7 x8 x9 x10 x11 x12) ∗ owns (c : Thread nD τ) arg33 fullShare (out0_32 x0 x1 x2 x3 x4 x5 x6 x7 x8 x9 x10 x11 x12) ∗ owns (c : Thread nD τ) arg34 fullShare (out0_33 x0 x1 x2 x3 x4 x5 x6 x7 x8 x9 x10 x11 x12)) -∗ K ⟨⟩))
      ⊢ wp frame (wpE (defs₀ (F := F)) Variants.none c none) E (cc0_in_proj i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34) K := by
  simp only [cc0_in_proj_eq_skeleton]; unfold cc0_in_proj_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    refine (View.read_writes_eq_canon _ _ _ (cover0_13 _)).trans ?_
    rfl
  isplitl [H14]
  · iexists _; isplitr
    swap; · iexact H14
    ipureintro
    refine (View.read_writes_eq_canon _ _ _ (cover0_14 _)).trans ?_
    rfl
  isplitl [H15]
  · iexists _; isplitr
    swap; · iexact H15
    ipureintro
    refine (View.read_writes_eq_canon _ _ _ (cover0_15 _)).trans ?_
    rfl
  isplitl [H16]
  · iexists _; isplitr
    swap; · iexact H16
    ipureintro
    refine (View.read_writes_eq_canon _ _ _ (cover0_16 _)).trans ?_
    rfl
  isplitl [H17]
  · iexists _; isplitr
    swap; · iexact H17
    ipureintro
    refine (View.read_writes_eq_canon _ _ _ (cover0_17 _)).trans ?_
    rfl
  isplitl [H18]
  · iexists _; isplitr
    swap; · iexact H18
    ipureintro
    refine (View.read_writes_eq_canon _ _ _ (cover0_18 _)).trans ?_
    rfl
  isplitl [H19]
  · iexists _; isplitr
    swap; · iexact H19
    ipureintro
    refine (View.read_writes_eq_canon _ _ _ (cover0_19 _)).trans ?_
    rfl
  isplitl [H20]
  · iexists _; isplitr
    swap; · iexact H20
    ipureintro
    refine (View.read_writes_eq_canon _ _ _ (cover0_20 _)).trans ?_
    rfl
  isplitl [H21]
  · iexists _; isplitr
    swap; · iexact H21
    ipureintro
    refine (View.read_writes_eq_canon _ _ _ (cover0_21 _)).trans ?_
    rfl
  isplitl [H22]
  · iexists _; isplitr
    swap; · iexact H22
    ipureintro
    refine (View.read_writes_eq_canon _ _ _ (cover0_22 _)).trans ?_
    rfl
  isplitl [H23]
  · iexists _; isplitr
    swap; · iexact H23
    ipureintro
    refine (View.read_writes_eq_canon _ _ _ (cover0_23 _)).trans ?_
    rfl
  isplitl [H24]
  · iexists _; isplitr
    swap; · iexact H24
    ipureintro
    refine (View.read_writes_eq_canon _ _ _ (cover0_24 _)).trans ?_
    rfl
  isplitl [H25]
  · iexists _; isplitr
    swap; · iexact H25
    ipureintro
    refine (View.read_writes_eq_canon _ _ _ (cover0_25 _)).trans ?_
    rfl
  isplitl [H26]
  · iexists _; isplitr
    swap; · iexact H26
    ipureintro
    refine (View.read_writes_eq_canon _ _ _ (cover0_26 _)).trans ?_
    rfl
  isplitl [H27]
  · iexists _; isplitr
    swap; · iexact H27
    ipureintro
    refine (View.read_writes_eq_canon _ _ _ (cover0_27 _)).trans ?_
    rfl
  isplitl [H28]
  · iexists _; isplitr
    swap; · iexact H28
    ipureintro
    refine (View.read_writes_eq_canon _ _ _ (cover0_28 _)).trans ?_
    rfl
  isplitl [H29]
  · iexists _; isplitr
    swap; · iexact H29
    ipureintro
    refine (View.read_writes_eq_canon _ _ _ (cover0_29 _ _ _ _ _ _ _ _)).trans ?_
    rfl
  isplitl [H30]
  · iexists _; isplitr
    swap; · iexact H30
    ipureintro
    refine (View.read_writes_eq_canon _ _ _ (cover0_30 _)).trans ?_
    rfl
  isplitl [H31]
  · iexists _; isplitr
    swap; · iexact H31
    ipureintro
    refine (View.read_writes_eq_canon _ _ _ (cover0_31 _)).trans ?_
    rfl
  isplitl [H32]
  · iexists _; isplitr
    swap; · iexact H32
    ipureintro
    refine (View.read_writes_eq_canon _ _ _ (cover0_32 _ _ _ _ _ _ _ _)).trans ?_
    rfl
  iexists _; isplitr
  swap; · iexact H33
  ipureintro
  refine (View.read_writes_eq_canon _ _ _ (cover0_33 _)).trans ?_
  rfl

/-- What the body keeps: inputs as they were, results as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨15, _⟩ => out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨16, _⟩ => out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨20, _⟩ => out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨21, _⟩ => out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨22, _⟩ => out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨23, _⟩ => out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨24, _⟩ => out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨25, _⟩ => out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨26, _⟩ => out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨27, _⟩ => out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨28, _⟩ => out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨29, _⟩ => out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨30, _⟩ => out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨31, _⟩ => out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨32, _⟩ => out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨33, _⟩ => out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨_ + 34, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_15 (c : Dev nD) (t : Fin cfg0.N) : (dats m 0 c).after 15 t = out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_16 (c : Dev nD) (t : Fin cfg0.N) : (dats m 0 c).after 16 t = out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_20 (c : Dev nD) (t : Fin cfg0.N) : (dats m 0 c).after 20 t = out0_20 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_21 (c : Dev nD) (t : Fin cfg0.N) : (dats m 0 c).after 21 t = out0_21 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_22 (c : Dev nD) (t : Fin cfg0.N) : (dats m 0 c).after 22 t = out0_22 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_23 (c : Dev nD) (t : Fin cfg0.N) : (dats m 0 c).after 23 t = out0_23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_24 (c : Dev nD) (t : Fin cfg0.N) : (dats m 0 c).after 24 t = out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_25 (c : Dev nD) (t : Fin cfg0.N) : (dats m 0 c).after 25 t = out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_26 (c : Dev nD) (t : Fin cfg0.N) : (dats m 0 c).after 26 t = out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_27 (c : Dev nD) (t : Fin cfg0.N) : (dats m 0 c).after 27 t = out0_27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_28 (c : Dev nD) (t : Fin cfg0.N) : (dats m 0 c).after 28 t = out0_28 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_29 (c : Dev nD) (t : Fin cfg0.N) : (dats m 0 c).after 29 t = out0_29 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_30 (c : Dev nD) (t : Fin cfg0.N) : (dats m 0 c).after 30 t = out0_30 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_31 (c : Dev nD) (t : Fin cfg0.N) : (dats m 0 c).after 31 t = out0_31 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_32 (c : Dev nD) (t : Fin cfg0.N) : (dats m 0 c).after 32 t = out0_32 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_33 (c : Dev nD) (t : Fin cfg0.N) : (dats m 0 c).after 33 t = out0_33 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-- The buffers before the body, and after it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  iintro ⟨H0, H1, H2, H3, H4, H5, H6, H7, H8, H9, H10, H11, H12, H13, H14, H15, H16, H17, H18, H19, H20, H21, H22, H23, H24, H25, H26, H27, H28, H29, H30, H31, H32, H33⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  iexact H33

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run of the whole program -/

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel4Ideal.Gen

end
-- ==== Proof.Softmax.lean ====
/- The running softmax over the extended reals, with no finiteness assumed: scores are taken up in blocks, a running
   maximum is kept, and the running sums are rescaled whenever the maximum grows. -/
module

public import Idealize.ShloMosaic.PureOps.Ideal
public import Mathlib.Analysis.SpecialFunctions.Pow.Real

@[expose] public section

noncomputable section

namespace Cert.Softmax

open Idealize.ShloMosaic

/-- The greatest of the first `n` scores; `⊥` where there is none. -/
def top (s : ℕ → EReal) (n : ℕ) : EReal := (Finset.range n).sup s

/-- The first `n` weights, each times the power of two of its score less the greatest score, added up. -/
def wsum (s w : ℕ → EReal) (n : ℕ) : EReal := ∑ j ∈ Finset.range n, Ideal.exp2 (s j - top s n) * w j

theorem top_mono (s : ℕ → EReal) {a b : ℕ} (h : a ≤ b) : top s a ≤ top s b :=
  Finset.sup_mono (Finset.range_mono h)

theorem le_top (s : ℕ → EReal) {j n : ℕ} (h : j < n) : s j ≤ top s n :=
  Finset.le_sup (f := s) (Finset.mem_range.2 h)

theorem exp2_nonneg (x : EReal) : 0 ≤ Ideal.exp2 x := by
  induction x using EReal.rec with
  | bot => exact le_rfl
  | coe r => exact EReal.coe_nonneg.2 (Real.rpow_nonneg (by norm_num) r)
  | top => exact _root_.le_top

/-- One growth of the maximum, from `a` to `b`, applied to a score `x` under both. -/
theorem exp2_rescale {x a b : EReal} (hxa : x ≤ a) (hab : a ≤ b) :
    Ideal.exp2 (a - b) * Ideal.exp2 (x - a) = Ideal.exp2 (x - b) := by
  induction a using EReal.rec with
  | bot =>
    obtain rfl : x = ⊥ := le_bot_iff.1 hxa
    simp [sub_eq_add_neg]
  | top =>
    obtain rfl : b = ⊤ := top_le_iff.1 hab
    simp [sub_eq_add_neg]
  | coe a =>
    induction b using EReal.rec with
    | bot => exact absurd hab (by simp)
    | top => simp [sub_eq_add_neg]
    | coe b =>
      induction x using EReal.rec with
      | bot => simp [sub_eq_add_neg]
      | top => exact absurd hxa (by simp)
      | coe x =>
        rw [← EReal.coe_sub, ← EReal.coe_sub, ← EReal.coe_sub, Ideal.exp2_coe, Ideal.exp2_coe, Ideal.exp2_coe,
          ← EReal.coe_mul]
        congr 1
        show (2 : ℝ) ^ (a - b) * (2 : ℝ) ^ (x - a) = (2 : ℝ) ^ (x - b)
        rw [← Real.rpow_add (by norm_num)]
        congr 1; ring

theorem exp2_sub_ne_top {a b : EReal} (hab : a ≤ b) : Ideal.exp2 (a - b) ≠ ⊤ := by
  induction a using EReal.rec with
  | bot => simp [sub_eq_add_neg]
  | top =>
    obtain rfl : b = ⊤ := top_le_iff.1 hab
    simp [sub_eq_add_neg]
  | coe a =>
    induction b using EReal.rec with
    | bot => exact absurd hab (by simp)
    | top => simp [sub_eq_add_neg]
    | coe b =>
      rw [← EReal.coe_sub, Ideal.exp2_coe]; exact EReal.coe_ne_top _

/-- A finite nonnegative factor goes into a sum of extended reals. -/
theorem mul_sum_of_nonneg {ι : Type*} (c : EReal) (h0 : 0 ≤ c) (ht : c ≠ ⊤) (S : Finset ι) (f : ι → EReal) :
    c * ∑ i ∈ S, f i = ∑ i ∈ S, c * f i := by
  classical
  induction S using Finset.induction_on with
  | empty => simp
  | insert a S ha ih => rw [Finset.sum_insert ha, Finset.sum_insert ha, EReal.left_distrib_of_nonneg_of_ne_top h0 ht, ih]

theorem top_zero (s : ℕ → EReal) : top s 0 = ⊥ := rfl
theorem wsum_zero (s w : ℕ → EReal) : wsum s w 0 = 0 := rfl

/-- The maximum over `B` more scores. -/
theorem top_add (s : ℕ → EReal) (n B : ℕ) :
    max (top s n) (Finset.univ.fold max ⊥ fun k : Fin B => s (n + k.val)) = top s (n + B) := by
  have e : (Finset.univ.fold max ⊥ fun k : Fin B => s (n + k.val)) = Finset.univ.sup fun k : Fin B => s (n + k.val) := rfl
  rw [e]
  apply le_antisymm
  · exact max_le (top_mono s (Nat.le_add_right _ _)) (Finset.sup_le fun k _ => le_top s (by omega))
  · refine Finset.sup_le fun j hj => ?_
    rcases Nat.lt_or_ge j n with h | h
    · exact (le_top s h).trans (le_max_left _ _)
    · have hj' := Finset.mem_range.1 hj
      refine le_trans ?_ (le_max_right _ _)
      have := Finset.le_sup (f := fun k : Fin B => s (n + k.val)) (Finset.mem_univ (⟨j - n, by omega⟩ : Fin B))
      simpa [Nat.add_sub_cancel' h] using this

/-- The sum over `B` more scores: the old sum rescaled, and the new terms under the new maximum. -/
theorem wsum_add (s w : ℕ → EReal) (n B : ℕ) :
    Ideal.exp2 (top s n - top s (n + B)) * wsum s w n
        + ∑ k : Fin B, Ideal.exp2 (s (n + k.val) - top s (n + B)) * w (n + k.val)
      = wsum s w (n + B) := by
  have hm := top_mono s (Nat.le_add_right n B)
  unfold wsum
  rw [mul_sum_of_nonneg _ (exp2_nonneg _) (exp2_sub_ne_top hm), Finset.sum_range_add]
  congr 1
  · refine Finset.sum_congr rfl fun j hj => ?_
    rw [← mul_assoc, exp2_rescale (le_top s (Finset.mem_range.1 hj)) hm]
  · exact Fin.sum_univ_eq_sum_range (fun k => Ideal.exp2 (s (n + k) - top s (n + B)) * w (n + k)) B

/-- Scores at `⊥` past the first `n` change neither the maximum -/
theorem top_of_bot (s : ℕ → EReal) {n N : ℕ} (h : n ≤ N) (hb : ∀ j, n ≤ j → j < N → s j = ⊥) : top s N = top s n := by
  apply le_antisymm _ (top_mono s h)
  refine Finset.sup_le fun j hj => ?_
  rcases Nat.lt_or_ge j n with hl | hl
  · exact le_top s hl
  · rw [hb j hl (Finset.mem_range.1 hj)]; exact bot_le

/-- nor the sum. -/
theorem wsum_of_bot (s w : ℕ → EReal) {n N : ℕ} (h : n ≤ N) (hb : ∀ j, n ≤ j → j < N → s j = ⊥) : wsum s w N = wsum s w n := by
  obtain ⟨B, rfl⟩ := Nat.exists_eq_add_of_le h
  unfold wsum
  rw [top_of_bot s h hb, Finset.sum_range_add, Finset.sum_eq_zero (s := Finset.range B), add_zero]
  intro j hj
  rw [hb (n + j) (Nat.le_add_right _ _) (by have := Finset.mem_range.1 hj; omega)]
  simp [sub_eq_add_neg]

/-- The maximum and the sum depend on the first `n` scores and weights only. -/
theorem top_congr {s s' : ℕ → EReal} {n : ℕ} (h : ∀ j, j < n → s j = s' j) : top s n = top s' n :=
  Finset.sup_congr rfl fun j hj => h j (Finset.mem_range.1 hj)

theorem wsum_congr {s s' w w' : ℕ → EReal} {n : ℕ} (h : ∀ j, j < n → s j = s' j) (hw : ∀ j, j < n → w j = w' j) :
    wsum s w n = wsum s' w' n := by
  unfold wsum
  rw [top_congr h]
  exact Finset.sum_congr rfl fun j hj => by rw [h j (Finset.mem_range.1 hj), hw j (Finset.mem_range.1 hj)]

/-- Powers of two of scores in units of the natural logarithm's base: `2 ^ (x / log 2) = e ^ x`. -/
theorem exp2_mul_inv_log (x : EReal) : Ideal.exp2 (x * (((Real.log 2)⁻¹ : ℝ) : EReal)) = Ideal.exp x := by
  have hl : 0 < Real.log 2 := Real.log_pos (by norm_num)
  have hi : 0 < (Real.log 2)⁻¹ := inv_pos.2 hl
  induction x using EReal.rec with
  | bot => rw [EReal.bot_mul_coe_of_pos hi]; rfl
  | top => rw [EReal.top_mul_coe_of_pos hi]; rfl
  | coe x =>
    rw [← EReal.coe_mul, Ideal.exp2_coe]
    show ((Real.rpow 2 (x * (Real.log 2)⁻¹) : ℝ) : EReal) = ((Real.exp x : ℝ) : EReal)
    congr 1
    show (2 : ℝ) ^ (x * (Real.log 2)⁻¹) = Real.exp x
    rw [Real.rpow_def_of_pos (by norm_num)]
    congr 1; field_simp

/-- A positive real factor goes into a difference of extended reals. -/
theorem sub_mul_coe (a b : EReal) {r : ℝ} (hr : 0 < r) : (a - b) * (r : EReal) = a * r - b * r := by
  have h0 : (0 : EReal) ≤ r := EReal.coe_nonneg.2 hr.le
  rw [sub_eq_add_neg, sub_eq_add_neg, EReal.right_distrib_of_nonneg_of_ne_top h0 (EReal.coe_ne_top _), EReal.neg_mul]

/-- A positive real factor goes into the maximum. -/
theorem top_mul_coe (s : ℕ → EReal) (n : ℕ) {r : ℝ} (hr : 0 < r) : top (fun j => s j * (r : EReal)) n = top s n * (r : EReal) := by
  unfold top
  induction n with
  | zero => simp [EReal.bot_mul_coe_of_pos hr]
  | succ n ih =>
    rw [Finset.range_add_one, Finset.sup_insert, Finset.sup_insert, ih]
    have hm : Monotone fun x : EReal => x * (r : EReal) := fun x y h =>
      mul_le_mul_of_nonneg_right h (EReal.coe_nonneg.2 hr.le)
    exact (hm.map_sup (s n) ((Finset.range n).sup s)).symm

/-- The sum with scores in base-two units is the sum of natural exponentials. -/
theorem wsum_exp (s w : ℕ → EReal) (n : ℕ) :
    wsum (fun j => s j * (((Real.log 2)⁻¹ : ℝ) : EReal)) w n = ∑ j ∈ Finset.range n, Ideal.exp (s j - top s n) * w j := by
  have hi : 0 < (Real.log 2)⁻¹ := inv_pos.2 (Real.log_pos (by norm_num))
  unfold wsum
  refine Finset.sum_congr rfl fun j _ => ?_
  rw [top_mul_coe s n hi, ← sub_mul_coe _ _ hi, exp2_mul_inv_log]

end Cert.Softmax

end
-- ==== Proof.Words.lean ====
/- Small natural numbers as 32-bit words: their quotient by 64 as a kernel and as the host spell it. -/
module

public import Idealize.ShloMosaic.PureOps
public import Idealize.ShloMosaic.Lib.WordCmp
public import Idealize.ShloMosaic.Lib.Affine

@[expose] public section

noncomputable section

namespace Cert.Words

open Idealize.ShloMosaic Idealize.ShloMosaic.WordCmp

theorem divsi_64 (u : ArithUnit) {n : ℕ} (h : n < 8192) : IntOp.divsi u (BitVec.ofNat 32 n) 64#32 = BitVec.ofNat 32 (n / 64) := by
  have hn : (BitVec.ofNat 32 n).toNat = n := by rw [BitVec.toNat_ofNat]; omega
  have hm : (BitVec.ofNat 32 n).msb = false := by rw [BitVec.msb_eq_false_iff_two_mul_lt]; omega
  unfold IntOp.divsi
  rw [if_neg (IntOp.not_corner_of_pos (by decide)), BitVec.sdiv_eq, hm, show (64#32 : BitVec 32).msb = false from rfl]
  apply BitVec.eq_of_toNat_eq
  show ((BitVec.ofNat 32 n).udiv 64#32).toNat = _
  rw [BitVec.udiv_eq, BitVec.toNat_udiv, hn, BitVec.toNat_ofNat, BitVec.toNat_ofNat]
  rw [show 64 % 2 ^ 32 = 64 from rfl]
  omega

theorem remsi_64 (u : ArithUnit) {n : ℕ} (h : n < 8192) : IntOp.remsi u (BitVec.ofNat 32 n) 64#32 = BitVec.ofNat 32 (n % 64) := by
  have := IntOp.toNat_remsi u (x := BitVec.ofNat 32 n) (by rw [BitVec.toNat_ofNat]; omega) 64 (by omega) (by omega)
  apply BitVec.eq_of_toNat_eq
  rw [show (64#32 : BitVec 32) = BitVec.ofNat 32 64 from rfl, this, BitVec.toNat_ofNat, BitVec.toNat_ofNat]
  omega

/-- The quotient rounded down, its signs taken by comparisons. -/
theorem chunk_kernel (u : ArithUnit) {n : ℕ} (h : n < 8192) :
    Scalar.select
      (IntOp.andi
        (IntOp.cmpi .ne
          (IntOp.subi (BitVec.setWidth 32 (IntOp.cmpi .sgt (BitVec.ofNat 32 n) 0#32))
            (BitVec.setWidth 32 (IntOp.cmpi .slt (BitVec.ofNat 32 n) 0#32)))
          (Scalar.subi (Scalar.extui (Scalar.cmpi .sgt 64#32 0#32)) (Scalar.extui (Scalar.cmpi .slt 64#32 0#32))))
        (IntOp.cmpi .ne (IntOp.remsi u (BitVec.ofNat 32 n) 64#32) 0#32))
      (IntOp.subi (IntOp.divsi u (BitVec.ofNat 32 n) 64#32) 1#32)
      (IntOp.divsi u (BitVec.ofNat 32 n) 64#32) = BitVec.ofNat 32 (n / 64) := by
  rw [divsi_64 u h, remsi_64 u h]
  apply select_of_eq_zero
  rcases Nat.eq_zero_or_pos n with rfl | hp
  · decide
  · rw [(cmpi_sgt_ofNat_eq_one_iff (w := 32) (a := n) (b := 0) (by omega) (by omega)).2 hp,
      (cmpi_slt_ofNat_eq_zero_iff (w := 32) (a := n) (b := 0) (by omega) (by omega)).2 (by omega)]
    have e : IntOp.cmpi .ne (IntOp.subi (BitVec.setWidth 32 1#1) (BitVec.setWidth 32 0#1))
        (Scalar.subi (Scalar.extui (Scalar.cmpi .sgt 64#32 0#32)) (Scalar.extui (Scalar.cmpi .slt 64#32 0#32))) = 0#1 := by decide
    rw [e]; exact BitVec.zero_and

/-- The sign of a word. -/
def sign (x : BitVec 32) : BitVec 32 := if x = 0 then 0 else if x.msb then -1 else 1

/-- The quotient rounded down, its signs taken as words. -/
theorem chunk_host (u : ArithUnit) {n : ℕ} (h : n < 8192) :
    Scalar.select
      (IntOp.andi (IntOp.cmpi .ne (sign (BitVec.ofNat 32 n)) (sign 64#32))
        (IntOp.cmpi .ne (IntOp.remsi u (BitVec.ofNat 32 n) 64#32) 0#32))
      (IntOp.subi (IntOp.divsi u (BitVec.ofNat 32 n) 64#32) 1#32)
      (IntOp.divsi u (BitVec.ofNat 32 n) 64#32) = BitVec.ofNat 32 (n / 64) := by
  rw [divsi_64 u h, remsi_64 u h]
  apply select_of_eq_zero
  rcases Nat.eq_zero_or_pos n with rfl | hp
  · decide
  · have hm : (BitVec.ofNat 32 n).msb = false := by
      rw [BitVec.msb_eq_false_iff_two_mul_lt, BitVec.toNat_ofNat]; omega
    have h0 : BitVec.ofNat 32 n ≠ 0 := fun e => by
      have := congrArg BitVec.toNat e
      rw [BitVec.toNat_ofNat] at this
      simp at this; omega
    have e : sign (BitVec.ofNat 32 n) = sign 64#32 := by
      unfold sign; rw [if_neg h0, hm]; decide
    rw [e, show IntOp.cmpi .ne (sign 64#32) (sign 64#32) = 0#1 from by decide]
    exact BitVec.zero_and

/-- A comparison of small natural numbers decides a choice. -/
theorem select_sle {α : Type} {a b : ℕ} (ha : a < 8192) (hb : b < 8192) (x y : α) :
    Scalar.select (IntOp.cmpi .sle (BitVec.ofNat 32 a) (BitVec.ofNat 32 b)) x y = if a ≤ b then x else y := by
  split_ifs with h
  · exact select_of_eq_one ((cmpi_sle_ofNat_eq_one_iff (by omega) (by omega)).2 h) _ _
  · exact select_of_eq_zero ((cmpi_sle_ofNat_eq_zero_iff (by omega) (by omega)).2 (by omega)) _ _

end Cert.Words

end
-- ==== Proof.Rows.lean ====
/- One update of the kernel's running softmax on a group of 256 query rows against 1024 keys, as functions of the scores
   and of what the group's running maximum, sum and accumulator hold, and these functions read at an index. -/
module

public import proofs.«01_k».proof.Proof.Gen.KernelIdeal.Skeleton
public import proofs.«01_k».proof.Proof.Softmax
public import proofs.«01_k».proof.Proof.Words
public import Idealize.ShloMosaic.Lib.Pointwise

@[expose] public section

set_option maxRecDepth 16384

noncomputable section

namespace Cert.KernelIdeal.Rows

open Idealize.ShloMosaic Idealize.ShloMosaic.TcCoe Idealize.SL.Sem
open Cert.KernelIdeal Cert.KernelIdeal.Gen

section Model

variable {F : FTy → Type} [FloatOps F] [Named F]

/-- The scores of a group of queries against a block of keys. -/
def scores (q : Vec F S1x256x256 .bf16) (k : Vec F S1x1024x256 .bf16) : FVec F S256x1024 .f32 :=
  matmul dot_S256x256_S1024x256_S256x1024_1_1_0_0_n_n none (shapeCast S256x256 q shapeCasts_S1x256x256_S256x256)
    (shapeCast S1024x256 k shapeCasts_S1x1024x256_S1024x256) (constant S256x1024 .f32 0x00000000#32)

/-- The running maximum after the block. -/
def maxNew (s : FVec F S256x1024 .f32) (m : Vec F S256x128 .f32) : FVec F S256x128 .f32 :=
  maximumf m (broadcastTo S256x128 (shapeCast S256x1 (multiReduction .maximumf [1] S256 s 0xFF800000#32
    reduces_S256x1024_S256 (.inl rfl) rfl) shapeCasts_S256_S256x1) broadcasts_S256x1_S256x128)

/-- The factor the old sums are rescaled by. -/
def scaleOf (s : FVec F S256x1024 .f32) (m : Vec F S256x128 .f32) : FVec F S256x128 .f32 := exp2 (subf m (maxNew s m))

/-- The block's terms under the new maximum. -/
def probs (s : FVec F S256x1024 .f32) (m : Vec F S256x128 .f32) : FVec F S256x1024 .f32 :=
  exp2 (subf s (concatenate S256x1024 1 [⟨S256x128, maxNew s m⟩, ⟨S256x128, maxNew s m⟩, ⟨S256x128, maxNew s m⟩,
    ⟨S256x128, maxNew s m⟩, ⟨S256x128, maxNew s m⟩, ⟨S256x128, maxNew s m⟩, ⟨S256x128, maxNew s m⟩,
    ⟨S256x128, maxNew s m⟩]
    concatenates_S256x128_S256x128_S256x128_S256x128_S256x128_S256x128_S256x128_S256x128_S256x1024_d1))

/-- The running sum after the block. -/
def sumNew (s : FVec F S256x1024 .f32) (m l : Vec F S256x128 .f32) : FVec F S256x128 .f32 :=
  shapeCast S256x128 (addf (mulf (scaleOf s m) l) (broadcastTo S256x128 (shapeCast S256x1 (multiReduction .add [1] S256
    (probs s m) 0x00000000#32 reduces_S256x1024_S256 (.inl rfl) rfl) shapeCasts_S256_S256x1) broadcasts_S256x1_S256x128))
    shapeCasts_S256x128_S256x128

/-- The accumulator after the block. -/
def accNew (s : FVec F S256x1024 .f32) (m a : Vec F S256x128 .f32) (v : Vec F S1024x128 .bf16) : FVec F S256x128 .f32 :=
  shapeCast S256x128 (addf (mulf (scaleOf s m) a) (matmul dot_S256x1024_S1024x128_S256x128_1_0_0_1_n_n none
    (truncf .bf16 (probs s m) bitsLt_bf16_f32) (shapeCast S1024x128 v shapeCasts_S1024x128_S1024x128)
    (constant S256x128 .f32 0x00000000#32))) shapeCasts_S256x128_S256x128

/-- The maximum as it is stored. -/
def maxSt (s : FVec F S256x1024 .f32) (m : Vec F S256x128 .f32) : FVec F S256x128 .f32 :=
  shapeCast S256x128 (maxNew s m) shapeCasts_S256x128_S256x128

/-- The quotient by 64 rounded down, of words, as the kernel takes it. -/
def chunk (x : IVec S256x1024 32) : IVec S256x1024 32 :=
  select (andi
      (cmpi .ne (subi (extui 32 (cmpi .sgt x (broadcast S256x1024 0#32)) natLt_1_32) (extui 32 (cmpi .slt x (broadcast S256x1024 0#32)) natLt_1_32))
        (broadcast S256x1024 (Scalar.subi (Scalar.extui (Scalar.cmpi .sgt 64#32 0#32)) (Scalar.extui (Scalar.cmpi .slt 64#32 0#32)))))
      (cmpi .ne (remsi x (broadcast S256x1024 64#32)) (broadcast S256x1024 0#32)))
    (subi (divsi x (broadcast S256x1024 64#32)) (broadcast S256x1024 1#32)) (divsi x (broadcast S256x1024 64#32))

/-- The scores against the queries' own block of keys: those of a key of a later chunk than the query are masked. -/
def masked (off : BitVec 32) (s : FVec F S256x1024 .f32) : FVec F S256x1024 .f32 :=
  select (cmpi .sle (chunk (addi (broadcast S256x1024 0#32) (iota .tc S256x1024 32 [1] iota_S256x1024_d1_w32)))
    (chunk (addi (broadcast S256x1024 off) (iota .tc S256x1024 32 [0] iota_S256x1024_d0_w32)))) s
    (broadcast S256x1024 (Named.named κ "mask" 0xF149F2CA#32))

end Model

/-! ## Over the extended reals, at an index -/

theorem chunk_at (x : IVec S256x1024 32) (r : Fin 256) (j : Fin 1024) {n : ℕ} (h : n < 8192)
    (hx : x (ix2 r j) = BitVec.ofNat 32 n) : chunk x (ix2 r j) = BitVec.ofNat 32 (n / 64) := by
  pointwise [chunk]
  rw [hx]
  exact Words.chunk_kernel _ h

theorem masked_at (off : ℕ) (ho : off + 256 ≤ 1024) (s : FVec Ideal S256x1024 .f32) (r : Fin 256) (j : Fin 1024) :
    masked (BitVec.ofNat 32 off) s (ix2 r j) = if j.val / 64 ≤ (off + r.val) / 64 then (s (ix2 r j) : EReal) else ⊥ := by
  have hc : (addi (broadcast S256x1024 0#32) (iota .tc S256x1024 32 [1] iota_S256x1024_d1_w32)) (ix2 r j) = BitVec.ofNat 32 j.val := by
    pointwise []
    exact BitVec.zero_add _
  have hr : (addi (broadcast S256x1024 (BitVec.ofNat 32 off)) (iota .tc S256x1024 32 [0] iota_S256x1024_d0_w32)) (ix2 r j)
      = BitVec.ofNat 32 (off + r.val) := by
    pointwise []
    exact WordCmp.addi_ofNat _ _
  have hM : (Named.named κ "mask" 0xF149F2CA#32 : Ideal .f32) = (⊥ : EReal) := rfl
  unfold masked
  pointwise []
  rw [chunk_at _ r j (by omega) hc, chunk_at _ r j (by omega) hr, Words.select_sle (by omega) (by omega), hM]

theorem ofBits_neg_inf : Ideal.ofBits .f32 0xFF800000#32 = ⊥ := by
  simp [Ideal.ofBits, Ideal.ieee]

theorem scores_at (q : Vec Ideal S1x256x256 .bf16) (k : Vec Ideal S1x1024x256 .bf16) (r : Fin 256) (j : Fin 1024) :
    scores q k (ix2 r j) = ∑ d : Fin 256, (show EReal from q (ix3 0 r d)) * (show EReal from k (ix3 0 j d)) := by
  pointwise [scores]

theorem maxNew_at (s : FVec Ideal S256x1024 .f32) (m : Vec Ideal S256x128 .f32) (r : Fin 256) (d : Fin 128) :
    maxNew s m (ix2 r d) = max (show EReal from m (ix2 r d)) (Finset.univ.fold max ⊥ fun k : Fin 1024 => (s (ix2 r k) : EReal)) := by
  pointwise [maxNew]
  rw [ofBits_neg_inf]

/-- With one maximum in every lane of the row, each of the block's terms is taken under it. -/
theorem probs_at (s : FVec Ideal S256x1024 .f32) (m : Vec Ideal S256x128 .f32) (r : Fin 256) (j : Fin 1024) (M : EReal)
    (h : ∀ d : Fin 128, maxNew s m (ix2 r d) = M) : probs s m (ix2 r j) = Ideal.exp2 ((s (ix2 r j) : EReal) - M) := by
  pointwise [probs]
  simp only [h]
  split_ifs <;> rfl

theorem sumNew_at (s : FVec Ideal S256x1024 .f32) (m l : Vec Ideal S256x128 .f32) (r : Fin 256) (d : Fin 128) :
    sumNew s m l (ix2 r d) = Ideal.exp2 ((show EReal from m (ix2 r d)) - maxNew s m (ix2 r d)) * (show EReal from l (ix2 r d))
      + ∑ k : Fin 1024, probs s m (ix2 r k) := by
  pointwise [sumNew, scaleOf]
  rfl

theorem accNew_at (s : FVec Ideal S256x1024 .f32) (m a : Vec Ideal S256x128 .f32) (v : Vec Ideal S1024x128 .bf16) (r : Fin 256) (d : Fin 128) :
    accNew s m a v (ix2 r d) = Ideal.exp2 ((show EReal from m (ix2 r d)) - maxNew s m (ix2 r d)) * (show EReal from a (ix2 r d))
      + ∑ k : Fin 1024, (show EReal from probs s m (ix2 r k)) * (show EReal from v (ix2 k d)) := by
  pointwise [accNew, scaleOf]
  rfl

/-- One block of keys taken up by a row: `S` and `W` the row's scores and the weights of one lane, of which the first `n`
    are in the running maximum, sum and accumulator. -/
theorem row_step (s : FVec Ideal S256x1024 .f32) (m l a : Vec Ideal S256x128 .f32) (v : Vec Ideal S1024x128 .bf16)
    (r : Fin 256) (S : ℕ → EReal) (W : Fin 128 → ℕ → EReal) (n : ℕ)
    (hs : ∀ j : Fin 1024, s (ix2 r j) = S (n + j.val)) (hv : ∀ (j : Fin 1024) (d : Fin 128), v (ix2 j d) = W d (n + j.val))
    (hm : ∀ d : Fin 128, m (ix2 r d) = Softmax.top S n) (hl : ∀ d : Fin 128, l (ix2 r d) = Softmax.wsum S (fun _ => 1) n)
    (ha : ∀ d : Fin 128, a (ix2 r d) = Softmax.wsum S (W d) n) (d : Fin 128) :
    maxSt s m (ix2 r d) = Softmax.top S (n + 1024)
      ∧ sumNew s m l (ix2 r d) = Softmax.wsum S (fun _ => 1) (n + 1024)
      ∧ accNew s m a v (ix2 r d) = Softmax.wsum S (W d) (n + 1024) := by
  have hM : ∀ d : Fin 128, maxNew s m (ix2 r d) = Softmax.top S (n + 1024) := fun d => by
    rw [maxNew_at, ← Softmax.top_add]
    simp only [hs]
    rw [hm]
  have hp : ∀ j : Fin 1024, probs s m (ix2 r j) = Ideal.exp2 (S (n + j.val) - Softmax.top S (n + 1024)) := fun j => by
    rw [probs_at s m r j _ hM, hs]
  refine ⟨?_, ?_, ?_⟩
  · rw [← hM d]; pointwise [maxSt]
  · rw [sumNew_at, hM, hm, hl, ← Softmax.wsum_add]
    simp only [hp, mul_one]
  · rw [accNew_at, hM, hm, ha, ← Softmax.wsum_add]
    simp only [hp, hv]

end Cert.KernelIdeal.Rows

end
-- ==== Proof.Trip.lean ====
/- What one trip of the kernel's loop over whole blocks of keys leaves in the accumulator, the running maximum and the
   running sum: four groups of 256 query rows, each updated from what it held. -/
module

public import proofs.«01_k».proof.Proof.Gen.KernelIdeal.Loops
public import proofs.«01_k».proof.Proof.Rows
public import Idealize.ShloMosaic.Lib.WritesUnit
public import Idealize.ShloMosaic.Lib.VecWindow

@[expose] public section

set_option maxRecDepth 16384

noncomputable section

namespace Cert.KernelIdeal.Rows

open Idealize.ShloMosaic Idealize.ShloMosaic.TcCoe Idealize.SL.Sem
open Cert.KernelIdeal Cert.KernelIdeal.Gen

variable {F : FTy → Type} [FloatOps F] [Named F]

/-- Group `g`'s rows of a scratch array. -/
abbrev gOff (g : Fin 4) : Fin 2 → ℕ := ![256 * g.val, 0]
theorem gInb (g : Fin 4) : ∀ d, gOff g d + S256x128.size d ≤ S1024x128.size d := by fin_cases g <;> decide
/-- Group `g`'s rows of the queries. -/
abbrev qOff (g : Fin 4) : Fin 3 → ℕ := ![0, 256 * g.val, 0]
theorem qInb (g : Fin 4) : ∀ d, qOff g d + S1x256x256.size d ≤ S1x1024x256.size d := by fin_cases g <;> decide

/-- Group `g`'s rows as a scratch array's contents hold them. -/
def ldS (v : View sig .tc .vmem S1024x128 .f32) (f : BufTy.Contents (Elt F) v.ty) (g : Fin 4) : Vec F S256x128 .f32 :=
  View.readAt (Elt F) v (Rect.unit (s := S1024x128) (gOff g) S256x128.size (gInb g)).toLoadRect f

/-- Group `g`'s queries. -/
def ldQ (v : View sig .tc .vmem S1x1024x256 .bf16) (f : BufTy.Contents (Elt F) v.ty) (g : Fin 4) : Vec F S1x256x256 .bf16 :=
  View.readAt (Elt F) v (Rect.unit (s := S1x1024x256) (qOff g) S1x256x256.size (qInb g)).toLoadRect f

/-- Group `g`'s rows stored. -/
def piece (g : Fin 4) (a : FVec F S256x128 .f32) : View.Piece (Elt F) S1024x128 .f32 :=
  ⟨Rect.unit (s := S1024x128) (gOff g) S256x128.size (gInb g), a⟩
/-- The four groups stored, the last first. -/
def pieces (A : Fin 4 → FVec F S256x128 .f32) : List (View.Piece (Elt F) S1024x128 .f32) := [piece 3 (A 3), piece 2 (A 2), piece 1 (A 1), piece 0 (A 0)]

/-- The row of a scratch array that row `r` of group `g` is. -/
def rowOf (g : Fin 4) (r : Fin 256) : Fin 1024 := ⟨256 * g.val + r.val, by omega⟩

theorem exists_rowOf (row : Fin 1024) : ∃ g r, row = rowOf g r :=
  ⟨⟨row.val / 256, by omega⟩, ⟨row.val % 256, by omega⟩, Fin.ext (by show _ = 256 * (row.val / 256) + row.val % 256; omega)⟩

theorem ldS_at (v : View sig .tc .vmem S1024x128 .f32) (f : BufTy.Contents (Elt F) v.ty) (g : Fin 4) (r : Fin 256) (d : Fin 128) :
    ldS v f g (ix2 r d) = v.read (Elt F) f (ix2 (rowOf g r) d) := by
  show v.read (Elt F) f ((Rect.unit (s := S1024x128) (gOff g) S256x128.size (gInb g)).emb (ix2 r d)) = _
  congr 1
  funext a
  match a with
  | ⟨0, _⟩ => exact Fin.ext (by show 256 * g.val + 1 * r.val = 256 * g.val + r.val; omega)
  | ⟨1, _⟩ => exact Fin.ext (by show 0 + 1 * d.val = d.val; omega)

/-- A group's rows read what was last stored there, -/
theorem read_piece_same (v : View sig .tc .vmem S1024x128 .f32) (f : BufTy.Contents (Elt F) v.ty) (g : Fin 4) (a : FVec F S256x128 .f32)
    (L : List (View.Piece (Elt F) S1024x128 .f32)) (r : Fin 256) (d : Fin 128) :
    v.read (Elt F) (v.writes (Elt F) f (piece g a :: L)) (ix2 (rowOf g r) d) = a (ix2 r d) :=
  View.read_writes_cons_rows_of_mem (o := 256 * g.val) v f (gInb g) a L (ix2 (rowOf g r) d) (ix2 r d) rfl rfl rfl

/-- and nothing of another group's. -/
theorem read_piece_ne (v : View sig .tc .vmem S1024x128 .f32) (f : BufTy.Contents (Elt F) v.ty) {g g' : Fin 4} (h : g ≠ g')
    (a : FVec F S256x128 .f32) (L : List (View.Piece (Elt F) S1024x128 .f32)) (r : Fin 256) (d : Fin 128) :
    v.read (Elt F) (v.writes (Elt F) f (piece g a :: L)) (ix2 (rowOf g' r) d) = v.read (Elt F) (v.writes (Elt F) f L) (ix2 (rowOf g' r) d) := by
  refine View.read_writes_cons_rows_of_not_mem (o := 256 * g.val) (W := 256) v f (gInb g) a L (ix2 (rowOf g' r) d) rfl rfl ?_
  show 256 * g'.val + r.val < 256 * g.val ∨ 256 * g.val + 256 ≤ 256 * g'.val + r.val
  have : g.val ≠ g'.val := fun e => h (Fin.ext e)
  omega

theorem ldS_piece_ne (v : View sig .tc .vmem S1024x128 .f32) (f : BufTy.Contents (Elt F) v.ty) {g g' : Fin 4} (h : g ≠ g')
    (a : FVec F S256x128 .f32) (L : List (View.Piece (Elt F) S1024x128 .f32)) :
    ldS v (v.writes (Elt F) f (piece g a :: L)) g' = ldS v (v.writes (Elt F) f L) g' := by
  funext y
  obtain ⟨r, d, rfl⟩ : ∃ r d, y = ix2 r d := ⟨y 0, y 1, by funext a; match a with | ⟨0, _⟩ => rfl | ⟨1, _⟩ => rfl⟩
  rw [ldS_at, ldS_at, read_piece_ne v f h]

theorem read_pieces (v : View sig .tc .vmem S1024x128 .f32) (f : BufTy.Contents (Elt F) v.ty) (A : Fin 4 → FVec F S256x128 .f32)
    (L : List (View.Piece (Elt F) S1024x128 .f32)) (g : Fin 4) (r : Fin 256) (d : Fin 128) :
    v.read (Elt F) (v.writes (Elt F) f (pieces A ++ L)) (ix2 (rowOf g r) d) = A g (ix2 r d) := by
  show v.read (Elt F) (v.writes (Elt F) f (piece 3 (A 3) :: piece 2 (A 2) :: piece 1 (A 1) :: piece 0 (A 0) :: L)) _ = _
  fin_cases g
  · exact ((read_piece_ne v f (by decide) _ _ r d).trans <| (read_piece_ne v f (by decide) _ _ r d).trans <|
      (read_piece_ne v f (by decide) _ _ r d).trans <| read_piece_same v f 0 _ _ r d)
  · exact ((read_piece_ne v f (by decide) _ _ r d).trans <| (read_piece_ne v f (by decide) _ _ r d).trans <|
      read_piece_same v f 1 _ _ r d)
  · exact ((read_piece_ne v f (by decide) _ _ r d).trans <| read_piece_same v f 2 _ _ r d)
  · exact read_piece_same v f 3 _ _ r d

section
variable (𝒱 : Variants) (c : Dev nD) (bd : Option 𝒱.V) (i : grid0.Coords) (arg3 : Memref sig .tc .vmem S1x1024x256 .bf16) (harg3 : arg3.IsWhole) (arg4 : Memref sig .tc .vmem S1x8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (X3 : BufTy.Contents (Elt F) arg3.view.ty) (X4 : BufTy.Contents (Elt F) arg4.view.ty) (X5 : BufTy.Contents (Elt F) arg5.view.ty) (k : Fin (k0_t1_loop i).trips)
  (f7 : BufTy.Contents (Elt F) arg7.view.ty) (f8 : BufTy.Contents (Elt F) arg8.view.ty) (f9 : BufTy.Contents (Elt F) arg9.view.ty)

/-- The keys trip `k` takes up. -/
def tripK : Vec F S1x1024x256 .bf16 :=
  View.readAt (Elt F) arg4.view (Rect.unit (s := S1x8192x256) (k0_off1 i k) S1x1024x256.size (k0_off1_inb i k)).toLoadRect X4
/-- Their values. -/
def tripV : Vec F S1024x128 .bf16 :=
  View.readAt (Elt F) arg5.view (Rect.unit (s := S8192x128) (k0_off2 i k) S1024x128.size (k0_off2_inb i k)).toLoadRect X5
/-- The scores of a group. -/
def tripS (g : Fin 4) : FVec F S256x1024 .f32 := scores (ldQ arg3.view X3 g) (tripK i arg4 X4 k)

theorem trip_acc : (tripL_k0_t1 (F := F) 𝒱 c bd i arg3 harg3 arg4 harg4 arg5 harg5 arg6 harg6 arg7 harg7 arg8 harg8 arg9 harg9 X3 X4 X5 k f7 f8 f9).1
    = pieces fun g => accNew (tripS i arg3 arg4 X3 X4 k g) (ldS arg8.view f8 g) (ldS arg7.view f7 g) (tripV i arg5 X5 k) := by
  unfold tripL_k0_t1 trip_k0_t1; rfl

theorem trip_max : (tripL_k0_t1 (F := F) 𝒱 c bd i arg3 harg3 arg4 harg4 arg5 harg5 arg6 harg6 arg7 harg7 arg8 harg8 arg9 harg9 X3 X4 X5 k f7 f8 f9).2.1
    = pieces fun g => maxSt (tripS i arg3 arg4 X3 X4 k g) (ldS arg8.view f8 g) := by
  unfold tripL_k0_t1 trip_k0_t1; rfl

theorem trip_sum : (tripL_k0_t1 (F := F) 𝒱 c bd i arg3 harg3 arg4 harg4 arg5 harg5 arg6 harg6 arg7 harg7 arg8 harg8 arg9 harg9 X3 X4 X5 k f7 f8 f9).2.2
    = pieces fun g => sumNew (tripS i arg3 arg4 X3 X4 k g) (ldS arg8.view f8 g) (ldS arg9.view f9 g) := by
  unfold tripL_k0_t1 trip_k0_t1; rfl

end

end Cert.KernelIdeal.Rows

end
-- ==== Proof.Point.lean ====
/- One launch point of the kernel: 1024 queries of one head, against the whole blocks of keys before theirs and then, masked,
   against their own block. -/
module

public import proofs.«01_k».proof.Proof.Gen.KernelIdeal.Frame.RunA
public import proofs.«01_k».proof.Proof.Trip

@[expose] public section

set_option maxRecDepth 16384

noncomputable section

namespace Cert.KernelIdeal.Rows

open Idealize.ShloMosaic Idealize.ShloMosaic.TcCoe Idealize.SL.Sem
open Cert.KernelIdeal Cert.KernelIdeal.Gen

/-- The stores into a scratch array, the last first. -/
abbrev Pieces (F : FTy → Type) := List (View.Piece (Elt F) S1024x128 .f32)

section Lists

variable {F : FTy → Type} [FloatOps F] [Named F]

variable (c : Dev nD) (i : grid0.Coords) (arg3 : Memref sig .tc .vmem S1x1024x256 .bf16) (harg3 : arg3.IsWhole) (arg4 : Memref sig .tc .vmem S1x8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole)
  (x0 : Vec F S1x1024x256 .bf16) (x1 : Vec F S1x8192x256 .bf16) (x2 : Vec F S8192x128 .bf16)

/-- A scratch array filled. -/
def fill (a : FVec F S1024x128 .f32) : Pieces F := [⟨Rect.unit (s := S1024x128) ![0, 0] S1024x128.size inb_S1024x128_S1024x128_0_0, a⟩]

def fill7 : Pieces F := fill k0_pay59
def fill8 : Pieces F := fill k0_pay57
def fill9 : Pieces F := fill k0_pay58

/-- What the first `n` trips store. -/
def loop (n : ℕ) : Pieces F × Pieces F × Pieces F :=
  pb_k0_t1 Variants.none c none i arg3 harg3 arg4 harg4 arg5 harg5 arg6 harg6 arg7 harg7 arg8 harg8 arg9 harg9
    (harg3.unread x0) (harg4.unread x1) (harg5.unread x2) (arg7.view.writes (Elt F) arg7.view.junk fill7)
    (arg8.view.writes (Elt F) arg8.view.junk fill8) (arg9.view.writes (Elt F) arg9.view.junk fill9) n

/-- What the empty second loop stores after a first loop of `n` trips. -/
def emptyLoop (n n' : ℕ) : Pieces F × Pieces F × Pieces F :=
  pb_k0_t2 Variants.none c none i arg3 harg3 arg4 harg4 arg5 harg5 arg6 harg6 arg7 harg7 arg8 harg8 arg9 harg9
    (k0_t1_loop i).ub (harg3.unread x0) (harg4.unread x1) (harg5.unread x2)
    (arg7.view.writes (Elt F) arg7.view.junk ((loop c i arg3 harg3 arg4 harg4 arg5 harg5 arg6 harg6 arg7 harg7 arg8 harg8 arg9 harg9 x0 x1 x2 n).1 ++ fill7))
    (arg8.view.writes (Elt F) arg8.view.junk ((loop c i arg3 harg3 arg4 harg4 arg5 harg5 arg6 harg6 arg7 harg7 arg8 harg8 arg9 harg9 x0 x1 x2 n).2.1 ++ fill8))
    (arg9.view.writes (Elt F) arg9.view.junk ((loop c i arg3 harg3 arg4 harg4 arg5 harg5 arg6 harg6 arg7 harg7 arg8 harg8 arg9 harg9 x0 x1 x2 n).2.2 ++ fill9)) n'

/-- The own block's keys, -/
def ownK : Vec F S1x1024x256 .bf16 :=
  View.readAt (Elt F) arg4.view (Rect.unit (s := S1x8192x256) (k0_off5 i) S1x1024x256.size (k0_off5_inb i)).toLoadRect (harg4.unread x1)
/-- their values, -/
def ownV : Vec F S1024x128 .bf16 :=
  View.readAt (Elt F) arg5.view (Rect.unit (s := S8192x128) (k0_off6 i) S1024x128.size (k0_off6_inb i)).toLoadRect (harg5.unread x2)
/-- and a group's masked scores against them. -/
def ownS (g : Fin 4) : FVec F S256x1024 .f32 :=
  masked (BitVec.ofNat 32 (256 * g.val)) (scores (ldQ arg3.view (harg3.unread x0) g) (ownK i arg4 harg4 x1))

/-- Group `g`'s store of its maximum over the list `L`, -/
def nextM (S : Fin 4 → FVec F S256x1024 .f32) (g : Fin 4) (L : Pieces F) : Pieces F :=
  piece g (maxSt (S g) (ldS arg8.view (arg8.view.writes (Elt F) arg8.view.junk L) g)) :: L
/-- of its sum, -/
def nextL (S : Fin 4 → FVec F S256x1024 .f32) (g : Fin 4) (L8 L : Pieces F) : Pieces F :=
  piece g (sumNew (S g) (ldS arg8.view (arg8.view.writes (Elt F) arg8.view.junk L8) g) (ldS arg9.view (arg9.view.writes (Elt F) arg9.view.junk L) g)) :: L
/-- of its accumulator. -/
def nextA (S : Fin 4 → FVec F S256x1024 .f32) (V : Vec F S1024x128 .bf16) (g : Fin 4) (L8 L : Pieces F) : Pieces F :=
  piece g (accNew (S g) (ldS arg8.view (arg8.view.writes (Elt F) arg8.view.junk L8) g) (ldS arg7.view (arg7.view.writes (Elt F) arg7.view.junk L) g) V) :: L

/-- The four groups' stores, in the order they are made. -/
def ownM (S : Fin 4 → FVec F S256x1024 .f32) (L : Pieces F) : ℕ → Pieces F
  | 0 => L
  | 1 => nextM arg8 S 0 L
  | 2 => nextM arg8 S 1 (nextM arg8 S 0 L)
  | 3 => nextM arg8 S 2 (nextM arg8 S 1 (nextM arg8 S 0 L))
  | _ => nextM arg8 S 3 (nextM arg8 S 2 (nextM arg8 S 1 (nextM arg8 S 0 L)))

def ownL (S : Fin 4 → FVec F S256x1024 .f32) (L8 L : Pieces F) : Pieces F :=
  nextL arg8 arg9 S 3 (ownM arg8 S L8 3) (nextL arg8 arg9 S 2 (ownM arg8 S L8 2) (nextL arg8 arg9 S 1 (ownM arg8 S L8 1) (nextL arg8 arg9 S 0 L8 L)))

def ownA (S : Fin 4 → FVec F S256x1024 .f32) (V : Vec F S1024x128 .bf16) (L8 L : Pieces F) : Pieces F :=
  nextA arg7 arg8 S V 3 (ownM arg8 S L8 3) (nextA arg7 arg8 S V 2 (ownM arg8 S L8 2) (nextA arg7 arg8 S V 1 (ownM arg8 S L8 1) (nextA arg7 arg8 S V 0 L8 L)))

theorem run_pieces :
    (kernelRun0_A c i arg3 harg3 arg4 harg4 arg5 harg5 arg6 harg6 arg7 harg7 arg8 harg8 arg9 harg9 x0 x1 x2).1
      = (let n := (k0_t1_loop i).trips
         let T := loop c i arg3 harg3 arg4 harg4 arg5 harg5 arg6 harg6 arg7 harg7 arg8 harg8 arg9 harg9 x0 x1 x2 n
         let U := emptyLoop c i arg3 harg3 arg4 harg4 arg5 harg5 arg6 harg6 arg7 harg7 arg8 harg8 arg9 harg9 x0 x1 x2 n (k0_t2_loop i).trips
         let S := ownS i arg3 harg3 arg4 harg4 x0 x1
         [⟨Rect.unit (s := S1024x128) ![0, 0] S1024x128.size inb_S1024x128_S1024x128_0_0,
          k0_pay4 (arg7.view.readCov (ownA arg7 arg8 S (ownV i arg5 harg5 x2) (U.2.1 ++ (T.2.1 ++ fill8)) (U.1 ++ (T.1 ++ fill7)))
              (Rect.unit (s := S1024x128) ![0, 0] S1024x128.size inb_S1024x128_S1024x128_0_0).toLoadRect)
            (arg9.view.readCov (ownL arg8 arg9 S (U.2.1 ++ (T.2.1 ++ fill8)) (U.2.2 ++ (T.2.2 ++ fill9)))
              (Rect.unit (s := S1024x128) ![0, 0] S1024x128.size inb_S1024x128_S1024x128_0_0).toLoadRect)⟩]) := by
  unfold kernelRun0_A; rfl

end Lists

end Cert.KernelIdeal.Rows

end
-- ==== Proof.PointValue.lean ====
/- The block a launch point writes, over the extended reals: each row's weighted sum of values over its sum of weights, the
   weights powers of two of the row's scores less their greatest, with the keys of later chunks at `⊥`. -/
module

public import proofs.«01_k».proof.Proof.Point
public import Idealize.ShloMosaic.Lib.WholeRead
public import Idealize.ShloMosaic.Lib.LoopRemainder

@[expose] public section

set_option maxRecDepth 16384

noncomputable section

namespace Cert.KernelIdeal.Rows

open Idealize.ShloMosaic Idealize.ShloMosaic.TcCoe Idealize.SL.Sem
open Cert.KernelIdeal Cert.KernelIdeal.Gen

/-- Key `j` of the sequence. -/
def key (j : ℕ) : Fin 8192 := ⟨j % 8192, Nat.mod_lt _ (by decide)⟩

/-- Query `row`'s score against key `j`. -/
def score (x0 : Vec Ideal S1x1024x256 .bf16) (x1 : Vec Ideal S1x8192x256 .bf16) (row : Fin 1024) (j : ℕ) : EReal :=
  ∑ d : Fin 256, (show EReal from x0 (ix3 0 row d)) * (show EReal from x1 (ix3 0 (key j) d))

/-- The same, `⊥` where the key's chunk comes after the query's, the query being row `row` of block `q`. -/
def rowS (x0 : Vec Ideal S1x1024x256 .bf16) (x1 : Vec Ideal S1x8192x256 .bf16) (q : ℕ) (row : Fin 1024) (j : ℕ) : EReal :=
  if j / 64 ≤ (1024 * q + row.val) / 64 then score x0 x1 row j else ⊥

/-- Lane `d` of key `j`'s value. -/
def rowW (x2 : Vec Ideal S8192x128 .bf16) (d : Fin 128) (j : ℕ) : EReal := x2 (ix2 (key j) d)

/-- The scratch arrays hold the running softmax of the first `n` keys. -/
def Holds (v7 v8 v9 : View sig .tc .vmem S1024x128 .f32) (f7 : BufTy.Contents (Elt Ideal) v7.ty) (f8 : BufTy.Contents (Elt Ideal) v8.ty)
    (f9 : BufTy.Contents (Elt Ideal) v9.ty) (S : Fin 1024 → ℕ → EReal) (W : Fin 128 → ℕ → EReal) (n : ℕ) : Prop :=
  ∀ (row : Fin 1024) (d : Fin 128), v8.read (Elt Ideal) f8 (ix2 row d) = Softmax.top (S row) n
    ∧ v9.read (Elt Ideal) f9 (ix2 row d) = Softmax.wsum (S row) (fun _ => 1) n
    ∧ v7.read (Elt Ideal) f7 (ix2 row d) = Softmax.wsum (S row) (W d) n

/-- One block of 1024 keys more, at every row. -/
theorem holds_step {v7 v8 v9 : View sig .tc .vmem S1024x128 .f32} {e7 f7 : BufTy.Contents (Elt Ideal) v7.ty}
    {e8 f8 : BufTy.Contents (Elt Ideal) v8.ty} {e9 f9 : BufTy.Contents (Elt Ideal) v9.ty} {S : Fin 1024 → ℕ → EReal}
    {W : Fin 128 → ℕ → EReal} {n : ℕ} (sG : Fin 4 → FVec Ideal S256x1024 .f32) (vb : Vec Ideal S1024x128 .bf16) (L7 L8 L9 : Pieces Ideal)
    (h : Holds v7 v8 v9 f7 f8 f9 S W n) (hs : ∀ g r (j : Fin 1024), sG g (ix2 r j) = S (rowOf g r) (n + j.val))
    (hv : ∀ (j : Fin 1024) (d : Fin 128), vb (ix2 j d) = W d (n + j.val)) :
    Holds v7 v8 v9 (v7.writes (Elt Ideal) e7 (pieces (fun g => accNew (sG g) (ldS v8 f8 g) (ldS v7 f7 g) vb) ++ L7))
      (v8.writes (Elt Ideal) e8 (pieces (fun g => maxSt (sG g) (ldS v8 f8 g)) ++ L8))
      (v9.writes (Elt Ideal) e9 (pieces (fun g => sumNew (sG g) (ldS v8 f8 g) (ldS v9 f9 g)) ++ L9)) S W (n + 1024) := by
  intro row d
  obtain ⟨g, r, rfl⟩ := exists_rowOf row
  have k := row_step (sG g) (ldS v8 f8 g) (ldS v9 f9 g) (ldS v7 f7 g) vb r (S (rowOf g r)) W n (hs g r) hv
    (fun d => (ldS_at v8 f8 g r d).trans (h _ d).1) (fun d => (ldS_at v9 f9 g r d).trans (h _ d).2.1)
    (fun d => (ldS_at v7 f7 g r d).trans (h _ d).2.2) d
  exact ⟨(read_pieces v8 e8 _ L8 g r d).trans k.1, (read_pieces v9 e9 _ L9 g r d).trans k.2.1, (read_pieces v7 e7 _ L7 g r d).trans k.2.2⟩

theorem read_fill (v : View sig .tc .vmem S1024x128 .f32) (f : BufTy.Contents (Elt Ideal) v.ty) (a : FVec Ideal S1024x128 .f32) :
    v.read (Elt Ideal) (v.writes (Elt Ideal) f (fill a)) = a :=
  View.read_writes_full v f inb_S1024x128_S1024x128_0_0 a []

/-- Before any key. -/
theorem holds_zero (v7 v8 v9 : View sig .tc .vmem S1024x128 .f32) (f7 : BufTy.Contents (Elt Ideal) v7.ty) (f8 : BufTy.Contents (Elt Ideal) v8.ty)
    (f9 : BufTy.Contents (Elt Ideal) v9.ty) (S : Fin 1024 → ℕ → EReal) (W : Fin 128 → ℕ → EReal) :
    Holds v7 v8 v9 (v7.writes (Elt Ideal) f7 fill7) (v8.writes (Elt Ideal) f8 fill8) (v9.writes (Elt Ideal) f9 fill9) S W 0 := by
  intro row d
  refine ⟨(congrFun (read_fill v8 f8 _) _).trans ?_, (congrFun (read_fill v9 f9 _) _).trans ?_, (congrFun (read_fill v7 f7 _) _).trans ?_⟩
  · rw [Softmax.top_zero]
    pointwise [k0_pay57]
    rfl
  · rw [Softmax.wsum_zero]
    pointwise [k0_pay58]
  · rw [Softmax.wsum_zero]
    pointwise [k0_pay59]

theorem trips1 (i : grid0.Coords) : (k0_t1_loop i).trips = (i 2).val := by
  have : ∀ x : Fin 8, Scf.trips (0#32) (Scalar.addi 0#32 (Scalar.muli (Scalar.divsi (Scalar.subi (Scalar.muli (BitVec.ofNat 32 x.val) 1#32) 0#32) 1#32) 1#32)) 1#32 = x.val := by
    decide
  exact this (i 2)

theorem trips2 (i : grid0.Coords) : (k0_t2_loop i).trips = 0 := Scf.rem_trips _ _

theorem off1 (i : grid0.Coords) (k : Fin (k0_t1_loop i).trips) : k0_off1 i k = ![0, 1024 * k.val, 0] := by
  have hk : k.val < 8 := lt_trans (trips1 i ▸ k.isLt) (i 2).isLt
  have : ∀ x : Fin 8, (Scalar.indexCast (Scalar.muli (Scf.iv 0#32 1#32 x.val) 1024#32) : BitVec 32).toNat = 1024 * x.val := by decide
  have e := this ⟨k.val, hk⟩
  show ![0, (Scalar.indexCast (Scalar.muli (Scf.iv 0#32 1#32 k.val) 1024#32) : BitVec 32).toNat, 0] = _
  rw [e]

theorem off2 (i : grid0.Coords) (k : Fin (k0_t1_loop i).trips) : k0_off2 i k = ![1024 * k.val, 0] := by
  have hk : k.val < 8 := lt_trans (trips1 i ▸ k.isLt) (i 2).isLt
  have : ∀ x : Fin 8, (Scalar.indexCast (Scalar.muli (Scf.iv 0#32 1#32 x.val) 1024#32) : BitVec 32).toNat = 1024 * x.val := by decide
  have e := this ⟨k.val, hk⟩
  show ![(Scalar.indexCast (Scalar.muli (Scf.iv 0#32 1#32 k.val) 1024#32) : BitVec 32).toNat, 0] = _
  rw [e]

theorem off5 (i : grid0.Coords) : k0_off5 i = ![0, 1024 * (i 2).val, 0] := by
  have : ∀ x : Fin 8, (Scalar.indexCast (Scalar.muli (Scalar.addi (Scalar.muli (BitVec.ofNat 32 x.val) 1#32) 0#32) 1024#32) : BitVec 32).toNat
      = 1024 * x.val := by decide
  have e := this (i 2)
  show ![0, (Scalar.indexCast (Scalar.muli (Scalar.addi (Scalar.muli (BitVec.ofNat 32 (i 2).val) 1#32) 0#32) 1024#32) : BitVec 32).toNat, 0] = _
  rw [e]

theorem off6 (i : grid0.Coords) : k0_off6 i = ![1024 * (i 2).val, 0] := by
  have : ∀ x : Fin 8, (Scalar.indexCast (Scalar.muli (Scalar.addi (Scalar.muli (BitVec.ofNat 32 x.val) 1#32) 0#32) 1024#32) : BitVec 32).toNat
      = 1024 * x.val := by decide
  have e := this (i 2)
  show ![(Scalar.indexCast (Scalar.muli (Scalar.addi (Scalar.muli (BitVec.ofNat 32 (i 2).val) 1#32) 0#32) 1024#32) : BitVec 32).toNat, 0] = _
  rw [e]

variable (c : Dev nD) (i : grid0.Coords) (arg3 : Memref sig .tc .vmem S1x1024x256 .bf16) (harg3 : arg3.IsWhole) (arg4 : Memref sig .tc .vmem S1x8192x256 .bf16) (harg4 : arg4.IsWhole) (arg5 : Memref sig .tc .vmem S8192x128 .bf16) (harg5 : arg5.IsWhole) (arg6 : Memref sig .tc .vmem S1024x128 .bf16) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole)
  (x0 : Vec Ideal S1x1024x256 .bf16) (x1 : Vec Ideal S1x8192x256 .bf16) (x2 : Vec Ideal S8192x128 .bf16)

theorem ldQ_at (g : Fin 4) (r d : Fin 256) : ldQ arg3.view (harg3.unread x0) g (ix3 0 r d) = x0 (ix3 0 (rowOf g r) d) := by
  refine (harg3.readAt_unread x0 _ _).trans (congrArg x0 ?_)
  funext a
  match a with
  | ⟨0, _⟩ => rfl
  | ⟨1, _⟩ => exact Fin.ext (by show 256 * g.val + 1 * r.val = 256 * g.val + r.val; omega)
  | ⟨2, _⟩ => exact Fin.ext (by show 0 + 1 * d.val = d.val; omega)

/-- Keys loaded at a multiple of 1024. -/
theorem ldK_at {off : Fin 3 → ℕ} (q : ℕ) (hq : q < 8) (ho : off = ![0, 1024 * q, 0]) (inb : ∀ d, off d + S1x1024x256.size d ≤ S1x8192x256.size d)
    (j : Fin 1024) (d : Fin 256) :
    View.readAt (Elt Ideal) arg4.view (Rect.unit (s := S1x8192x256) off S1x1024x256.size inb).toLoadRect (harg4.unread x1) (ix3 0 j d)
      = x1 (ix3 0 (key (1024 * q + j.val)) d) := by
  subst ho
  refine (harg4.readAt_unread x1 _ _).trans (congrArg x1 ?_)
  funext a
  match a with
  | ⟨0, _⟩ => rfl
  | ⟨1, _⟩ => exact Fin.ext (by show 1024 * q + 1 * j.val = (1024 * q + j.val) % 8192; omega)
  | ⟨2, _⟩ => exact Fin.ext (by show 0 + 1 * d.val = d.val; omega)

/-- Values loaded at a multiple of 1024. -/
theorem ldV_at {off : Fin 2 → ℕ} (q : ℕ) (hq : q < 8) (ho : off = ![1024 * q, 0]) (inb : ∀ d, off d + S1024x128.size d ≤ S8192x128.size d)
    (j : Fin 1024) (d : Fin 128) :
    View.readAt (Elt Ideal) arg5.view (Rect.unit (s := S8192x128) off S1024x128.size inb).toLoadRect (harg5.unread x2) (ix2 j d)
      = rowW x2 d (1024 * q + j.val) := by
  subst ho
  refine (harg5.readAt_unread x2 _ _).trans (congrArg x2 ?_)
  funext a
  match a with
  | ⟨0, _⟩ => exact Fin.ext (by show 1024 * q + 1 * j.val = (1024 * q + j.val) % 8192; omega)
  | ⟨1, _⟩ => exact Fin.ext (by show 0 + 1 * d.val = d.val; omega)

theorem tripS_at (k : Fin (k0_t1_loop i).trips) (g : Fin 4) (r : Fin 256) (j : Fin 1024) :
    tripS i arg3 arg4 (harg3.unread x0) (harg4.unread x1) k g (ix2 r j) = rowS x0 x1 (i 2).val (rowOf g r) (1024 * k.val + j.val) := by
  have hk : k.val < (i 2).val := trips1 i ▸ k.isLt
  have h8 : (i 2).val < 8 := (i 2).isLt
  unfold tripS
  rw [scores_at, rowS, if_pos (by omega), score]
  refine Finset.sum_congr rfl fun d _ => ?_
  rw [ldQ_at]
  congr 1
  exact ldK_at arg4 harg4 x1 k.val (by omega) (off1 i k) _ j d

theorem ownS_at (g : Fin 4) (r : Fin 256) (j : Fin 1024) :
    ownS i arg3 harg3 arg4 harg4 x0 x1 g (ix2 r j) = rowS x0 x1 (i 2).val (rowOf g r) (1024 * (i 2).val + j.val) := by
  have h8 : (i 2).val < 8 := (i 2).isLt
  unfold ownS
  rw [masked_at _ (by omega), rowS]
  have e : (1024 * (i 2).val + j.val) / 64 ≤ (1024 * (i 2).val + (rowOf g r).val) / 64 ↔ j.val / 64 ≤ (256 * g.val + r.val) / 64 := by
    show (1024 * (i 2).val + j.val) / 64 ≤ (1024 * (i 2).val + (256 * g.val + r.val)) / 64 ↔ _
    omega
  simp only [e]
  congr 1
  rw [scores_at, score]
  refine Finset.sum_congr rfl fun d _ => ?_
  rw [ldQ_at]
  congr 1
  exact ldK_at arg4 harg4 x1 (i 2).val (by omega) (off5 i) _ j d

/-- After `n` trips the first `1024 n` keys are in. -/
theorem holds_loop (n : ℕ) (hn : n ≤ (k0_t1_loop i).trips) :
    Holds arg7.view arg8.view arg9.view
      (arg7.view.writes (Elt Ideal) arg7.view.junk ((loop c i arg3 harg3 arg4 harg4 arg5 harg5 arg6 harg6 arg7 harg7 arg8 harg8 arg9 harg9 x0 x1 x2 n).1 ++ fill7))
      (arg8.view.writes (Elt Ideal) arg8.view.junk ((loop c i arg3 harg3 arg4 harg4 arg5 harg5 arg6 harg6 arg7 harg7 arg8 harg8 arg9 harg9 x0 x1 x2 n).2.1 ++ fill8))
      (arg9.view.writes (Elt Ideal) arg9.view.junk ((loop c i arg3 harg3 arg4 harg4 arg5 harg5 arg6 harg6 arg7 harg7 arg8 harg8 arg9 harg9 x0 x1 x2 n).2.2 ++ fill9)) (rowS x0 x1 (i 2).val) (rowW x2) (1024 * n) := by
  induction n with
  | zero => exact holds_zero _ _ _ _ _ _ _ _
  | succ n ih =>
    have h := ih (by omega)
    have hn' : n < (k0_t1_loop i).trips := hn
    have h8 := trips1 i ▸ hn'
    have h88 : (i 2).val < 8 := (i 2).isLt
    have e := pb_k0_t1_succ (F := Ideal) Variants.none c none i arg3 harg3 arg4 harg4 arg5 harg5 arg6 harg6 arg7 harg7 arg8 harg8 arg9 harg9
      (harg3.unread x0) (harg4.unread x1) (harg5.unread x2) (arg7.view.writes (Elt Ideal) arg7.view.junk fill7)
      (arg8.view.writes (Elt Ideal) arg8.view.junk fill8) (arg9.view.writes (Elt Ideal) arg9.view.junk fill9) ⟨n, hn'⟩
    rw [trip_acc, trip_max, trip_sum] at e
    simp only [← View.writes_append] at e
    have e' : loop c i arg3 harg3 arg4 harg4 arg5 harg5 arg6 harg6 arg7 harg7 arg8 harg8 arg9 harg9 x0 x1 x2 (n + 1) = _ := e
    rw [e', Nat.mul_succ]
    simp only [List.append_assoc]
    exact holds_step (tripS i arg3 arg4 (harg3.unread x0) (harg4.unread x1) ⟨n, hn'⟩) (tripV i arg5 (harg5.unread x2) ⟨n, hn'⟩) _ _ _ h
      (fun g r j => tripS_at i arg3 harg3 arg4 harg4 x0 x1 ⟨n, hn'⟩ g r j)
      (fun j d => ldV_at arg5 harg5 x2 n (by omega) (off2 i ⟨n, hn'⟩) _ j d)

/-- The four groups' stores over what was there, each from what was there. -/
theorem ownM_eq (S : Fin 4 → FVec Ideal S256x1024 .f32) (L : Pieces Ideal) :
    ownM arg8 S L 4 = pieces (fun g => maxSt (S g) (ldS arg8.view (arg8.view.writes (Elt Ideal) arg8.view.junk L) g)) ++ L := by
  simp only [ownM, nextM, pieces, ldS_piece_ne _ _ (show (0 : Fin 4) ≠ 1 by decide), ldS_piece_ne _ _ (show (0 : Fin 4) ≠ 2 by decide),
    ldS_piece_ne _ _ (show (0 : Fin 4) ≠ 3 by decide), ldS_piece_ne _ _ (show (1 : Fin 4) ≠ 2 by decide),
    ldS_piece_ne _ _ (show (1 : Fin 4) ≠ 3 by decide), ldS_piece_ne _ _ (show (2 : Fin 4) ≠ 3 by decide), List.cons_append, List.nil_append]

theorem ownL_eq (S : Fin 4 → FVec Ideal S256x1024 .f32) (L8 L : Pieces Ideal) :
    ownL arg8 arg9 S L8 L = pieces (fun g => sumNew (S g) (ldS arg8.view (arg8.view.writes (Elt Ideal) arg8.view.junk L8) g)
      (ldS arg9.view (arg9.view.writes (Elt Ideal) arg9.view.junk L) g)) ++ L := by
  simp only [ownL, nextL, ownM, nextM, pieces, ldS_piece_ne _ _ (show (0 : Fin 4) ≠ 1 by decide), ldS_piece_ne _ _ (show (0 : Fin 4) ≠ 2 by decide),
    ldS_piece_ne _ _ (show (0 : Fin 4) ≠ 3 by decide), ldS_piece_ne _ _ (show (1 : Fin 4) ≠ 2 by decide),
    ldS_piece_ne _ _ (show (1 : Fin 4) ≠ 3 by decide), ldS_piece_ne _ _ (show (2 : Fin 4) ≠ 3 by decide), List.cons_append, List.nil_append]

theorem ownA_eq (S : Fin 4 → FVec Ideal S256x1024 .f32) (V : Vec Ideal S1024x128 .bf16) (L8 L : Pieces Ideal) :
    ownA arg7 arg8 S V L8 L = pieces (fun g => accNew (S g) (ldS arg8.view (arg8.view.writes (Elt Ideal) arg8.view.junk L8) g)
      (ldS arg7.view (arg7.view.writes (Elt Ideal) arg7.view.junk L) g) V) ++ L := by
  simp only [ownA, nextA, ownM, nextM, pieces, ldS_piece_ne _ _ (show (0 : Fin 4) ≠ 1 by decide), ldS_piece_ne _ _ (show (0 : Fin 4) ≠ 2 by decide),
    ldS_piece_ne _ _ (show (0 : Fin 4) ≠ 3 by decide), ldS_piece_ne _ _ (show (1 : Fin 4) ≠ 2 by decide),
    ldS_piece_ne _ _ (show (1 : Fin 4) ≠ 3 by decide), ldS_piece_ne _ _ (show (2 : Fin 4) ≠ 3 by decide), List.cons_append, List.nil_append]

/-- The output block's entry. -/
theorem point_value (v6 : View sig .tc .vmem S1024x128 .bf16) (row : Fin 1024) (d : Fin 128) :
    v6.read (Elt Ideal) (v6.writes (Elt Ideal) v6.junk
        (kernelRun0_A c i arg3 harg3 arg4 harg4 arg5 harg5 arg6 harg6 arg7 harg7 arg8 harg8 arg9 harg9 x0 x1 x2).1) (ix2 row d)
      = Ideal.div (Softmax.wsum (rowS x0 x1 (i 2).val row) (rowW x2 d) (1024 * (i 2).val + 1024))
          (Softmax.wsum (rowS x0 x1 (i 2).val row) (fun _ => 1) (1024 * (i 2).val + 1024)) := by
  rw [run_pieces]
  simp only [trips2]
  have hU : emptyLoop c i arg3 harg3 arg4 harg4 arg5 harg5 arg6 harg6 arg7 harg7 arg8 harg8 arg9 harg9 x0 x1 x2 (k0_t1_loop i).trips 0 = ([], [], []) := rfl
  rw [hU]
  simp only [List.nil_append]
  rw [View.read_writes_full]
  have h := holds_loop c i arg3 harg3 arg4 harg4 arg5 harg5 arg6 harg6 arg7 harg7 arg8 harg8 arg9 harg9 x0 x1 x2 _ le_rfl
  rw [trips1] at h ⊢
  have h' := holds_step (e7 := arg7.view.junk) (e8 := arg8.view.junk) (e9 := arg9.view.junk) (ownS i arg3 harg3 arg4 harg4 x0 x1) (ownV i arg5 harg5 x2)
    ((loop c i arg3 harg3 arg4 harg4 arg5 harg5 arg6 harg6 arg7 harg7 arg8 harg8 arg9 harg9 x0 x1 x2 (i 2).val).1 ++ fill7) ((loop c i arg3 harg3 arg4 harg4 arg5 harg5 arg6 harg6 arg7 harg7 arg8 harg8 arg9 harg9 x0 x1 x2 (i 2).val).2.1 ++ fill8) ((loop c i arg3 harg3 arg4 harg4 arg5 harg5 arg6 harg6 arg7 harg7 arg8 harg8 arg9 harg9 x0 x1 x2 (i 2).val).2.2 ++ fill9) h
    (fun g r j => ownS_at i arg3 harg3 arg4 harg4 x0 x1 g r j)
    (fun j d => ldV_at arg5 harg5 x2 (i 2).val (i 2).isLt (off6 i) _ j d)
  rw [← ownA_eq, ← ownL_eq, ← ownM_eq] at h'
  have h1 := (h' row d).2.1
  have h2 := (h' row d).2.2
  rw [View.readCov, View.readCov, View.readAt_full, View.readAt_full]
  rw [← h1, ← h2]
  pointwise [k0_pay4]

end Cert.KernelIdeal.Rows

end
-- ==== Proof.Consts.lean ====
/- The float constants the programs take, as extended reals. -/
module

public import Idealize.ShloMosaic.Lib.Pointwise

@[expose] public section

noncomputable section

namespace Cert.Consts

open Idealize.ShloMosaic

theorem bits_192 : Ideal.ofBits .f32 0x43400000#32 = ((192 : ℝ) : EReal) := by
  simp [Ideal.ofBits, Ideal.ieee, -EReal.coe_mul]
  norm_num

theorem bits_2 : Ideal.ofBits .f32 0x40000000#32 = ((2 : ℝ) : EReal) := by
  simp [Ideal.ofBits, Ideal.ieee, -EReal.coe_mul]
  norm_num

theorem bits_neg_inf : Ideal.ofBits .f32 0xFF800000#32 = ⊥ := by
  simp [Ideal.ofBits, Ideal.ieee]

end Cert.Consts

end
-- ==== Proof.Host.lean ====
/- The arrays the launch stages, at an index, from the arguments: the host's scaling, transposes, padding and reshapes. -/
module

public import proofs.«01_k».proof.Proof.Gen.KernelIdeal.Value
public import proofs.«01_k».proof.Proof.Consts
public import Idealize.ShloMosaic.Lib.Pointwise
public import Idealize.ShloMosaic.Lib.Pipeline.ValueKit
public import Idealize.ShloMosaic.Lib.Claim

@[expose] public section

set_option maxRecDepth 16384

noncomputable section

namespace Cert.KernelIdeal.Host

open Idealize.ShloMosaic Idealize.ShloMosaic.TcCoe Idealize.SL.Sem
open Cert.KernelIdeal Cert.KernelIdeal.Gen

variable (m : (ℓ : Loc nD τ sig) → Buf (Elt Ideal) ℓ)

/-- Row `t` of batch `b`. -/
def rowAt (b : Fin 4) (t : Fin 8192) : Fin 32768 := ⟨8192 * b.val + t.val, by omega⟩

theorem v_at (c : Dev nD) (b h : Fin 4) (t : Fin 8192) (d : Fin 128) :
    V m c main_v15 (ix2 (rowAt b t) (⟨128 * h.val + d.val, by omega⟩ : Fin 512)) = m ((c : Thread nD τ).loc main_arg2) (ix4 b t h d) := by
  unfold V
  simp only [hostOps0, hostOps0_1, hostOps0_2, hostOps0_3, hostOps0_4, List.flatten_cons, List.flatten_nil, List.append_nil, List.cons_append, List.nil_append]
  entry_read
  pointwise
  blk_ext [rowAt]

/-- Heads in front, 64 zero lanes behind. -/
abbrev padded (x : FVec Ideal S4x8192x4x192 .f32) : FVec Ideal S4x32768x256 .bf16 :=
  truncf .bf16 (pad S4x32768x256 ![0, 0, 0] ![0, 0, 64] ![0, 0, 0]
    (transpose S4x32768x192 [1, 0, 2] (shapeCast S32768x4x192 x shapeCasts_S4x8192x4x192_S32768x4x192) transposes_S32768x4x192_S4x32768x192_1_0_2)
    (sitofp .f32 (constantI S_ 32 0#32)) pads_S4x32768x192_S4x32768x256_000_000_0640 h_S_) bitsLt_bf16_f32

/-- The query scale's reciprocal taken on the host. -/
def scale : FVec Ideal S_ .f32 :=
  Host.divf (constant S_ .f32 0x3F800000#32) (mulf (Host.sqrt (constant S_ .f32 0x43400000#32)) (Host.log (constant S_ .f32 0x40000000#32)))

theorem V_v13 (c : Dev nD) : V m c main_v13 = padded (m ((c : Thread nD τ).loc main_arg1)) := by
  unfold V
  simp only [hostOps0, hostOps0_1, hostOps0_2, hostOps0_3, hostOps0_4, List.flatten_cons, List.flatten_nil, List.append_nil, List.cons_append, List.nil_append]
  entry_read
  rfl

theorem V_v9 (c : Dev nD) : V m c main_v9 = padded (mulf (m ((c : Thread nD τ).loc main_arg0) : FVec Ideal S4x8192x4x192 .f32)
    (broadcastInDim S4x8192x4x192 ![] bcast_S_S4x8192x4x192 scale)) := by
  unfold V
  simp only [hostOps0, hostOps0_1, hostOps0_2, hostOps0_3, hostOps0_4, List.flatten_cons, List.flatten_nil, List.append_nil, List.cons_append, List.nil_append]
  entry_read
  rfl

theorem padded_at (x : FVec Ideal S4x8192x4x192 .f32) (b h : Fin 4) (t : Fin 8192) (d : Fin 256) :
    (padded x (ix3 h (rowAt b t) d) : EReal) = if hd : d.val < 192 then (x (ix4 b t h (⟨d.val, hd⟩ : Fin 192)) : EReal) else (0 : EReal) := by
  pointwise [padded]
  split
  · congr 1
    blk_ext [rowAt]
  · exact show (((0#32 : BitVec 32).toInt : ℝ) : EReal) = 0 by simp

theorem scale_at (j : S_.Idx) : (scale j : EReal) = ((1 / (Real.sqrt 192 * Real.log 2) : ℝ) : EReal) := by
  pointwise [scale]
  have h2 : (0 : ℝ) < Real.log 2 := Real.log_pos (by norm_num)
  rw [show Ideal.ofBits FTy.f32 1128267776#32 = ((192 : ℝ) : EReal) from Consts.bits_192,
    show Ideal.ofBits FTy.f32 1073741824#32 = ((2 : ℝ) : EReal) from Consts.bits_2, Ideal.sqrt_coe, Ideal.log_coe, if_neg (by norm_num), if_neg (by norm_num),
    ← EReal.coe_mul, Ideal.div_coe (by positivity), one_mul]

end Cert.KernelIdeal.Host

end
-- ==== Proof.Ref.lean ====
/- The reference's result at an index: named intermediate arrays, then each one at an index. -/
module

public import proofs.«01_k».proof.Proof.Gen.ReferenceIdeal.Run
public import proofs.«01_k».proof.Proof.Words
public import proofs.«01_k».proof.Proof.Consts
public import proofs.«01_k».proof.Proof.Softmax
public import Idealize.ShloMosaic.Lib.Pointwise

@[expose] public section

set_option maxRecDepth 16384

noncomputable section

namespace Cert.ReferenceIdeal.Ref

open Idealize.ShloMosaic Idealize.ShloMosaic.TcCoe Idealize.SL.Sem
open Cert.ReferenceIdeal Cert.ReferenceIdeal.Gen

section
variable {F : FTy → Type} [FloatOps F] [Named F]

/-- The chunk each position lies in. -/
def chunks : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))

/-- Which keys a query may see. -/
def mask : IVec S8192x8192 1 :=
  cmpi .sle (broadcastInDim S8192x8192 ![0, 1] bcast_S1x8192_S8192x8192_0_1 (broadcastInDim S1x8192 ![1] bcast_S8192_S1x8192_1 chunks))
    (broadcastInDim S8192x8192 ![0, 1] bcast_S8192x1_S8192x8192_0_1 (broadcastInDim S8192x1 ![0] bcast_S8192_S8192x1_0 chunks))

/-- The masked logits. -/
def logits (q k : FVec F S4x8192x4x192 .f32) : FVec F S4x4x8192x8192 .f32 :=
  select (broadcastInDim S4x4x8192x8192 ![2, 3] bcast_S8192x8192_S4x4x8192x8192_2_3 mask)
    (Host.divf (Host.dotGeneral dot_S4x8192x4x192_S4x8192x4x192_S4x4x8192x8192_3_3_1_1_02_02 none q k)
      (broadcastInDim S4x4x8192x8192 ![] bcast_S_S4x4x8192x8192 (Host.sqrt (constant S_ .f32 0x43400000#32))))
    (broadcastInDim S4x4x8192x8192 ![] bcast_S_S4x4x8192x8192 (id (constant S_ .f32 0xFF800000#32)))

/-- Each row's greatest logit. -/
def rowMax (l : FVec F S4x4x8192x8192 .f32) : FVec F S4x4x8192 .f32 :=
  Host.reduce FloatOps.maximumf l (constant S_ .f32 0xFF800000#32) reducesTo_S4x4x8192x8192_S4x4x8192_d3 h_S_

/-- The exponentials. -/
def probs (l : FVec F S4x4x8192x8192 .f32) : FVec F S4x4x8192x8192 .f32 :=
  Host.exp (subf l (broadcastInDim S4x4x8192x8192 ![0, 1, 2, 3] bcast_S4x4x8192x1_S4x4x8192x8192_0_1_2_3 (broadcastInDim S4x4x8192x1 ![0, 1, 2] bcast_S4x4x8192_S4x4x8192x1_0_1_2 (rowMax l))))

/-- The weighted sums over the sums of weights. -/
def result (p : FVec F S4x4x8192x8192 .f32) (v : FVec F S4x8192x4x128 .f32) : FVec F S32768x512 .bf16 :=
  truncf .bf16 (shapeCast S32768x512 (Host.divf (transpose S4x8192x4x128 [0, 3, 1, 2] (Host.dotGeneral dot_S4x8192x4x128_S4x4x8192x8192_S4x4x128x8192_1_3_3_2_02_01 none v p) transposes_S4x4x128x8192_S4x8192x4x128_0_3_1_2)
    (broadcastInDim S4x8192x4x128 ![0, 1, 2, 3] bcast_S4x8192x4x1_S4x8192x4x128_0_1_2_3 (broadcastInDim S4x8192x4x1 ![0, 1, 2] bcast_S4x8192x4_S4x8192x4x1_0_1_2 (transpose S4x8192x4 [0, 2, 1] (Host.reduceAdd p (constant S_ .f32 0x00000000#32) reducesTo_S4x4x8192x8192_S4x4x8192_d3 h_S_) transposes_S4x4x8192_S4x8192x4_0_2_1)))) shapeCasts_S4x8192x4x128_S32768x512) bitsLt_bf16_f32

theorem res_eq (m : (ℓ : Loc nD τ sig) → Buf (Elt F) ℓ) (c : Dev nD) : Value.res_main_v26 m c
    = result (probs (logits (m ((c.tc : Thread nD τ).loc main_arg0)) (m ((c.tc : Thread nD τ).loc main_arg1)))) (m ((c.tc : Thread nD τ).loc main_arg2)) := by
  unfold Value.res_main_v26
  rfl
end

theorem chunks_at (j : Fin 8192) : chunks (ix1 j) = BitVec.ofNat 32 (j.val / 64) := by
  unfold chunks
  pointwise
  exact Words.chunk_host .host j.isLt

theorem mask_at (r j : Fin 8192) : mask (ix2 r j) = IntOp.cmpi .sle (BitVec.ofNat 32 (j.val / 64)) (BitVec.ofNat 32 (r.val / 64)) := by
  unfold mask
  pointwise
  rw [chunks_at, chunks_at]

theorem logits_at (q k : FVec Ideal S4x8192x4x192 .f32) (b h : Fin 4) (r j : Fin 8192) :
    (logits q k (ix4 b h r j) : EReal) = if j.val / 64 ≤ r.val / 64 then
      (∑ d : Fin 192, (show EReal from q (ix4 b r h d)) * (show EReal from k (ix4 b j h d))) * ((1 / Real.sqrt 192 : ℝ) : EReal) else ⊥ := by
  unfold logits
  pointwise
  rw [mask_at, Words.select_sle (by omega) (by omega)]
  split_ifs
  · rw [show Ideal.ofBits FTy.f32 1128267776#32 = ((192 : ℝ) : EReal) from Consts.bits_192, Ideal.sqrt_coe, if_neg (by norm_num), Ideal.div_coe (by positivity)]
  · exact Consts.bits_neg_inf

theorem rowMax_at (l : FVec Ideal S4x4x8192x8192 .f32) (b h : Fin 4) (r : Fin 8192) :
    (rowMax l (ix3 b h r) : EReal) = Finset.univ.fold max ⊥ fun j : Fin 8192 => (show EReal from l (ix4 b h r j)) := by
  unfold rowMax
  pointwise
  rw [Consts.bits_neg_inf]

theorem probs_at (l : FVec Ideal S4x4x8192x8192 .f32) (b h : Fin 4) (r j : Fin 8192) :
    (probs l (ix4 b h r j) : EReal) = Ideal.exp ((show EReal from l (ix4 b h r j)) - (show EReal from rowMax l (ix3 b h r))) := by
  unfold probs
  pointwise

theorem result_at (p : FVec Ideal S4x4x8192x8192 .f32) (v : FVec Ideal S4x8192x4x128 .f32) (b h : Fin 4) (t : Fin 8192) (d : Fin 128) :
    (result p v (ix2 (⟨8192 * b.val + t.val, by omega⟩ : Fin 32768) (⟨128 * h.val + d.val, by omega⟩ : Fin 512)) : EReal)
      = Ideal.div (∑ j : Fin 8192, (show EReal from v (ix4 b j h d)) * (show EReal from p (ix4 b h t j))) (∑ j : Fin 8192, (show EReal from p (ix4 b h t j))) := by
  unfold result
  pointwise

end Cert.ReferenceIdeal.Ref

end
-- ==== Proof.Final.lean ====
/- The result array after the kernel's run is the reference's result of the same arguments. -/
module

public import proofs.«01_k».proof.Proof.PointValue
public import proofs.«01_k».proof.Proof.Host
public import proofs.«01_k».proof.Proof.Ref

@[expose] public section

set_option maxRecDepth 16384

noncomputable section

namespace Cert.KernelIdeal.Final

open Idealize.ShloMosaic Idealize.ShloMosaic.TcCoe Idealize.SL.Sem
open Idealize.ShloMosaic.Pipeline (Dat)
open Cert.KernelIdeal Cert.KernelIdeal.Gen Cert.KernelIdeal.Rows Cert.KernelIdeal.Host

variable (m : (ℓ : Loc nD τ sig) → Buf (Elt Ideal) ℓ)

theorem idx : ∀ t : Fin cfg0.N, win0_0.index t = ![(grid0.coords t 1).val, 8 * (grid0.coords t 0).val + (grid0.coords t 2).val, 0]
    ∧ win0_1.index t = ![(grid0.coords t 1).val, (grid0.coords t 0).val, 0]
    ∧ win0_2.index t = ![(grid0.coords t 0).val, (grid0.coords t 1).val]
    ∧ win0_3.index t = ![8 * (grid0.coords t 0).val + (grid0.coords t 2).val, (grid0.coords t 1).val] :=
  (by decide +kernel : ∀ t : Fin grid0.N, _)

/-- The batch, head and query block of a point. -/
def bOf (t : Fin cfg0.N) : Fin 4 := grid0.coords t 0
def hOf (t : Fin cfg0.N) : Fin 4 := grid0.coords t 1
def iOf (t : Fin cfg0.N) : Fin 8 := grid0.coords t 2

/-- A query block's row in its batch. -/
def seqRow (i : Fin 8) (row : Fin 1024) : Fin 8192 := ⟨1024 * i.val + row.val, by omega⟩

theorem blk0 (c : Dev nD) (t : Fin cfg0.N) (row : Fin 1024) (d : Fin 256) :
    iblk m c 0 t (ix3 0 row d) = V m c main_v9 (ix3 (hOf t) (rowAt (bOf t) (seqRow (iOf t) row)) d) := by
  blk_ext [iblk, idx t, bOf, hOf, iOf, rowAt, seqRow]

theorem blk1 (c : Dev nD) (t : Fin cfg0.N) (j : Fin 8192) (d : Fin 256) :
    iblk m c 1 t (ix3 0 j d) = V m c main_v13 (ix3 (hOf t) (rowAt (bOf t) j) d) := by
  blk_ext [iblk, idx t, bOf, hOf, iOf, rowAt]

theorem blk2 (c : Dev nD) (t : Fin cfg0.N) (j : Fin 8192) (d : Fin 128) :
    iblk m c 2 t (ix2 j d) = V m c main_v15 (ix2 (rowAt (bOf t) j) (⟨128 * (hOf t).val + d.val, by omega⟩ : Fin 512)) := by
  blk_ext [iblk, idx t, bOf, hOf, iOf, rowAt]

/-- A sum over the padded lanes is the sum over the 192 in front. -/
theorem sum_padded (f g : Fin 192 → EReal) :
    ∑ d : Fin 256, (if hd : d.val < 192 then f ⟨d.val, hd⟩ else 0) * (if hd : d.val < 192 then g ⟨d.val, hd⟩ else 0) = ∑ d : Fin 192, f d * g d := by
  refine (Fin.sum_univ_add (a := 192) (b := 64)
    (fun d : Fin 256 => (if hd : d.val < 192 then f ⟨d.val, hd⟩ else 0) * (if hd : d.val < 192 then g ⟨d.val, hd⟩ else 0))).trans ?_
  have h2 : (∑ d : Fin 64, (fun d : Fin 256 => (if hd : d.val < 192 then f ⟨d.val, hd⟩ else 0) * (if hd : d.val < 192 then g ⟨d.val, hd⟩ else 0)) (Fin.natAdd 192 d)) = 0 := by
    refine Finset.sum_eq_zero fun d _ => ?_
    dsimp only
    rw [dif_neg (by simp [Fin.natAdd]), zero_mul]
  rw [h2, add_zero]
  refine Finset.sum_congr rfl fun d _ => ?_
  rw [dif_pos (show (Fin.castAdd 64 d).val < 192 from d.isLt), dif_pos (show (Fin.castAdd 64 d).val < 192 from d.isLt)]
  rfl

/-- The query scale is the reference's times the reciprocal of `log 2`. -/
theorem scaled_sum (f g : Fin 192 → EReal) :
    ∑ d, f d * ((1 / (Real.sqrt 192 * Real.log 2) : ℝ) : EReal) * g d
      = (∑ d, f d * g d) * ((1 / Real.sqrt 192 : ℝ) : EReal) * (((Real.log 2)⁻¹ : ℝ) : EReal) := by
  have hl : 0 < Real.log 2 := Real.log_pos (by norm_num)
  have h0 : (0 : EReal) ≤ ((1 / (Real.sqrt 192 * Real.log 2) : ℝ) : EReal) := EReal.coe_nonneg.2 (by positivity)
  rw [mul_assoc (∑ d, f d * g d), ← EReal.coe_mul, show 1 / Real.sqrt 192 * (Real.log 2)⁻¹ = 1 / (Real.sqrt 192 * Real.log 2) by field_simp,
    mul_comm (∑ d, f d * g d), Softmax.mul_sum_of_nonneg _ h0 (EReal.coe_ne_top _)]
  refine Finset.sum_congr rfl fun d _ => ?_
  rw [mul_comm (f d), mul_assoc]

/-- The kernel's weighted sum, over the keys up to its block's end, is the reference's over all keys. -/
theorem wsum_eq (L : Fin 8192 → EReal) (S w : ℕ → EReal) (n : ℕ) (hn : n ≤ 8192)
    (hS : ∀ j : Fin 8192, j.val < n → S j.val = L j * (((Real.log 2)⁻¹ : ℝ) : EReal)) (hL : ∀ j : Fin 8192, n ≤ j.val → L j = ⊥) :
    Softmax.wsum S w n = ∑ j : Fin 8192, Ideal.exp (L j - Finset.univ.fold max ⊥ L) * w j.val := by
  have hi : 0 < (Real.log 2)⁻¹ := inv_pos.2 (Real.log_pos (by norm_num))
  let s : ℕ → EReal := fun j => if h : j < 8192 then L ⟨j, h⟩ else ⊥
  have hs : ∀ j : Fin 8192, s j.val = L j := fun j => dif_pos j.isLt
  have e1 : Softmax.wsum S w n = Softmax.wsum (fun j => s j * (((Real.log 2)⁻¹ : ℝ) : EReal)) w n :=
    Softmax.wsum_congr (fun j hj => by rw [hS ⟨j, by omega⟩ hj, ← hs ⟨j, by omega⟩]) fun _ _ => rfl
  have e2 := Softmax.wsum_of_bot (fun j => s j * (((Real.log 2)⁻¹ : ℝ) : EReal)) w hn
    fun j h1 h2 => by rw [hs ⟨j, h2⟩, hL ⟨j, h2⟩ h1, EReal.bot_mul_coe_of_pos hi]
  have e3 : Softmax.top s 8192 = Finset.univ.fold max ⊥ L := by
    have := Softmax.top_add s 0 8192
    rw [Softmax.top_zero, max_eq_right bot_le] at this
    simp only [Nat.zero_add] at this
    rw [← this]
    congr 1
    exact funext hs
  rw [e1, ← e2, Softmax.wsum_exp, e3, Finset.sum_range]
  exact Finset.sum_congr rfl fun j _ => by rw [hs j]

/-- The reference's result over the arguments. -/
abbrev REF (q k : FVec Ideal Cert.ReferenceIdeal.S4x8192x4x192 .f32) (v : FVec Ideal Cert.ReferenceIdeal.S4x8192x4x128 .f32) :
    FVec Ideal Cert.ReferenceIdeal.S32768x512 .bf16 :=
  Cert.ReferenceIdeal.Ref.result (Cert.ReferenceIdeal.Ref.probs (Cert.ReferenceIdeal.Ref.logits q k)) v

/-- The scores the kernel forms, from the arguments. -/
theorem rowS_eq (c : Dev nD) (t : Fin cfg0.N) (row : Fin 1024) (j : Fin 8192) :
    rowS (iblk m c 0 t) (iblk m c 1 t) (iOf t).val row j.val
      = (show EReal from Cert.ReferenceIdeal.Ref.logits (F := Ideal) (m ((c : Thread nD τ).loc main_arg0)) (m ((c : Thread nD τ).loc main_arg1))
          (ix4 (bOf t) (hOf t) (seqRow (iOf t) row) j)) * (((Real.log 2)⁻¹ : ℝ) : EReal) := by
  have hi : 0 < (Real.log 2)⁻¹ := inv_pos.2 (Real.log_pos (by norm_num))
  have hk : key j.val = j := Fin.ext (Nat.mod_eq_of_lt j.isLt)
  rw [Cert.ReferenceIdeal.Ref.logits_at, rowS]
  show (if j.val / 64 ≤ (1024 * (iOf t).val + row.val) / 64 then _ else _) = (if j.val / 64 ≤ (1024 * (iOf t).val + row.val) / 64 then _ else _) * _
  split_ifs
  · rw [score, ← scaled_sum, ← sum_padded]
    refine Finset.sum_congr rfl fun d _ => ?_
    rw [hk, blk0, blk1, V_v9, V_v13]
    refine congr (congrArg _ ((padded_at _ _ _ _ _).trans ?_)) (padded_at _ _ _ _ _)
    split_ifs
    · pointwise
      rw [show (scale ix0 : EReal) = _ from scale_at ix0]
    · rfl
  · rw [EReal.bot_mul_coe_of_pos hi]

/-- What a point writes is the reference's result at the place it writes to. -/
theorem point (c : Dev nD) (t : Fin cfg0.N) (row : Fin 1024) (d : Fin 128) :
    out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) (ix2 row d)
      = REF (m ((c : Thread nD τ).loc main_arg0)) (m ((c : Thread nD τ).loc main_arg1)) (m ((c : Thread nD τ).loc main_arg2))
          (ix2 (rowAt (bOf t) (seqRow (iOf t) row)) (⟨128 * (hOf t).val + d.val, by omega⟩ : Fin 512)) := by
  have hn : 1024 * (iOf t).val + 1024 ≤ 8192 := by omega
  have hL : ∀ j : Fin 8192, 1024 * (iOf t).val + 1024 ≤ j.val →
      (show EReal from Cert.ReferenceIdeal.Ref.logits (F := Ideal) (m ((c : Thread nD τ).loc main_arg0)) (m ((c : Thread nD τ).loc main_arg1))
          (ix4 (bOf t) (hOf t) (seqRow (iOf t) row) j)) = ⊥ := fun j hj => by
    rw [Cert.ReferenceIdeal.Ref.logits_at]
    refine if_neg ?_
    show ¬ j.val / 64 ≤ (1024 * (iOf t).val + row.val) / 64
    omega
  have e := fun w => wsum_eq _ (rowS (iblk m c 0 t) (iblk m c 1 t) (iOf t).val row) w _ hn (fun j _ => rowS_eq m c t row j) hL
  refine (point_value c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) VO0_3 row d).trans ?_
  refine Eq.trans ?_ (Cert.ReferenceIdeal.Ref.result_at _ _ (bOf t) (hOf t) (seqRow (iOf t) row) d).symm
  refine congr (congrArg Ideal.div ((e _).trans ?_)) ((e _).trans ?_)
  · refine Finset.sum_congr rfl fun j _ => ?_
    rw [mul_comm]
    refine congr (congrArg _ ?_) ?_
    · have hk : key j.val = j := Fin.ext (Nat.mod_eq_of_lt j.isLt)
      rw [rowW, hk, blk2, v_at]
    · rw [Cert.ReferenceIdeal.Ref.probs_at, Cert.ReferenceIdeal.Ref.rowMax_at]
  · refine Finset.sum_congr rfl fun j _ => ?_
    rw [mul_one, Cert.ReferenceIdeal.Ref.probs_at, Cert.ReferenceIdeal.Ref.rowMax_at]

/-- The result array. -/
theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have hy : y = ix2 (y 0 : Fin 1024) (y 1 : Fin 128) := funext fun a => match a with | ⟨0, _⟩ => rfl | ⟨1, _⟩ => rfl
  refine (congrArg (outsAt0 m c t) hy).trans ((point m c t (y 0) (y 1)).trans (congrArg _ ?_))
  blk_ext [idx t, bOf, hOf, iOf, rowAt, seqRow]

end Cert.KernelIdeal.Final

end
-- ==== Proof.FfnPoint.lean ====
/- The feed-forward kernel, one grid point: what a block of 512 hidden columns adds to the accumulator, and the row norm. -/
module

public import proofs.«01_k».proof.Proof.Gen.Kernel2Ideal.Skeleton
public import Idealize.ShloMosaic.Lib.Pointwise
public import Idealize.ShloMosaic.Lib.Pipeline.ValueKit

@[expose] public section

set_option maxRecDepth 16384

noncomputable section

namespace Cert.Kernel2Ideal.Point

open Idealize.ShloMosaic Idealize.ShloMosaic.TcCoe Idealize.SL.Sem
open Cert.Kernel2Ideal Cert.Kernel2Ideal.Gen

/-- The gated activation of one hidden column. -/
def act (g u : EReal) : EReal := g * Ideal.logistic g * u

/-- The root-mean-square norm of one entry `a` of a row, from the row's sum of squares `q` and the gain `g`. -/
def normed (q a g : EReal) : EReal :=
  a * Ideal.rsqrt (Ideal.div q (Ideal.ofBits .f32 0x45000000#32) + Ideal.ofBits .f32 0x358637BD#32) * g

theorem pay7_at (h : FVec Ideal S256x2048 .bf16) (wg wu : FVec Ideal S2048x512 .bf16) (acc : FVec Ideal S256x2048 .f32)
    (wd : FVec Ideal S512x2048 .bf16) (r : Fin 256) (d : Fin 2048) :
    (k0_pay7 (F := Ideal) h wg wu acc wd (ix2 r d) : EReal) = acc (ix2 r d) + ∑ f : Fin 512,
      act (∑ k : Fin 2048, h (ix2 r k) * wg (ix2 k f)) (∑ k : Fin 2048, h (ix2 r k) * wu (ix2 k f)) * wd (ix2 f d) := by
  pointwise [k0_pay7, act]

theorem pay1_at (h : FVec Ideal S256x2048 .bf16) (wg wu : FVec Ideal S2048x512 .bf16) (acc : FVec Ideal S256x2048 .f32)
    (wd : FVec Ideal S512x2048 .bf16) (r : Fin 256) (d : Fin 2048) :
    (k0_pay1 (F := Ideal) (k0_pay5 h wg) (k0_pay6 h wu) acc wd (ix2 r d) : EReal) = acc (ix2 r d) + ∑ f : Fin 512,
      act (∑ k : Fin 2048, h (ix2 r k) * wg (ix2 k f)) (∑ k : Fin 2048, h (ix2 r k) * wu (ix2 k f)) * wd (ix2 f d) := by
  pointwise [k0_pay1, k0_pay4, k0_pay5, k0_pay6, act]

theorem pay2_at (x acc : FVec Ideal S512x2048 .f32) (g : FVec Ideal S1x2048 .f32) (r : Fin 512) (d : Fin 2048) :
    (k0_pay2 (F := Ideal) x acc g (ix2 r d) : EReal)
      = x (ix2 r d) + normed (∑ k : Fin 2048, acc (ix2 r k) * acc (ix2 r k)) (acc (ix2 r d)) (g (ix2 0 d)) := by
  pointwise [k0_pay2, normed]

theorem pay3_at (i : S512x2048.Idx) : (k0_pay3 (F := Ideal) i : EReal) = 0 := by
  pointwise [k0_pay3]

end Cert.Kernel2Ideal.Point

end
-- ==== Proof.FfnRef.lean ====
/- The feed-forward reference's result at an index: named intermediate arrays, then each one at an index. -/
module

public import proofs.«01_k».proof.Proof.Gen.Reference2Ideal.Run
public import proofs.«01_k».proof.Proof.FfnPoint
public import proofs.«01_k».proof.Proof.Consts
public import Idealize.ShloMosaic.Lib.Pointwise

@[expose] public section

set_option maxRecDepth 16384

noncomputable section

namespace Cert.Reference2Ideal.Ref

open Idealize.ShloMosaic Idealize.ShloMosaic.TcCoe Idealize.SL.Sem
open Cert.Reference2Ideal Cert.Reference2Ideal.Gen Cert.Kernel2Ideal.Point

section
variable {F : FTy → Type} [FloatOps F] [Named F]

/-- One of the two projections to the hidden columns. -/
def up (h : FVec F S4x8192x2048 .f32) (w : FVec F S2048x5632 .f32) : FVec F S4x8192x5632 .f32 :=
  Host.dotGeneral dot_S4x8192x2048_S2048x5632_S4x8192x5632_2_0_01_1_n_n none h w

/-- The gated hidden columns. -/
def hidden (g u : FVec F S4x8192x5632 .f32) : FVec F S4x8192x5632 .f32 :=
  mulf (mulf g (Host.divf (broadcastInDim S4x8192x5632 ![] bcast_S_S4x8192x5632 (constant S_ .f32 0x3F800000#32)) (addf (broadcastInDim S4x8192x5632 ![] bcast_S_S4x8192x5632 (constant S_ .f32 0x3F800000#32)) (Host.exp (Host.negf g))))) u

/-- The projection back. -/
def down (a : FVec F S4x8192x5632 .f32) (w : FVec F S5632x2048 .f32) : FVec F S4x8192x2048 .f32 :=
  Host.dotGeneral dot_S4x8192x5632_S5632x2048_S4x8192x2048_2_0_01_1_n_n none a w

/-- The residual row plus the normalised row. -/
def result (x a : FVec F S4x8192x2048 .f32) (g : FVec F S2048 .f32) : FVec F S32768x2048 .f32 :=
  shapeCast _ (addf x (mulf (mulf a (broadcastInDim S4x8192x2048 ![0, 1, 2] bcast_S4x8192x1_S4x8192x2048_0_1_2 (Host.rsqrt (addf (Host.divf (broadcastInDim S4x8192x1 ![0, 1] bcast_S4x8192_S4x8192x1_0_1 (Host.reduceAdd (mulf a a) (constant S_ .f32 0x00000000#32) reducesTo_S4x8192x2048_S4x8192_d2 h_S_)) (broadcastInDim S4x8192x1 ![] bcast_S_S4x8192x1 (constant S_ .f32 0x45000000#32))) (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 g)))) shapeCasts_S4x8192x2048_S32768x2048

/-- The whole of it over the arguments. -/
def all (h x : FVec F S4x8192x2048 .f32) (wg wu : FVec F S2048x5632 .f32) (wd : FVec F S5632x2048 .f32) (g : FVec F S2048 .f32) :
    FVec F S32768x2048 .f32 :=
  result x (down (hidden (up h wg) (up h wu)) wd) g

end

/-- A row times a column. -/
def row (h : FVec Ideal S4x8192x2048 .f32) (w : FVec Ideal S2048x5632 .f32) (b : Fin 4) (s : Fin 8192) (l : Fin 5632) : EReal :=
  ∑ k : Fin 2048, h (ix3 b s k) * w (ix2 k l)

/-- A row of the feed-forward's output. -/
def out (h : FVec Ideal S4x8192x2048 .f32) (wg wu : FVec Ideal S2048x5632 .f32) (wd : FVec Ideal S5632x2048 .f32)
    (b : Fin 4) (s : Fin 8192) (d : Fin 2048) : EReal :=
  ∑ l : Fin 5632, act (row h wg b s l) (row h wu b s l) * wd (ix2 l d)

theorem up_at (h : FVec Ideal S4x8192x2048 .f32) (w : FVec Ideal S2048x5632 .f32) (b : Fin 4) (s : Fin 8192) (l : Fin 5632) :
    (up h w (ix3 b s l) : EReal) = row h w b s l := by
  pointwise [up, row]

theorem hidden_at (g u : FVec Ideal S4x8192x5632 .f32) (b : Fin 4) (s : Fin 8192) (l : Fin 5632) :
    (hidden g u (ix3 b s l) : EReal) = act (g (ix3 b s l)) (u (ix3 b s l)) := by
  pointwise [hidden, act]
  rfl

theorem down_at (a : FVec Ideal S4x8192x5632 .f32) (w : FVec Ideal S5632x2048 .f32) (b : Fin 4) (s : Fin 8192) (d : Fin 2048) :
    (down a w (ix3 b s d) : EReal) = ∑ l : Fin 5632, a (ix3 b s l) * w (ix2 l d) := by
  pointwise [down]

theorem result_at (x a : FVec Ideal S4x8192x2048 .f32) (g : FVec Ideal S2048 .f32) (b : Fin 4) (s : Fin 8192) (d : Fin 2048) :
    (result x a g (ix2 (⟨8192 * b.val + s.val, by omega⟩ : Fin 32768) d) : EReal) = x (ix3 b s d)
      + normed (∑ k : Fin 2048, a (ix3 b s k) * a (ix3 b s k)) (a (ix3 b s d)) (g (ix1 d)) := by
  pointwise [result, normed]

theorem all_at (h x : FVec Ideal S4x8192x2048 .f32) (wg wu : FVec Ideal S2048x5632 .f32) (wd : FVec Ideal S5632x2048 .f32) (g : FVec Ideal S2048 .f32)
    (b : Fin 4) (s : Fin 8192) (d : Fin 2048) :
    (all h x wg wu wd g (ix2 (⟨8192 * b.val + s.val, by omega⟩ : Fin 32768) d) : EReal) = x (ix3 b s d)
      + normed (∑ k : Fin 2048, out h wg wu wd b s k * out h wg wu wd b s k) (out h wg wu wd b s d) (g (ix1 d)) := by
  have e : ∀ k, (down (hidden (up h wg) (up h wu)) wd (ix3 b s k) : EReal) = out h wg wu wd b s k := fun k => by
    rw [down_at]
    refine Finset.sum_congr rfl fun l _ => ?_
    rw [hidden_at, up_at, up_at]
  refine (result_at _ _ _ b s d).trans ?_
  simp only [e]

end Cert.Reference2Ideal.Ref

end
-- ==== Proof.FfnValue.lean ====
/- The feed-forward kernel's result: the accumulator over a run of eleven grid points, and the block written at the last. -/
module

public import proofs.«01_k».proof.Proof.Gen.Kernel2Ideal.Value
public import proofs.«01_k».proof.Proof.FfnRef
public import Idealize.ShloMosaic.Lib.Claim
public import Idealize.ShloMosaic.Lib.Pipeline.ReadBack

@[expose] public section

set_option maxRecDepth 16384

noncomputable section

namespace Cert.Kernel2Ideal.Ffn

open Idealize.ShloMosaic Idealize.ShloMosaic.TcCoe Idealize.SL.Sem
open Cert.Kernel2Ideal Cert.Kernel2Ideal.Gen Cert.Kernel2Ideal.Point

variable (m : (ℓ : Loc nD τ sig) → Buf (Elt Ideal) ℓ)

theorem idx : ∀ t : Fin cfg0.N, win0_0.index t = ![t.val / 11, 0] ∧ win0_1.index t = ![0, t.val % 11] ∧ win0_2.index t = ![0, t.val % 11]
    ∧ win0_3.index t = ![t.val % 11, 0] ∧ win0_4.index t = ![t.val / 11, 0] ∧ win0_5.index t = ![0, 0] ∧ win0_6.index t = ![t.val / 11, 0] :=
  (by decide +kernel : ∀ t : Fin grid0.N, _)

/-- What one grid point adds to the accumulator. -/
def part (h : FVec Ideal S512x2048 .bf16) (wg wu : FVec Ideal S2048x512 .bf16) (wd : FVec Ideal S512x2048 .bf16) (i : S512x2048.Idx) : EReal :=
  ∑ f : Fin 512, act (∑ k : Fin 2048, h (ix2 (i 0) k) * wg (ix2 k f)) (∑ k : Fin 2048, h (ix2 (i 0) k) * wu (ix2 k f)) * wd (ix2 f (i 1))

/-- What the last point of a run writes, from the accumulator it ends with. -/
def outRow (x acc : FVec Ideal S512x2048 .f32) (g : FVec Ideal S1x2048 .f32) (r : Fin 512) (d : Fin 2048) : EReal :=
  x (ix2 r d) + normed (∑ k : Fin 2048, acc (ix2 r k) * acc (ix2 r k)) (acc (ix2 r d)) (g (ix2 0 d))

/-- The lower rows' payload over the rows read at an offset. -/
theorem low_at (h : FVec Ideal S512x2048 .bf16) (hb : FVec Ideal S256x2048 .bf16) (wg wu : FVec Ideal S2048x512 .bf16)
    (e : EReal) (ab : FVec Ideal S256x2048 .f32) (wd : FVec Ideal S512x2048 .bf16) (x : S256x2048.Idx) (i : S512x2048.Idx)
    (h1 : (i 1 : Nat) = (x 1 : Nat)) (ha : (ab x : EReal) = e)
    (hh : ∀ k : Fin 2048, (hb (ix2 (x 0) k) : EReal) = h (ix2 (i 0) k)) :
    (k0_pay1 (F := Ideal) (k0_pay5 hb wg) (k0_pay6 hb wu) ab wd x : EReal) = e + part h wg wu wd i := by
  have hx : x = ix2 (x 0) (x 1) := by funext a; fin_cases a <;> rfl
  have h1' : (i 1 : Fin 2048) = x 1 := Fin.ext h1
  subst ha
  rw [hx]
  refine (pay1_at _ _ _ _ _ _ _).trans ?_
  simp only [part, h1', ← hh]
  rfl

/-- The upper rows' payload over the rows read at an offset. -/
theorem up_at (h : FVec Ideal S512x2048 .bf16) (hb : FVec Ideal S256x2048 .bf16) (wg wu : FVec Ideal S2048x512 .bf16)
    (e : EReal) (ab : FVec Ideal S256x2048 .f32) (wd : FVec Ideal S512x2048 .bf16) (x : S256x2048.Idx) (i : S512x2048.Idx)
    (h1 : (i 1 : Nat) = (x 1 : Nat)) (ha : (ab x : EReal) = e)
    (hh : ∀ k : Fin 2048, (hb (ix2 (x 0) k) : EReal) = h (ix2 (i 0) k)) :
    (k0_pay7 (F := Ideal) hb wg wu ab wd x : EReal) = e + part h wg wu wd i := by
  have hx : x = ix2 (x 0) (x 1) := by funext a; fin_cases a <;> rfl
  have h1' : (i 1 : Fin 2048) = x 1 := Fin.ext h1
  subst ha
  rw [hx]
  refine (pay7_at _ _ _ _ _ _ _).trans ?_
  simp only [part, h1', ← hh]
  rfl

/-- A block of rows read at an offset, at one entry. -/
theorem ld_rows {e : EltTy} (X : S512x2048.Idx → Elt Ideal e) (o : Nat) (inb) (x : S256x2048.Idx) (i : S512x2048.Idx)
    (h0 : (i 0 : Nat) = o + (x 0 : Nat)) (h1 : (i 1 : Nat) = (x 1 : Nat)) :
    View.ld X (Rect.unit (s := S512x2048) ![o, 0] ![256, 2048] inb) x = X i := by
  refine congrArg X ?_
  funext a
  apply Fin.ext
  fin_cases a
  · show o + 1 * (x 0 : Nat) = (i 0 : Nat)
    omega
  · show 0 + 1 * (x 1 : Nat) = (i 1 : Nat)
    omega

theorem acc_A (c : Dev nD) (t : Fin cfg0.N) (h0 : t.val % 11 = 0) (h1 : ¬t.val % 11 = 10) (i : S512x2048.Idx) :
    ((outsAt0 m c t.val t.isLt).2 i : EReal) = 0 + part (iblk m c 0 t) (iblk m c 1 t) (iblk m c 2 t) (iblk m c 3 t) i := by
  rw [outsAt0_A m c t h0 h1]
  frame_out
  simp (disch := decide) only [View.readCov_skip, View.readCov_fill]
  refine View.canon_append_of_piecesOf (Val := Elt Ideal) (e := .f32) (fun i => (0 + part (iblk m c 0 t) (iblk m c 1 t) (iblk m c 2 t) (iblk m c 3 t) i : EReal)) [_] [_, _] ⟨fun x => ?_, fun x => ?_, trivial⟩ i ?_
  · exact low_at _ _ _ _ _ _ _ x _ (by show 0 + 1 * (x 1 : Nat) = _; omega) (pay3_at _) fun k => ld_rows _ 256 _ (ix2 (x 0) k) (ix2 _ k) (by show 256 + 1 * (x 0 : Nat) = 256 + (x 0 : Nat); omega) rfl
  · exact up_at _ _ _ _ _ _ _ x _ (by show 0 + 1 * (x 1 : Nat) = _; omega) (pay3_at _) fun k => ld_rows _ 0 _ (ix2 (x 0) k) (ix2 _ k) (by show 0 + 1 * (x 0 : Nat) = 0 + (x 0 : Nat); omega) rfl
  · by_cases hi : (i 0 : Nat) < 256
    · refine ⟨_, List.mem_cons_of_mem _ List.mem_cons_self, ?_⟩
      refine (Rect.mem_set_unit (s := S512x2048) (inb := inb_S512x2048_S256x2048_0_0)).2 fun a => ?_
      have := (i 1).isLt
      fin_cases a
      · exact ⟨Nat.zero_le _, show (i 0 : Nat) < 0 + 256 by omega⟩
      · exact ⟨Nat.zero_le _, show (i 1 : Nat) < 0 + 2048 from by simpa using this⟩
    · refine ⟨_, List.mem_cons_self, ?_⟩
      refine (Rect.mem_set_unit (s := S512x2048) (inb := inb_S512x2048_S256x2048_256_0)).2 fun a => ?_
      have h0 : (i 0 : Nat) < 512 := (i 0).isLt
      have := (i 1).isLt
      fin_cases a
      · exact ⟨show 256 ≤ (i 0 : Nat) by omega, show (i 0 : Nat) < 256 + 256 by omega⟩
      · exact ⟨Nat.zero_le _, show (i 1 : Nat) < 0 + 2048 from by simpa using this⟩

theorem acc_B (c : Dev nD) (t : Fin cfg0.N) (h0 : ¬t.val % 11 = 0) (h1 : ¬t.val % 11 = 10) (i : S512x2048.Idx) :
    ((outsAt0 m c t.val t.isLt).2 i : EReal) = (outsAt0 m c (t.val - 1) (Nat.lt_of_le_of_lt (Nat.sub_le _ _) t.isLt)).2 i
      + part (iblk m c 0 t) (iblk m c 1 t) (iblk m c 2 t) (iblk m c 3 t) i := by
  rw [outsAt0_B m c t h0 h1]
  frame_out
  simp only [read_unread_whole]
  canon_tiles x h
  · exact low_at _ _ _ _ _ _ _ x i ‹_› (ld_rows _ 256 _ x i ‹_› ‹_›) fun k => ld_rows _ 256 _ (ix2 (x 0) k) (ix2 (i 0) k) ‹_› rfl
  · exact up_at _ _ _ _ _ _ _ x i ‹_› (ld_rows _ 0 _ x i (by omega) ‹_›) fun k => ld_rows _ 0 _ (ix2 (x 0) k) (ix2 (i 0) k) (by simpa using h0) rfl

theorem acc_C (c : Dev nD) (t : Fin cfg0.N) (h0 : ¬t.val % 11 = 0) (h1 : t.val % 11 = 10) (i : S512x2048.Idx) :
    ((outsAt0 m c t.val t.isLt).2 i : EReal) = (outsAt0 m c (t.val - 1) (Nat.lt_of_le_of_lt (Nat.sub_le _ _) t.isLt)).2 i
      + part (iblk m c 0 t) (iblk m c 1 t) (iblk m c 2 t) (iblk m c 3 t) i := by
  rw [outsAt0_C m c t h0 h1]
  frame_out
  simp only [read_unread_whole]
  canon_tiles x h
  · exact low_at _ _ _ _ _ _ _ x i ‹_› (ld_rows _ 256 _ x i ‹_› ‹_›) fun k => ld_rows _ 256 _ (ix2 (x 0) k) (ix2 (i 0) k) ‹_› rfl
  · exact up_at _ _ _ _ _ _ _ x i ‹_› (ld_rows _ 0 _ x i (by omega) ‹_›) fun k => ld_rows _ 0 _ (ix2 (x 0) k) (ix2 (i 0) k) (by simpa using h0) rfl

/-- A load of the whole buffer reads what the stores left, entry by entry. -/
theorem readCov_whole {sig : RefSig} {κ : Kind} {sp : Space} {e : EltTy} (v : View sig κ sp S512x2048 e) (L : List (View.Piece (Elt Ideal) S512x2048 e)) (inb) :
    v.readCov L (Rect.unit (s := S512x2048) ![0, 0] ![512, 2048] inb).toLoadRect = View.canon L := by
  rw [View.readCov_eq_canon']
  funext j
  refine congrArg (View.canon L) ?_
  funext a
  apply Fin.ext
  fin_cases a
  · show 0 + 1 * (j 0 : Nat) = (j 0 : Nat)
    omega
  · show 0 + 1 * (j 1 : Nat) = (j 1 : Nat)
    omega

theorem out_C (c : Dev nD) (t : Fin cfg0.N) (h0 : ¬t.val % 11 = 0) (h1 : t.val % 11 = 10) (r : Fin 512) (d : Fin 2048) :
    ((outsAt0 m c t.val t.isLt).1 (ix2 r d) : EReal)
      = outRow (iblk m c 4 t) (outsAt0 m c t.val t.isLt).2 (iblk m c 5 t) r d := by
  rw [outsAt0_C m c t h0 h1]
  frame_out
  refine (pay2_at _ _ _ r d).trans ?_
  rw [readCov_whole]
  rfl

/-- The accumulator at the end of a run of eleven points: the sum over its eleven blocks of hidden columns. -/
theorem acc_run (c : Dev nD) (t : Fin cfg0.N) (h1 : t.val % 11 = 10) (i : S512x2048.Idx) :
    ((outsAt0 m c t.val t.isLt).2 i : EReal) = ∑ s : Fin 11, part
      (iblk m c 0 ⟨11 * (t.val / 11) + s.val, Pipeline.run_point_lt_of_flush t h1 s⟩) (iblk m c 1 ⟨11 * (t.val / 11) + s.val, Pipeline.run_point_lt_of_flush t h1 s⟩)
      (iblk m c 2 ⟨11 * (t.val / 11) + s.val, Pipeline.run_point_lt_of_flush t h1 s⟩) (iblk m c 3 ⟨11 * (t.val / 11) + s.val, Pipeline.run_point_lt_of_flush t h1 s⟩) i := by
  refine (Pipeline.eq_sum_fin_of_reset_step_apply_of_flush (N := cfg0.N) (ι := S512x2048.Idx) (M := EReal) (fun n h => (outsAt0 m c n h).2) 11 (fun _ => 0)
    (fun t i => part (iblk m c 0 t) (iblk m c 1 t) (iblk m c 2 t) (iblk m c 3 t) i) (fun t h0 i => acc_A m c t h0 (by omega) i) (fun t h0 i => ?_) t h1 i).trans (zero_add _)
  by_cases h1 : t.val % 11 = 10
  · exact acc_C m c t h0 h1 i
  · exact acc_B m c t h0 h1 i

/-- The batch and the position in it of a block's row. -/
def bOf (t : Fin cfg0.N) : Fin 4 := ⟨t.val / 11 / 16, by have : t.val < 704 := t.isLt; omega⟩
def sOf (t : Fin cfg0.N) (r : Fin 512) : Fin 8192 := ⟨512 * (t.val / 11 % 16) + r.val, by omega⟩

/-- Row `s` of batch `b`. -/
def rowAt (b : Fin 4) (s : Fin 8192) : Fin 32768 := ⟨8192 * b.val + s.val, by omega⟩

theorem V_h (c : Dev nD) (b : Fin 4) (s : Fin 8192) (k : Fin 2048) :
    V m c main_v1 (ix2 (rowAt b s) k) = m ((c : Thread nD τ).loc main_arg0) (ix3 b s k) := by
  entry_read
  pointwise
  blk_ext [rowAt]

theorem V_x (c : Dev nD) (b : Fin 4) (s : Fin 8192) (k : Fin 2048) :
    V m c main_v5 (ix2 (rowAt b s) k) = m ((c : Thread nD τ).loc main_arg1) (ix3 b s k) := by
  entry_read
  pointwise
  blk_ext [rowAt]

theorem V_wg (c : Dev nD) (k : Fin 2048) (l : Fin 5632) : V m c main_v2 (ix2 k l) = m ((c : Thread nD τ).loc main_arg2) (ix2 k l) := by
  entry_read
  rfl

theorem V_wu (c : Dev nD) (k : Fin 2048) (l : Fin 5632) : V m c main_v3 (ix2 k l) = m ((c : Thread nD τ).loc main_arg3) (ix2 k l) := by
  entry_read
  rfl

theorem V_wd (c : Dev nD) (l : Fin 5632) (k : Fin 2048) : V m c main_v4 (ix2 l k) = m ((c : Thread nD τ).loc main_arg4) (ix2 l k) := by
  entry_read
  rfl

theorem V_g (c : Dev nD) (k : Fin 2048) : V m c main_v6 (ix2 0 k) = m ((c : Thread nD τ).loc main_arg5) (ix1 k) := by
  entry_read
  pointwise

theorem blk0 (c : Dev nD) (t : Fin cfg0.N) (r : Fin 512) (k : Fin 2048) :
    iblk m c 0 t (ix2 r k) = m ((c : Thread nD τ).loc main_arg0) (ix3 (bOf t) (sOf t r) k) := by
  refine Eq.trans ?_ (V_h m c (bOf t) (sOf t r) k)
  blk_ext [iblk, idx t, bOf, sOf, rowAt]

theorem blk4 (c : Dev nD) (t : Fin cfg0.N) (r : Fin 512) (k : Fin 2048) :
    iblk m c 4 t (ix2 r k) = m ((c : Thread nD τ).loc main_arg1) (ix3 (bOf t) (sOf t r) k) := by
  refine Eq.trans ?_ (V_x m c (bOf t) (sOf t r) k)
  blk_ext [iblk, idx t, bOf, sOf, rowAt]

/-- A hidden column's place among all of them. -/
def colOf (t : Fin cfg0.N) (f : Fin 512) : Fin 5632 := ⟨512 * (t.val % 11) + f.val, by omega⟩

theorem blk1 (c : Dev nD) (t : Fin cfg0.N) (k : Fin 2048) (f : Fin 512) :
    iblk m c 1 t (ix2 k f) = m ((c : Thread nD τ).loc main_arg2) (ix2 k (colOf t f)) := by
  refine Eq.trans ?_ (V_wg m c k (colOf t f))
  blk_ext [iblk, idx t, colOf]

theorem blk2 (c : Dev nD) (t : Fin cfg0.N) (k : Fin 2048) (f : Fin 512) :
    iblk m c 2 t (ix2 k f) = m ((c : Thread nD τ).loc main_arg3) (ix2 k (colOf t f)) := by
  refine Eq.trans ?_ (V_wu m c k (colOf t f))
  blk_ext [iblk, idx t, colOf]

theorem blk3 (c : Dev nD) (t : Fin cfg0.N) (f : Fin 512) (k : Fin 2048) :
    iblk m c 3 t (ix2 f k) = m ((c : Thread nD τ).loc main_arg4) (ix2 (colOf t f) k) := by
  refine Eq.trans ?_ (V_wd m c (colOf t f) k)
  blk_ext [iblk, idx t, colOf]

theorem blk5 (c : Dev nD) (t : Fin cfg0.N) (k : Fin 2048) :
    iblk m c 5 t (ix2 0 k) = m ((c : Thread nD τ).loc main_arg5) (ix1 k) := by
  refine Eq.trans ?_ (V_g m c k)
  blk_ext [iblk, idx t]

/-- The accumulator at the end of a run is the reference's feed-forward row. -/
theorem acc_final (c : Dev nD) (t : Fin cfg0.N) (h1 : t.val % 11 = 10) (r : Fin 512) (d : Fin 2048) :
    ((outsAt0 m c t.val t.isLt).2 (ix2 r d) : EReal) = Cert.Reference2Ideal.Ref.out (m ((c : Thread nD τ).loc main_arg0)) (m ((c : Thread nD τ).loc main_arg2))
      (m ((c : Thread nD τ).loc main_arg3)) (m ((c : Thread nD τ).loc main_arg4)) (bOf t) (sOf t r) d := by
  refine (acc_run m c t h1 (ix2 r d)).trans ?_
  unfold part Cert.Reference2Ideal.Ref.out
  refine Fin.sum_mul_add_congr fun s f hl => ?_
  have hb : bOf ⟨11 * (t.val / 11) + s.val, Pipeline.run_point_lt_of_flush t h1 s⟩ = bOf t := Fin.ext (by simp only [bOf]; omega)
  have hs : sOf ⟨11 * (t.val / 11) + s.val, Pipeline.run_point_lt_of_flush t h1 s⟩ r = sOf t r := Fin.ext (by simp only [sOf]; omega)
  have hc : colOf ⟨11 * (t.val / 11) + s.val, Pipeline.run_point_lt_of_flush t h1 s⟩ f = ⟨s.val * 512 + f.val, hl⟩ := Fin.ext (by simp only [colOf]; omega)
  have e0 := fun k => blk0 m c ⟨11 * (t.val / 11) + s.val, Pipeline.run_point_lt_of_flush t h1 s⟩ r k
  have e1 := fun k => blk1 m c ⟨11 * (t.val / 11) + s.val, Pipeline.run_point_lt_of_flush t h1 s⟩ k f
  have e2 := fun k => blk2 m c ⟨11 * (t.val / 11) + s.val, Pipeline.run_point_lt_of_flush t h1 s⟩ k f
  have e3 := blk3 m c ⟨11 * (t.val / 11) + s.val, Pipeline.run_point_lt_of_flush t h1 s⟩ f d
  rw [hb, hs] at e0
  rw [hc] at e1 e2 e3
  refine congr (congrArg _ (congr (congrArg _ ?_) ?_)) e3
  · exact Finset.sum_congr rfl fun k _ => congr (congrArg _ (e0 k)) (e1 k)
  · exact Finset.sum_congr rfl fun k _ => congr (congrArg _ (e0 k)) (e2 k)

/-- The reference's result of the arguments. -/
abbrev REF (c : Dev nD) : FVec Ideal Cert.Reference2Ideal.S32768x2048 .f32 :=
  Cert.Reference2Ideal.Ref.all (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- What the last point of a run writes is the reference's result at the place it writes to. -/
theorem point (c : Dev nD) (t : Fin cfg0.N) (h1 : t.val % 11 = 10) (r : Fin 512) (d : Fin 2048) :
    ((outsAt0 m c t.val t.isLt).1 (ix2 r d) : EReal) = REF m c (ix2 (rowAt (bOf t) (sOf t r)) d) := by
  refine (out_C m c t (by omega) h1 r d).trans (Eq.trans ?_ (Cert.Reference2Ideal.Ref.all_at _ _ _ _ _ _ (bOf t) (sOf t r) d).symm)
  unfold outRow
  have e := fun k => acc_final m c t h1 r k
  refine congr (congrArg _ (blk4 m c t r d)) ?_
  refine congr (congr (congrArg _ ?_) (e d)) (blk5 m c t d)
  exact Finset.sum_congr rfl fun k _ => congr (congrArg _ (e k)) (e k)

/-- The result array. -/
theorem final (c : Dev nD) : (dats m 0 c).arrAt 6 (cfgs 0).N = REF m c := by
  refine (dats m 0 c).arrAt_eq_of_covers 6 _ (by decide +kernel) fun t hf y => ?_
  have h1 : t.val % 11 = 10 := (flush0_6 t).1 hf
  blk_simp
  rw [after0_6]
  have hy : y = ix2 (y 0 : Fin 512) (y 1 : Fin 2048) := funext fun a => match a with | ⟨0, _⟩ => rfl | ⟨1, _⟩ => rfl
  refine (congrArg (outsAt0 m c t.val t.isLt).1 hy).trans ((point m c t h1 (y 0) (y 1)).trans (congrArg _ ?_))
  blk_ext [idx t, bOf, sOf, rowAt]

end Cert.Kernel2Ideal.Ffn

end
-- ==== Proof.OutRef.lean ====
/- The output projection's reference at an index: named intermediate arrays, then each one at an index. -/
module

public import proofs.«01_k».proof.Proof.Gen.Reference3Ideal.Run
public import proofs.«01_k».proof.Proof.FfnPoint
public import Idealize.ShloMosaic.Lib.Pointwise
public import Idealize.ShloMosaic.Lib.Pipeline.ValueKit

@[expose] public section

set_option maxRecDepth 16384

noncomputable section

namespace Cert.Reference3Ideal.Ref

open Idealize.ShloMosaic Idealize.ShloMosaic.TcCoe Idealize.SL.Sem
open Cert.Reference3Ideal Cert.Reference3Ideal.Gen Cert.Kernel2Ideal.Point

/-- The root-mean-square norm of one entry `a` of a group's 512 columns, from their sum of squares `q` and the gain `g`. -/
def gnormed (q a g : EReal) : EReal :=
  a * Ideal.rsqrt (Ideal.div q (Ideal.ofBits .f32 0x44000000#32) + Ideal.ofBits .f32 0x358637BD#32) * g

section
variable {F : FTy → Type} [FloatOps F] [Named F]

/-- One group's output, each row normalised over its 512 columns. -/
def group (o : FVec F S4x8192x512 .f32) (g : FVec F S512 .f32) : FVec F S4x8192x512 .f32 :=
  mulf (mulf o (broadcastInDim S4x8192x512 ![0, 1, 2] bcast_S4x8192x1_S4x8192x512_0_1_2 (Host.rsqrt (addf (Host.divf (broadcastInDim S4x8192x1 ![0, 1] bcast_S4x8192_S4x8192x1_0_1 (Host.reduceAdd (mulf o o) (constant S_ .f32 0x00000000#32) reducesTo_S4x8192x512_S4x8192_d2 h_S_)) (broadcastInDim S4x8192x1 ![] bcast_S_S4x8192x1 (constant S_ .f32 0x44000000#32))) (broadcastInDim S4x8192x1 ![] bcast_S_S4x8192x1 (constant S_ .f32 0x358637BD#32))))))
    (broadcastInDim S4x8192x512 ![0, 1, 2] bcast_S1x1x512_S4x8192x512_0_1_2 (broadcastInDim S1x1x512 ![2] bcast_S512_S1x1x512_2 g))

/-- The four groups side by side, projected back to the model's width. -/
def proj (a b c d : FVec F S4x8192x512 .f32) (w : FVec F S2048x2048 .f32) : FVec F S4x8192x2048 .f32 :=
  Host.dotGeneral dot_S4x8192x2048_S2048x2048_S4x8192x2048_2_0_01_1_n_n none ((concatenate S4x8192x2048 2 [⟨S4x8192x512, (a : (⟨S4x8192x512, .f32⟩ : BufTy).Contents (Elt F))⟩, ⟨S4x8192x512, (b : (⟨S4x8192x512, .f32⟩ : BufTy).Contents (Elt F))⟩, ⟨S4x8192x512, (c : (⟨S4x8192x512, .f32⟩ : BufTy).Contents (Elt F))⟩, ⟨S4x8192x512, (d : (⟨S4x8192x512, .f32⟩ : BufTy).Contents (Elt F))⟩] concatenates_S4x8192x512_S4x8192x512_S4x8192x512_S4x8192x512_S4x8192x2048_d2 : (⟨S4x8192x2048, .f32⟩ : BufTy).Contents (Elt F))) w

/-- A row normalised over the model's width. -/
def norm (a : FVec F S4x8192x2048 .f32) (g : FVec F S2048 .f32) : FVec F S4x8192x2048 .f32 :=
  mulf (mulf a (broadcastInDim S4x8192x2048 ![0, 1, 2] bcast_S4x8192x1_S4x8192x2048_0_1_2 (Host.rsqrt (addf (Host.divf (broadcastInDim S4x8192x1 ![0, 1] bcast_S4x8192_S4x8192x1_0_1 (Host.reduceAdd (mulf a a) (constant S_ .f32 0x00000000#32) reducesTo_S4x8192x2048_S4x8192_d2 h_S_)) (broadcastInDim S4x8192x1 ![] bcast_S_S4x8192x1 (constant S_ .f32 0x45000000#32))) (broadcastInDim S4x8192x1 ![] bcast_S_S4x8192x1 (constant S_ .f32 0x358637BD#32))))))
    (broadcastInDim S4x8192x2048 ![0, 1, 2] bcast_S1x1x2048_S4x8192x2048_0_1_2 (broadcastInDim S1x1x2048 ![2] bcast_S2048_S1x1x2048_2 g))

/-- The four groups' gains, one row each. -/
def gain0 (g : FVec F S4x512 .f32) : FVec F S512 .f32 := shapeCast _ (extractStridedSlice S1x512 ![0, 0] g slices_S4x512_S1x512_0_0) shapeCasts_S1x512_S512
def gain1 (g : FVec F S4x512 .f32) : FVec F S512 .f32 := shapeCast _ (extractStridedSlice S1x512 ![1, 0] g slices_S4x512_S1x512_1_0) shapeCasts_S1x512_S512
def gain2 (g : FVec F S4x512 .f32) : FVec F S512 .f32 := shapeCast _ (extractStridedSlice S1x512 ![2, 0] g slices_S4x512_S1x512_2_0) shapeCasts_S1x512_S512
def gain3 (g : FVec F S4x512 .f32) : FVec F S512 .f32 := shapeCast _ (extractStridedSlice S1x512 ![3, 0] g slices_S4x512_S1x512_3_0) shapeCasts_S1x512_S512

/-- The heads of a group's output side by side: eight of 64 columns, or four of 128. -/
def flat8 (o : FVec F S4x8192x8x64 .f32) : FVec F S4x8192x512 .f32 := shapeCast _ o shapeCasts_S4x8192x8x64_S4x8192x512
def flat4 (o : FVec F S4x8192x4x128 .f32) : FVec F S4x8192x512 .f32 := shapeCast _ o shapeCasts_S4x8192x4x128_S4x8192x512

/-- The projected rows. -/
def mixed (a b c d : FVec F S4x8192x512 .f32) (g : FVec F S4x512 .f32) (w : FVec F S2048x2048 .f32) : FVec F S4x8192x2048 .f32 :=
  proj (group a (gain0 g)) (group b (gain1 g)) (group c (gain2 g)) (group d (gain3 g)) w

/-- The residual row plus the normalised projection. -/
def resid (a b c d : FVec F S4x8192x512 .f32) (x : FVec F S4x8192x2048 .f32) (g : FVec F S4x512 .f32) (w : FVec F S2048x2048 .f32) (gp : FVec F S2048 .f32) :
    FVec F S4x8192x2048 .f32 :=
  addf x (norm (mixed a b c d g w) gp)

/-- The two results over the arguments. -/
def first (a b c d : FVec F S4x8192x512 .f32) (x : FVec F S4x8192x2048 .f32) (g : FVec F S4x512 .f32) (w : FVec F S2048x2048 .f32) (gp : FVec F S2048 .f32) :
    FVec F S32768x2048 .f32 :=
  shapeCast _ (resid a b c d x g w gp) shapeCasts_S4x8192x2048_S32768x2048
def second (a b c d : FVec F S4x8192x512 .f32) (x : FVec F S4x8192x2048 .f32) (g : FVec F S4x512 .f32) (w : FVec F S2048x2048 .f32) (gp gf : FVec F S2048 .f32) :
    FVec F S32768x2048 .bf16 :=
  truncf .bf16 (shapeCast _ (norm (resid a b c d x g w gp) gf) shapeCasts_S4x8192x2048_S32768x2048) bitsLt_bf16_f32

end

/-- The program's two results are these arrays of its arguments. -/
theorem res0_eq (m : (ℓ : Loc nD τ sig) → Buf (Elt Ideal) ℓ) (c : Dev nD) : Value.res_out0 m c
    = first (F := Ideal) (flat8 (m ((c : Thread nD τ).loc main_arg0))) (flat4 (m ((c : Thread nD τ).loc main_arg1))) (flat4 (m ((c : Thread nD τ).loc main_arg2)))
      (flat4 (m ((c : Thread nD τ).loc main_arg3))) (m ((c : Thread nD τ).loc main_arg4)) (m ((c : Thread nD τ).loc main_arg5)) (m ((c : Thread nD τ).loc main_arg6))
      (m ((c : Thread nD τ).loc main_arg7)) := rfl
theorem res1_eq (m : (ℓ : Loc nD τ sig) → Buf (Elt Ideal) ℓ) (c : Dev nD) : Value.res_out1 m c
    = second (F := Ideal) (flat8 (m ((c : Thread nD τ).loc main_arg0))) (flat4 (m ((c : Thread nD τ).loc main_arg1))) (flat4 (m ((c : Thread nD τ).loc main_arg2)))
      (flat4 (m ((c : Thread nD τ).loc main_arg3))) (m ((c : Thread nD τ).loc main_arg4)) (m ((c : Thread nD τ).loc main_arg5)) (m ((c : Thread nD τ).loc main_arg6))
      (m ((c : Thread nD τ).loc main_arg7)) (m ((c : Thread nD τ).loc main_arg8)) := rfl

/-- What one group adds to an entry of the projected row: its normalised row against its 512 rows of the matrix, from row `o` on. -/
def share (a : FVec Ideal S4x8192x512 .f32) (g : FVec Ideal S4x512 .f32) (w : FVec Ideal S2048x2048 .f32) (b : Fin 4) (s : Fin 8192) (d : Fin 2048)
    (n : Fin 4) : EReal :=
  ∑ f : Fin 512, gnormed (∑ k : Fin 512, a (ix3 b s k) * a (ix3 b s k)) (a (ix3 b s f)) (g (ix2 n f)) * w (ix2 (⟨512 * n.val + f.val, by omega⟩ : Fin 2048) d)

/-- An entry of the projected row. -/
def mix (a b c d : FVec Ideal S4x8192x512 .f32) (g : FVec Ideal S4x512 .f32) (w : FVec Ideal S2048x2048 .f32) (n : Fin 4) (s : Fin 8192) (e : Fin 2048) : EReal :=
  share a g w n s e 0 + share b g w n s e 1 + share c g w n s e 2 + share d g w n s e 3

/-- An entry of the first result. -/
def row (a b c d : FVec Ideal S4x8192x512 .f32) (x : FVec Ideal S4x8192x2048 .f32) (g : FVec Ideal S4x512 .f32) (w : FVec Ideal S2048x2048 .f32)
    (gp : FVec Ideal S2048 .f32) (n : Fin 4) (s : Fin 8192) (e : Fin 2048) : EReal :=
  x (ix3 n s e) + normed (∑ k : Fin 2048, mix a b c d g w n s k * mix a b c d g w n s k) (mix a b c d g w n s e) (gp (ix1 e))

theorem group_at (o : FVec Ideal S4x8192x512 .f32) (g : FVec Ideal S512 .f32) (b : Fin 4) (s : Fin 8192) (f : Fin 512) :
    (group o g (ix3 b s f) : EReal) = gnormed (∑ k : Fin 512, o (ix3 b s k) * o (ix3 b s k)) (o (ix3 b s f)) (g (ix1 f)) := by
  pointwise [group, gnormed]

theorem norm_at (a : FVec Ideal S4x8192x2048 .f32) (g : FVec Ideal S2048 .f32) (b : Fin 4) (s : Fin 8192) (d : Fin 2048) :
    (norm a g (ix3 b s d) : EReal) = normed (∑ k : Fin 2048, a (ix3 b s k) * a (ix3 b s k)) (a (ix3 b s d)) (g (ix1 d)) := by
  pointwise [norm, normed]

theorem gain0_at (g : FVec Ideal S4x512 .f32) (f : Fin 512) : gain0 g (ix1 f) = g (ix2 0 f) := by pointwise [gain0]
theorem gain1_at (g : FVec Ideal S4x512 .f32) (f : Fin 512) : gain1 g (ix1 f) = g (ix2 1 f) := by pointwise [gain1]
theorem gain2_at (g : FVec Ideal S4x512 .f32) (f : Fin 512) : gain2 g (ix1 f) = g (ix2 2 f) := by pointwise [gain2]
theorem gain3_at (g : FVec Ideal S4x512 .f32) (f : Fin 512) : gain3 g (ix1 f) = g (ix2 3 f) := by pointwise [gain3]

/-- The projection's sum over 2048 columns, group by group. -/
theorem proj_at (a b c d : FVec Ideal S4x8192x512 .f32) (w : FVec Ideal S2048x2048 .f32) (n : Fin 4) (s : Fin 8192) (e : Fin 2048) :
    (proj a b c d w (ix3 n s e) : EReal) = (∑ f : Fin 512, (a (ix3 n s f) : EReal) * w (ix2 (⟨f.val, by omega⟩ : Fin 2048) e))
      + (∑ f : Fin 512, (b (ix3 n s f) : EReal) * w (ix2 (⟨512 + f.val, by omega⟩ : Fin 2048) e))
      + (∑ f : Fin 512, (c (ix3 n s f) : EReal) * w (ix2 (⟨1024 + f.val, by omega⟩ : Fin 2048) e))
      + (∑ f : Fin 512, (d (ix3 n s f) : EReal) * w (ix2 (⟨1536 + f.val, by omega⟩ : Fin 2048) e)) := by
  pointwise [proj]
  refine (Fin.sum_mul_add_fin 4 512 _).symm.trans ?_
  rw [Fin.sum_univ_four]
  refine congr (congrArg _ (congr (congrArg _ (congr (congrArg _ ?_) ?_)) ?_)) ?_ <;> refine Finset.sum_congr rfl fun f _ => ?_ <;>
    have hf := f.isLt
  · refine congr (congrArg _ ((dif_pos (show (0 * 512 + f.val : Nat) < 512 by omega)).trans ?_)) ?_
    · refine congrArg a ?_
      blk_ext
    · refine congrArg w ?_
      blk_ext
  · refine congr (congrArg _ ((dif_neg (show ¬(1 * 512 + f.val : Nat) < 512 by omega)).trans ((dif_pos (show (1 * 512 + f.val - 512 : Nat) < 512 by omega)).trans ?_))) ?_
    · refine congrArg b ?_
      blk_ext
    · refine congrArg w ?_
      blk_ext
  · refine congr (congrArg _ ((dif_neg (show ¬(2 * 512 + f.val : Nat) < 512 by omega)).trans ((dif_neg (show ¬(2 * 512 + f.val - 512 : Nat) < 512 by omega)).trans
      ((dif_pos (show (2 * 512 + f.val - 512 - 512 : Nat) < 512 by omega)).trans ?_)))) ?_
    · refine congrArg c ?_
      blk_ext
    · refine congrArg w ?_
      blk_ext
  · refine congr (congrArg _ ((dif_neg (show ¬(3 * 512 + f.val : Nat) < 512 by omega)).trans ((dif_neg (show ¬(3 * 512 + f.val - 512 : Nat) < 512 by omega)).trans
      ((dif_neg (show ¬(3 * 512 + f.val - 512 - 512 : Nat) < 512 by omega)).trans ?_)))) ?_
    · refine congrArg d ?_
      blk_ext
    · refine congrArg w ?_
      blk_ext

theorem mixed_at (a b c d : FVec Ideal S4x8192x512 .f32) (g : FVec Ideal S4x512 .f32) (w : FVec Ideal S2048x2048 .f32) (n : Fin 4) (s : Fin 8192) (e : Fin 2048) :
    (mixed a b c d g w (ix3 n s e) : EReal) = mix a b c d g w n s e := by
  refine (proj_at _ _ _ _ _ _ _ _).trans ?_
  simp only [group_at, gain0_at, gain1_at, gain2_at, gain3_at]
  unfold mix share
  refine congr (congrArg _ (congr (congrArg _ (congr (congrArg _ ?_) ?_)) ?_)) ?_ <;> refine Finset.sum_congr rfl fun f _ => congrArg _ (congrArg w ?_)
  · blk_ext
  · rfl
  · rfl
  · rfl

theorem resid_at (a b c d : FVec Ideal S4x8192x512 .f32) (x : FVec Ideal S4x8192x2048 .f32) (g : FVec Ideal S4x512 .f32) (w : FVec Ideal S2048x2048 .f32)
    (gp : FVec Ideal S2048 .f32) (n : Fin 4) (s : Fin 8192) (e : Fin 2048) :
    (resid a b c d x g w gp (ix3 n s e) : EReal) = row a b c d x g w gp n s e := by
  show (x (ix3 n s e) : EReal) + norm (mixed a b c d g w) gp (ix3 n s e) = _
  rw [norm_at]
  simp only [mixed_at]
  rfl

theorem first_at (a b c d : FVec Ideal S4x8192x512 .f32) (x : FVec Ideal S4x8192x2048 .f32) (g : FVec Ideal S4x512 .f32) (w : FVec Ideal S2048x2048 .f32)
    (gp : FVec Ideal S2048 .f32) (n : Fin 4) (s : Fin 8192) (e : Fin 2048) :
    (first a b c d x g w gp (ix2 (⟨8192 * n.val + s.val, by omega⟩ : Fin 32768) e) : EReal) = row a b c d x g w gp n s e := by
  refine Eq.trans ?_ (resid_at a b c d x g w gp n s e)
  generalize hR : resid a b c d x g w gp = R
  pointwise [first, hR]

theorem second_at (a b c d : FVec Ideal S4x8192x512 .f32) (x : FVec Ideal S4x8192x2048 .f32) (g : FVec Ideal S4x512 .f32) (w : FVec Ideal S2048x2048 .f32)
    (gp gf : FVec Ideal S2048 .f32) (n : Fin 4) (s : Fin 8192) (e : Fin 2048) :
    (second a b c d x g w gp gf (ix2 (⟨8192 * n.val + s.val, by omega⟩ : Fin 32768) e) : EReal)
      = normed (∑ k : Fin 2048, row a b c d x g w gp n s k * row a b c d x g w gp n s k) (row a b c d x g w gp n s e) (gf (ix1 e)) := by
  have h := norm_at (resid a b c d x g w gp) gf n s e
  simp only [resid_at] at h
  refine Eq.trans ?_ h
  generalize hR : norm (resid a b c d x g w gp) gf = R
  pointwise [second, hR]

end Cert.Reference3Ideal.Ref

end
-- ==== Proof.OutPoint.lean ====
/- The output projection kernel, one grid point: its payloads at an index and the arguments behind its blocks. -/
module

public import proofs.«01_k».proof.Proof.Gen.Kernel3Ideal.Value
public import proofs.«01_k».proof.Proof.OutRef
public import Idealize.ShloMosaic.Lib.Claim

@[expose] public section

set_option maxRecDepth 16384

noncomputable section

namespace Cert.Kernel3Ideal.Out

open Idealize.ShloMosaic Idealize.ShloMosaic.TcCoe Idealize.SL.Sem
open Cert.Kernel3Ideal Cert.Kernel3Ideal.Gen Cert.Kernel2Ideal.Point Cert.Reference3Ideal.Ref

/-- What one group adds to an entry of a block's projected row. -/
def bshare (o : FVec Ideal S512x512 .bf16) (g : FVec Ideal S1x512 .f32) (w : FVec Ideal S512x2048 .bf16) (r : Fin 512) (d : Fin 2048) : EReal :=
  ∑ f : Fin 512, gnormed (∑ k : Fin 512, o (ix2 r k) * o (ix2 r k)) (o (ix2 r f)) (g (ix2 0 f)) * w (ix2 f d)

theorem pay3_at (o : FVec Ideal S512x512 .bf16) (g : FVec Ideal S1x512 .f32) (w : FVec Ideal S512x2048 .bf16) (r : Fin 512) (d : Fin 2048) :
    (k0_pay3 (F := Ideal) o g w (ix2 r d) : EReal) = bshare o g w r d := by
  pointwise [k0_pay3, bshare, gnormed]

theorem pay6_at (v : FVec Ideal S512x2048 .f32) (o o' : FVec Ideal S512x512 .bf16) (g g' : FVec Ideal S1x512 .f32) (w w' : FVec Ideal S512x2048 .bf16)
    (r : Fin 512) (d : Fin 2048) :
    (k0_pay6 (F := Ideal) v (k0_pay4 o g) (k0_pay5 w) (constant S512x2048 .f32 0x00000000#32) o' g' w' (ix2 r d) : EReal)
      = v (ix2 r d) + bshare o g w r d + bshare o' g' w' r d := by
  pointwise [k0_pay6, k0_pay4, k0_pay5, bshare, gnormed]

theorem pay1_at (v : FVec Ideal S512x2048 .f32) (o : FVec Ideal S512x512 .bf16) (g : FVec Ideal S1x512 .f32) (w : FVec Ideal S512x2048 .bf16)
    (x : FVec Ideal S512x2048 .f32) (gp : FVec Ideal S1x2048 .f32) (y : Fin 2048 → EReal) (r : Fin 512) (d : Fin 2048)
    (hy : ∀ k : Fin 2048, y k = v (ix2 r k) + bshare o g w r k) :
    (k0_pay1 (F := Ideal) v (k0_pay7 o g) w x gp (ix2 r d) : EReal) = x (ix2 r d) + normed (∑ k : Fin 2048, y k * y k) (y d) (gp (ix2 0 d)) := by
  simp only [hy]
  pointwise [k0_pay1, k0_pay7, bshare, gnormed, normed]

theorem pay2_at (v : FVec Ideal S512x2048 .f32) (o : FVec Ideal S512x512 .bf16) (w : FVec Ideal S512x2048 .bf16)
    (x : FVec Ideal S512x2048 .f32) (gp gf : FVec Ideal S1x2048 .f32) (y : Fin 2048 → EReal) (r : Fin 512) (d : Fin 2048)
    (hy : ∀ k : Fin 2048, (k0_pay1 (F := Ideal) v o w x gp (ix2 r k) : EReal) = y k) :
    (k0_pay2 (F := Ideal) v o w x gp gf (ix2 r d) : EReal) = normed (∑ k : Fin 2048, y k * y k) (y d) (gf (ix2 0 d)) := by
  simp only [← hy]
  unfold k0_pay2
  generalize k0_pay1 (F := Ideal) v o w x gp = z
  pointwise [normed]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![t.val, 0]
    ∧ win0_7.index t = ![0, 0] ∧ win0_8.index t = ![0, 0] ∧ win0_9.index t = ![t.val, 0] ∧ win0_10.index t = ![t.val, 0] :=
  (by decide +kernel : ∀ t : Fin grid0.N, _)

/-- The batch and the position in it of a block's row. -/
def bOf (t : Fin cfg0.N) : Fin 4 := ⟨t.val / 16, by have : t.val < 64 := t.isLt; omega⟩
def sOf (t : Fin cfg0.N) (r : Fin 512) : Fin 8192 := ⟨512 * (t.val % 16) + r.val, by omega⟩

/-- Row `s` of batch `b`. -/
def rowAt (b : Fin 4) (s : Fin 8192) : Fin 32768 := ⟨8192 * b.val + s.val, by omega⟩

/-- The four groups' outputs, their heads side by side. -/
abbrev OA (c : Dev nD) := flat8 (F := Ideal) (m ((c : Thread nD τ).loc main_arg0))
abbrev OB (c : Dev nD) := flat4 (F := Ideal) (m ((c : Thread nD τ).loc main_arg1))
abbrev OC (c : Dev nD) := flat4 (F := Ideal) (m ((c : Thread nD τ).loc main_arg2))
abbrev OD (c : Dev nD) := flat4 (F := Ideal) (m ((c : Thread nD τ).loc main_arg3))

theorem V_oa (c : Dev nD) (b : Fin 4) (s : Fin 8192) (k : Fin 512) : V m c main_v1 (ix2 (rowAt b s) k) = OA m c (ix3 b s k) := by
  entry_read
  pointwise [flat8]
  blk_ext [rowAt]

theorem V_ob (c : Dev nD) (b : Fin 4) (s : Fin 8192) (k : Fin 512) : V m c main_v3 (ix2 (rowAt b s) k) = OB m c (ix3 b s k) := by
  entry_read
  pointwise [flat4]
  blk_ext [rowAt]

theorem V_oc (c : Dev nD) (b : Fin 4) (s : Fin 8192) (k : Fin 512) : V m c main_v5 (ix2 (rowAt b s) k) = OC m c (ix3 b s k) := by
  entry_read
  pointwise [flat4]
  blk_ext [rowAt]

theorem V_od (c : Dev nD) (b : Fin 4) (s : Fin 8192) (k : Fin 512) : V m c main_v7 (ix2 (rowAt b s) k) = OD m c (ix3 b s k) := by
  entry_read
  pointwise [flat4]
  blk_ext [rowAt]

theorem V_x (c : Dev nD) (b : Fin 4) (s : Fin 8192) (k : Fin 2048) :
    V m c main_v9 (ix2 (rowAt b s) k) = m ((c : Thread nD τ).loc main_arg4) (ix3 b s k) := by
  entry_read
  pointwise
  blk_ext [rowAt]

theorem V_g (c : Dev nD) (i : S4x512.Idx) : V m c main_arg5 i = m ((c : Thread nD τ).loc main_arg5) i := by
  entry_read
  rfl

theorem V_w (c : Dev nD) (k l : Fin 2048) : V m c main_v8 (ix2 k l) = m ((c : Thread nD τ).loc main_arg6) (ix2 k l) := by
  entry_read
  rfl

theorem V_gp (c : Dev nD) (k : Fin 2048) : V m c main_v10 (ix2 0 k) = m ((c : Thread nD τ).loc main_arg7) (ix1 k) := by
  entry_read
  pointwise

theorem V_gf (c : Dev nD) (k : Fin 2048) : V m c main_v11 (ix2 0 k) = m ((c : Thread nD τ).loc main_arg8) (ix1 k) := by
  entry_read
  pointwise

/-- A load through a rectangle that starts at row `o`, at one entry. -/
theorem ld_at {e : EltTy} {A B a b : Nat} (X : (⟨2, ![A, B]⟩ : Shape).Idx → Elt Ideal e) (o : Nat) (inb) (r : Fin a) (k : Fin b)
    (h0 : o + r.val < A) (h1 : k.val < B) :
    View.ld X (Rect.unit (s := ⟨2, ![A, B]⟩) ![o, 0] ![a, b] inb) (ix2 r k) = X (ix2 ⟨o + r.val, h0⟩ ⟨k.val, h1⟩) := by
  refine congrArg X ?_
  funext x
  apply Fin.ext
  fin_cases x
  · show o + 1 * r.val = o + r.val
    omega
  · show 0 + 1 * k.val = k.val
    omega

theorem blk0 (c : Dev nD) (t : Fin cfg0.N) (r k : Fin 512) :
    iblk m c 0 t (ix2 r k) = OA m c (ix3 (bOf t) (sOf t r) k) := by
  refine Eq.trans ?_ (V_oa m c (bOf t) (sOf t r) k)
  blk_ext [iblk, idx t, bOf, sOf, rowAt]

theorem blk1 (c : Dev nD) (t : Fin cfg0.N) (r k : Fin 512) :
    iblk m c 1 t (ix2 r k) = OB m c (ix3 (bOf t) (sOf t r) k) := by
  refine Eq.trans ?_ (V_ob m c (bOf t) (sOf t r) k)
  blk_ext [iblk, idx t, bOf, sOf, rowAt]

theorem blk2 (c : Dev nD) (t : Fin cfg0.N) (r k : Fin 512) :
    iblk m c 2 t (ix2 r k) = OC m c (ix3 (bOf t) (sOf t r) k) := by
  refine Eq.trans ?_ (V_oc m c (bOf t) (sOf t r) k)
  blk_ext [iblk, idx t, bOf, sOf, rowAt]

theorem blk3 (c : Dev nD) (t : Fin cfg0.N) (r k : Fin 512) :
    iblk m c 3 t (ix2 r k) = OD m c (ix3 (bOf t) (sOf t r) k) := by
  refine Eq.trans ?_ (V_od m c (bOf t) (sOf t r) k)
  blk_ext [iblk, idx t, bOf, sOf, rowAt]

theorem blk4 (c : Dev nD) (t : Fin cfg0.N) (n : Fin 4) (k : Fin 512) : iblk m c 4 t (ix2 n k) = m ((c : Thread nD τ).loc main_arg5) (ix2 n k) := by
  refine Eq.trans ?_ (V_g m c (ix2 n k))
  blk_ext [iblk, idx t]

theorem blk5 (c : Dev nD) (t : Fin cfg0.N) (f d : Fin 2048) : iblk m c 5 t (ix2 f d) = m ((c : Thread nD τ).loc main_arg6) (ix2 f d) := by
  refine Eq.trans ?_ (V_w m c f d)
  blk_ext [iblk, idx t]

theorem blk6 (c : Dev nD) (t : Fin cfg0.N) (r : Fin 512) (k : Fin 2048) :
    iblk m c 6 t (ix2 r k) = m ((c : Thread nD τ).loc main_arg4) (ix3 (bOf t) (sOf t r) k) := by
  refine Eq.trans ?_ (V_x m c (bOf t) (sOf t r) k)
  blk_ext [iblk, idx t, bOf, sOf, rowAt]

theorem blk7 (c : Dev nD) (t : Fin cfg0.N) (k : Fin 2048) : iblk m c 7 t (ix2 0 k) = m ((c : Thread nD τ).loc main_arg7) (ix1 k) := by
  refine Eq.trans ?_ (V_gp m c k)
  blk_ext [iblk, idx t]

theorem blk8 (c : Dev nD) (t : Fin cfg0.N) (k : Fin 2048) : iblk m c 8 t (ix2 0 k) = m ((c : Thread nD τ).loc main_arg8) (ix1 k) := by
  refine Eq.trans ?_ (V_gf m c k)
  blk_ext [iblk, idx t]

theorem ld0 (c : Dev nD) (t : Fin cfg0.N) (r k : Fin 512) :
    View.ld (iblk m c 0 t) r0_0 (ix2 r k) = OA m c (ix3 (bOf t) (sOf t r) k) := by
  refine Eq.trans (ld_at (iblk m c 0 t) 0 _ r k (by omega) (by omega)) (Eq.trans (congrArg (iblk m c 0 t) ?_) (blk0 m c t r k))
  blk_ext

theorem ld1 (c : Dev nD) (t : Fin cfg0.N) (r k : Fin 512) :
    View.ld (iblk m c 1 t) r0_0 (ix2 r k) = OB m c (ix3 (bOf t) (sOf t r) k) := by
  refine Eq.trans (ld_at (iblk m c 1 t) 0 _ r k (by omega) (by omega)) (Eq.trans (congrArg (iblk m c 1 t) ?_) (blk1 m c t r k))
  blk_ext

theorem ld2 (c : Dev nD) (t : Fin cfg0.N) (r k : Fin 512) :
    View.ld (iblk m c 2 t) r0_0 (ix2 r k) = OC m c (ix3 (bOf t) (sOf t r) k) := by
  refine Eq.trans (ld_at (iblk m c 2 t) 0 _ r k (by omega) (by omega)) (Eq.trans (congrArg (iblk m c 2 t) ?_) (blk2 m c t r k))
  blk_ext

theorem ld3 (c : Dev nD) (t : Fin cfg0.N) (r k : Fin 512) :
    View.ld (iblk m c 3 t) r0_0 (ix2 r k) = OD m c (ix3 (bOf t) (sOf t r) k) := by
  refine Eq.trans (ld_at (iblk m c 3 t) 0 _ r k (by omega) (by omega)) (Eq.trans (congrArg (iblk m c 3 t) ?_) (blk3 m c t r k))
  blk_ext

theorem ld4_0 (c : Dev nD) (t : Fin cfg0.N) (k : Fin 512) : View.ld (iblk m c 4 t) r0_1 (ix2 0 k) = m ((c : Thread nD τ).loc main_arg5) (ix2 0 k) :=
  Eq.trans (ld_at (iblk m c 4 t) 0 _ (0 : Fin 1) k (by decide) (by omega)) (blk4 m c t 0 k)

theorem ld4_1 (c : Dev nD) (t : Fin cfg0.N) (k : Fin 512) : View.ld (iblk m c 4 t) r0_3 (ix2 0 k) = m ((c : Thread nD τ).loc main_arg5) (ix2 1 k) :=
  Eq.trans (ld_at (iblk m c 4 t) 1 _ (0 : Fin 1) k (by decide) (by omega)) (blk4 m c t 1 k)

theorem ld4_2 (c : Dev nD) (t : Fin cfg0.N) (k : Fin 512) : View.ld (iblk m c 4 t) r0_5 (ix2 0 k) = m ((c : Thread nD τ).loc main_arg5) (ix2 2 k) :=
  Eq.trans (ld_at (iblk m c 4 t) 2 _ (0 : Fin 1) k (by decide) (by omega)) (blk4 m c t 2 k)

theorem ld4_3 (c : Dev nD) (t : Fin cfg0.N) (k : Fin 512) : View.ld (iblk m c 4 t) r0_7 (ix2 0 k) = m ((c : Thread nD τ).loc main_arg5) (ix2 3 k) :=
  Eq.trans (ld_at (iblk m c 4 t) 3 _ (0 : Fin 1) k (by decide) (by omega)) (blk4 m c t 3 k)

theorem ld5_0 (c : Dev nD) (t : Fin cfg0.N) (f : Fin 512) (d : Fin 2048) :
    View.ld (iblk m c 5 t) r0_2 (ix2 f d) = m ((c : Thread nD τ).loc main_arg6) (ix2 (⟨512 * 0 + f.val, by omega⟩ : Fin 2048) d) :=
  Eq.trans (ld_at (iblk m c 5 t) 0 _ f d (by omega) (by omega)) (blk5 m c t _ d)

theorem ld5_1 (c : Dev nD) (t : Fin cfg0.N) (f : Fin 512) (d : Fin 2048) :
    View.ld (iblk m c 5 t) r0_4 (ix2 f d) = m ((c : Thread nD τ).loc main_arg6) (ix2 (⟨512 * 1 + f.val, by omega⟩ : Fin 2048) d) :=
  Eq.trans (ld_at (iblk m c 5 t) 512 _ f d (by omega) (by omega)) (blk5 m c t _ d)

theorem ld5_2 (c : Dev nD) (t : Fin cfg0.N) (f : Fin 512) (d : Fin 2048) :
    View.ld (iblk m c 5 t) r0_6 (ix2 f d) = m ((c : Thread nD τ).loc main_arg6) (ix2 (⟨512 * 2 + f.val, by omega⟩ : Fin 2048) d) :=
  Eq.trans (ld_at (iblk m c 5 t) 1024 _ f d (by omega) (by omega)) (blk5 m c t _ d)

theorem ld5_3 (c : Dev nD) (t : Fin cfg0.N) (f : Fin 512) (d : Fin 2048) :
    View.ld (iblk m c 5 t) r0_8 (ix2 f d) = m ((c : Thread nD τ).loc main_arg6) (ix2 (⟨512 * 3 + f.val, by omega⟩ : Fin 2048) d) :=
  Eq.trans (ld_at (iblk m c 5 t) 1536 _ f d (by omega) (by omega)) (blk5 m c t _ d)

/-- A group's share in a block's row is its share in that row of the whole. -/
theorem bshare_eq (o : FVec Ideal S512x512 .bf16) (g : FVec Ideal S1x512 .f32) (w : FVec Ideal S512x2048 .bf16) (r : Fin 512) (d : Fin 2048)
    (A : FVec Ideal Cert.Reference3Ideal.S4x8192x512 .f32) (G : FVec Ideal Cert.Reference3Ideal.S4x512 .f32) (W : FVec Ideal Cert.Reference3Ideal.S2048x2048 .f32)
    (b : Fin 4) (s : Fin 8192) (n : Fin 4)
    (ho : ∀ k : Fin 512, (o (ix2 r k) : EReal) = A (ix3 b s k)) (hg : ∀ k : Fin 512, (g (ix2 0 k) : EReal) = G (ix2 n k))
    (hw : ∀ k : Fin 512, (w (ix2 k d) : EReal) = W (ix2 (⟨512 * n.val + k.val, by omega⟩ : Fin 2048) d)) :
    bshare o g w r d = share A G W b s d n := by
  unfold bshare share
  simp only [ho, hg, hw]

/-- The first result's row of the arguments. -/
abbrev ROW (c : Dev nD) : Fin 4 → Fin 8192 → Fin 2048 → EReal :=
  row (OA m c) (OB m c) (OC m c) (OD m c) (m ((c : Thread nD τ).loc main_arg4)) (m ((c : Thread nD τ).loc main_arg5)) (m ((c : Thread nD τ).loc main_arg6))
    (m ((c : Thread nD τ).loc main_arg7))

/-- What one grid point computes for the first result. -/
def PAY1 (c : Dev nD) (t : Fin cfg0.N) : FVec Ideal S512x2048 .f32 :=
  k0_pay1 (F := Ideal)
    (k0_pay8 (iblk m c 0 t) (iblk m c 1 t) (iblk m c 2 t) (iblk m c 3 t) (iblk m c 4 t) (iblk m c 5 t) (iblk m c 6 t) (iblk m c 7 t) (iblk m c 8 t))
    (k0_pay9 (iblk m c 0 t) (iblk m c 1 t) (iblk m c 2 t) (iblk m c 3 t) (iblk m c 4 t) (iblk m c 5 t) (iblk m c 6 t) (iblk m c 7 t) (iblk m c 8 t))
    (View.ld (iblk m c 5 t) r0_8) (iblk m c 6 t) (iblk m c 7 t)

/-- And for the second. -/
def PAY2 (c : Dev nD) (t : Fin cfg0.N) : FVec Ideal S512x2048 .bf16 :=
  k0_pay2 (F := Ideal)
    (k0_pay8 (iblk m c 0 t) (iblk m c 1 t) (iblk m c 2 t) (iblk m c 3 t) (iblk m c 4 t) (iblk m c 5 t) (iblk m c 6 t) (iblk m c 7 t) (iblk m c 8 t))
    (k0_pay9 (iblk m c 0 t) (iblk m c 1 t) (iblk m c 2 t) (iblk m c 3 t) (iblk m c 4 t) (iblk m c 5 t) (iblk m c 6 t) (iblk m c 7 t) (iblk m c 8 t))
    (View.ld (iblk m c 5 t) r0_8) (iblk m c 6 t) (iblk m c 7 t) (iblk m c 8 t)

theorem point9 (c : Dev nD) (t : Fin cfg0.N) (r : Fin 512) (d : Fin 2048) : (PAY1 m c t (ix2 r d) : EReal) = ROW m c (bOf t) (sOf t r) d := by
  unfold PAY1 k0_pay8 k0_pay9
  refine (pay1_at _ _ _ _ _ _ (fun k => mix (OA m c) (OB m c) (OC m c) (OD m c) (m ((c : Thread nD τ).loc main_arg5)) (m ((c : Thread nD τ).loc main_arg6)) (bOf t) (sOf t r) k)
    r d fun k => ?_).trans ?_
  · refine Eq.trans ?_ (congr (congrArg _ ((pay6_at _ _ _ _ _ _ _ r k).symm)) rfl)
    unfold mix
    refine congr (congrArg _ (congr (congrArg _ (congr (congrArg _ ?_) ?_)) ?_)) ?_
    · exact ((pay3_at _ _ _ r k).trans (bshare_eq _ _ _ r k _ _ _ _ _ 0 (ld0 m c t r) (ld4_0 m c t) fun f => ld5_0 m c t f k)).symm
    · exact (bshare_eq _ _ _ r k _ _ _ _ _ 1 (ld1 m c t r) (ld4_1 m c t) fun f => ld5_1 m c t f k).symm
    · exact (bshare_eq _ _ _ r k _ _ _ _ _ 2 (ld2 m c t r) (ld4_2 m c t) fun f => ld5_2 m c t f k).symm
    · exact (bshare_eq _ _ _ r k _ _ _ _ _ 3 (ld3 m c t r) (ld4_3 m c t) fun f => ld5_3 m c t f k).symm
  · exact congr (congrArg _ (blk6 m c t r d)) (congrArg _ (blk7 m c t d))

/-- The two results of the arguments. -/
abbrev REF9 (c : Dev nD) : FVec Ideal Cert.Reference3Ideal.S32768x2048 .f32 :=
  first (OA m c) (OB m c) (OC m c) (OD m c) (m ((c : Thread nD τ).loc main_arg4)) (m ((c : Thread nD τ).loc main_arg5)) (m ((c : Thread nD τ).loc main_arg6))
    (m ((c : Thread nD τ).loc main_arg7))
abbrev REF10 (c : Dev nD) : FVec Ideal Cert.Reference3Ideal.S32768x2048 .bf16 :=
  second (OA m c) (OB m c) (OC m c) (OD m c) (m ((c : Thread nD τ).loc main_arg4)) (m ((c : Thread nD τ).loc main_arg5)) (m ((c : Thread nD τ).loc main_arg6))
    (m ((c : Thread nD τ).loc main_arg7)) (m ((c : Thread nD τ).loc main_arg8))

/-- What one grid point writes is the first result at the place it writes to, -/
theorem point9_ref (c : Dev nD) (t : Fin cfg0.N) (r : Fin 512) (d : Fin 2048) :
    (PAY1 m c t (ix2 r d) : EReal) = REF9 m c (ix2 (rowAt (bOf t) (sOf t r)) d) :=
  (point9 m c t r d).trans (first_at _ _ _ _ _ _ _ _ (bOf t) (sOf t r) d).symm

/-- and the second. -/
theorem point10_ref (c : Dev nD) (t : Fin cfg0.N) (r : Fin 512) (d : Fin 2048) :
    (PAY2 m c t (ix2 r d) : EReal) = REF10 m c (ix2 (rowAt (bOf t) (sOf t r)) d) := by
  refine Eq.trans ?_ (second_at _ _ _ _ _ _ _ _ _ (bOf t) (sOf t r) d).symm
  refine (pay2_at _ _ _ _ _ _ (ROW m c (bOf t) (sOf t r)) r d fun k => point9 m c t r k).trans ?_
  exact congrArg _ (blk8 m c t d)

end Cert.Kernel3Ideal.Out

end
-- ==== Proof.OutValue.lean ====
/- The output projection kernel's two result arrays. -/
module

public import proofs.«01_k».proof.Proof.OutPoint
public import Idealize.ShloMosaic.Lib.Claim

@[expose] public section

set_option maxRecDepth 16384

noncomputable section

namespace Cert.Kernel3Ideal.Out

open Idealize.ShloMosaic Idealize.ShloMosaic.TcCoe Idealize.SL.Sem
open Cert.Kernel3Ideal Cert.Kernel3Ideal.Gen Cert.Kernel2Ideal.Point Cert.Reference3Ideal.Ref

variable (m : (ℓ : Loc nD τ sig) → Buf (Elt Ideal) ℓ)

/-- The first result's array. -/
theorem final9 (c : Dev nD) : (dats m 0 c).arrAt 9 (cfgs 0).N = REF9 m c := by
  refine (dats m 0 c).arrAt_eq_of_covers 9 _ (by decide +kernel) fun t hf y => ?_
  blk_simp
  rw [after0_9]
  frame_out
  have hy : y = ix2 (y 0 : Fin 512) (y 1 : Fin 2048) := funext fun a => match a with | ⟨0, _⟩ => rfl | ⟨1, _⟩ => rfl
  show PAY1 m c t y = _
  refine (congrArg (PAY1 m c t) hy).trans ((point9_ref m c t (y 0) (y 1)).trans (congrArg (REF9 m c) ?_))
  blk_ext [idx t, bOf, sOf, rowAt]

/-- The second result's array. -/
theorem final10 (c : Dev nD) : (dats m 0 c).arrAt 10 (cfgs 0).N = REF10 m c := by
  refine (dats m 0 c).arrAt_eq_of_covers 10 _ (by decide +kernel) fun t hf y => ?_
  blk_simp
  rw [after0_10]
  frame_out
  have hy : y = ix2 (y 0 : Fin 512) (y 1 : Fin 2048) := funext fun a => match a with | ⟨0, _⟩ => rfl | ⟨1, _⟩ => rfl
  show PAY2 m c t y = _
  refine (congrArg (PAY2 m c t) hy).trans ((point10_ref m c t (y 0) (y 1)).trans (congrArg (REF10 m c) ?_))
  blk_ext [idx t, bOf, sOf, rowAt]

end Cert.Kernel3Ideal.Out

end
-- ==== Proof.ProjSpec.lean ====
/- The input projection's results entry by entry, as plain functions of the nine arguments; and the two facts about the extended reals
   that reading the programs so needs: the two spellings of the log-sigmoid, and the queries' scales. -/
module

public import proofs.«01_k».proof.Proof.Consts
public import Idealize.ShloMosaic.Lib.Pointwise

@[expose] public section

noncomputable section

namespace Cert.Proj

open Idealize.ShloMosaic

/-- The nine arguments: input rows, their gain, the fused matrix, the forget gates' bias, the gains of the two latents, and the
    matrices that take the latents to queries, keys and values. -/
structure Args where
  x : (⟨3, ![16, 16, 2048]⟩ : Shape).Idx → EReal
  g : (⟨1, ![2048]⟩ : Shape).Idx → EReal
  w : (⟨2, ![2048, 5316]⟩ : Shape).Idx → EReal
  bf : (⟨1, ![4]⟩ : Shape).Idx → EReal
  gq : (⟨1, ![384]⟩ : Shape).Idx → EReal
  gkv : (⟨1, ![256]⟩ : Shape).Idx → EReal
  uq : (⟨2, ![384, 768]⟩ : Shape).Idx → EReal
  uk : (⟨2, ![256, 512]⟩ : Shape).Idx → EReal
  uv : (⟨2, ![256, 512]⟩ : Shape).Idx → EReal

/-- The batch of a row, and the position in it. -/
def bOf (r : Fin 256) : Fin 16 := ⟨r.val / 16, by omega⟩
def sOf (r : Fin 256) : Fin 16 := ⟨r.val % 16, by omega⟩

/-- The root-mean-square norm of one entry `a` of a row of `n` entries, from the row's sum of squares `q` and the gain `g`. -/
def nrm (n q a g : EReal) : EReal := a * Ideal.rsqrt (Ideal.div q n + Ideal.ofBits .f32 0x358637BD#32) * g

/-- The log-sigmoid. -/
def lsig (a : EReal) : EReal := min a 0 - Ideal.log1p (Ideal.exp (-max a (-a)))

/-- The angle of rotary pair `i` at position `s`: positions begin at 2048. -/
def angle (s : Fin 16) (i : Fin 32) : EReal :=
  (((2048#32 + BitVec.ofNat 32 s.val : BitVec 32).toInt : ℝ) : EReal)
    * Ideal.pow (Ideal.ofBits .f32 0x461C4000#32) (Ideal.div (-(((BitVec.ofNat 32 i.val).toInt : ℝ) : EReal)) (Ideal.ofBits .f32 0x42000000#32))

/-- The rotary turn of 64 columns at a row, the two halves of 32 paired. -/
def turn (r : Fin 256) (a : Fin 64 → EReal) (l : Fin 64) : EReal :=
  if h : l.val < 32 then
    a ⟨l.val, by omega⟩ * Ideal.cos (angle (sOf r) ⟨l.val, h⟩) - a ⟨32 + l.val, by omega⟩ * Ideal.sin (angle (sOf r) ⟨l.val, h⟩)
  else
    a ⟨l.val - 32, by omega⟩ * Ideal.sin (angle (sOf r) ⟨l.val - 32, by omega⟩) + a ⟨l.val, by omega⟩ * Ideal.cos (angle (sOf r) ⟨l.val - 32, by omega⟩)

/-- The scales of the queries of the four groups. -/
def sA : EReal := (((Real.sqrt 64 * Real.log 2)⁻¹ : ℝ) : EReal)
def sB : EReal := (((Real.sqrt 128 * Real.log 2)⁻¹ : ℝ) : EReal)
def sC : EReal := (((Real.sqrt 128)⁻¹ : ℝ) : EReal)
def sD : EReal := (((Real.sqrt 192 * Real.log 2)⁻¹ : ℝ) : EReal)

/-- An array from its entries: of two axes, and of three. -/
def row2 {a b : Nat} (f : Fin a → Fin b → EReal) : (⟨2, ![a, b]⟩ : Shape).Idx → EReal := fun i => f (i 0) (i 1)
def row3 {a b c : Nat} (f : Fin a → Fin b → Fin c → EReal) : (⟨3, ![a, b, c]⟩ : Shape).Idx → EReal := fun i => f (i 0) (i 1) (i 2)

theorem eq_row2 {a b : Nat} (X : (⟨2, ![a, b]⟩ : Shape).Idx → EReal) (f : Fin a → Fin b → EReal) (h : ∀ r n, X (ix2 r n) = f r n) : X = row2 f := by
  funext i
  have hi : i = ix2 (i 0 : Fin a) (i 1 : Fin b) := funext fun e => match e with | ⟨0, _⟩ => rfl | ⟨1, _⟩ => rfl
  exact (congrArg X hi).trans (h (i 0) (i 1))

theorem eq_row3 {a b c : Nat} (X : (⟨3, ![a, b, c]⟩ : Shape).Idx → EReal) (f : Fin a → Fin b → Fin c → EReal) (h : ∀ q r n, X (ix3 q r n) = f q r n) :
    X = row3 f := by
  funext i
  have hi : i = ix3 (i 0 : Fin a) (i 1 : Fin b) (i 2 : Fin c) := funext fun e => match e with | ⟨0, _⟩ => rfl | ⟨1, _⟩ => rfl | ⟨2, _⟩ => rfl
  exact (congrArg X hi).trans (h (i 0) (i 1) (i 2))

namespace Args
variable (A : Args)

/-- A normalised input row. -/
def h (r : Fin 256) (k : Fin 2048) : EReal :=
  nrm (Ideal.ofBits .f32 0x45000000#32) (∑ j : Fin 2048, A.x (ix3 (bOf r) (sOf r) j) * A.x (ix3 (bOf r) (sOf r) j)) (A.x (ix3 (bOf r) (sOf r) k)) (A.g (ix1 k))

/-- Column `n` of the fused projection. -/
def z (r : Fin 256) (n : Fin 5316) : EReal := ∑ k : Fin 2048, A.h r k * A.w (ix2 k n)

/-- 512 columns of it, from column `o` on. -/
def seg (o : Nat) (ho : o + 512 ≤ 5316) (r : Fin 256) (n : Fin 512) : EReal := A.z r ⟨o + n.val, by omega⟩

/-- The query latent, normalised. -/
def dq (r : Fin 256) (k : Fin 384) : EReal := A.z r ⟨4612 + k.val, by omega⟩
def nq (r : Fin 256) (k : Fin 384) : EReal :=
  nrm (Ideal.ofBits .f32 0x43C00000#32) (∑ j : Fin 384, A.dq r j * A.dq r j) (A.dq r k) (A.gq (ix1 k))

/-- The key and value latent, normalised. -/
def dkv (r : Fin 256) (k : Fin 256) : EReal := A.z r ⟨4996 + k.val, by omega⟩
def ckv (r : Fin 256) (k : Fin 256) : EReal :=
  nrm (Ideal.ofBits .f32 0x43800000#32) (∑ j : Fin 256, A.dkv r j * A.dkv r j) (A.dkv r k) (A.gkv (ix1 k))

/-- The rotary key, turned. -/
def dkr (r : Fin 256) (l : Fin 64) : EReal := A.z r ⟨5252 + l.val, by omega⟩
def kpe (r : Fin 256) (l : Fin 64) : EReal := turn r (A.dkr r) l

/-- The forget gates. -/
def logf (r : Fin 256) (n : Fin 4) : EReal := lsig (A.z r ⟨3072 + n.val, by omega⟩ + A.bf (ix1 n))

/-- Latent attention's queries before turn and scale, its keys' plain part, and its values. -/
def qf (r : Fin 256) (n : Fin 768) : EReal := ∑ k : Fin 384, A.nq r k * A.uq (ix2 k n)
def kn (r : Fin 256) (n : Fin 512) : EReal := ∑ k : Fin 256, A.ckv r k * A.uk (ix2 k n)
def vd (r : Fin 256) (n : Fin 512) : EReal := ∑ k : Fin 256, A.ckv r k * A.uv (ix2 k n)

/-- A head's queries: 128 plain columns, 64 turned ones, 64 of zeros. -/
def qd (n : Fin 4) (r l : Fin 256) : EReal :=
  if h : l.val < 128 then A.qf r ⟨n.val * 192 + l.val, by omega⟩ * sD
  else if h' : l.val < 192 then turn r (fun j => A.qf r ⟨n.val * 192 + (128 + j.val), by omega⟩) ⟨l.val - 128, by omega⟩ * sD
  else 0

/-- A head's keys, laid out likewise; the turned columns are the same for all heads. -/
def kd (n : Fin 4) (r l : Fin 256) : EReal :=
  if h : l.val < 128 then A.kn r ⟨n.val * 128 + l.val, by omega⟩
  else if h' : l.val < 192 then A.kpe r ⟨l.val - 128, by omega⟩
  else 0

end Args

/-- The log-sigmoid as minus the soft plus of the negated argument. -/
theorem lsig_eq (a : EReal) : -(max (-a) 0 + Ideal.log1p (Ideal.exp (-max a (-a)))) = lsig a := by
  unfold lsig
  have h1 : Ideal.log1p 0 = 0 := by
    rw [Ideal.log1p, add_zero, ← EReal.coe_one, Ideal.log_coe, if_neg (by norm_num), Real.log_one, EReal.coe_zero]
  have hL : (0 : EReal) ≤ Ideal.log1p (Ideal.exp (-max a (-a))) := by
    induction a using EReal.rec with
    | bot =>
      rw [EReal.neg_bot, max_eq_right bot_le, EReal.neg_top, Ideal.exp_bot, h1]
    | top =>
      rw [EReal.neg_top, max_eq_left bot_le, EReal.neg_top, Ideal.exp_bot, h1]
    | coe a =>
      rw [← EReal.coe_neg, ← EReal.coe_strictMono.monotone.map_max, ← EReal.coe_neg, Ideal.exp_coe, Ideal.log1p, ← EReal.coe_one, ← EReal.coe_add,
        Ideal.log_coe, if_neg (not_le.2 (by positivity))]
      exact EReal.coe_nonneg.2 (Real.log_nonneg (by linarith [Real.exp_pos (-max a (-a))]))
  generalize Ideal.log1p (Ideal.exp (-max a (-a))) = L at hL
  have h0 : (0 : EReal) ≤ max (-a) 0 := le_max_right _ _
  rw [EReal.neg_add (Or.inl fun h => absurd (h ▸ h0) (by simp)) (Or.inr fun h => absurd (h ▸ hL) (by simp))]
  congr 1
  rcases le_total a 0 with h | h
  · rw [min_eq_left h, max_eq_left (by simpa using EReal.neg_le_neg_iff.2 h), neg_neg]
  · rw [min_eq_right h, max_eq_right (by simpa using EReal.neg_le_neg_iff.2 h), neg_zero]

theorem bits_64 : Ideal.ofBits .f32 0x42800000#32 = ((64 : ℝ) : EReal) := by
  simp [Ideal.ofBits, Ideal.ieee, -EReal.coe_mul]
  norm_num

theorem bits_128 : Ideal.ofBits .f32 0x43000000#32 = ((128 : ℝ) : EReal) := by
  simp [Ideal.ofBits, Ideal.ieee, -EReal.coe_mul]
  norm_num

theorem bits_1 : Ideal.ofBits .f32 0x3F800000#32 = (1 : EReal) := by
  simp [Ideal.ofBits, Ideal.ieee, -EReal.coe_mul]
  norm_num

/-- One over the root of `a` times the logarithm of two. -/
theorem scale_eq (a : ℝ) (ha : 0 < a) :
    Ideal.div (Ideal.ofBits .f32 0x3F800000#32) (Ideal.sqrt (a : EReal) * Ideal.log (Ideal.ofBits .f32 0x40000000#32)) = (((Real.sqrt a * Real.log 2)⁻¹ : ℝ) : EReal) := by
  have h2 : (0 : ℝ) < Real.log 2 := Real.log_pos (by norm_num)
  have hs : 0 < Real.sqrt a := Real.sqrt_pos.2 ha
  rw [bits_1, Consts.bits_2, Ideal.sqrt_coe, Ideal.log_coe, if_neg (not_lt.2 ha.le), if_neg (by norm_num), ← EReal.coe_mul, ← EReal.coe_one,
    Ideal.div_coe (by positivity), EReal.coe_one, one_mul, one_div]

theorem scaleA_eq : Ideal.div (Ideal.ofBits .f32 0x3F800000#32) (Ideal.sqrt (Ideal.ofBits .f32 0x42800000#32) * Ideal.log (Ideal.ofBits .f32 0x40000000#32)) = sA := by
  rw [bits_64]
  exact scale_eq 64 (by norm_num)

theorem scaleB_eq : Ideal.div (Ideal.ofBits .f32 0x3F800000#32) (Ideal.sqrt (Ideal.ofBits .f32 0x43000000#32) * Ideal.log (Ideal.ofBits .f32 0x40000000#32)) = sB := by
  rw [bits_128]
  exact scale_eq 128 (by norm_num)

theorem scaleC_eq : Ideal.div (Ideal.ofBits .f32 0x3F800000#32) (Ideal.sqrt (Ideal.ofBits .f32 0x43000000#32)) = sC := by
  rw [bits_1, bits_128, Ideal.sqrt_coe, if_neg (by norm_num), ← EReal.coe_one, Ideal.div_coe (Real.sqrt_ne_zero'.2 (by norm_num)), EReal.coe_one, one_mul, one_div]
  rfl

theorem scaleD_eq : Ideal.div (Ideal.ofBits .f32 0x3F800000#32) (Ideal.sqrt (Ideal.ofBits .f32 0x43400000#32) * Ideal.log (Ideal.ofBits .f32 0x40000000#32)) = sD := by
  rw [Consts.bits_192]
  exact scale_eq 192 (by norm_num)

end Cert.Proj

end
-- ==== Proof.ProjHost.lean ====
/- The arrays the input projection's launch stages, at an index, from the arguments. -/
module

public import proofs.«01_k».proof.Proof.ProjFrameIdeal
public import proofs.«01_k».proof.Proof.ProjSpec
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen Cert.Proj

variable (m : (ℓ : Loc nD τ sig) → Buf (Elt Ideal) ℓ)

/-- The kernel's arguments. -/
def argsOf (c : Dev nD) : Args where
  x := m ((c : Thread nD τ).loc main_arg0)
  g := m ((c : Thread nD τ).loc main_arg1)
  w := m ((c : Thread nD τ).loc main_arg2)
  bf := m ((c : Thread nD τ).loc main_arg3)
  gq := m ((c : Thread nD τ).loc main_arg4)
  gkv := m ((c : Thread nD τ).loc main_arg5)
  uq := m ((c : Thread nD τ).loc main_arg6)
  uk := m ((c : Thread nD τ).loc main_arg7)
  uv := m ((c : Thread nD τ).loc main_arg8)

/-- All the host's operations before the kernel, in one list. -/
theorem V_ops (c : Dev nD) (b : Ref sig .tc) : V m c b = StableHlo.after (List.flatten [hostOps0, hostOps0_1, hostOps0_2, hostOps0_3, hostOps0_4, hostOps0_5,
    hostOps0_6, hostOps0_7, hostOps0_8, hostOps0_9, hostOps0_10, hostOps0_11, hostOps0_12, hostOps0_13, hostOps0_14, hostOps0_15, hostOps0_16, hostOps0_17, hostOps0_18,
    hostOps0_19, hostOps0_20]) (fun b => m (c, b)) (Proc.devRef .tc b) := rfl

theorem V_x (c : Dev nD) (r : Fin 256) (k : Fin 2048) : V m c main_v68 (ix2 r k) = (argsOf m c).x (ix3 (bOf r) (sOf r) k) := by
  rw [V_ops]
  unfold argsOf
  open StableHlo in after_reads_simp
  pointwise
  blk_ext [bOf, sOf]

theorem V_g (c : Dev nD) (k : Fin 2048) : V m c main_v69 (ix2 0 k) = (argsOf m c).g (ix1 k) := by
  rw [V_ops]
  unfold argsOf
  open StableHlo in after_reads_simp
  pointwise

theorem V_wab (c : Dev nD) (n : Fin 3072) (k : Fin 2048) : V m c main_v26 (ix2 n k) = (argsOf m c).w (ix2 k (⟨n.val, by omega⟩ : Fin 5316)) := by
  rw [V_ops]
  unfold argsOf
  open StableHlo in after_reads_simp
  pointwise

theorem V_rest (c : Dev nD) (n : Fin 2244) (k : Fin 2048) :
    V m c main_v29 (ix2 (⟨n.val, by omega⟩ : Fin 2304) k) = (argsOf m c).w (ix2 k (⟨3072 + n.val, by omega⟩ : Fin 5316)) := by
  rw [V_ops]
  unfold argsOf
  open StableHlo in after_reads_simp
  simp only [StableHlo.TRef.toBuf, StableHlo.TRef.ofBuf, cast_eq]
  pointwise

theorem V_bf (c : Dev nD) (n : Fin 4) : V m c main_v63 (ix2 0 (⟨n.val, by omega⟩ : Fin 128)) = (argsOf m c).bf (ix1 n) := by
  rw [V_ops]
  unfold argsOf
  open StableHlo in after_reads_simp
  simp only [StableHlo.TRef.toBuf, StableHlo.TRef.ofBuf, cast_eq]
  pointwise

theorem V_gq (c : Dev nD) (k : Fin 384) : V m c main_v64 (ix2 0 k) = (argsOf m c).gq (ix1 k) := by
  rw [V_ops]
  unfold argsOf
  open StableHlo in after_reads_simp
  pointwise

theorem V_gkv (c : Dev nD) (k : Fin 256) : V m c main_v65 (ix2 0 k) = (argsOf m c).gkv (ix1 k) := by
  rw [V_ops]
  unfold argsOf
  open StableHlo in after_reads_simp
  pointwise

theorem V_uk (c : Dev nD) (k : Fin 256) (n : Fin 512) : V m c main_v66 (ix2 k n) = (argsOf m c).uk (ix2 k n) := by
  rw [V_ops]
  unfold argsOf
  open StableHlo in after_reads_simp
  pointwise

theorem V_uv (c : Dev nD) (k : Fin 256) (n : Fin 512) : V m c main_v67 (ix2 k n) = (argsOf m c).uv (ix2 k n) := by
  rw [V_ops]
  unfold argsOf
  open StableHlo in after_reads_simp
  pointwise

set_option maxHeartbeats 2000000 in
/-- The four heads' plain columns come first, side by side. -/
theorem V_wq (c : Dev nD) (k : Fin 384) (n : Fin 4) (l : Fin 128) :
    V m c main_v43 (ix2 k (⟨128 * n.val + l.val, by omega⟩ : Fin 1024)) = (argsOf m c).uq (ix2 k (⟨n.val * 192 + l.val, by omega⟩ : Fin 768)) := by
  rw [V_ops]
  unfold argsOf
  open StableHlo in after_reads_simp
  pointwise
  obtain ⟨n, hn⟩ := n
  interval_cases n <;> dsimp only <;> (repeat' split) <;> first
    | omega
    | open StableHlo in after_reads_simp
      pointwise
      blk_ext []

set_option maxHeartbeats 2000000 in
/-- The four heads' columns that turn with the position come after, each followed by zeros. -/
theorem V_wq' (c : Dev nD) (k : Fin 384) (n : Fin 4) (l : Fin 64) :
    V m c main_v43 (ix2 k (⟨512 + 128 * n.val + l.val, by omega⟩ : Fin 1024)) = (argsOf m c).uq (ix2 k (⟨n.val * 192 + (128 + l.val), by omega⟩ : Fin 768)) := by
  rw [V_ops]
  unfold argsOf
  open StableHlo in after_reads_simp
  pointwise
  obtain ⟨n, hn⟩ := n
  interval_cases n <;> dsimp only <;> (repeat' split) <;> first
    | omega
    | open StableHlo in after_reads_simp
      simp only [StableHlo.TRef.toBuf, StableHlo.TRef.ofBuf, cast_eq]
      pointwise
      rw [dif_pos (by omega)]
      blk_ext []

set_option maxHeartbeats 4000000 in
/-- The turned columns once more, each head's two halves exchanged: the second half first, … -/
theorem V_wqs (c : Dev nD) (k : Fin 384) (n : Fin 4) (l : Fin 32) :
    V m c main_v61 (ix2 k (⟨128 * n.val + l.val, by omega⟩ : Fin 512)) = (argsOf m c).uq (ix2 k (⟨n.val * 192 + (128 + (32 + l.val)), by omega⟩ : Fin 768)) := by
  rw [V_ops]
  unfold argsOf
  open StableHlo in after_reads_simp
  pointwise
  obtain ⟨n, hn⟩ := n
  interval_cases n <;> dsimp only <;> (repeat' split) <;> first
    | omega
    | open StableHlo in after_reads_simp
      simp only [StableHlo.TRef.toBuf, StableHlo.TRef.ofBuf, cast_eq]
      pointwise
      repeat first
        | rw [dif_pos (by omega)]
        | rw [dif_neg (by omega)]
      open StableHlo in after_reads_simp
      pointwise
      blk_ext []

set_option maxHeartbeats 4000000 in
/-- … then the first. -/
theorem V_wqs' (c : Dev nD) (k : Fin 384) (n : Fin 4) (l : Fin 32) :
    V m c main_v61 (ix2 k (⟨128 * n.val + (32 + l.val), by omega⟩ : Fin 512)) = (argsOf m c).uq (ix2 k (⟨n.val * 192 + (128 + l.val), by omega⟩ : Fin 768)) := by
  rw [V_ops]
  unfold argsOf
  open StableHlo in after_reads_simp
  pointwise
  obtain ⟨n, hn⟩ := n
  interval_cases n <;> dsimp only <;> (repeat' split) <;> first
    | omega
    | open StableHlo in after_reads_simp
      simp only [StableHlo.TRef.toBuf, StableHlo.TRef.ofBuf, cast_eq]
      pointwise
      repeat first
        | rw [dif_pos (by omega)]
        | rw [dif_neg (by omega)]
      open StableHlo in after_reads_simp
      pointwise
      blk_ext []

/-- The cosines stand twice, … -/
theorem V_cos (c : Dev nD) (r : Fin 256) (l : Fin 32) : V m c main_v21 (ix2 r (⟨l.val, by omega⟩ : Fin 128)) = Ideal.cos (angle (sOf r) l) := by
  rw [V_ops]
  open StableHlo in after_reads_simp
  pointwise
  open StableHlo in after_reads_simp
  pointwise
  rfl
/-- … the second time behind the first, … -/
theorem V_cos' (c : Dev nD) (r : Fin 256) (l : Fin 32) : V m c main_v21 (ix2 r (⟨32 + l.val, by omega⟩ : Fin 128)) = Ideal.cos (angle (sOf r) l) := by
  rw [V_ops]
  open StableHlo in after_reads_simp
  pointwise
  open StableHlo in after_reads_simp
  pointwise
  rfl
/-- … and zeros fill the row. -/
theorem V_cos_zero (c : Dev nD) (r : Fin 256) (l : Fin 64) : V m c main_v21 (ix2 r (⟨64 + l.val, by omega⟩ : Fin 128)) = (0 : EReal) := by
  rw [V_ops]
  open StableHlo in after_reads_simp
  pointwise
  open StableHlo in after_reads_simp
  pointwise
  rw [dif_neg (by omega), dif_neg (by omega)]
/-- The sines stand twice, the first time negated, … -/
theorem V_sin (c : Dev nD) (r : Fin 256) (l : Fin 32) : V m c main_v23 (ix2 r (⟨l.val, by omega⟩ : Fin 128)) = -Ideal.sin (angle (sOf r) l) := by
  rw [V_ops]
  open StableHlo in after_reads_simp
  pointwise
  open StableHlo in after_reads_simp
  pointwise
  rfl
/-- … the second time as they are, … -/
theorem V_sin' (c : Dev nD) (r : Fin 256) (l : Fin 32) : V m c main_v23 (ix2 r (⟨32 + l.val, by omega⟩ : Fin 128)) = Ideal.sin (angle (sOf r) l) := by
  rw [V_ops]
  open StableHlo in after_reads_simp
  pointwise
  open StableHlo in after_reads_simp
  pointwise
  rfl
/-- … and zeros fill the row. -/
theorem V_sin_zero (c : Dev nD) (r : Fin 256) (l : Fin 64) : V m c main_v23 (ix2 r (⟨64 + l.val, by omega⟩ : Fin 128)) = (0 : EReal) := by
  rw [V_ops]
  open StableHlo in after_reads_simp
  pointwise
  open StableHlo in after_reads_simp
  pointwise
  rw [dif_neg (by omega), dif_neg (by omega)]

end Cert.Kernel4Ideal.Proj

end
-- ==== Proof.ProjPay.lean ====
/- The input projection kernel's body over blocks that hold the arguments: each of its values at an index. -/
module

public import proofs.«01_k».proof.Proof.Gen.Kernel4Ideal.Skeleton
public import proofs.«01_k».proof.Proof.ProjSpec
public import Idealize.ShloMosaic.Lib.Pointwise
public import Idealize.ShloMosaic.Lib.KernelVsHost
public import Idealize.ShloMosaic.Lib.Claim

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen Cert.Proj

/-- What the thirteen blocks hold, over the arguments: rows and gains as they are, the fused matrix transposed and cut in two, the
    second part with 60 rows of zeros at its end; the query matrix with its heads' plain columns first and then their turned ones, 128
    lanes a head; that second part once more with its halves swapped; and the rotary tables, zero from lane 64 on. -/
structure Blocks (A : Args) where
  x0 : FVec Ideal S256x2048 .f32
  x1 : FVec Ideal S1x2048 .f32
  x2 : FVec Ideal S3072x2048 .bf16
  x3 : FVec Ideal S2304x2048 .bf16
  x4 : FVec Ideal S1x128 .f32
  x5 : FVec Ideal S1x384 .f32
  x6 : FVec Ideal S1x256 .f32
  x7 : FVec Ideal S384x1024 .bf16
  x8 : FVec Ideal S384x512 .bf16
  x9 : FVec Ideal S256x512 .bf16
  x10 : FVec Ideal S256x512 .bf16
  x11 : FVec Ideal S256x128 .f32
  x12 : FVec Ideal S256x128 .f32
  h0 : ∀ (r : Fin 256) (k : Fin 2048), x0 (ix2 r k) = A.x (ix3 (bOf r) (sOf r) k)
  h1 : ∀ k : Fin 2048, x1 (ix2 0 k) = A.g (ix1 k)
  h2 : ∀ (n : Fin 3072) (k : Fin 2048), x2 (ix2 n k) = A.w (ix2 k (⟨n.val, by omega⟩ : Fin 5316))
  h3 : ∀ (n : Fin 2244) (k : Fin 2048), x3 (ix2 (⟨n.val, by omega⟩ : Fin 2304) k) = A.w (ix2 k (⟨3072 + n.val, by omega⟩ : Fin 5316))
  h4 : ∀ n : Fin 4, x4 (ix2 0 (⟨n.val, by omega⟩ : Fin 128)) = A.bf (ix1 n)
  h5 : ∀ k : Fin 384, x5 (ix2 0 k) = A.gq (ix1 k)
  h6 : ∀ k : Fin 256, x6 (ix2 0 k) = A.gkv (ix1 k)
  h7 : ∀ (k : Fin 384) (n : Fin 4) (l : Fin 128), x7 (ix2 k (⟨128 * n.val + l.val, by omega⟩ : Fin 1024)) = A.uq (ix2 k (⟨n.val * 192 + l.val, by omega⟩ : Fin 768))
  h7' : ∀ (k : Fin 384) (n : Fin 4) (l : Fin 64), x7 (ix2 k (⟨512 + 128 * n.val + l.val, by omega⟩ : Fin 1024)) = A.uq (ix2 k (⟨n.val * 192 + (128 + l.val), by omega⟩ : Fin 768))
  h8 : ∀ (k : Fin 384) (n : Fin 4) (l : Fin 32), x8 (ix2 k (⟨128 * n.val + l.val, by omega⟩ : Fin 512)) = A.uq (ix2 k (⟨n.val * 192 + (128 + (32 + l.val)), by omega⟩ : Fin 768))
  h8' : ∀ (k : Fin 384) (n : Fin 4) (l : Fin 32), x8 (ix2 k (⟨128 * n.val + (32 + l.val), by omega⟩ : Fin 512)) = A.uq (ix2 k (⟨n.val * 192 + (128 + l.val), by omega⟩ : Fin 768))
  h9 : ∀ (k : Fin 256) (n : Fin 512), x9 (ix2 k n) = A.uk (ix2 k n)
  h10 : ∀ (k : Fin 256) (n : Fin 512), x10 (ix2 k n) = A.uv (ix2 k n)
  h11 : ∀ (r : Fin 256) (l : Fin 32), x11 (ix2 r (⟨l.val, by omega⟩ : Fin 128)) = Ideal.cos (angle (sOf r) l)
  h11' : ∀ (r : Fin 256) (l : Fin 32), x11 (ix2 r (⟨32 + l.val, by omega⟩ : Fin 128)) = Ideal.cos (angle (sOf r) l)
  h11z : ∀ (r : Fin 256) (l : Fin 64), x11 (ix2 r (⟨64 + l.val, by omega⟩ : Fin 128)) = (0 : EReal)
  h12 : ∀ (r : Fin 256) (l : Fin 32), x12 (ix2 r (⟨l.val, by omega⟩ : Fin 128)) = (-Ideal.sin (angle (sOf r) l) : EReal)
  h12' : ∀ (r : Fin 256) (l : Fin 32), x12 (ix2 r (⟨32 + l.val, by omega⟩ : Fin 128)) = Ideal.sin (angle (sOf r) l)
  h12z : ∀ (r : Fin 256) (l : Fin 64), x12 (ix2 r (⟨64 + l.val, by omega⟩ : Fin 128)) = (0 : EReal)

variable {A : Args} (B : Blocks A)

/-- The normalised rows. -/
theorem pay3_at (r : Fin 256) (k : Fin 2048) : (k0_pay3 (F := Ideal) B.x0 B.x1 (ix2 r k) : EReal) = A.h r k := by
  unfold Args.h nrm
  simp only [← B.h0, ← B.h1]
  pointwise [k0_pay3]

/-- Normalised rows against 512 rows of the transposed matrix. -/
theorem prod_at (H : FVec Ideal S256x2048 .bf16) (W : FVec Ideal S512x2048 .bf16) (r : Fin 256) (n : Fin 512) :
    (k0_pay10 (F := Ideal) H W (ix2 r n) : EReal) = ∑ k : Fin 2048, (H (ix2 r k) : EReal) * W (ix2 n k) := by
  pointwise [k0_pay10]

/-- 512 rows of the first part of the transposed matrix, from row `o` on. -/
theorem seg_at (o : Nat) (ho : o + 512 ≤ 3072) (W : FVec Ideal S512x2048 .bf16)
    (hW : ∀ (n : Fin 512) (k : Fin 2048), W (ix2 n k) = B.x2 (ix2 (⟨o + n.val, by omega⟩ : Fin 3072) k)) :
    k0_pay10 (F := Ideal) (k0_pay3 B.x0 B.x1) W = row2 (A.seg o (by omega)) := by
  refine eq_row2 _ _ fun r n => (prod_at _ _ r n).trans ?_
  unfold Args.seg Args.z
  refine Finset.sum_congr rfl fun k _ => ?_
  rw [pay3_at, hW, B.h2]

/-- The rest of the fused projection, and its columns four to the left. -/
theorem pay4_at (r : Fin 256) (n : Fin 2244) : (k0_pay4 (F := Ideal) B.x0 B.x1 B.x3 (ix2 r (⟨n.val, by omega⟩ : Fin 2304)) : EReal) = A.z r ⟨3072 + n.val, by omega⟩ := by
  unfold Args.z
  simp only [← pay3_at B, ← B.h3]
  unfold k0_pay4
  generalize k0_pay3 (F := Ideal) B.x0 B.x1 = H
  pointwise

theorem pay6_at (r : Fin 256) (n : Fin 2240) : (k0_pay6 (F := Ideal) B.x0 B.x1 B.x3 (ix2 r (⟨n.val, by omega⟩ : Fin 2304)) : EReal) = A.z r ⟨3076 + n.val, by omega⟩ := by
  refine Eq.trans ?_ ((pay4_at B r ⟨4 + n.val, by omega⟩).trans (congrArg (A.z r) (Fin.ext (by show 3072 + (4 + n.val) = 3076 + n.val; omega))))
  unfold k0_pay6
  refine dynamicRotate_apply (1 : Fin S256x2304.rank) 2300#32 _ _ _ (ix2 r (⟨4 + n.val, by omega⟩ : Fin 2304)) fun b => ?_
  match b with
  | ⟨0, _⟩ => rfl
  | ⟨1, _⟩ =>
    show 4 + n.val = (n.val + 2304 - 2300) % 2304
    have := n.isLt
    omega

/-- The third group's 512 columns, from column `o` on. -/
theorem rest_at (o : Nat) (ho : o + 512 ≤ 2240) (hs : S256x2304.Slices ![0, o] S256x512) :
    extractStridedSlice S256x512 ![0, o] (k0_pay6 (F := Ideal) B.x0 B.x1 B.x3) hs = row2 (A.seg (3076 + o) (by omega)) := by
  refine eq_row2 _ _ fun r n => Eq.trans ?_ ((pay6_at B r ⟨o + n.val, by omega⟩).trans (congrArg (A.z r) (Fin.ext (by show 3076 + (o + n.val) = 3076 + o + n.val; omega))))
  generalize k0_pay6 (F := Ideal) B.x0 B.x1 B.x3 = R
  pointwise

/-- The forget gates. -/
theorem logf_at (r : Fin 256) (n : Fin 4) :
    (k0_pay26 (F := Ideal) (k0_pay5 B.x0 B.x1 B.x3) B.x4 (ix2 r (⟨n.val, by omega⟩ : Fin 128)) : EReal) = A.logf r n := by
  unfold Args.logf
  rw [← pay4_at B r ⟨n.val, by omega⟩, ← B.h4]
  unfold k0_pay5
  generalize k0_pay4 (F := Ideal) B.x0 B.x1 B.x3 = R
  pointwise [k0_pay26, lsig]
  generalize R _ + B.x4 _ = a
  rw [zero_sub]
  rfl

/-- The latents. -/
theorem dq_at (r : Fin 256) (k : Fin 384) : (k0_pay22 (F := Ideal) (k0_pay6 B.x0 B.x1 B.x3) (ix2 r k) : EReal) = A.dq r k := by
  refine Eq.trans ?_ ((pay6_at B r ⟨1536 + k.val, by omega⟩).trans (congrArg (A.z r) (Fin.ext (by show 3076 + (1536 + k.val) = 4612 + k.val; omega))))
  generalize k0_pay6 (F := Ideal) B.x0 B.x1 B.x3 = R
  pointwise [k0_pay22]
theorem dkv_at (r : Fin 256) (k : Fin 256) : (k0_pay23 (F := Ideal) (k0_pay6 B.x0 B.x1 B.x3) (ix2 r k) : EReal) = A.dkv r k := by
  refine Eq.trans ?_ ((pay6_at B r ⟨1920 + k.val, by omega⟩).trans (congrArg (A.z r) (Fin.ext (by show 3076 + (1920 + k.val) = 4996 + k.val; omega))))
  generalize k0_pay6 (F := Ideal) B.x0 B.x1 B.x3 = R
  pointwise [k0_pay23]
theorem dkr_at (r : Fin 256) (l : Fin 64) : (k0_pay24 (F := Ideal) (k0_pay6 B.x0 B.x1 B.x3) (ix2 r (⟨l.val, by omega⟩ : Fin 128)) : EReal) = A.dkr r l := by
  refine Eq.trans ?_ ((pay6_at B r ⟨2176 + l.val, by omega⟩).trans (congrArg (A.z r) (Fin.ext (by show 3076 + (2176 + l.val) = 5252 + l.val; omega))))
  generalize k0_pay6 (F := Ideal) B.x0 B.x1 B.x3 = R
  pointwise [k0_pay24]

theorem nq_at (r : Fin 256) (k : Fin 384) : (k0_pay44 (F := Ideal) (k0_pay22 (k0_pay6 B.x0 B.x1 B.x3)) B.x5 (ix2 r k) : EReal) = A.nq r k := by
  unfold Args.nq nrm
  simp only [← dq_at B, ← B.h5]
  generalize k0_pay22 (F := Ideal) (k0_pay6 B.x0 B.x1 B.x3) = Q
  pointwise [k0_pay44]
theorem ckv_at (r : Fin 256) (k : Fin 256) : (k0_pay27 (F := Ideal) (k0_pay23 (k0_pay6 B.x0 B.x1 B.x3)) B.x6 (ix2 r k) : EReal) = A.ckv r k := by
  unfold Args.ckv nrm
  simp only [← dkv_at B, ← B.h6]
  generalize k0_pay23 (F := Ideal) (k0_pay6 B.x0 B.x1 B.x3) = Q
  pointwise [k0_pay27]

theorem kn_at (r : Fin 256) (n : Fin 512) : (k0_pay33 (F := Ideal) (k0_pay23 (k0_pay6 B.x0 B.x1 B.x3)) B.x6 B.x9 (ix2 r n) : EReal) = A.kn r n := by
  unfold Args.kn
  simp only [← ckv_at B, ← B.h9]
  unfold k0_pay33 k0_pay32
  generalize k0_pay27 (F := Ideal) (k0_pay23 (k0_pay6 B.x0 B.x1 B.x3)) B.x6 = Q
  pointwise
theorem vd_at (r : Fin 256) (n : Fin 512) : (k0_pay34 (F := Ideal) (k0_pay23 (k0_pay6 B.x0 B.x1 B.x3)) B.x6 B.x10 (ix2 r n) : EReal) = A.vd r n := by
  unfold Args.vd
  simp only [← ckv_at B, ← B.h10]
  unfold k0_pay34 k0_pay32
  generalize k0_pay27 (F := Ideal) (k0_pay23 (k0_pay6 B.x0 B.x1 B.x3)) B.x6 = Q
  pointwise

/-- The queries before turn and scale: a head's plain columns, its columns to turn, and those with their halves swapped. -/
theorem qf_at (r : Fin 256) (n : Fin 4) (l : Fin 128) :
    (k0_pay45 (F := Ideal) (k0_pay22 (k0_pay6 B.x0 B.x1 B.x3)) B.x5 B.x7 (ix2 r (⟨128 * n.val + l.val, by omega⟩ : Fin 1024)) : EReal) = A.qf r ⟨n.val * 192 + l.val, by omega⟩ := by
  unfold Args.qf
  simp only [← nq_at B, ← B.h7]
  unfold k0_pay45
  generalize k0_pay44 (F := Ideal) (k0_pay22 (k0_pay6 B.x0 B.x1 B.x3)) B.x5 = Q
  pointwise
theorem qr_at (r : Fin 256) (n : Fin 4) (l : Fin 64) :
    (k0_pay45 (F := Ideal) (k0_pay22 (k0_pay6 B.x0 B.x1 B.x3)) B.x5 B.x7 (ix2 r (⟨512 + 128 * n.val + l.val, by omega⟩ : Fin 1024)) : EReal) = A.qf r ⟨n.val * 192 + (128 + l.val), by omega⟩ := by
  unfold Args.qf
  simp only [← nq_at B, ← B.h7']
  unfold k0_pay45
  generalize k0_pay44 (F := Ideal) (k0_pay22 (k0_pay6 B.x0 B.x1 B.x3)) B.x5 = Q
  pointwise
theorem qs_at (r : Fin 256) (n : Fin 4) (l : Fin 32) :
    (k0_pay46 (F := Ideal) (k0_pay22 (k0_pay6 B.x0 B.x1 B.x3)) B.x5 B.x8 (ix2 r (⟨128 * n.val + l.val, by omega⟩ : Fin 512)) : EReal) = A.qf r ⟨n.val * 192 + (128 + (32 + l.val)), by omega⟩ := by
  unfold Args.qf
  simp only [← nq_at B, ← B.h8]
  unfold k0_pay46
  generalize k0_pay44 (F := Ideal) (k0_pay22 (k0_pay6 B.x0 B.x1 B.x3)) B.x5 = Q
  pointwise
theorem qs_at' (r : Fin 256) (n : Fin 4) (l : Fin 32) :
    (k0_pay46 (F := Ideal) (k0_pay22 (k0_pay6 B.x0 B.x1 B.x3)) B.x5 B.x8 (ix2 r (⟨128 * n.val + (32 + l.val), by omega⟩ : Fin 512)) : EReal) = A.qf r ⟨n.val * 192 + (128 + l.val), by omega⟩ := by
  unfold Args.qf
  simp only [← nq_at B, ← B.h8']
  unfold k0_pay46
  generalize k0_pay44 (F := Ideal) (k0_pay22 (k0_pay6 B.x0 B.x1 B.x3)) B.x5 = Q
  pointwise

/-- A turn as the kernel writes it, on 128 lanes: columns times cosines plus swapped columns times signed sines. -/
theorem lanes_at (P Q : Fin 128 → EReal) (a : Fin 64 → EReal) (r : Fin 256) (hP : ∀ l : Fin 64, P ⟨l.val, by omega⟩ = a l)
    (hQ : ∀ l : Fin 32, Q ⟨l.val, by omega⟩ = a ⟨32 + l.val, by omega⟩) (hQ' : ∀ l : Fin 32, Q ⟨32 + l.val, by omega⟩ = a ⟨l.val, by omega⟩) (l : Fin 128) :
    P l * B.x11 (ix2 r l) + Q l * B.x12 (ix2 r l) = if h : l.val < 64 then turn r a ⟨l.val, h⟩ else 0 := by
  by_cases h : l.val < 64
  · rw [dif_pos h]
    unfold turn
    by_cases h' : l.val < 32
    · rw [dif_pos h']
      have e : l = ⟨(⟨l.val, h'⟩ : Fin 32).val, by omega⟩ := rfl
      rw [show B.x11 (ix2 r l) = _ from B.h11 r ⟨l.val, h'⟩, show B.x12 (ix2 r l) = _ from B.h12 r ⟨l.val, h'⟩, show P l = _ from hP ⟨l.val, h⟩,
        show Q l = _ from hQ ⟨l.val, h'⟩, mul_neg]
      rfl
    · rw [dif_neg h']
      have e : (⟨32 + (l.val - 32), by omega⟩ : Fin 128) = l := Fin.ext (by show 32 + (l.val - 32) = l.val; omega)
      have hc := B.h11' r ⟨l.val - 32, by omega⟩
      have hs := B.h12' r ⟨l.val - 32, by omega⟩
      have hq := hQ' ⟨l.val - 32, by omega⟩
      simp only [e] at hc hs hq
      rw [hc, hs, hq, show P l = _ from hP ⟨l.val, h⟩, add_comm]
  · rw [dif_neg h]
    have e : (⟨64 + (l.val - 64), by omega⟩ : Fin 128) = l := Fin.ext (by show 64 + (l.val - 64) = l.val; omega)
    have hc := B.h11z r ⟨l.val - 64, by omega⟩
    have hs := B.h12z r ⟨l.val - 64, by omega⟩
    simp only [e] at hc hs
    rw [hc, hs, mul_zero, mul_zero, add_zero]

/-- The rotary key's lanes with the two halves swapped: two rotations and a choice between them. -/
theorem swap_at (r : Fin 256) (l : Fin 32) : (k0_pay25 (F := Ideal) (k0_pay6 B.x0 B.x1 B.x3) (ix2 r (⟨l.val, by omega⟩ : Fin 128)) : EReal) = A.dkr r ⟨32 + l.val, by omega⟩ := by
  rw [← dkr_at B]
  unfold k0_pay25
  generalize k0_pay24 (F := Ideal) (k0_pay6 B.x0 B.x1 B.x3) = R
  pointwise
  rw [show IntOp.cmpi CmpIPredicate.slt (BitVec.ofNat 32 l.val) 32#32 = 1#1 from by revert l; decide]
  exact congrArg R (congrArg (ix2 r) (Fin.ext (by show (l.val + 128 - 96) % 128 = 32 + l.val; omega)))
theorem swap_at' (r : Fin 256) (l : Fin 32) : (k0_pay25 (F := Ideal) (k0_pay6 B.x0 B.x1 B.x3) (ix2 r (⟨32 + l.val, by omega⟩ : Fin 128)) : EReal) = A.dkr r ⟨l.val, by omega⟩ := by
  rw [← dkr_at B]
  unfold k0_pay25
  generalize k0_pay24 (F := Ideal) (k0_pay6 B.x0 B.x1 B.x3) = R
  pointwise
  rw [show IntOp.cmpi CmpIPredicate.slt (BitVec.ofNat 32 (32 + l.val)) 32#32 = 0#1 from by revert l; decide]
  exact congrArg R (congrArg (ix2 r) (Fin.ext (by show (32 + l.val + 128 - 32) % 128 = l.val; omega)))

/-- The turned rotary key, on 128 lanes. -/
theorem key_at (r : Fin 256) (l : Fin 128) :
    (k0_pay30 (F := Ideal) (k0_pay24 (k0_pay6 B.x0 B.x1 B.x3)) (k0_pay25 (k0_pay6 B.x0 B.x1 B.x3)) B.x11 B.x12 (ix2 r l) : EReal)
      = if h : l.val < 64 then A.kpe r ⟨l.val, h⟩ else 0 := by
  unfold Args.kpe
  refine Eq.trans ?_ (lanes_at B (fun l => k0_pay24 (F := Ideal) (k0_pay6 B.x0 B.x1 B.x3) (ix2 r l)) (fun l => k0_pay25 (F := Ideal) (k0_pay6 B.x0 B.x1 B.x3) (ix2 r l))
    (A.dkr r) r (fun l => dkr_at B r l) (fun l => swap_at B r l) (fun l => swap_at' B r l) l)
  generalize k0_pay24 (F := Ideal) (k0_pay6 B.x0 B.x1 B.x3) = X
  generalize k0_pay25 (F := Ideal) (k0_pay6 B.x0 B.x1 B.x3) = Y
  pointwise [k0_pay30, k0_pay28, k0_pay29]

/-- 128 columns from column `o` on, as one head's plain piece of the queries, -/
theorem plain_at (o : Nat) (Q : FVec Ideal S256x1024 .f32) (hs : S256x1024.Slices ![0, o] S256x128) (r : Fin 256) (l : Fin 128) (ho : o + l.val < 1024) :
    (shapeCast S1x256x128 (truncf (F := Ideal) .bf16 (mulf (extractStridedSlice S256x128 ![0, o] Q hs) (broadcast S256x128 (Named.named κ "scale_d" 0x3DD53B95#32)))
      bitsLt_bf16_f32) shapeCasts_S256x128_S1x256x128 (ix3 0 r l) : EReal) = Q (ix2 r ⟨o + l.val, ho⟩) * sD := by
  pointwise
  rfl

/-- and with its swapped partner from column `p` on, as one head's turned piece. -/
theorem turned_at (o p : Nat) (Q : FVec Ideal S256x1024 .f32) (Q' : FVec Ideal S256x512 .f32) (X Y : FVec Ideal S256x128 .f32) (hs : S256x1024.Slices ![0, o] S256x128)
    (hs' : S256x512.Slices ![0, p] S256x128) (r : Fin 256) (l : Fin 128) (ho : o + l.val < 1024) (hp : p + l.val < 512) :
    (shapeCast S1x256x128 (truncf (F := Ideal) .bf16 (mulf (addf (mulf (extractStridedSlice S256x128 ![0, o] Q hs) X) (mulf (extractStridedSlice S256x128 ![0, p] Q' hs') Y))
      (broadcast S256x128 (Named.named κ "scale_d" 0x3DD53B95#32))) bitsLt_bf16_f32) shapeCasts_S256x128_S1x256x128 (ix3 0 r l) : EReal)
      = (Q (ix2 r ⟨o + l.val, ho⟩) * X (ix2 r l) + Q' (ix2 r ⟨p + l.val, hp⟩) * Y (ix2 r l)) * sD := by
  pointwise
  rfl

/-- A head's plain piece of the keys, -/
theorem kplain_at (o : Nat) (K : FVec Ideal S256x512 .f32) (hs : S256x512.Slices ![0, o] S256x128) (r : Fin 256) (l : Fin 128) (ho : o + l.val < 512) :
    (shapeCast S1x256x128 (truncf (F := Ideal) .bf16 (extractStridedSlice S256x128 ![0, o] K hs) bitsLt_bf16_f32) shapeCasts_S256x128_S1x256x128 (ix3 0 r l) : EReal)
      = K (ix2 r ⟨o + l.val, ho⟩) := by
  pointwise

/-- and the turned one, the same for every head. -/
theorem kturned_at (K : FVec Ideal S256x128 .f32) (r : Fin 256) (l : Fin 128) :
    (k0_pay43 (F := Ideal) (k0_pay35 K) (ix3 0 r l) : EReal) = K (ix2 r l) := by
  pointwise [k0_pay43, k0_pay35]

/-- The queries' turned piece, over the arguments. -/
theorem query_at (r : Fin 256) (n : Fin 4) (l : Fin 128) :
    (k0_pay45 (F := Ideal) (k0_pay22 (k0_pay6 B.x0 B.x1 B.x3)) B.x5 B.x7 (ix2 r (⟨512 + 128 * n.val + l.val, by omega⟩ : Fin 1024)) : EReal) * B.x11 (ix2 r l)
      + (k0_pay46 (F := Ideal) (k0_pay22 (k0_pay6 B.x0 B.x1 B.x3)) B.x5 B.x8 (ix2 r (⟨128 * n.val + l.val, by omega⟩ : Fin 512)) : EReal) * B.x12 (ix2 r l)
      = if h : l.val < 64 then turn r (fun j => A.qf r ⟨n.val * 192 + (128 + j.val), by omega⟩) ⟨l.val, h⟩ else 0 :=
  lanes_at B (fun l => k0_pay45 (F := Ideal) (k0_pay22 (k0_pay6 B.x0 B.x1 B.x3)) B.x5 B.x7 (ix2 r (⟨512 + 128 * n.val + l.val, by omega⟩ : Fin 1024)))
    (fun l => k0_pay46 (F := Ideal) (k0_pay22 (k0_pay6 B.x0 B.x1 B.x3)) B.x5 B.x8 (ix2 r (⟨128 * n.val + l.val, by omega⟩ : Fin 512)))
    (fun j => A.qf r ⟨n.val * 192 + (128 + j.val), by omega⟩) r (fun l => qr_at B r n l) (fun l => qs_at B r n l) (fun l => qs_at' B r n l) l

end Cert.Kernel4Ideal.Proj

end
-- ==== Proof.ProjPoint.lean ====
/- The input projection kernel's result buffers, over blocks that hold the arguments. -/
module

public import proofs.«01_k».proof.Proof.ProjPay
public import proofs.«01_k».proof.Proof.ProjFrameIdeal
public import Idealize.ShloMosaic.Lib.Pipeline.ValueKit
public import Idealize.ShloMosaic.Lib.Claim

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen Cert.Proj

variable {A : Args} (B : Blocks A)

/-- A function of the thirteen blocks, at these. -/
abbrev Blocks.app {α : Type} (f : Vec Ideal S256x2048 .f32 → Vec Ideal S1x2048 .f32 → Vec Ideal S3072x2048 .bf16 → Vec Ideal S2304x2048 .bf16 → Vec Ideal S1x128 .f32
    → Vec Ideal S1x384 .f32 → Vec Ideal S1x256 .f32 → Vec Ideal S384x1024 .bf16 → Vec Ideal S384x512 .bf16 → Vec Ideal S256x512 .bf16 → Vec Ideal S256x512 .bf16
    → Vec Ideal S256x128 .f32 → Vec Ideal S256x128 .f32 → α) : α :=
  f B.x0 B.x1 B.x2 B.x3 B.x4 B.x5 B.x6 B.x7 B.x8 B.x9 B.x10 B.x11 B.x12

/-- A load of 512 rows from row `o` on. -/
theorem rows_at (X : Vec Ideal S3072x2048 .bf16) (o : Nat) (ho : o + 512 ≤ 3072) (inb) (n : Fin 512) (k : Fin 2048) :
    View.ld X (Rect.unit (s := S3072x2048) ![o, 0] S512x2048.size inb) (ix2 n k) = X (ix2 (⟨o + n.val, by omega⟩ : Fin 3072) k) := by
  refine View.ld_unit_apply_of _ _ _ _ _ _ fun a => ?_
  match a with
  | ⟨0, _⟩ => rfl
  | ⟨1, _⟩ => exact (Nat.zero_add _).symm

theorem out13 : B.app (out0_13 (F := Ideal)) = row2 fun r n => A.seg 0 (by omega) r n * sA := by
  unfold Blocks.app out0_13
  frame_out
  exact congrArg (fun X : FVec Ideal S256x512 .f32 => fun i => (X i : EReal) * sA) (seg_at B 0 (by omega) _ fun n k => rows_at _ 0 (by omega) _ n k)

theorem out18 : B.app (out0_18 (F := Ideal)) = row2 fun r n => A.seg 1536 (by omega) r n * sB := by
  unfold Blocks.app out0_18 k0_pay54
  frame_out
  exact congrArg (fun X : FVec Ideal S256x512 .f32 => fun i => (X i : EReal) * sB) (seg_at B 1536 (by omega) _ fun n k => rows_at _ 1536 (by omega) _ n k)

theorem out14 : B.app (out0_14 (F := Ideal)) = row2 (A.seg 512 (by omega)) := by
  unfold Blocks.app out0_14
  frame_out
  exact seg_at B 512 (by omega) _ fun n k => rows_at _ 512 (by omega) _ n k

theorem out15 : B.app (out0_15 (F := Ideal)) = row2 (A.seg 1024 (by omega)) := by
  unfold Blocks.app out0_15 k0_pay54
  frame_out
  exact seg_at B 1024 (by omega) _ fun n k => rows_at _ 1024 (by omega) _ n k

theorem out19 : B.app (out0_19 (F := Ideal)) = row2 (A.seg 2048 (by omega)) := by
  unfold Blocks.app out0_19 k0_pay54
  frame_out
  exact seg_at B 2048 (by omega) _ fun n k => rows_at _ 2048 (by omega) _ n k

theorem out20 : B.app (out0_20 (F := Ideal)) = row2 (A.seg 2560 (by omega)) := by
  unfold Blocks.app out0_20 k0_pay54
  frame_out
  exact seg_at B 2560 (by omega) _ fun n k => rows_at _ 2560 (by omega) _ n k

theorem out23 : B.app (out0_23 (F := Ideal)) = row2 fun r n => A.seg 3076 (by omega) r n * sC := by
  unfold Blocks.app out0_23 k0_pay55
  frame_out
  exact congrArg (fun X : FVec Ideal S256x512 .f32 => fun i => (X i : EReal) * sC) (rest_at B 0 (by omega) slices_S256x2304_o0_0_S256x512)

theorem out24 : B.app (out0_24 (F := Ideal)) = row2 (A.seg 3588 (by omega)) := by
  unfold Blocks.app out0_24 k0_pay55
  frame_out
  exact rest_at B 512 (by omega) slices_S256x2304_o0_512_S256x512

theorem out25 : B.app (out0_25 (F := Ideal)) = row2 (A.seg 4100 (by omega)) := by
  unfold Blocks.app out0_25 k0_pay55
  frame_out
  exact rest_at B 1024 (by omega) slices_S256x2304_o0_1024_S256x512

/-- The copies at half precision hold what the full ones hold. -/
theorem out16 : B.app (out0_16 (F := Ideal)) = row2 (A.seg 512 (by omega)) := by
  refine Eq.trans ?_ (out14 B)
  unfold Blocks.app out0_16 out0_14
  frame_out
  rfl

theorem out17 : B.app (out0_17 (F := Ideal)) = row2 (A.seg 1024 (by omega)) := by
  refine Eq.trans ?_ (out15 B)
  unfold Blocks.app out0_17 out0_15 k0_pay54
  frame_out
  rfl

theorem out21 : B.app (out0_21 (F := Ideal)) = row2 (A.seg 2048 (by omega)) := by
  refine Eq.trans ?_ (out19 B)
  unfold Blocks.app out0_21 out0_19 k0_pay54
  frame_out
  rfl

theorem out22 : B.app (out0_22 (F := Ideal)) = row2 (A.seg 2560 (by omega)) := by
  refine Eq.trans ?_ (out20 B)
  unfold Blocks.app out0_22 out0_20 k0_pay54
  frame_out
  rfl

theorem out26 : B.app (out0_26 (F := Ideal)) = row2 (A.seg 3588 (by omega)) := by
  refine Eq.trans ?_ (out24 B)
  unfold Blocks.app out0_26 out0_24 k0_pay55
  frame_out
  rfl

theorem out27 : B.app (out0_27 (F := Ideal)) = row2 (A.seg 4100 (by omega)) := by
  refine Eq.trans ?_ (out25 B)
  unfold Blocks.app out0_27 out0_25 k0_pay55
  frame_out
  rfl

theorem out28 (r : Fin 256) (n : Fin 4) : B.app (out0_28 (F := Ideal)) (ix2 r (⟨n.val, by omega⟩ : Fin 128)) = A.logf r n := by
  unfold Blocks.app out0_28
  frame_out
  exact logf_at B r n

theorem out30 : B.app (out0_30 (F := Ideal)) = row2 A.ckv := by
  unfold Blocks.app out0_30 k0_pay57 k0_pay55
  frame_out
  exact eq_row2 _ _ (ckv_at B)

theorem out31 : B.app (out0_31 (F := Ideal)) = row2 A.kpe := by
  unfold Blocks.app out0_31 k0_pay58 k0_pay59 k0_pay55
  frame_out
  refine eq_row2 _ _ fun r l => ?_
  refine Eq.trans ?_ ((key_at B r ⟨l.val, by omega⟩).trans (dif_pos l.isLt))
  unfold k0_pay31
  generalize k0_pay30 (F := Ideal) (k0_pay24 (k0_pay6 B.x0 B.x1 B.x3)) (k0_pay25 (k0_pay6 B.x0 B.x1 B.x3)) B.x11 B.x12 = X
  pointwise

theorem out33 : B.app (out0_33 (F := Ideal)) = row2 A.vd := by
  unfold Blocks.app out0_33 k0_pay57 k0_pay55
  frame_out
  exact eq_row2 _ _ (vd_at B)

/-- A head's plain piece of the queries, at the place it has in the buffer, -/
theorem qplain (n : Fin 4) (P : S1x256x128.Idx → EReal) (hP : ∀ (r : Fin 256) (l : Fin 128), P (ix3 0 r l) = A.qf r ⟨n.val * 192 + l.val, by omega⟩ * sD)
    {q : Fin 4} {r l : Fin 256} {x : S1x256x128.Idx} (h0 : q.val = n.val + (x 0).val) (x0 : (x 0).val < 1) (h1 : r.val = (x 1).val) (h2 : l.val = (x 2).val)
    (x2 : (x 2).val < 128) : P x = A.qd q r l := by
  obtain rfl : q = n := Fin.ext (by omega)
  have hx : x = ix3 0 r (⟨l.val, by omega⟩ : Fin 128) := funext fun a => Fin.ext (match a with | ⟨0, _⟩ => Nat.lt_one_iff.1 x0 | ⟨1, _⟩ => h1.symm | ⟨2, _⟩ => h2.symm)
  rw [hx, hP]
  unfold Args.qd
  rw [dif_pos (show l.val < 128 by omega)]

/-- and its turned piece. -/
theorem qturned (n : Fin 4) (P : S1x256x128.Idx → EReal)
    (hP : ∀ (r : Fin 256) (l : Fin 128), P (ix3 0 r l) = (if h : l.val < 64 then turn r (fun j => A.qf r ⟨n.val * 192 + (128 + j.val), by omega⟩) ⟨l.val, h⟩ else 0) * sD)
    {q : Fin 4} {r l : Fin 256} {x : S1x256x128.Idx} (h0 : q.val = n.val + (x 0).val) (x0 : (x 0).val < 1) (h1 : r.val = (x 1).val) (h2 : l.val = 128 + (x 2).val)
    (x2 : (x 2).val < 128) : P x = A.qd q r l := by
  obtain rfl : q = n := Fin.ext (by omega)
  have hx : x = ix3 0 r (⟨l.val - 128, by omega⟩ : Fin 128) :=
    funext fun a => Fin.ext (match a with | ⟨0, _⟩ => Nat.lt_one_iff.1 x0 | ⟨1, _⟩ => h1.symm | ⟨2, _⟩ => by show (x 2).val = l.val - 128; omega)
  rw [hx, hP]
  unfold Args.qd
  rw [dif_neg (show ¬l.val < 128 by omega)]
  by_cases h : l.val < 192
  · rw [dif_pos h, dif_pos (show l.val - 128 < 64 by omega)]
  · rw [dif_neg h, dif_neg (show ¬l.val - 128 < 64 by omega), zero_mul]

/-- The same for the keys. -/
theorem kplain (n : Fin 4) (P : S1x256x128.Idx → EReal) (hP : ∀ (r : Fin 256) (l : Fin 128), P (ix3 0 r l) = A.kn r ⟨n.val * 128 + l.val, by omega⟩)
    {q : Fin 4} {r l : Fin 256} {x : S1x256x128.Idx} (h0 : q.val = n.val + (x 0).val) (x0 : (x 0).val < 1) (h1 : r.val = (x 1).val) (h2 : l.val = (x 2).val)
    (x2 : (x 2).val < 128) : P x = A.kd q r l := by
  obtain rfl : q = n := Fin.ext (by omega)
  have hx : x = ix3 0 r (⟨l.val, by omega⟩ : Fin 128) := funext fun a => Fin.ext (match a with | ⟨0, _⟩ => Nat.lt_one_iff.1 x0 | ⟨1, _⟩ => h1.symm | ⟨2, _⟩ => h2.symm)
  rw [hx, hP]
  unfold Args.kd
  rw [dif_pos (show l.val < 128 by omega)]

theorem kturned (P : S1x256x128.Idx → EReal) (hP : ∀ (r : Fin 256) (l : Fin 128), P (ix3 0 r l) = if h : l.val < 64 then A.kpe r ⟨l.val, h⟩ else 0)
    {q : Fin 4} {r l : Fin 256} {x : S1x256x128.Idx} (x0 : (x 0).val < 1) (h1 : r.val = (x 1).val) (h2 : l.val = 128 + (x 2).val)
    (x2 : (x 2).val < 128) : P x = A.kd q r l := by
  have hx : x = ix3 0 r (⟨l.val - 128, by omega⟩ : Fin 128) :=
    funext fun a => Fin.ext (match a with | ⟨0, _⟩ => Nat.lt_one_iff.1 x0 | ⟨1, _⟩ => h1.symm | ⟨2, _⟩ => by show (x 2).val = l.val - 128; omega)
  rw [hx, hP]
  unfold Args.kd
  rw [dif_neg (show ¬l.val < 128 by omega)]
  by_cases h : l.val < 192
  · rw [dif_pos h, dif_pos (show l.val - 128 < 64 by omega)]
  · rw [dif_neg h, dif_neg (show ¬l.val - 128 < 64 by omega)]

/-- What the projected queries and keys hold, at the column a head's piece begins with. -/
theorem qf_from (o : Nat) (n : Fin 4) (ho : o = 128 * n.val) (r : Fin 256) (l : Fin 128) :
    (k0_pay45 (F := Ideal) (k0_pay22 (k0_pay6 B.x0 B.x1 B.x3)) B.x5 B.x7 (ix2 r (⟨o + l.val, by omega⟩ : Fin 1024)) : EReal) * sD = A.qf r ⟨n.val * 192 + l.val, by omega⟩ * sD := by
  subst ho
  rw [qf_at B]

theorem query_from (o p : Nat) (n : Fin 4) (ho : o = 512 + 128 * n.val) (hp : p = 128 * n.val) (r : Fin 256) (l : Fin 128) :
    ((k0_pay45 (F := Ideal) (k0_pay22 (k0_pay6 B.x0 B.x1 B.x3)) B.x5 B.x7 (ix2 r (⟨o + l.val, by omega⟩ : Fin 1024)) : EReal) * B.x11 (ix2 r l)
      + (k0_pay46 (F := Ideal) (k0_pay22 (k0_pay6 B.x0 B.x1 B.x3)) B.x5 B.x8 (ix2 r (⟨p + l.val, by omega⟩ : Fin 512)) : EReal) * B.x12 (ix2 r l)) * sD
      = (if h : l.val < 64 then turn r (fun j => A.qf r ⟨n.val * 192 + (128 + j.val), by omega⟩) ⟨l.val, h⟩ else 0) * sD := by
  subst ho hp
  rw [query_at B]

theorem kn_from (o : Nat) (n : Fin 4) (ho : o = 128 * n.val) (r : Fin 256) (l : Fin 128) :
    (k0_pay33 (F := Ideal) (k0_pay23 (k0_pay6 B.x0 B.x1 B.x3)) B.x6 B.x9 (ix2 r (⟨o + l.val, by omega⟩ : Fin 512)) : EReal) = A.kn r ⟨n.val * 128 + l.val, by omega⟩ := by
  subst ho
  rw [kn_at B]
  exact congrArg (A.kn r) (Fin.ext (by show 128 * n.val + l.val = n.val * 128 + l.val; omega))

/-- The tables are cast to their own shape. -/
theorem tab_eq (X : FVec Ideal S256x128 .f32) : k0_pay28 (F := Ideal) X = X := shapeCast_self _ _
theorem tab_eq' (X : FVec Ideal S256x128 .f32) : k0_pay29 (F := Ideal) X = X := shapeCast_self _ _

/-- Each head's queries: eight pieces, a plain and a turned one for every head. -/
theorem out29 : B.app (out0_29 (F := Ideal)) = row3 A.qd := by
  refine eq_row3 _ _ fun q r l => ?_
  unfold Blocks.app out0_29 k0_pay65 k0_pay64 k0_pay61 k0_pay60 k0_pay56 k0_pay55
  frame_out
  unfold k0_pay47 k0_pay48
  have q0 := qf_from B 0 0 rfl
  have q1 := qf_from B 128 1 rfl
  have q2 := qf_from B 256 2 rfl
  have q3 := qf_from B 384 3 rfl
  have t0 := query_from B 512 0 0 rfl rfl
  have t1 := query_from B 640 128 1 rfl rfl
  have t2 := query_from B 768 256 2 rfl rfl
  have t3 := query_from B 896 384 3 rfl rfl
  rw [tab_eq, tab_eq']
  generalize k0_pay45 (F := Ideal) (k0_pay22 (k0_pay6 B.x0 B.x1 B.x3)) B.x5 B.x7 = Q at q0 q1 q2 q3 t0 t1 t2 t3 ⊢
  generalize k0_pay46 (F := Ideal) (k0_pay22 (k0_pay6 B.x0 B.x1 B.x3)) B.x5 B.x8 = Q' at t0 t1 t2 t3 ⊢
  generalize B.x11 = X at t0 t1 t2 t3 ⊢
  generalize B.x12 = Y at t0 t1 t2 t3 ⊢
  canon_tiles x h
  · exact qturned 3 _ (fun r l => (turned_at 896 384 Q Q' X Y slices_S256x1024_o0_896_S256x128 slices_S256x512_o0_384_S256x128 r l (by omega) (by omega)).trans (t3 r l))
      h0 x0_lt h1 h2 x2_lt
  · exact qplain 3 _ (fun r l => (plain_at 384 Q slices_S256x1024_o0_384_S256x128 r l (by omega)).trans (q3 r l)) h0 x0_lt h1 h2 x2_lt
  · exact qturned 2 _ (fun r l => (turned_at 768 256 Q Q' X Y slices_S256x1024_o0_768_S256x128 slices_S256x512_o0_256_S256x128 r l (by omega) (by omega)).trans (t2 r l))
      h0 x0_lt h1 h2 x2_lt
  · exact qplain 2 _ (fun r l => (plain_at 256 Q slices_S256x1024_o0_256_S256x128 r l (by omega)).trans (q2 r l)) h0 x0_lt h1 h2 x2_lt
  · exact qturned 1 _ (fun r l => (turned_at 640 128 Q Q' X Y slices_S256x1024_o0_640_S256x128 slices_S256x512_o0_128_S256x128 r l (by omega) (by omega)).trans (t1 r l))
      h0 x0_lt h1 h2 x2_lt
  · exact qplain 1 _ (fun r l => (plain_at 128 Q slices_S256x1024_o0_128_S256x128 r l (by omega)).trans (q1 r l)) h0 x0_lt h1 h2 x2_lt
  · exact qturned 0 _ (fun r l => (turned_at 512 0 Q Q' X Y slices_S256x1024_o0_512_S256x128 slices_S256x512_o0_0_S256x128 r l (by omega) (by omega)).trans (t0 r l))
      (h0.trans (Nat.zero_add _).symm) x0_lt h1 h2 x2_lt
  · exact qplain 0 _ (fun r l => (plain_at 0 Q slices_S256x1024_o0_0_S256x128 r l (by omega)).trans (q0 r l)) (h0.trans (Nat.zero_add _).symm) x0_lt h1 h2 x2_lt

/-- Each head's keys, likewise. -/
theorem out32 : B.app (out0_32 (F := Ideal)) = row3 A.kd := by
  refine eq_row3 _ _ fun q r l => ?_
  unfold Blocks.app out0_32 k0_pay63 k0_pay62 k0_pay59 k0_pay58 k0_pay57 k0_pay55
  frame_out
  have k0 := kn_from B 0 0 rfl
  have k1 := kn_from B 128 1 rfl
  have k2 := kn_from B 256 2 rfl
  have k3 := kn_from B 384 3 rfl
  have ht := fun r l => (kturned_at _ r l).trans (key_at B r l)
  generalize k0_pay30 (F := Ideal) (k0_pay24 (k0_pay6 B.x0 B.x1 B.x3)) (k0_pay25 (k0_pay6 B.x0 B.x1 B.x3)) B.x11 B.x12 = T at ht ⊢
  generalize k0_pay33 (F := Ideal) (k0_pay23 (k0_pay6 B.x0 B.x1 B.x3)) B.x6 B.x9 = K at k0 k1 k2 k3 ⊢
  canon_tiles x h
  · exact kturned _ ht x0_lt h1 h2 x2_lt
  · exact kplain 3 _ (fun r l => (kplain_at 384 K slices_S256x512_o0_384_S256x128 r l (by omega)).trans (k3 r l)) h0 x0_lt h1 h2 x2_lt
  · exact kturned _ ht x0_lt h1 h2 x2_lt
  · exact kplain 2 _ (fun r l => (kplain_at 256 K slices_S256x512_o0_256_S256x128 r l (by omega)).trans (k2 r l)) h0 x0_lt h1 h2 x2_lt
  · exact kturned _ ht x0_lt h1 h2 x2_lt
  · exact kplain 1 _ (fun r l => (kplain_at 128 K slices_S256x512_o0_128_S256x128 r l (by omega)).trans (k1 r l)) h0 x0_lt h1 h2 x2_lt
  · exact kturned _ ht x0_lt h1 h2 x2_lt
  · exact kplain 0 _ (fun r l => (kplain_at 0 K slices_S256x512_o0_0_S256x128 r l (by omega)).trans (k0 r l)) (h0.trans (Nat.zero_add _).symm) x0_lt h1 h2 x2_lt

end Cert.Kernel4Ideal.Proj

end
-- ==== Proof.ProjValue.lean ====
/- The input projection kernel's run: what its result arrays hold, over the arguments. -/
module

public import proofs.«01_k».proof.Proof.ProjHost
public import proofs.«01_k».proof.Proof.ProjPoint
public import Idealize.ShloMosaic.Lib.StableHlo.RunRead
public import Idealize.ShloMosaic.Lib.Claim

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen Cert.Proj

variable (m : (ℓ : Loc nD τ sig) → Buf (Elt Ideal) ℓ)

/-- The thirteen staged arrays hold the arguments as the body reads them. -/
def hosted (c : Dev nD) : Blocks (argsOf m c) where
  x0 := V m c main_v68
  x1 := V m c main_v69
  x2 := V m c main_v26
  x3 := V m c main_v29
  x4 := V m c main_v63
  x5 := V m c main_v64
  x6 := V m c main_v65
  x7 := V m c main_v43
  x8 := V m c main_v61
  x9 := V m c main_v66
  x10 := V m c main_v67
  x11 := V m c main_v21
  x12 := V m c main_v23
  h0 := V_x m c
  h1 := V_g m c
  h2 := V_wab m c
  h3 := V_rest m c
  h4 := V_bf m c
  h5 := V_gq m c
  h6 := V_gkv m c
  h7 := V_wq m c
  h7' := V_wq' m c
  h8 := V_wqs m c
  h8' := V_wqs' m c
  h9 := V_uk m c
  h10 := V_uv m c
  h11 := V_cos m c
  h11' := V_cos' m c
  h11z := V_cos_zero m c
  h12 := V_sin m c
  h12' := V_sin' m c
  h12z := V_sin_zero m c

/-- The launch has one grid point, and every window's block is its whole array. -/
theorem origin : ∀ (w : Fin 34) (t : Fin cfg0.N) (a), (win0 w).index t a = 0 := (by decide +kernel : ∀ (w : Fin 34) (t : Fin grid0.N) (a), _)

theorem whole0 (t : Fin cfg0.N) (X : Vec Ideal S256x2048 .f32) : ((cfg0.win 0).blk t).view.read (Elt Ideal) X = X := by
  funext y
  blk_ext [origin 0 t]
theorem whole1 (t : Fin cfg0.N) (X : Vec Ideal S1x2048 .f32) : ((cfg0.win 1).blk t).view.read (Elt Ideal) X = X := by
  funext y
  blk_ext [origin 1 t]
theorem whole2 (t : Fin cfg0.N) (X : Vec Ideal S3072x2048 .bf16) : ((cfg0.win 2).blk t).view.read (Elt Ideal) X = X := by
  funext y
  blk_ext [origin 2 t]
theorem whole3 (t : Fin cfg0.N) (X : Vec Ideal S2304x2048 .bf16) : ((cfg0.win 3).blk t).view.read (Elt Ideal) X = X := by
  funext y
  blk_ext [origin 3 t]
theorem whole4 (t : Fin cfg0.N) (X : Vec Ideal S1x128 .f32) : ((cfg0.win 4).blk t).view.read (Elt Ideal) X = X := by
  funext y
  blk_ext [origin 4 t]
theorem whole5 (t : Fin cfg0.N) (X : Vec Ideal S1x384 .f32) : ((cfg0.win 5).blk t).view.read (Elt Ideal) X = X := by
  funext y
  blk_ext [origin 5 t]
theorem whole6 (t : Fin cfg0.N) (X : Vec Ideal S1x256 .f32) : ((cfg0.win 6).blk t).view.read (Elt Ideal) X = X := by
  funext y
  blk_ext [origin 6 t]
theorem whole7 (t : Fin cfg0.N) (X : Vec Ideal S384x1024 .bf16) : ((cfg0.win 7).blk t).view.read (Elt Ideal) X = X := by
  funext y
  blk_ext [origin 7 t]
theorem whole8 (t : Fin cfg0.N) (X : Vec Ideal S384x512 .bf16) : ((cfg0.win 8).blk t).view.read (Elt Ideal) X = X := by
  funext y
  blk_ext [origin 8 t]
theorem whole9 (t : Fin cfg0.N) (X : Vec Ideal S256x512 .bf16) : ((cfg0.win 9).blk t).view.read (Elt Ideal) X = X := by
  funext y
  blk_ext [origin 9 t]
theorem whole10 (t : Fin cfg0.N) (X : Vec Ideal S256x512 .bf16) : ((cfg0.win 10).blk t).view.read (Elt Ideal) X = X := by
  funext y
  blk_ext [origin 10 t]
theorem whole11 (t : Fin cfg0.N) (X : Vec Ideal S256x128 .f32) : ((cfg0.win 11).blk t).view.read (Elt Ideal) X = X := by
  funext y
  blk_ext [origin 11 t]
theorem whole12 (t : Fin cfg0.N) (X : Vec Ideal S256x128 .f32) : ((cfg0.win 12).blk t).view.read (Elt Ideal) X = X := by
  funext y
  blk_ext [origin 12 t]

theorem app_congr {α : Type} {A : Args} (B : Blocks A) (f : Vec Ideal S256x2048 .f32 → Vec Ideal S1x2048 .f32 → Vec Ideal S3072x2048 .bf16 → Vec Ideal S2304x2048 .bf16 → Vec Ideal S1x128 .f32
    → Vec Ideal S1x384 .f32 → Vec Ideal S1x256 .f32 → Vec Ideal S384x1024 .bf16 → Vec Ideal S384x512 .bf16 → Vec Ideal S256x512 .bf16 → Vec Ideal S256x512 .bf16
    → Vec Ideal S256x128 .f32 → Vec Ideal S256x128 .f32 → α)
    {y0 y1 y2 y3 y4 y5 y6 y7 y8 y9 y10 y11 y12} (h0 : y0 = B.x0) (h1 : y1 = B.x1) (h2 : y2 = B.x2) (h3 : y3 = B.x3) (h4 : y4 = B.x4) (h5 : y5 = B.x5) (h6 : y6 = B.x6) (h7 : y7 = B.x7) (h8 : y8 = B.x8) (h9 : y9 = B.x9) (h10 : y10 = B.x10) (h11 : y11 = B.x11) (h12 : y12 = B.x12) :
    f y0 y1 y2 y3 y4 y5 y6 y7 y8 y9 y10 y11 y12 = B.app f := by
  subst h0 h1 h2 h3 h4 h5 h6 h7 h8 h9 h10 h11 h12
  rfl

set_option maxHeartbeats 4000000 in
/-- Any function of the thirteen blocks, at those the body is given. -/
theorem body {α : Type} (c : Dev nD) (t : Fin cfg0.N) (f : Vec Ideal S256x2048 .f32 → Vec Ideal S1x2048 .f32 → Vec Ideal S3072x2048 .bf16 → Vec Ideal S2304x2048 .bf16 → Vec Ideal S1x128 .f32
    → Vec Ideal S1x384 .f32 → Vec Ideal S1x256 .f32 → Vec Ideal S384x1024 .bf16 → Vec Ideal S384x512 .bf16 → Vec Ideal S256x512 .bf16 → Vec Ideal S256x512 .bf16
    → Vec Ideal S256x128 .f32 → Vec Ideal S256x128 .f32 → α) :
    f (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) = (hosted m c).app f :=
  app_congr (hosted m c) f (whole0 t _) (whole1 t _) (whole2 t _) (whole3 t _) (whole4 t _) (whole5 t _) (whole6 t _) (whole7 t _) (whole8 t _) (whole9 t _) (whole10 t _) (whole11 t _) (whole12 t _)

end Cert.Kernel4Ideal.Proj

end
-- ==== Proof.ProjFinal.lean ====
/- The input projection kernel's run: what its result arrays hold, over the arguments. -/
module

public import proofs.«01_k».proof.Proof.ProjValue
public import Idealize.ShloMosaic.Lib.Claim

@[expose] public section

set_option maxRecDepth 16384

noncomputable section

namespace Cert.Kernel4Ideal.Proj

open Idealize.ShloMosaic Idealize.ShloMosaic.TcCoe Idealize.SL.Sem
open Cert.Kernel4Ideal Cert.Kernel4Ideal.Gen Cert.Proj

variable (m : (ℓ : Loc nD τ sig) → Buf (Elt Ideal) ℓ) (ρ : Dev nD → PrngReg)

theorem final13 (c : Dev nD) : (dats m 0 c).arrAt 13 (cfgs 0).N = row2 (fun r n => (argsOf m c).seg 0 (by omega) r n * sA) := by
  refine (dats m 0 c).arrAt_eq_of_covers 13 _ (by decide +kernel) fun t hf y => ?_
  blk_simp
  rw [after0_13, body m c t (out0_13 (F := Ideal)), out13]
  refine congrArg _ ?_
  blk_ext [origin 13 t]

theorem final14 (c : Dev nD) : (dats m 0 c).arrAt 14 (cfgs 0).N = row2 ((argsOf m c).seg 512 (by omega)) := by
  refine (dats m 0 c).arrAt_eq_of_covers 14 _ (by decide +kernel) fun t hf y => ?_
  blk_simp
  rw [after0_14, body m c t (out0_14 (F := Ideal)), out14]
  refine congrArg _ ?_
  blk_ext [origin 14 t]

theorem final15 (c : Dev nD) : (dats m 0 c).arrAt 15 (cfgs 0).N = row2 ((argsOf m c).seg 1024 (by omega)) := by
  refine (dats m 0 c).arrAt_eq_of_covers 15 _ (by decide +kernel) fun t hf y => ?_
  blk_simp
  rw [after0_15, body m c t (out0_15 (F := Ideal)), out15]
  refine congrArg _ ?_
  blk_ext [origin 15 t]

theorem final16 (c : Dev nD) : (dats m 0 c).arrAt 16 (cfgs 0).N = row2 ((argsOf m c).seg 512 (by omega)) := by
  refine (dats m 0 c).arrAt_eq_of_covers 16 _ (by decide +kernel) fun t hf y => ?_
  blk_simp
  rw [after0_16, body m c t (out0_16 (F := Ideal)), out16]
  refine congrArg _ ?_
  blk_ext [origin 16 t]

theorem final17 (c : Dev nD) : (dats m 0 c).arrAt 17 (cfgs 0).N = row2 ((argsOf m c).seg 1024 (by omega)) := by
  refine (dats m 0 c).arrAt_eq_of_covers 17 _ (by decide +kernel) fun t hf y => ?_
  blk_simp
  rw [after0_17, body m c t (out0_17 (F := Ideal)), out17]
  refine congrArg _ ?_
  blk_ext [origin 17 t]

theorem final18 (c : Dev nD) : (dats m 0 c).arrAt 18 (cfgs 0).N = row2 (fun r n => (argsOf m c).seg 1536 (by omega) r n * sB) := by
  refine (dats m 0 c).arrAt_eq_of_covers 18 _ (by decide +kernel) fun t hf y => ?_
  blk_simp
  rw [after0_18, body m c t (out0_18 (F := Ideal)), out18]
  refine congrArg _ ?_
  blk_ext [origin 18 t]

theorem final19 (c : Dev nD) : (dats m 0 c).arrAt 19 (cfgs 0).N = row2 ((argsOf m c).seg 2048 (by omega)) := by
  refine (dats m 0 c).arrAt_eq_of_covers 19 _ (by decide +kernel) fun t hf y => ?_
  blk_simp
  rw [after0_19, body m c t (out0_19 (F := Ideal)), out19]
  refine congrArg _ ?_
  blk_ext [origin 19 t]

theorem final20 (c : Dev nD) : (dats m 0 c).arrAt 20 (cfgs 0).N = row2 ((argsOf m c).seg 2560 (by omega)) := by
  refine (dats m 0 c).arrAt_eq_of_covers 20 _ (by decide +kernel) fun t hf y => ?_
  blk_simp
  rw [after0_20, body m c t (out0_20 (F := Ideal)), out20]
  refine congrArg _ ?_
  blk_ext [origin 20 t]

theorem final21 (c : Dev nD) : (dats m 0 c).arrAt 21 (cfgs 0).N = row2 ((argsOf m c).seg 2048 (by omega)) := by
  refine (dats m 0 c).arrAt_eq_of_covers 21 _ (by decide +kernel) fun t hf y => ?_
  blk_simp
  rw [after0_21, body m c t (out0_21 (F := Ideal)), out21]
  refine congrArg _ ?_
  blk_ext [origin 21 t]

theorem final22 (c : Dev nD) : (dats m 0 c).arrAt 22 (cfgs 0).N = row2 ((argsOf m c).seg 2560 (by omega)) := by
  refine (dats m 0 c).arrAt_eq_of_covers 22 _ (by decide +kernel) fun t hf y => ?_
  blk_simp
  rw [after0_22, body m c t (out0_22 (F := Ideal)), out22]
  refine congrArg _ ?_
  blk_ext [origin 22 t]

theorem final23 (c : Dev nD) : (dats m 0 c).arrAt 23 (cfgs 0).N = row2 (fun r n => (argsOf m c).seg 3076 (by omega) r n * sC) := by
  refine (dats m 0 c).arrAt_eq_of_covers 23 _ (by decide +kernel) fun t hf y => ?_
  blk_simp
  rw [after0_23, body m c t (out0_23 (F := Ideal)), out23]
  refine congrArg _ ?_
  blk_ext [origin 23 t]

theorem final24 (c : Dev nD) : (dats m 0 c).arrAt 24 (cfgs 0).N = row2 ((argsOf m c).seg 3588 (by omega)) := by
  refine (dats m 0 c).arrAt_eq_of_covers 24 _ (by decide +kernel) fun t hf y => ?_
  blk_simp
  rw [after0_24, body m c t (out0_24 (F := Ideal)), out24]
  refine congrArg _ ?_
  blk_ext [origin 24 t]

theorem final25 (c : Dev nD) : (dats m 0 c).arrAt 25 (cfgs 0).N = row2 ((argsOf m c).seg 4100 (by omega)) := by
  refine (dats m 0 c).arrAt_eq_of_covers 25 _ (by decide +kernel) fun t hf y => ?_
  blk_simp
  rw [after0_25, body m c t (out0_25 (F := Ideal)), out25]
  refine congrArg _ ?_
  blk_ext [origin 25 t]

theorem final26 (c : Dev nD) : (dats m 0 c).arrAt 26 (cfgs 0).N = row2 ((argsOf m c).seg 3588 (by omega)) := by
  refine (dats m 0 c).arrAt_eq_of_covers 26 _ (by decide +kernel) fun t hf y => ?_
  blk_simp
  rw [after0_26, body m c t (out0_26 (F := Ideal)), out26]
  refine congrArg _ ?_
  blk_ext [origin 26 t]

theorem final27 (c : Dev nD) : (dats m 0 c).arrAt 27 (cfgs 0).N = row2 ((argsOf m c).seg 4100 (by omega)) := by
  refine (dats m 0 c).arrAt_eq_of_covers 27 _ (by decide +kernel) fun t hf y => ?_
  blk_simp
  rw [after0_27, body m c t (out0_27 (F := Ideal)), out27]
  refine congrArg _ ?_
  blk_ext [origin 27 t]

theorem final28 (c : Dev nD) : (dats m 0 c).arrAt 28 (cfgs 0).N = (hosted m c).app (out0_28 (F := Ideal)) := by
  refine (dats m 0 c).arrAt_eq_of_covers 28 _ (by decide +kernel) fun t hf y => ?_
  blk_simp
  rw [after0_28, body m c t (out0_28 (F := Ideal))]
  refine congrArg _ ?_
  blk_ext [origin 28 t]

theorem final29 (c : Dev nD) : (dats m 0 c).arrAt 29 (cfgs 0).N = row3 (argsOf m c).qd := by
  refine (dats m 0 c).arrAt_eq_of_covers 29 _ (by decide +kernel) fun t hf y => ?_
  blk_simp
  rw [after0_29, body m c t (out0_29 (F := Ideal)), out29]
  refine congrArg _ ?_
  blk_ext [origin 29 t]

theorem final30 (c : Dev nD) : (dats m 0 c).arrAt 30 (cfgs 0).N = row2 (argsOf m c).ckv := by
  refine (dats m 0 c).arrAt_eq_of_covers 30 _ (by decide +kernel) fun t hf y => ?_
  blk_simp
  rw [after0_30, body m c t (out0_30 (F := Ideal)), out30]
  refine congrArg _ ?_
  blk_ext [origin 30 t]

theorem final31 (c : Dev nD) : (dats m 0 c).arrAt 31 (cfgs 0).N = row2 (argsOf m c).kpe := by
  refine (dats m 0 c).arrAt_eq_of_covers 31 _ (by decide +kernel) fun t hf y => ?_
  blk_simp
  rw [after0_31, body m c t (out0_31 (F := Ideal)), out31]
  refine congrArg _ ?_
  blk_ext [origin 31 t]

theorem final32 (c : Dev nD) : (dats m 0 c).arrAt 32 (cfgs 0).N = row3 (argsOf m c).kd := by
  refine (dats m 0 c).arrAt_eq_of_covers 32 _ (by decide +kernel) fun t hf y => ?_
  blk_simp
  rw [after0_32, body m c t (out0_32 (F := Ideal)), out32]
  refine congrArg _ ?_
  blk_ext [origin 32 t]

theorem final33 (c : Dev nD) : (dats m 0 c).arrAt 33 (cfgs 0).N = row2 (argsOf m c).vd := by
  refine (dats m 0 c).arrAt_eq_of_covers 33 _ (by decide +kernel) fun t hf y => ?_
  blk_simp
  rw [after0_33, body m c t (out0_33 (F := Ideal)), out33]
  refine congrArg _ ?_
  blk_ext [origin 33 t]

/-- The gates' result: the host cuts the first four of the launch's 128 lanes. -/
theorem gates (c : Dev nD) : Pipeline.afterTail₀ cfgs (dats m) 0 (V0 m) [hostOps1] c main_v71 = row2 (argsOf m c).logf := by
  have h : Pipeline.withArrays (cfgs 0).spec c (V0 m c) (fun w => (dats m 0 c).arrAt w (cfgs 0).N) (Proc.devRef .tc main_v70_15)
      = (dats m 0 c).arrAt 28 (cfgs 0).N :=
    Pipeline.withArrays_arr (cfgs 0).spec (by decide +kernel) c (V0 m c) (fun w => (dats m 0 c).arrAt w (cfgs 0).N) 28
  rw [final28] at h
  refine eq_row2 _ _ fun r n => Eq.trans ?_ (out28 (hosted m c) r n)
  unfold Pipeline.afterTail₀
  generalize Pipeline.withArrays (cfgs 0).spec c (V0 m c) (fun w => (dats m 0 c).arrAt w (cfgs 0).N) = W at h ⊢
  open StableHlo in after_reads_simp
  rw [h]
  generalize (hosted m c).app (out0_28 (F := Ideal)) = X
  pointwise

set_option maxHeartbeats 4000000 in
/-- The whole run, over the arguments. -/
theorem run : θ_run defs (onTc (τ := τ) (main (F := Ideal))) ⟨m, fun _ => 0, ρ⟩ (fun r => ∀ c : Dev nD,
      r.2.mem ((c.tc : Thread nD τ).loc main_v70_0) = row2 (fun r n => (argsOf m c).seg 0 (by omega) r n * sA)
      ∧ r.2.mem ((c.tc : Thread nD τ).loc main_v70_1) = row2 ((argsOf m c).seg 512 (by omega))
      ∧ r.2.mem ((c.tc : Thread nD τ).loc main_v70_2) = row2 ((argsOf m c).seg 1024 (by omega))
      ∧ r.2.mem ((c.tc : Thread nD τ).loc main_v70_3) = row2 ((argsOf m c).seg 512 (by omega))
      ∧ r.2.mem ((c.tc : Thread nD τ).loc main_v70_4) = row2 ((argsOf m c).seg 1024 (by omega))
      ∧ r.2.mem ((c.tc : Thread nD τ).loc main_v70_5) = row2 (fun r n => (argsOf m c).seg 1536 (by omega) r n * sB)
      ∧ r.2.mem ((c.tc : Thread nD τ).loc main_v70_6) = row2 ((argsOf m c).seg 2048 (by omega))
      ∧ r.2.mem ((c.tc : Thread nD τ).loc main_v70_7) = row2 ((argsOf m c).seg 2560 (by omega))
      ∧ r.2.mem ((c.tc : Thread nD τ).loc main_v70_8) = row2 ((argsOf m c).seg 2048 (by omega))
      ∧ r.2.mem ((c.tc : Thread nD τ).loc main_v70_9) = row2 ((argsOf m c).seg 2560 (by omega))
      ∧ r.2.mem ((c.tc : Thread nD τ).loc main_v70_10) = row2 (fun r n => (argsOf m c).seg 3076 (by omega) r n * sC)
      ∧ r.2.mem ((c.tc : Thread nD τ).loc main_v70_11) = row2 ((argsOf m c).seg 3588 (by omega))
      ∧ r.2.mem ((c.tc : Thread nD τ).loc main_v70_12) = row2 ((argsOf m c).seg 4100 (by omega))
      ∧ r.2.mem ((c.tc : Thread nD τ).loc main_v70_13) = row2 ((argsOf m c).seg 3588 (by omega))
      ∧ r.2.mem ((c.tc : Thread nD τ).loc main_v70_14) = row2 ((argsOf m c).seg 4100 (by omega))
      ∧ r.2.mem ((c.tc : Thread nD τ).loc main_v71) = row2 ((argsOf m c).logf)
      ∧ r.2.mem ((c.tc : Thread nD τ).loc main_v70_16) = row3 ((argsOf m c).qd)
      ∧ r.2.mem ((c.tc : Thread nD τ).loc main_v70_17) = row2 ((argsOf m c).ckv)
      ∧ r.2.mem ((c.tc : Thread nD τ).loc main_v70_18) = row2 ((argsOf m c).kpe)
      ∧ r.2.mem ((c.tc : Thread nD τ).loc main_v70_19) = row3 ((argsOf m c).kd)
      ∧ r.2.mem ((c.tc : Thread nD τ).loc main_v70_20) = row2 ((argsOf m c).vd)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 13).trans (final13 m c),
      ((h c).1 14).trans (final14 m c),
      ((h c).1 15).trans (final15 m c),
      ((h c).1 16).trans (final16 m c),
      ((h c).1 17).trans (final17 m c),
      ((h c).1 18).trans (final18 m c),
      ((h c).1 19).trans (final19 m c),
      ((h c).1 20).trans (final20 m c),
      ((h c).1 21).trans (final21 m c),
      ((h c).1 22).trans (final22 m c),
      ((h c).1 23).trans (final23 m c),
      ((h c).1 24).trans (final24 m c),
      ((h c).1 25).trans (final25 m c),
      ((h c).1 26).trans (final26 m c),
      ((h c).1 27).trans (final27 m c),
      ((h c).2 main_v71 (Pipeline.mem_restRefs_of main_v71 (by decide) (by decide))).trans (gates m c),
      ((h c).1 29).trans (final29 m c),
      ((h c).1 30).trans (final30 m c),
      ((h c).1 31).trans (final31 m c),
      ((h c).1 32).trans (final32 m c),
      ((h c).1 33).trans (final33 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩) (run_main m ρ)

end Cert.Kernel4Ideal.Proj

end
-- ==== Proof.ProjRef.lean ====
/- The input projection's reference at an index. -/
module

public import proofs.«01_k».proof.Proof.Gen.Reference4Ideal.Run
public import proofs.«01_k».proof.Proof.ProjSpec
public import Idealize.ShloMosaic.Lib.Pointwise
public import Idealize.ShloMosaic.Lib.Claim
public import Idealize.ShloMosaic.Lib.Pipeline.ValueKit

@[expose] public section

set_option maxRecDepth 16384

noncomputable section

namespace Cert.Reference4Ideal.Ref

open Idealize.ShloMosaic Idealize.ShloMosaic.TcCoe Idealize.SL.Sem
open Cert.Reference4Ideal Cert.Reference4Ideal.Gen Cert.Proj

/-- The arguments a memory holds. -/
def args (V : Valuation τ sig (Elt Ideal)) : Args where
  x := V (Proc.devRef .tc main_arg0)
  g := V (Proc.devRef .tc main_arg1)
  w := V (Proc.devRef .tc main_arg2)
  bf := V (Proc.devRef .tc main_arg3)
  gq := V (Proc.devRef .tc main_arg4)
  gkv := V (Proc.devRef .tc main_arg5)
  uq := V (Proc.devRef .tc main_arg6)
  uk := V (Proc.devRef .tc main_arg7)
  uv := V (Proc.devRef .tc main_arg8)

variable (V : Valuation τ sig (Elt Ideal))

theorem v17_at (r : Fin 256) (n : Fin 5316) : (Value.res_main_v17 (F := Ideal) V (ix3 (bOf r) (sOf r) n) : EReal) = (args V).z r n := by
  pointwise [Value.res_main_v17, Args.z, Args.h, nrm, args]

/-- Rows kept by batch and position, one after the other. -/
theorem flat512 (X : FVec Ideal S16x16x512 .f32) (r : Fin 256) (n : Fin 512) :
    shapeCast S256x512 X shapeCasts_S16x16x512_S256x512 (ix2 r n) = X (ix3 (bOf r) (sOf r) n) := by
  pointwise
  blk_ext [bOf, sOf]

theorem flat256 (X : FVec Ideal S16x16x256 .f32) (r n : Fin 256) :
    shapeCast S256x256 X shapeCasts_S16x16x256_S256x256 (ix2 r n) = X (ix3 (bOf r) (sOf r) n) := by
  pointwise
  blk_ext [bOf, sOf]

theorem flat64 (X : FVec Ideal S16x16x64 .f32) (r : Fin 256) (n : Fin 64) :
    shapeCast S256x64 X shapeCasts_S16x16x64_S256x64 (ix2 r n) = X (ix3 (bOf r) (sOf r) n) := by
  pointwise
  blk_ext [bOf, sOf]

theorem flat4 (X : FVec Ideal S16x16x4 .f32) (r : Fin 256) (n : Fin 4) :
    shapeCast S256x4 X shapeCasts_S16x16x4_S256x4 (ix2 r n) = X (ix3 (bOf r) (sOf r) n) := by
  pointwise
  blk_ext [bOf, sOf]

theorem v22_at (r : Fin 256) (k : Fin 384) : (Value.res_main_v22 (F := Ideal) V (ix3 (bOf r) (sOf r) k) : EReal) = (args V).dq r k := by
  refine Eq.trans ?_ (v17_at V r ⟨4612 + k.val, by omega⟩)
  unfold Value.res_main_v22
  generalize Value.res_main_v17 (F := Ideal) V = Z
  pointwise

theorem v23_at (r : Fin 256) (k : Fin 256) : (Value.res_main_v23 (F := Ideal) V (ix3 (bOf r) (sOf r) k) : EReal) = (args V).dkv r k := by
  refine Eq.trans ?_ (v17_at V r ⟨4996 + k.val, by omega⟩)
  unfold Value.res_main_v23
  generalize Value.res_main_v17 (F := Ideal) V = Z
  pointwise

/-- 512 columns out of 1536 out of the fused projection's. -/
theorem cut_at (b o : Nat) (hb : S16x16x5316.Slices ![0, 0, b] S16x16x1536) (ho : S16x16x1536.Slices ![0, 0, o] S16x16x512) (h : b + o + 512 ≤ 5316) :
    shapeCast S256x512 (extractStridedSlice S16x16x512 ![0, 0, o] (extractStridedSlice S16x16x1536 ![0, 0, b] (Value.res_main_v17 (F := Ideal) V) hb) ho)
      shapeCasts_S16x16x512_S256x512 = row2 ((args V).seg (b + o) h) := by
  refine eq_row2 _ _ fun r n => ?_
  rw [flat512]
  refine Eq.trans ?_ (v17_at V r ⟨b + o + n.val, by omega⟩)
  generalize Value.res_main_v17 (F := Ideal) V = Z
  pointwise
  blk_ext

/-- A scaled array. -/
theorem scaled_at (X : FVec Ideal S256x512 .f32) (k : FVec Ideal S_ .f32) (s : EReal) (hs : k ix0 = s) (f : Fin 256 → Fin 512 → EReal) (hX : X = row2 f) :
    truncf .bf16 (mulf X (broadcastInDim S256x512 ![] bcast_S_S256x512 k)) bitsLt_bf16_f32 = row2 fun r n => f r n * s := by
  subst hX
  refine eq_row2 _ _ fun r n => ?_
  subst hs
  pointwise
  rfl

theorem kA : (Host.divf (constant S_ .f32 0x3F800000#32) (mulf (Host.sqrt (constant S_ .f32 0x42800000#32)) (Value.res_main_v3 (F := Ideal) V)) ix0 : Ideal .f32) = sA :=
  scaleA_eq
theorem kB : (Host.divf (constant S_ .f32 0x3F800000#32) (mulf (Host.sqrt (constant S_ .f32 0x43000000#32)) (Value.res_main_v3 (F := Ideal) V)) ix0 : Ideal .f32) = sB :=
  scaleB_eq
theorem kC : (Host.divf (constant S_ .f32 0x3F800000#32) (Host.sqrt (constant S_ .f32 0x43000000#32)) ix0 : Ideal .f32) = sC :=
  scaleC_eq

/-- The forget gates. -/
theorem gate_at (r : Fin 256) (n : Fin 4) :
    (Value.res_main_call0_v0 (F := Ideal) V (ix3 (bOf r) (sOf r) n) : EReal) = -((args V).z r ⟨3072 + n.val, by omega⟩ + (args V).bf (ix1 n)) := by
  rw [← v17_at]
  unfold Value.res_main_call0_v0
  generalize Value.res_main_v17 (F := Ideal) V = Z
  pointwise [args]

theorem logf_eq : shapeCast S256x4 (Host.negf (select (cmpf .une (Value.res_main_call0_call0_v3 (F := Ideal) V) (Value.res_main_call0_call0_v3 V)) (addf (Value.res_main_call0_v0 V) (broadcastInDim S16x16x4 ![] bcast_S_S16x16x4 (Value.res_main_call0_call0_cst V))) (addf (maximumf (Value.res_main_call0_v0 V) (broadcastInDim S16x16x4 ![] bcast_S_S16x16x4 (Value.res_main_call0_call0_cst V))) (Host.log1p (Host.exp (Host.negf (Host.absf (Value.res_main_call0_call0_v3 V)))))))) shapeCasts_S16x16x4_S256x4
    = row2 (args V).logf := by
  refine eq_row2 _ _ fun r n => ?_
  rw [flat4]
  unfold Args.logf Value.res_main_call0_call0_v3 Value.res_main_call0_call0_cst
  have hz := gate_at V r n
  rw [← lsig_eq, ← hz]
  generalize Value.res_main_call0_v0 (F := Ideal) V = Z at hz
  pointwise
  rw [if_neg (not_not.2 rfl)]
  have ha : (FloatOps.absf (Z (ix3 (bOf r) (sOf r) n)) : Ideal .f32) = max ((args V).z r ⟨3072 + n.val, by omega⟩ + (args V).bf (ix1 n)) (Z (ix3 (bOf r) (sOf r) n)) := by
    have hm : ∀ z a : EReal, z = -a → max z (-z) = max a z := fun z a h => by rw [h, neg_neg, max_comm]
    exact hm _ _ hz
  rw [ha]

/-- The angles, and their cosines and sines. -/
theorem v89_at (s : Fin 16) (i : Fin 32) : (Value.res_main_v89 (F := Ideal) V (ix2 s i) : EReal) = angle s i := by
  pointwise [Value.res_main_v89, Value.res_main_v2, angle]
  rfl
theorem v138_eq : Value.res_main_v138 (F := Ideal) V = Value.res_main_v89 V := rfl
theorem cos_at (s : Fin 16) (i : Fin 32) : (Value.res_main_v91 (F := Ideal) V (ix4 (0 : Fin 1) s (0 : Fin 1) i) : EReal) = Ideal.cos (angle s i) := by
  rw [← v89_at V]
  unfold Value.res_main_v91
  generalize Value.res_main_v89 (F := Ideal) V = Z
  pointwise
theorem sin_at (s : Fin 16) (i : Fin 32) : (Value.res_main_v93 (F := Ideal) V (ix4 (0 : Fin 1) s (0 : Fin 1) i) : EReal) = Ideal.sin (angle s i) := by
  rw [← v89_at V]
  unfold Value.res_main_v93
  generalize Value.res_main_v89 (F := Ideal) V = Z
  pointwise

/-- The query latent's product, by head. -/
theorem v75_at (r : Fin 256) (n : Fin 4) (l : Fin 192) :
    (Value.res_main_v75 (F := Ideal) V (ix4 (bOf r) (sOf r) n l) : EReal) = (args V).qf r ⟨n.val * 192 + l.val, by omega⟩ := by
  unfold Args.qf Args.nq nrm
  simp only [← v22_at]
  unfold Value.res_main_v75
  generalize Value.res_main_v22 (F := Ideal) V = Z
  pointwise [args]

theorem v125_at (r : Fin 256) (k : Fin 256) : (Value.res_main_v125 (F := Ideal) V (ix3 (bOf r) (sOf r) k) : EReal) = (args V).ckv r k := by
  unfold Args.ckv nrm
  simp only [← v23_at]
  unfold Value.res_main_v125
  generalize Value.res_main_v23 (F := Ideal) V = Z
  pointwise [args]

theorem ckv_eq : shapeCast S256x256 (Value.res_main_v125 (F := Ideal) V) shapeCasts_S16x16x256_S256x256 = row2 (args V).ckv :=
  eq_row2 _ _ fun r k => (flat256 _ r k).trans (v125_at V r k)

theorem vd_eq : truncf .bf16 (shapeCast S256x512 (Host.dotGeneral (F := Ideal) (φ₁ := .f32) (φ₂ := .f32) dot_S16x16x256_S256x512_S16x16x512_2_0_01_1_n_n none (Value.res_main_v125 V) (V (Proc.devRef .tc main_arg8))) shapeCasts_S16x16x512_S256x512) bitsLt_bf16_f32
    = row2 (args V).vd := by
  refine eq_row2 _ _ fun r n => ?_
  refine Eq.trans (flat512 (Host.dotGeneral (F := Ideal) (φ₁ := .f32) (φ₂ := .f32) dot_S16x16x256_S256x512_S16x16x512_2_0_01_1_n_n none (Value.res_main_v125 V) (V (Proc.devRef .tc main_arg8))) r n) ?_
  unfold Args.vd
  simp only [← v125_at]
  generalize Value.res_main_v125 (F := Ideal) V = Z
  pointwise [args]

/-- The rotary key before and after the turn. -/
theorem v126_at (r : Fin 256) (l : Fin 64) : (Value.res_main_v126 (F := Ideal) V (ix4 (bOf r) (sOf r) (0 : Fin 1) l) : EReal) = (args V).dkr r l := by
  refine Eq.trans ?_ (v17_at V r ⟨5252 + l.val, by omega⟩)
  unfold Value.res_main_v126
  generalize Value.res_main_v17 (F := Ideal) V = Z
  pointwise

theorem v156_at (r : Fin 256) (l : Fin 64) : (Value.res_main_v156 (F := Ideal) V (ix3 (bOf r) (sOf r) l) : EReal) = (args V).kpe r l := by
  unfold Args.kpe turn
  simp only [← v126_at, ← cos_at V, ← sin_at V]
  unfold Value.res_main_v156 Value.res_main_v140 Value.res_main_v142
  rw [v138_eq]
  unfold Value.res_main_v143 Value.res_main_v144 Value.res_main_v91 Value.res_main_v93
  generalize Value.res_main_v126 (F := Ideal) V = Z
  generalize Value.res_main_v89 (F := Ideal) V = W
  pointwise
  split
  · rfl
  · rename_i h
    have hl : (⟨32 + (l.val - 32), by omega⟩ : Fin 64) = l := Fin.ext (by show 32 + (l.val - 32) = l.val; omega)
    rw [hl]

theorem kpe_eq : shapeCast S256x64 (Value.res_main_v156 (F := Ideal) V) shapeCasts_S16x16x64_S256x64 = row2 (args V).kpe :=
  eq_row2 _ _ fun r k => (flat64 _ r k).trans (v156_at V r k)

/-- The turned columns of the queries. -/
def turned : FVec Ideal S16x16x4x64 .f32 :=
  concatenate S16x16x4x64 3 [⟨S16x16x4x32, (subf (mulf (Value.res_main_v94 (F := Ideal) V) (broadcastInDim S16x16x4x32 ![0, 1, 2, 3] bcast_S1x16x1x32_S16x16x4x32_0_1_2_3 (Value.res_main_v91 V))) (mulf (Value.res_main_v95 V) (broadcastInDim S16x16x4x32 ![0, 1, 2, 3] bcast_S1x16x1x32_S16x16x4x32_0_1_2_3 (Value.res_main_v93 V))) : FVec Ideal _ .f32)⟩, ⟨S16x16x4x32, (addf (mulf (Value.res_main_v94 V) (broadcastInDim S16x16x4x32 ![0, 1, 2, 3] bcast_S1x16x1x32_S16x16x4x32_0_1_2_3 (Value.res_main_v93 V))) (mulf (Value.res_main_v95 V) (broadcastInDim S16x16x4x32 ![0, 1, 2, 3] bcast_S1x16x1x32_S16x16x4x32_0_1_2_3 (Value.res_main_v91 V))) : FVec Ideal _ .f32)⟩] concatenates_S16x16x4x32_S16x16x4x32_S16x16x4x64_d3

theorem turned_at (r : Fin 256) (n : Fin 4) (l : Fin 64) :
    (turned V (ix4 (bOf r) (sOf r) n l) : EReal) = turn r (fun j => (args V).qf r ⟨n.val * 192 + (128 + j.val), by omega⟩) l := by
  have hq : (fun j : Fin 64 => (args V).qf r ⟨n.val * 192 + (128 + j.val), by omega⟩) = fun j : Fin 64 => Value.res_main_v75 V (ix4 (bOf r) (sOf r) n (⟨128 + j.val, by omega⟩ : Fin 192)) :=
    funext fun j => (v75_at V r n ⟨128 + j.val, by omega⟩).symm
  rw [hq]
  unfold turn turned
  simp only [← cos_at V, ← sin_at V]
  unfold Value.res_main_v94 Value.res_main_v95 Value.res_main_v77 Value.res_main_v91 Value.res_main_v93
  generalize Value.res_main_v75 (F := Ideal) V = Z
  generalize Value.res_main_v89 (F := Ideal) V = W
  pointwise
  split
  · rfl
  · rename_i h
    have hl : (⟨128 + (32 + (l.val - 32)), by omega⟩ : Fin 192) = ⟨128 + l.val, by omega⟩ := Fin.ext (by show 128 + (32 + (l.val - 32)) = 128 + l.val; omega)
    rw [hl]

/-- Heads first, 64 columns of zeros at the end. -/
def lay (X : FVec Ideal S16x16x4x192 .f32) : FVec Ideal S4x256x256 .bf16 :=
  truncf .bf16 (pad S4x256x256 ![0, 0, 0] ![0, 0, 64] ![0, 0, 0] (transpose S4x256x192 [1, 0, 2] (shapeCast S256x4x192 X shapeCasts_S16x16x4x192_S256x4x192) transposes_S256x4x192_S4x256x192_1_0_2 : FVec Ideal S4x256x192 .f32) (sitofp .f32 (constantI S_ 32 0#32)) pads_S4x256x192_S4x256x256_000_000_0640 h_S_) bitsLt_bf16_f32

theorem lay_at (X : FVec Ideal S16x16x4x192 .f32) (n : Fin 4) (r l : Fin 256) :
    (lay X (ix3 n r l) : EReal) = if h : l.val < 192 then X (ix4 (bOf r) (sOf r) n ⟨l.val, h⟩) else 0 := by
  pointwise [lay]
  split
  · rfl
  · exact show (((0#32 : BitVec 32).toInt : ℝ) : EReal) = 0 by simp

/-- The queries, plain and turned columns side by side, scaled. -/
def queries : FVec Ideal S16x16x4x192 .f32 :=
  mulf (concatenate S16x16x4x192 3 [⟨S16x16x4x128, (extractStridedSlice S16x16x4x128 ![0, 0, 0, 0] (Value.res_main_v75 (F := Ideal) V) slices_S16x16x4x192_S16x16x4x128_0_0_0_0 : FVec Ideal _ .f32)⟩, ⟨S16x16x4x64, turned V⟩] concatenates_S16x16x4x128_S16x16x4x64_S16x16x4x192_d3)
    (broadcastInDim S16x16x4x192 ![] bcast_S_S16x16x4x192 (Host.divf (constant S_ .f32 0x3F800000#32) (mulf (Host.sqrt (constant S_ .f32 0x43400000#32)) (Value.res_main_v3 V))))

theorem queries_at (r : Fin 256) (n : Fin 4) (l : Fin 192) : (queries V (ix4 (bOf r) (sOf r) n l) : EReal)
    = (if h : l.val < 128 then (args V).qf r ⟨n.val * 192 + l.val, by omega⟩
        else turn r (fun j => (args V).qf r ⟨n.val * 192 + (128 + j.val), by omega⟩) ⟨l.val - 128, by omega⟩) * sD := by
  rw [← scaleD_eq]
  by_cases h : l.val < 128
  · rw [dif_pos h, ← v75_at V r n l]
    unfold queries
    generalize turned V = T
    generalize Value.res_main_v75 (F := Ideal) V = Z
    pointwise [Value.res_main_v3]
    rw [dif_pos h]
  · rw [dif_neg h, ← turned_at]
    unfold queries
    generalize turned V = T
    generalize Value.res_main_v75 (F := Ideal) V = Z
    pointwise [Value.res_main_v3]
    rw [dif_neg h]

theorem qd_eq : lay (queries V) = row3 (args V).qd := by
  refine eq_row3 _ _ fun n r l => ?_
  rw [lay_at]
  unfold Args.qd
  by_cases h : l.val < 192
  · rw [dif_pos h, queries_at]
    by_cases h' : l.val < 128
    · rw [dif_pos h', dif_pos h']
    · rw [dif_neg h', dif_neg h', dif_pos h]
  · rw [dif_neg h, dif_neg (by omega), dif_neg h]

/-- The keys. -/
def keys : FVec Ideal S16x16x4x192 .f32 :=
  concatenate S16x16x4x192 3 [⟨S16x16x4x128, (shapeCast S16x16x4x128 (Host.dotGeneral (F := Ideal) (φ₁ := .f32) (φ₂ := .f32) dot_S16x16x256_S256x512_S16x16x512_2_0_01_1_n_n none (Value.res_main_v125 V) (V (Proc.devRef .tc main_arg7))) shapeCasts_S16x16x512_S16x16x4x128 : FVec Ideal _ .f32)⟩, ⟨S16x16x4x64, (broadcastInDim S16x16x4x64 ![0, 1, 2, 3] bcast_S16x16x1x64_S16x16x4x64_0_1_2_3 (broadcastInDim S16x16x1x64 ![0, 1, 3] bcast_S16x16x64_S16x16x1x64_0_1_3 (Value.res_main_v156 V)) : FVec Ideal _ .f32)⟩] concatenates_S16x16x4x128_S16x16x4x64_S16x16x4x192_d3

theorem keys_at (r : Fin 256) (n : Fin 4) (l : Fin 192) : (keys V (ix4 (bOf r) (sOf r) n l) : EReal)
    = if h : l.val < 128 then (args V).kn r ⟨n.val * 128 + l.val, by omega⟩ else (args V).kpe r ⟨l.val - 128, by omega⟩ := by
  unfold Args.kn
  simp only [← v156_at, ← v125_at]
  unfold keys
  generalize Value.res_main_v125 (F := Ideal) V = Z
  generalize Value.res_main_v156 (F := Ideal) V = W
  pointwise [args]

theorem kd_eq : lay (keys V) = row3 (args V).kd := by
  refine eq_row3 _ _ fun n r l => ?_
  rw [lay_at]
  unfold Args.kd
  by_cases h : l.val < 192
  · rw [dif_pos h, keys_at]
    by_cases h' : l.val < 128
    · rw [dif_pos h', dif_pos h']
    · rw [dif_neg h', dif_neg h', dif_pos h]
  · rw [dif_neg h, dif_neg (by omega), dif_neg h]

end Cert.Reference4Ideal.Ref

end
-- ==== Proof.ProjClaim.lean ====
/- The input projection: the reference's run over the arguments, and the two programs side by side. -/
module

public import proofs.«01_k».proof.Defs
public import proofs.«01_k».proof.Proof.ProjFinal
public import proofs.«01_k».proof.Proof.ProjRef
public import Idealize.ShloMosaic.Lib.Claim

@[expose] public section

set_option maxRecDepth 16384

noncomputable section

namespace Cert.Reference4Ideal.Ref

open Idealize.ShloMosaic Idealize.ShloMosaic.TcCoe Idealize.SL.Sem
open Cert.Reference4Ideal Cert.Reference4Ideal.Gen Cert.Proj

variable (m : (ℓ : Loc nD τ sig) → Buf (Elt Ideal) ℓ) (ρ : Dev nD → PrngReg)

/-- A cast changes no real. -/
theorem cast_at (X : FVec Ideal S256x512 .f32) (f : Fin 256 → Fin 512 → EReal) (hX : X = row2 f) :
    truncf .bf16 X bitsLt_bf16_f32 = row2 f := by
  subst hX
  rfl

set_option maxHeartbeats 2000000 in
/-- The reference's run, over the arguments. -/
theorem run : θ_run defs (onTc (τ := τ) (main (F := Ideal))) ⟨m, fun _ => 0, ρ⟩ (fun r => ∀ c : Dev nD,
      r.2.mem ((c.tc : Thread nD τ).loc main_v164) = row2 (fun r n => (args (StableHlo.launchContents m c)).seg 0 (by omega) r n * sA)
      ∧ r.2.mem ((c.tc : Thread nD τ).loc main_v29) = row2 ((args (StableHlo.launchContents m c)).seg 512 (by omega))
      ∧ r.2.mem ((c.tc : Thread nD τ).loc main_v30) = row2 ((args (StableHlo.launchContents m c)).seg 1024 (by omega))
      ∧ r.2.mem ((c.tc : Thread nD τ).loc main_v165) = row2 ((args (StableHlo.launchContents m c)).seg 512 (by omega))
      ∧ r.2.mem ((c.tc : Thread nD τ).loc main_v166) = row2 ((args (StableHlo.launchContents m c)).seg 1024 (by omega))
      ∧ r.2.mem ((c.tc : Thread nD τ).loc main_v167) = row2 (fun r n => (args (StableHlo.launchContents m c)).seg 1536 (by omega) r n * sB)
      ∧ r.2.mem ((c.tc : Thread nD τ).loc main_v35) = row2 ((args (StableHlo.launchContents m c)).seg 2048 (by omega))
      ∧ r.2.mem ((c.tc : Thread nD τ).loc main_v36) = row2 ((args (StableHlo.launchContents m c)).seg 2560 (by omega))
      ∧ r.2.mem ((c.tc : Thread nD τ).loc main_v168) = row2 ((args (StableHlo.launchContents m c)).seg 2048 (by omega))
      ∧ r.2.mem ((c.tc : Thread nD τ).loc main_v169) = row2 ((args (StableHlo.launchContents m c)).seg 2560 (by omega))
      ∧ r.2.mem ((c.tc : Thread nD τ).loc main_v170) = row2 (fun r n => (args (StableHlo.launchContents m c)).seg 3076 (by omega) r n * sC)
      ∧ r.2.mem ((c.tc : Thread nD τ).loc main_v41) = row2 ((args (StableHlo.launchContents m c)).seg 3588 (by omega))
      ∧ r.2.mem ((c.tc : Thread nD τ).loc main_v42) = row2 ((args (StableHlo.launchContents m c)).seg 4100 (by omega))
      ∧ r.2.mem ((c.tc : Thread nD τ).loc main_v171) = row2 ((args (StableHlo.launchContents m c)).seg 3588 (by omega))
      ∧ r.2.mem ((c.tc : Thread nD τ).loc main_v172) = row2 ((args (StableHlo.launchContents m c)).seg 4100 (by omega))
      ∧ r.2.mem ((c.tc : Thread nD τ).loc main_v173) = row2 ((args (StableHlo.launchContents m c)).logf)
      ∧ r.2.mem ((c.tc : Thread nD τ).loc main_v177) = row3 ((args (StableHlo.launchContents m c)).qd)
      ∧ r.2.mem ((c.tc : Thread nD τ).loc main_v178) = row2 ((args (StableHlo.launchContents m c)).ckv)
      ∧ r.2.mem ((c.tc : Thread nD τ).loc main_v179) = row2 ((args (StableHlo.launchContents m c)).kpe)
      ∧ r.2.mem ((c.tc : Thread nD τ).loc main_v183) = row3 ((args (StableHlo.launchContents m c)).kd)
      ∧ r.2.mem ((c.tc : Thread nD τ).loc main_v184) = row2 ((args (StableHlo.launchContents m c)).vd)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (Value.run (F := Ideal) m ρ)
  have h := h c
  let V := StableHlo.launchContents m c
  exact ⟨(h.1).trans (scaled_at _ _ sA (kA V) _ (cut_at V 0 0 _ _ (by omega))),
    (h.2.1).trans (cut_at V 0 512 _ _ (by omega)),
    (h.2.2.1).trans (cut_at V 0 1024 _ _ (by omega)),
    (h.2.2.2.1).trans (cast_at _ _ (cut_at V 0 512 _ _ (by omega))),
    (h.2.2.2.2.1).trans (cast_at _ _ (cut_at V 0 1024 _ _ (by omega))),
    (h.2.2.2.2.2.1).trans (scaled_at _ _ sB (kB V) _ (cut_at V 1536 0 _ _ (by omega))),
    (h.2.2.2.2.2.2.1).trans (cut_at V 1536 512 _ _ (by omega)),
    (h.2.2.2.2.2.2.2.1).trans (cut_at V 1536 1024 _ _ (by omega)),
    (h.2.2.2.2.2.2.2.2.1).trans (cast_at _ _ (cut_at V 1536 512 _ _ (by omega))),
    (h.2.2.2.2.2.2.2.2.2.1).trans (cast_at _ _ (cut_at V 1536 1024 _ _ (by omega))),
    (h.2.2.2.2.2.2.2.2.2.2.1).trans (scaled_at _ _ sC kC _ (cut_at V 3076 0 _ _ (by omega))),
    (h.2.2.2.2.2.2.2.2.2.2.2.1).trans (cut_at V 3076 512 _ _ (by omega)),
    (h.2.2.2.2.2.2.2.2.2.2.2.2.1).trans (cut_at V 3076 1024 _ _ (by omega)),
    (h.2.2.2.2.2.2.2.2.2.2.2.2.2.1).trans (cast_at _ _ (cut_at V 3076 512 _ _ (by omega))),
    (h.2.2.2.2.2.2.2.2.2.2.2.2.2.2.1).trans (cast_at _ _ (cut_at V 3076 1024 _ _ (by omega))),
    (h.2.2.2.2.2.2.2.2.2.2.2.2.2.2.2.1).trans (logf_eq V),
    (h.2.2.2.2.2.2.2.2.2.2.2.2.2.2.2.2.1).trans (qd_eq V),
    (h.2.2.2.2.2.2.2.2.2.2.2.2.2.2.2.2.2.1).trans (ckv_eq V),
    (h.2.2.2.2.2.2.2.2.2.2.2.2.2.2.2.2.2.2.1).trans (kpe_eq V),
    (h.2.2.2.2.2.2.2.2.2.2.2.2.2.2.2.2.2.2.2.1).trans (kd_eq V),
    (h.2.2.2.2.2.2.2.2.2.2.2.2.2.2.2.2.2.2.2.2.1).trans (vd_eq V),
    h.2.2.2.2.2.2.2.2.2.2.2.2.2.2.2.2.2.2.2.2.2⟩

end Cert.Reference4Ideal.Ref

namespace Cert.Proj

open Idealize.ShloMosaic Idealize.ShloMosaic.TcCoe Idealize.SL.Sem

/-- From the same arguments both programs leave the same results. -/
theorem same [hK : Cert.Kernel4Ideal.Facts] [hR : Cert.Reference4Ideal.Facts] : Cert.algebraic_Kernel4Ideal_Reference4Ideal := by
  pair_intro
  · exact Cert.Kernel4Ideal.Proj.run m g
  · refine (θ_run _ _ _).mono (fun r h c => ?_) (Cert.Reference4Ideal.Ref.run m' g')
    obtain ⟨h0, h1, h2, h3, h4, h5, h6, h7, h8⟩ := hagree c
    have hA : Cert.Reference4Ideal.Ref.args (StableHlo.launchContents m' c) = Cert.Kernel4Ideal.Proj.argsOf m c := by
      unfold Cert.Kernel4Ideal.Proj.argsOf
      rw [← h0, ← h1, ← h2, ← h3, ← h4, ← h5, ← h6, ← h7, ← h8]
      rfl
    have hc := h c
    rw [hA] at hc
    exact hc

end Cert.Proj

end
-- ==== Proof.FfnSample.lean ====
/- The feed-forward part over the sample's rows: the reference at an index, the accumulator over the eleven grid points, and the block
   written at the last. -/
module

public import proofs.«01_k».proof.Proof.Gen.Kernel5Ideal.Value
public import proofs.«01_k».proof.Proof.Gen.Reference5Ideal.Run
public import proofs.«01_k».proof.Proof.FfnPoint
public import proofs.«01_k».proof.Proof.Consts
public import Idealize.ShloMosaic.Lib.Pointwise
public import Idealize.ShloMosaic.Lib.Pipeline.ValueKit
public import Idealize.ShloMosaic.Lib.Claim
public import Idealize.ShloMosaic.Lib.Pipeline.ReadBack

@[expose] public section

set_option maxRecDepth 16384

noncomputable section

namespace Cert.Reference5Ideal.Ref

open Idealize.ShloMosaic Idealize.ShloMosaic.TcCoe Idealize.SL.Sem
open Cert.Reference5Ideal Cert.Reference5Ideal.Gen Cert.Kernel2Ideal.Point

/-- The gated hidden columns. -/
def hidden (h : FVec Ideal S16x16x2048 .f32) (wg wu : FVec Ideal S2048x5632 .f32) : FVec Ideal S16x16x5632 .f32 :=
  mulf (mulf (Host.dotGeneral dot_S16x16x2048_S2048x5632_S16x16x5632_2_0_01_1_n_n none h wg)
      (Host.divf (broadcastInDim S16x16x5632 ![] bcast_S_S16x16x5632 (constant S_ .f32 0x3F800000#32))
        (addf (broadcastInDim S16x16x5632 ![] bcast_S_S16x16x5632 (constant S_ .f32 0x3F800000#32))
          (Host.exp (Host.negf (Host.dotGeneral dot_S16x16x2048_S2048x5632_S16x16x5632_2_0_01_1_n_n none h wg))))))
    (Host.dotGeneral dot_S16x16x2048_S2048x5632_S16x16x5632_2_0_01_1_n_n none h wu)

/-- The projection back. -/
def down (a : FVec Ideal S16x16x5632 .f32) (w : FVec Ideal S5632x2048 .f32) : FVec Ideal S16x16x2048 .f32 :=
  Host.dotGeneral dot_S16x16x5632_S5632x2048_S16x16x2048_2_0_01_1_n_n none a w

/-- The residual row plus the normalised row. -/
def result (x a : FVec Ideal S16x16x2048 .f32) (g : FVec Ideal S2048 .f32) : FVec Ideal S256x2048 .f32 :=
  shapeCast _ (addf x (mulf (mulf a (broadcastInDim S16x16x2048 ![0, 1, 2] bcast_S16x16x1_S16x16x2048_0_1_2 (Host.rsqrt
      (addf (Host.divf (broadcastInDim S16x16x1 ![0, 1] bcast_S16x16_S16x16x1_0_1
          (Host.reduceAdd (mulf a a) (constant S_ .f32 0x00000000#32) reducesTo_S16x16x2048_S16x16_d2 h_S_))
          (broadcastInDim S16x16x1 ![] bcast_S_S16x16x1 (constant S_ .f32 0x45000000#32)))
        (broadcastInDim S16x16x1 ![] bcast_S_S16x16x1 (constant S_ .f32 0x358637BD#32))))))
    (broadcastInDim S16x16x2048 ![0, 1, 2] bcast_S1x1x2048_S16x16x2048_0_1_2 (broadcastInDim S1x1x2048 ![2] bcast_S2048_S1x1x2048_2 g))))
    shapeCasts_S16x16x2048_S256x2048

/-- The stream of a row, and its position in the stream. -/
def bOf (r : Fin 256) : Fin 16 := ⟨r.val / 16, by omega⟩
def sOf (r : Fin 256) : Fin 16 := ⟨r.val % 16, by omega⟩

/-- A row of the projection back, over the arguments. -/
def out (h : FVec Ideal S16x16x2048 .f32) (wg wu : FVec Ideal S2048x5632 .f32) (wd : FVec Ideal S5632x2048 .f32)
    (r : Fin 256) (d : Fin 2048) : EReal :=
  ∑ l : Fin 5632, act (∑ k : Fin 2048, h (ix3 (bOf r) (sOf r) k) * wg (ix2 k l)) (∑ k : Fin 2048, h (ix3 (bOf r) (sOf r) k) * wu (ix2 k l))
    * wd (ix2 l d)

theorem hidden_at (h : FVec Ideal S16x16x2048 .f32) (wg wu : FVec Ideal S2048x5632 .f32) (b s : Fin 16) (l : Fin 5632) :
    (hidden h wg wu (ix3 b s l) : EReal) = act (∑ k : Fin 2048, h (ix3 b s k) * wg (ix2 k l)) (∑ k : Fin 2048, h (ix3 b s k) * wu (ix2 k l)) := by
  pointwise [hidden, act]
  rfl

theorem down_at (a : FVec Ideal S16x16x5632 .f32) (w : FVec Ideal S5632x2048 .f32) (b s : Fin 16) (d : Fin 2048) :
    (down a w (ix3 b s d) : EReal) = ∑ l : Fin 5632, a (ix3 b s l) * w (ix2 l d) := by
  pointwise [down]

theorem result_at (x a : FVec Ideal S16x16x2048 .f32) (g : FVec Ideal S2048 .f32) (r : Fin 256) (d : Fin 2048) :
    (result x a g (ix2 r d) : EReal) = x (ix3 (bOf r) (sOf r) d)
      + normed (∑ k : Fin 2048, a (ix3 (bOf r) (sOf r) k) * a (ix3 (bOf r) (sOf r) k)) (a (ix3 (bOf r) (sOf r) d)) (g (ix1 d)) := by
  pointwise [result, normed, bOf, sOf]

theorem all_at (h x : FVec Ideal S16x16x2048 .f32) (wg wu : FVec Ideal S2048x5632 .f32) (wd : FVec Ideal S5632x2048 .f32) (g : FVec Ideal S2048 .f32)
    (r : Fin 256) (d : Fin 2048) :
    (result x (down (hidden h wg wu) wd) g (ix2 r d) : EReal) = x (ix3 (bOf r) (sOf r) d)
      + normed (∑ k : Fin 2048, out h wg wu wd r k * out h wg wu wd r k) (out h wg wu wd r d) (g (ix1 d)) := by
  have e : ∀ k, (down (hidden h wg wu) wd (ix3 (bOf r) (sOf r) k) : EReal) = out h wg wu wd r k := fun k => by
    rw [down_at]
    exact Finset.sum_congr rfl fun l _ => by rw [hidden_at]
  refine (result_at _ _ _ r d).trans ?_
  simp only [e]

end Cert.Reference5Ideal.Ref

namespace Cert.Kernel5Ideal.Ffn

open Idealize.ShloMosaic Idealize.ShloMosaic.TcCoe Idealize.SL.Sem
open Cert.Kernel5Ideal Cert.Kernel5Ideal.Gen Cert.Kernel2Ideal.Point Cert.Reference5Ideal.Ref

variable (m : (ℓ : Loc nD τ sig) → Buf (Elt Ideal) ℓ)

/-- What one grid point adds to the accumulator. -/
def part (h : FVec Ideal S256x2048 .bf16) (wg wu : FVec Ideal S2048x512 .bf16) (wd : FVec Ideal S512x2048 .bf16) (i : S256x2048.Idx) : EReal :=
  ∑ f : Fin 512, act (∑ k : Fin 2048, h (ix2 (i 0) k) * wg (ix2 k f)) (∑ k : Fin 2048, h (ix2 (i 0) k) * wu (ix2 k f)) * wd (ix2 f (i 1))

theorem pay1_at (i : S256x2048.Idx) : (k0_pay1 (F := Ideal) i : EReal) = 0 := by
  pointwise [k0_pay1]

theorem pay2_at (h : FVec Ideal S256x2048 .bf16) (wg wu : FVec Ideal S2048x512 .bf16) (acc : FVec Ideal S256x2048 .f32)
    (wd : FVec Ideal S512x2048 .bf16) (r : Fin 256) (d : Fin 2048) :
    (k0_pay2 (F := Ideal) h wg wu acc wd (ix2 r d) : EReal) = acc (ix2 r d) + part h wg wu wd (ix2 r d) := by
  pointwise [k0_pay2, part, act]

/-- What the last point writes, from the accumulator it ends with. -/
def outRow (x acc : FVec Ideal S256x2048 .f32) (g : FVec Ideal S1x2048 .f32) (r : Fin 256) (d : Fin 2048) : EReal :=
  x (ix2 r d) + normed (∑ k : Fin 2048, acc (ix2 r k) * acc (ix2 r k)) (acc (ix2 r d)) (g (ix2 0 d))

theorem pay3_at (x acc : FVec Ideal S256x2048 .f32) (g : FVec Ideal S1x2048 .f32) (r : Fin 256) (d : Fin 2048) :
    (k0_pay3 (F := Ideal) x acc g (ix2 r d) : EReal) = outRow x acc g r d := by
  pointwise [k0_pay3, outRow, normed]

/-- A step of the accumulator at any entry. -/
theorem step (h : FVec Ideal S256x2048 .bf16) (wg wu : FVec Ideal S2048x512 .bf16) (acc : FVec Ideal S256x2048 .f32)
    (wd : FVec Ideal S512x2048 .bf16) (i : S256x2048.Idx) :
    (k0_pay2 (F := Ideal) h wg wu acc wd i : EReal) = acc i + part h wg wu wd i := by
  have hi : i = ix2 (i 0 : Fin 256) (i 1 : Fin 2048) := funext fun a => match a with | ⟨0, _⟩ => rfl | ⟨1, _⟩ => rfl
  rw [hi]
  exact pay2_at h wg wu acc wd _ _

theorem acc_A (c : Dev nD) (t : Fin cfg0.N) (h0 : t.val % 11 = 0) (h1 : ¬t.val % 11 = 10) (i : S256x2048.Idx) :
    ((outsAt0 m c t.val t.isLt).2 i : EReal) = 0 + part (iblk m c 0 t) (iblk m c 1 t) (iblk m c 2 t) (iblk m c 3 t) i := by
  rw [outsAt0_A m c t h0 h1]
  frame_out
  exact (step _ _ _ _ _ i).trans (congrArg (· + _) (pay1_at i))

theorem acc_B (c : Dev nD) (t : Fin cfg0.N) (h0 : ¬t.val % 11 = 0) (h1 : ¬t.val % 11 = 10) (i : S256x2048.Idx) :
    ((outsAt0 m c t.val t.isLt).2 i : EReal) = (outsAt0 m c (t.val - 1) (Nat.lt_of_le_of_lt (Nat.sub_le _ _) t.isLt)).2 i
      + part (iblk m c 0 t) (iblk m c 1 t) (iblk m c 2 t) (iblk m c 3 t) i := by
  rw [outsAt0_B m c t h0 h1]
  frame_out
  simp only [read_unread_whole]
  exact step _ _ _ _ _ i

theorem acc_C (c : Dev nD) (t : Fin cfg0.N) (h0 : ¬t.val % 11 = 0) (h1 : t.val % 11 = 10) (i : S256x2048.Idx) :
    ((outsAt0 m c t.val t.isLt).2 i : EReal) = (outsAt0 m c (t.val - 1) (Nat.lt_of_le_of_lt (Nat.sub_le _ _) t.isLt)).2 i
      + part (iblk m c 0 t) (iblk m c 1 t) (iblk m c 2 t) (iblk m c 3 t) i := by
  rw [outsAt0_C m c t h0 h1]
  frame_out
  simp only [read_unread_whole]
  exact step _ _ _ _ _ i

theorem out_C (c : Dev nD) (t : Fin cfg0.N) (h0 : ¬t.val % 11 = 0) (h1 : t.val % 11 = 10) (r : Fin 256) (d : Fin 2048) :
    ((outsAt0 m c t.val t.isLt).1 (ix2 r d) : EReal) = outRow (iblk m c 4 t) (outsAt0 m c t.val t.isLt).2 (iblk m c 5 t) r d := by
  rw [outsAt0_C m c t h0 h1]
  frame_out
  exact pay3_at _ _ _ r d

/-- The accumulator after the eleven points: the sum over its eleven blocks of hidden columns. -/
theorem acc_run (c : Dev nD) (t : Fin cfg0.N) (h1 : t.val % 11 = 10) (i : S256x2048.Idx) :
    ((outsAt0 m c t.val t.isLt).2 i : EReal) = ∑ s : Fin 11, part
      (iblk m c 0 ⟨11 * (t.val / 11) + s.val, Pipeline.run_point_lt_of_flush t h1 s⟩) (iblk m c 1 ⟨11 * (t.val / 11) + s.val, Pipeline.run_point_lt_of_flush t h1 s⟩)
      (iblk m c 2 ⟨11 * (t.val / 11) + s.val, Pipeline.run_point_lt_of_flush t h1 s⟩) (iblk m c 3 ⟨11 * (t.val / 11) + s.val, Pipeline.run_point_lt_of_flush t h1 s⟩) i := by
  refine (Pipeline.eq_sum_fin_of_reset_step_apply_of_flush (N := cfg0.N) (ι := S256x2048.Idx) (M := EReal) (fun n h => (outsAt0 m c n h).2) 11 (fun _ => 0)
    (fun t i => part (iblk m c 0 t) (iblk m c 1 t) (iblk m c 2 t) (iblk m c 3 t) i) (fun t h0 i => acc_A m c t h0 (by omega) i) (fun t h0 i => ?_) t h1 i).trans (zero_add _)
  by_cases h1 : t.val % 11 = 10
  · exact acc_C m c t h0 h1 i
  · exact acc_B m c t h0 h1 i

theorem idx : ∀ t : Fin cfg0.N, win0_0.index t = ![0, 0] ∧ win0_1.index t = ![0, t.val % 11] ∧ win0_2.index t = ![0, t.val % 11]
    ∧ win0_3.index t = ![t.val % 11, 0] ∧ win0_4.index t = ![0, 0] ∧ win0_5.index t = ![0, 0] ∧ win0_6.index t = ![0, 0] :=
  (by decide +kernel : ∀ t : Fin grid0.N, _)

/-- A hidden column's place among all of them. -/
def colOf (t : Fin cfg0.N) (f : Fin 512) : Fin 5632 := ⟨512 * (t.val % 11) + f.val, by omega⟩

theorem V_h (c : Dev nD) (r : Fin 256) (k : Fin 2048) :
    V m c main_v1 (ix2 r k) = m ((c : Thread nD τ).loc main_arg0) (ix3 (bOf r) (sOf r) k) := by
  entry_read
  pointwise
  blk_ext [bOf, sOf]

theorem V_x (c : Dev nD) (r : Fin 256) (k : Fin 2048) :
    V m c main_v5 (ix2 r k) = m ((c : Thread nD τ).loc main_arg1) (ix3 (bOf r) (sOf r) k) := by
  entry_read
  pointwise
  blk_ext [bOf, sOf]

theorem V_wg (c : Dev nD) (k : Fin 2048) (l : Fin 5632) : V m c main_v2 (ix2 k l) = m ((c : Thread nD τ).loc main_arg2) (ix2 k l) := by
  entry_read
  rfl

theorem V_wu (c : Dev nD) (k : Fin 2048) (l : Fin 5632) : V m c main_v3 (ix2 k l) = m ((c : Thread nD τ).loc main_arg3) (ix2 k l) := by
  entry_read
  rfl

theorem V_wd (c : Dev nD) (l : Fin 5632) (k : Fin 2048) : V m c main_v4 (ix2 l k) = m ((c : Thread nD τ).loc main_arg4) (ix2 l k) := by
  entry_read
  rfl

theorem V_g (c : Dev nD) (k : Fin 2048) : V m c main_v6 (ix2 0 k) = m ((c : Thread nD τ).loc main_arg5) (ix1 k) := by
  entry_read
  pointwise

theorem blk0 (c : Dev nD) (t : Fin cfg0.N) (r : Fin 256) (k : Fin 2048) :
    iblk m c 0 t (ix2 r k) = m ((c : Thread nD τ).loc main_arg0) (ix3 (bOf r) (sOf r) k) := by
  refine Eq.trans ?_ (V_h m c r k)
  blk_ext [iblk, idx t]

theorem blk4 (c : Dev nD) (t : Fin cfg0.N) (r : Fin 256) (k : Fin 2048) :
    iblk m c 4 t (ix2 r k) = m ((c : Thread nD τ).loc main_arg1) (ix3 (bOf r) (sOf r) k) := by
  refine Eq.trans ?_ (V_x m c r k)
  blk_ext [iblk, idx t]

theorem blk1 (c : Dev nD) (t : Fin cfg0.N) (k : Fin 2048) (f : Fin 512) :
    iblk m c 1 t (ix2 k f) = m ((c : Thread nD τ).loc main_arg2) (ix2 k (colOf t f)) := by
  refine Eq.trans ?_ (V_wg m c k (colOf t f))
  blk_ext [iblk, idx t, colOf]

theorem blk2 (c : Dev nD) (t : Fin cfg0.N) (k : Fin 2048) (f : Fin 512) :
    iblk m c 2 t (ix2 k f) = m ((c : Thread nD τ).loc main_arg3) (ix2 k (colOf t f)) := by
  refine Eq.trans ?_ (V_wu m c k (colOf t f))
  blk_ext [iblk, idx t, colOf]

theorem blk3 (c : Dev nD) (t : Fin cfg0.N) (f : Fin 512) (k : Fin 2048) :
    iblk m c 3 t (ix2 f k) = m ((c : Thread nD τ).loc main_arg4) (ix2 (colOf t f) k) := by
  refine Eq.trans ?_ (V_wd m c (colOf t f) k)
  blk_ext [iblk, idx t, colOf]

theorem blk5 (c : Dev nD) (t : Fin cfg0.N) (k : Fin 2048) :
    iblk m c 5 t (ix2 0 k) = m ((c : Thread nD τ).loc main_arg5) (ix1 k) := by
  refine Eq.trans ?_ (V_g m c k)
  blk_ext [iblk, idx t]

/-- The accumulator after the last point is the reference's row before its norm. -/
theorem acc_final (c : Dev nD) (t : Fin cfg0.N) (h1 : t.val % 11 = 10) (r : Fin 256) (d : Fin 2048) :
    ((outsAt0 m c t.val t.isLt).2 (ix2 r d) : EReal) = Cert.Reference5Ideal.Ref.out (m ((c : Thread nD τ).loc main_arg0)) (m ((c : Thread nD τ).loc main_arg2))
      (m ((c : Thread nD τ).loc main_arg3)) (m ((c : Thread nD τ).loc main_arg4)) r d := by
  refine (acc_run m c t h1 (ix2 r d)).trans ?_
  unfold part Cert.Reference5Ideal.Ref.out
  refine Fin.sum_mul_add_congr fun s f hl => ?_
  have hc : colOf ⟨11 * (t.val / 11) + s.val, Pipeline.run_point_lt_of_flush t h1 s⟩ f = ⟨s.val * 512 + f.val, hl⟩ := Fin.ext (by simp only [colOf]; omega)
  have e0 := fun k => blk0 m c ⟨11 * (t.val / 11) + s.val, Pipeline.run_point_lt_of_flush t h1 s⟩ r k
  have e1 := fun k => blk1 m c ⟨11 * (t.val / 11) + s.val, Pipeline.run_point_lt_of_flush t h1 s⟩ k f
  have e2 := fun k => blk2 m c ⟨11 * (t.val / 11) + s.val, Pipeline.run_point_lt_of_flush t h1 s⟩ k f
  have e3 := blk3 m c ⟨11 * (t.val / 11) + s.val, Pipeline.run_point_lt_of_flush t h1 s⟩ f d
  rw [hc] at e1 e2 e3
  refine congr (congrArg _ (congr (congrArg _ ?_) ?_)) e3
  · exact Finset.sum_congr rfl fun k _ => congr (congrArg _ (e0 k)) (e1 k)
  · exact Finset.sum_congr rfl fun k _ => congr (congrArg _ (e0 k)) (e2 k)

/-- The reference's result of the arguments. -/
abbrev REF (c : Dev nD) : FVec Ideal Cert.Reference5Ideal.S256x2048 .f32 :=
  result (m ((c : Thread nD τ).loc main_arg1)) (down (hidden (m ((c : Thread nD τ).loc main_arg0)) (m ((c : Thread nD τ).loc main_arg2))
    (m ((c : Thread nD τ).loc main_arg3))) (m ((c : Thread nD τ).loc main_arg4))) (m ((c : Thread nD τ).loc main_arg5))

/-- What the last point writes is the reference's result. -/
theorem point (c : Dev nD) (t : Fin cfg0.N) (h1 : t.val % 11 = 10) (r : Fin 256) (d : Fin 2048) :
    ((outsAt0 m c t.val t.isLt).1 (ix2 r d) : EReal) = REF m c (ix2 r d) := by
  refine (out_C m c t (by omega) h1 r d).trans (Eq.trans ?_ (all_at _ _ _ _ _ _ r d).symm)
  unfold outRow
  have e := fun k => acc_final m c t h1 r k
  refine congr (congrArg _ (blk4 m c t r d)) ?_
  refine congr (congr (congrArg _ ?_) (e d)) (blk5 m c t d)
  exact Finset.sum_congr rfl fun k _ => congr (congrArg _ (e k)) (e k)

/-- The result array. -/
theorem final (c : Dev nD) : (dats m 0 c).arrAt 6 (cfgs 0).N = REF m c := by
  refine (dats m 0 c).arrAt_eq_of_covers 6 _ (by decide +kernel) fun t hf y => ?_
  have h1 : t.val % 11 = 10 := (flush0_6 t).1 hf
  blk_simp
  rw [after0_6]
  have hy : y = ix2 (y 0 : Fin 256) (y 1 : Fin 2048) := funext fun a => match a with | ⟨0, _⟩ => rfl | ⟨1, _⟩ => rfl
  refine (congrArg (outsAt0 m c t.val t.isLt).1 hy).trans ((point m c t h1 (y 0) (y 1)).trans (congrArg _ ?_))
  blk_ext [idx t]

end Cert.Kernel5Ideal.Ffn

end
-- ==== Proof.OutSample.lean ====
/- The output projection over the sample's rows: its reference at an index, the one grid point of the kernel, and the two result arrays. -/
module

public import proofs.«01_k».proof.Proof.Gen.Kernel6Ideal.Value
public import proofs.«01_k».proof.Proof.Gen.Reference6Ideal.Run
public import proofs.«01_k».proof.Proof.OutPoint
public import Idealize.ShloMosaic.Lib.Claim

@[expose] public section

set_option maxRecDepth 16384

noncomputable section

namespace Cert.Reference6Ideal.Ref

open Idealize.ShloMosaic Idealize.ShloMosaic.TcCoe Idealize.SL.Sem
open Cert.Reference6Ideal Cert.Reference6Ideal.Gen Cert.Kernel2Ideal.Point
open Cert.Reference3Ideal.Ref (gnormed)

section
variable {F : FTy → Type} [FloatOps F] [Named F]

/-- One group's output, each row normalised over its 512 columns. -/
def group (o : FVec F S16x16x512 .f32) (g : FVec F S512 .f32) : FVec F S16x16x512 .f32 :=
  mulf (mulf o (broadcastInDim S16x16x512 ![0, 1, 2] bcast_S16x16x1_S16x16x512_0_1_2 (Host.rsqrt (addf (Host.divf (broadcastInDim S16x16x1 ![0, 1] bcast_S16x16_S16x16x1_0_1 (Host.reduceAdd (mulf o o) (constant S_ .f32 0x00000000#32) reducesTo_S16x16x512_S16x16_d2 h_S_)) (broadcastInDim S16x16x1 ![] bcast_S_S16x16x1 (constant S_ .f32 0x44000000#32))) (broadcastInDim S16x16x1 ![] bcast_S_S16x16x1 (constant S_ .f32 0x358637BD#32))))))
    (broadcastInDim S16x16x512 ![0, 1, 2] bcast_S1x1x512_S16x16x512_0_1_2 (broadcastInDim S1x1x512 ![2] bcast_S512_S1x1x512_2 g))

/-- The four groups side by side, projected back to the model's width. -/
def proj (a b c d : FVec F S16x16x512 .f32) (w : FVec F S2048x2048 .f32) : FVec F S16x16x2048 .f32 :=
  Host.dotGeneral dot_S16x16x2048_S2048x2048_S16x16x2048_2_0_01_1_n_n none ((concatenate S16x16x2048 2 [⟨S16x16x512, (a : (⟨S16x16x512, .f32⟩ : BufTy).Contents (Elt F))⟩, ⟨S16x16x512, (b : (⟨S16x16x512, .f32⟩ : BufTy).Contents (Elt F))⟩, ⟨S16x16x512, (c : (⟨S16x16x512, .f32⟩ : BufTy).Contents (Elt F))⟩, ⟨S16x16x512, (d : (⟨S16x16x512, .f32⟩ : BufTy).Contents (Elt F))⟩] concatenates_S16x16x512_S16x16x512_S16x16x512_S16x16x512_S16x16x2048_d2 : (⟨S16x16x2048, .f32⟩ : BufTy).Contents (Elt F))) w

/-- A row normalised over the model's width. -/
def norm (a : FVec F S16x16x2048 .f32) (g : FVec F S2048 .f32) : FVec F S16x16x2048 .f32 :=
  mulf (mulf a (broadcastInDim S16x16x2048 ![0, 1, 2] bcast_S16x16x1_S16x16x2048_0_1_2 (Host.rsqrt (addf (Host.divf (broadcastInDim S16x16x1 ![0, 1] bcast_S16x16_S16x16x1_0_1 (Host.reduceAdd (mulf a a) (constant S_ .f32 0x00000000#32) reducesTo_S16x16x2048_S16x16_d2 h_S_)) (broadcastInDim S16x16x1 ![] bcast_S_S16x16x1 (constant S_ .f32 0x45000000#32))) (broadcastInDim S16x16x1 ![] bcast_S_S16x16x1 (constant S_ .f32 0x358637BD#32))))))
    (broadcastInDim S16x16x2048 ![0, 1, 2] bcast_S1x1x2048_S16x16x2048_0_1_2 (broadcastInDim S1x1x2048 ![2] bcast_S2048_S1x1x2048_2 g))

/-- The four groups' gains, one row each. -/
def gain0 (g : FVec F S4x512 .f32) : FVec F S512 .f32 := shapeCast _ (extractStridedSlice S1x512 ![0, 0] g slices_S4x512_S1x512_0_0) shapeCasts_S1x512_S512
def gain1 (g : FVec F S4x512 .f32) : FVec F S512 .f32 := shapeCast _ (extractStridedSlice S1x512 ![1, 0] g slices_S4x512_S1x512_1_0) shapeCasts_S1x512_S512
def gain2 (g : FVec F S4x512 .f32) : FVec F S512 .f32 := shapeCast _ (extractStridedSlice S1x512 ![2, 0] g slices_S4x512_S1x512_2_0) shapeCasts_S1x512_S512
def gain3 (g : FVec F S4x512 .f32) : FVec F S512 .f32 := shapeCast _ (extractStridedSlice S1x512 ![3, 0] g slices_S4x512_S1x512_3_0) shapeCasts_S1x512_S512

/-- The heads of a group's output side by side: eight of 64 columns, or four of 128. -/
def flat8 (o : FVec F S16x16x8x64 .f32) : FVec F S16x16x512 .f32 := shapeCast _ o shapeCasts_S16x16x8x64_S16x16x512
def flat4 (o : FVec F S16x16x4x128 .f32) : FVec F S16x16x512 .f32 := shapeCast _ o shapeCasts_S16x16x4x128_S16x16x512

/-- The projected rows. -/
def mixed (a b c d : FVec F S16x16x512 .f32) (g : FVec F S4x512 .f32) (w : FVec F S2048x2048 .f32) : FVec F S16x16x2048 .f32 :=
  proj (group a (gain0 g)) (group b (gain1 g)) (group c (gain2 g)) (group d (gain3 g)) w

/-- The residual row plus the normalised projection. -/
def resid (a b c d : FVec F S16x16x512 .f32) (x : FVec F S16x16x2048 .f32) (g : FVec F S4x512 .f32) (w : FVec F S2048x2048 .f32) (gp : FVec F S2048 .f32) :
    FVec F S16x16x2048 .f32 :=
  addf x (norm (mixed a b c d g w) gp)

/-- The two results over the arguments. -/
def first (a b c d : FVec F S16x16x512 .f32) (x : FVec F S16x16x2048 .f32) (g : FVec F S4x512 .f32) (w : FVec F S2048x2048 .f32) (gp : FVec F S2048 .f32) :
    FVec F S256x2048 .f32 :=
  shapeCast _ (resid a b c d x g w gp) shapeCasts_S16x16x2048_S256x2048
def second (a b c d : FVec F S16x16x512 .f32) (x : FVec F S16x16x2048 .f32) (g : FVec F S4x512 .f32) (w : FVec F S2048x2048 .f32) (gp gf : FVec F S2048 .f32) :
    FVec F S256x2048 .bf16 :=
  truncf .bf16 (shapeCast _ (norm (resid a b c d x g w gp) gf) shapeCasts_S16x16x2048_S256x2048) bitsLt_bf16_f32

end

/-- The program's two results are these arrays of its arguments. -/
theorem res0_eq (m : (ℓ : Loc nD τ sig) → Buf (Elt Ideal) ℓ) (c : Dev nD) : Value.res_out0 m c
    = first (F := Ideal) (flat8 (m ((c : Thread nD τ).loc main_arg0))) (flat4 (m ((c : Thread nD τ).loc main_arg1))) (flat4 (m ((c : Thread nD τ).loc main_arg2)))
      (flat4 (m ((c : Thread nD τ).loc main_arg3))) (m ((c : Thread nD τ).loc main_arg4)) (m ((c : Thread nD τ).loc main_arg5)) (m ((c : Thread nD τ).loc main_arg6))
      (m ((c : Thread nD τ).loc main_arg7)) := rfl
theorem res1_eq (m : (ℓ : Loc nD τ sig) → Buf (Elt Ideal) ℓ) (c : Dev nD) : Value.res_out1 m c
    = second (F := Ideal) (flat8 (m ((c : Thread nD τ).loc main_arg0))) (flat4 (m ((c : Thread nD τ).loc main_arg1))) (flat4 (m ((c : Thread nD τ).loc main_arg2)))
      (flat4 (m ((c : Thread nD τ).loc main_arg3))) (m ((c : Thread nD τ).loc main_arg4)) (m ((c : Thread nD τ).loc main_arg5)) (m ((c : Thread nD τ).loc main_arg6))
      (m ((c : Thread nD τ).loc main_arg7)) (m ((c : Thread nD τ).loc main_arg8)) := rfl

/-- What one group adds to an entry of the projected row: its normalised row against its 512 rows of the matrix, from row `o` on. -/
def share (a : FVec Ideal S16x16x512 .f32) (g : FVec Ideal S4x512 .f32) (w : FVec Ideal S2048x2048 .f32) (b : Fin 16) (s : Fin 16) (d : Fin 2048)
    (n : Fin 4) : EReal :=
  ∑ f : Fin 512, gnormed (∑ k : Fin 512, a (ix3 b s k) * a (ix3 b s k)) (a (ix3 b s f)) (g (ix2 n f)) * w (ix2 (⟨512 * n.val + f.val, by omega⟩ : Fin 2048) d)

/-- An entry of the projected row. -/
def mix (a b c d : FVec Ideal S16x16x512 .f32) (g : FVec Ideal S4x512 .f32) (w : FVec Ideal S2048x2048 .f32) (n : Fin 16) (s : Fin 16) (e : Fin 2048) : EReal :=
  share a g w n s e 0 + share b g w n s e 1 + share c g w n s e 2 + share d g w n s e 3

/-- An entry of the first result. -/
def row (a b c d : FVec Ideal S16x16x512 .f32) (x : FVec Ideal S16x16x2048 .f32) (g : FVec Ideal S4x512 .f32) (w : FVec Ideal S2048x2048 .f32)
    (gp : FVec Ideal S2048 .f32) (n : Fin 16) (s : Fin 16) (e : Fin 2048) : EReal :=
  x (ix3 n s e) + normed (∑ k : Fin 2048, mix a b c d g w n s k * mix a b c d g w n s k) (mix a b c d g w n s e) (gp (ix1 e))

theorem group_at (o : FVec Ideal S16x16x512 .f32) (g : FVec Ideal S512 .f32) (b : Fin 16) (s : Fin 16) (f : Fin 512) :
    (group o g (ix3 b s f) : EReal) = gnormed (∑ k : Fin 512, o (ix3 b s k) * o (ix3 b s k)) (o (ix3 b s f)) (g (ix1 f)) := by
  pointwise [group, gnormed]

theorem norm_at (a : FVec Ideal S16x16x2048 .f32) (g : FVec Ideal S2048 .f32) (b : Fin 16) (s : Fin 16) (d : Fin 2048) :
    (norm a g (ix3 b s d) : EReal) = normed (∑ k : Fin 2048, a (ix3 b s k) * a (ix3 b s k)) (a (ix3 b s d)) (g (ix1 d)) := by
  pointwise [norm, normed]

theorem gain0_at (g : FVec Ideal S4x512 .f32) (f : Fin 512) : gain0 g (ix1 f) = g (ix2 0 f) := by pointwise [gain0]
theorem gain1_at (g : FVec Ideal S4x512 .f32) (f : Fin 512) : gain1 g (ix1 f) = g (ix2 1 f) := by pointwise [gain1]
theorem gain2_at (g : FVec Ideal S4x512 .f32) (f : Fin 512) : gain2 g (ix1 f) = g (ix2 2 f) := by pointwise [gain2]
theorem gain3_at (g : FVec Ideal S4x512 .f32) (f : Fin 512) : gain3 g (ix1 f) = g (ix2 3 f) := by pointwise [gain3]

/-- The projection's sum over 2048 columns, group by group. -/
theorem proj_at (a b c d : FVec Ideal S16x16x512 .f32) (w : FVec Ideal S2048x2048 .f32) (n : Fin 16) (s : Fin 16) (e : Fin 2048) :
    (proj a b c d w (ix3 n s e) : EReal) = (∑ f : Fin 512, (a (ix3 n s f) : EReal) * w (ix2 (⟨f.val, by omega⟩ : Fin 2048) e))
      + (∑ f : Fin 512, (b (ix3 n s f) : EReal) * w (ix2 (⟨512 + f.val, by omega⟩ : Fin 2048) e))
      + (∑ f : Fin 512, (c (ix3 n s f) : EReal) * w (ix2 (⟨1024 + f.val, by omega⟩ : Fin 2048) e))
      + (∑ f : Fin 512, (d (ix3 n s f) : EReal) * w (ix2 (⟨1536 + f.val, by omega⟩ : Fin 2048) e)) := by
  pointwise [proj]
  refine (Fin.sum_mul_add_fin 4 512 _).symm.trans ?_
  rw [Fin.sum_univ_four]
  refine congr (congrArg _ (congr (congrArg _ (congr (congrArg _ ?_) ?_)) ?_)) ?_ <;> refine Finset.sum_congr rfl fun f _ => ?_ <;>
    have hf := f.isLt
  · refine congr (congrArg _ ((dif_pos (show (0 * 512 + f.val : Nat) < 512 by omega)).trans ?_)) ?_
    · refine congrArg a ?_
      blk_ext
    · refine congrArg w ?_
      blk_ext
  · refine congr (congrArg _ ((dif_neg (show ¬(1 * 512 + f.val : Nat) < 512 by omega)).trans ((dif_pos (show (1 * 512 + f.val - 512 : Nat) < 512 by omega)).trans ?_))) ?_
    · refine congrArg b ?_
      blk_ext
    · refine congrArg w ?_
      blk_ext
  · refine congr (congrArg _ ((dif_neg (show ¬(2 * 512 + f.val : Nat) < 512 by omega)).trans ((dif_neg (show ¬(2 * 512 + f.val - 512 : Nat) < 512 by omega)).trans
      ((dif_pos (show (2 * 512 + f.val - 512 - 512 : Nat) < 512 by omega)).trans ?_)))) ?_
    · refine congrArg c ?_
      blk_ext
    · refine congrArg w ?_
      blk_ext
  · refine congr (congrArg _ ((dif_neg (show ¬(3 * 512 + f.val : Nat) < 512 by omega)).trans ((dif_neg (show ¬(3 * 512 + f.val - 512 : Nat) < 512 by omega)).trans
      ((dif_neg (show ¬(3 * 512 + f.val - 512 - 512 : Nat) < 512 by omega)).trans ?_)))) ?_
    · refine congrArg d ?_
      blk_ext
    · refine congrArg w ?_
      blk_ext

theorem mixed_at (a b c d : FVec Ideal S16x16x512 .f32) (g : FVec Ideal S4x512 .f32) (w : FVec Ideal S2048x2048 .f32) (n : Fin 16) (s : Fin 16) (e : Fin 2048) :
    (mixed a b c d g w (ix3 n s e) : EReal) = mix a b c d g w n s e := by
  refine (proj_at _ _ _ _ _ _ _ _).trans ?_
  simp only [group_at, gain0_at, gain1_at, gain2_at, gain3_at]
  unfold mix share
  refine congr (congrArg _ (congr (congrArg _ (congr (congrArg _ ?_) ?_)) ?_)) ?_ <;> refine Finset.sum_congr rfl fun f _ => congrArg _ (congrArg w ?_)
  · blk_ext
  · rfl
  · rfl
  · rfl

theorem resid_at (a b c d : FVec Ideal S16x16x512 .f32) (x : FVec Ideal S16x16x2048 .f32) (g : FVec Ideal S4x512 .f32) (w : FVec Ideal S2048x2048 .f32)
    (gp : FVec Ideal S2048 .f32) (n : Fin 16) (s : Fin 16) (e : Fin 2048) :
    (resid a b c d x g w gp (ix3 n s e) : EReal) = row a b c d x g w gp n s e := by
  show (x (ix3 n s e) : EReal) + norm (mixed a b c d g w) gp (ix3 n s e) = _
  rw [norm_at]
  simp only [mixed_at]
  rfl

theorem first_at (a b c d : FVec Ideal S16x16x512 .f32) (x : FVec Ideal S16x16x2048 .f32) (g : FVec Ideal S4x512 .f32) (w : FVec Ideal S2048x2048 .f32)
    (gp : FVec Ideal S2048 .f32) (n : Fin 16) (s : Fin 16) (e : Fin 2048) :
    (first a b c d x g w gp (ix2 (⟨16 * n.val + s.val, by omega⟩ : Fin 256) e) : EReal) = row a b c d x g w gp n s e := by
  refine Eq.trans ?_ (resid_at a b c d x g w gp n s e)
  generalize hR : resid a b c d x g w gp = R
  pointwise [first, hR]

theorem second_at (a b c d : FVec Ideal S16x16x512 .f32) (x : FVec Ideal S16x16x2048 .f32) (g : FVec Ideal S4x512 .f32) (w : FVec Ideal S2048x2048 .f32)
    (gp gf : FVec Ideal S2048 .f32) (n : Fin 16) (s : Fin 16) (e : Fin 2048) :
    (second a b c d x g w gp gf (ix2 (⟨16 * n.val + s.val, by omega⟩ : Fin 256) e) : EReal)
      = normed (∑ k : Fin 2048, row a b c d x g w gp n s k * row a b c d x g w gp n s k) (row a b c d x g w gp n s e) (gf (ix1 e)) := by
  have h := norm_at (resid a b c d x g w gp) gf n s e
  simp only [resid_at] at h
  refine Eq.trans ?_ h
  generalize hR : norm (resid a b c d x g w gp) gf = R
  pointwise [second, hR]

end Cert.Reference6Ideal.Ref

namespace Cert.Kernel6Ideal.Out

open Idealize.ShloMosaic Idealize.ShloMosaic.TcCoe Idealize.SL.Sem
open Cert.Kernel6Ideal Cert.Kernel6Ideal.Gen Cert.Kernel2Ideal.Point Cert.Reference6Ideal.Ref
open Cert.Reference3Ideal.Ref (gnormed)
open Cert.Kernel3Ideal.Out (ld_at)

/-- What one group adds to an entry of a block's projected row. -/
def bshare (o : FVec Ideal S256x512 .bf16) (g : FVec Ideal S1x512 .f32) (w : FVec Ideal S512x2048 .bf16) (r : Fin 256) (d : Fin 2048) : EReal :=
  ∑ f : Fin 512, gnormed (∑ k : Fin 512, o (ix2 r k) * o (ix2 r k)) (o (ix2 r f)) (g (ix2 0 f)) * w (ix2 f d)

theorem pay3_at (o : FVec Ideal S256x512 .bf16) (g : FVec Ideal S1x512 .f32) (w : FVec Ideal S512x2048 .bf16) (r : Fin 256) (d : Fin 2048) :
    (k0_pay3 (F := Ideal) o g w (ix2 r d) : EReal) = bshare o g w r d := by
  pointwise [k0_pay3, bshare, gnormed]

theorem pay6_at (v : FVec Ideal S256x2048 .f32) (o o' : FVec Ideal S256x512 .bf16) (g g' : FVec Ideal S1x512 .f32) (w w' : FVec Ideal S512x2048 .bf16)
    (r : Fin 256) (d : Fin 2048) :
    (k0_pay6 (F := Ideal) v (k0_pay4 o g) (k0_pay5 w) (constant S256x2048 .f32 0x00000000#32) o' g' w' (ix2 r d) : EReal)
      = v (ix2 r d) + bshare o g w r d + bshare o' g' w' r d := by
  pointwise [k0_pay6, k0_pay4, k0_pay5, bshare, gnormed]

theorem pay1_at (v : FVec Ideal S256x2048 .f32) (o : FVec Ideal S256x512 .bf16) (g : FVec Ideal S1x512 .f32) (w : FVec Ideal S512x2048 .bf16)
    (x : FVec Ideal S256x2048 .f32) (gp : FVec Ideal S1x2048 .f32) (y : Fin 2048 → EReal) (r : Fin 256) (d : Fin 2048)
    (hy : ∀ k : Fin 2048, y k = v (ix2 r k) + bshare o g w r k) :
    (k0_pay1 (F := Ideal) v (k0_pay7 o g) w x gp (ix2 r d) : EReal) = x (ix2 r d) + normed (∑ k : Fin 2048, y k * y k) (y d) (gp (ix2 0 d)) := by
  simp only [hy]
  pointwise [k0_pay1, k0_pay7, bshare, gnormed, normed]

theorem pay2_at (v : FVec Ideal S256x2048 .f32) (o : FVec Ideal S256x512 .bf16) (w : FVec Ideal S512x2048 .bf16)
    (x : FVec Ideal S256x2048 .f32) (gp gf : FVec Ideal S1x2048 .f32) (y : Fin 2048 → EReal) (r : Fin 256) (d : Fin 2048)
    (hy : ∀ k : Fin 2048, (k0_pay1 (F := Ideal) v o w x gp (ix2 r k) : EReal) = y k) :
    (k0_pay2 (F := Ideal) v o w x gp gf (ix2 r d) : EReal) = normed (∑ k : Fin 2048, y k * y k) (y d) (gf (ix2 0 d)) := by
  simp only [← hy]
  unfold k0_pay2
  generalize k0_pay1 (F := Ideal) v o w x gp = z
  pointwise [normed]

variable (m : (ℓ : Loc nD τ sig) → Buf (Elt Ideal) ℓ)

theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] :=
  (by decide +kernel : ∀ t : Fin grid0.N, _)

/-- The batch and the position in it of a row. -/
def bOf (r : Fin 256) : Fin 16 := ⟨r.val / 16, by omega⟩
def sOf (r : Fin 256) : Fin 16 := ⟨r.val % 16, by omega⟩

/-- Row `s` of batch `b`. -/
def rowAt (b : Fin 16) (s : Fin 16) : Fin 256 := ⟨16 * b.val + s.val, by omega⟩

/-- The four groups' outputs, their heads side by side. -/
abbrev OA (c : Dev nD) := flat8 (F := Ideal) (m ((c : Thread nD τ).loc main_arg0))
abbrev OB (c : Dev nD) := flat4 (F := Ideal) (m ((c : Thread nD τ).loc main_arg1))
abbrev OC (c : Dev nD) := flat4 (F := Ideal) (m ((c : Thread nD τ).loc main_arg2))
abbrev OD (c : Dev nD) := flat4 (F := Ideal) (m ((c : Thread nD τ).loc main_arg3))

theorem V_oa (c : Dev nD) (b : Fin 16) (s : Fin 16) (k : Fin 512) : V m c main_v1 (ix2 (rowAt b s) k) = OA m c (ix3 b s k) := by
  entry_read
  pointwise [flat8]
  blk_ext [rowAt]

theorem V_ob (c : Dev nD) (b : Fin 16) (s : Fin 16) (k : Fin 512) : V m c main_v3 (ix2 (rowAt b s) k) = OB m c (ix3 b s k) := by
  entry_read
  pointwise [flat4]
  blk_ext [rowAt]

theorem V_oc (c : Dev nD) (b : Fin 16) (s : Fin 16) (k : Fin 512) : V m c main_v5 (ix2 (rowAt b s) k) = OC m c (ix3 b s k) := by
  entry_read
  pointwise [flat4]
  blk_ext [rowAt]

theorem V_od (c : Dev nD) (b : Fin 16) (s : Fin 16) (k : Fin 512) : V m c main_v7 (ix2 (rowAt b s) k) = OD m c (ix3 b s k) := by
  entry_read
  pointwise [flat4]
  blk_ext [rowAt]

theorem V_x (c : Dev nD) (b : Fin 16) (s : Fin 16) (k : Fin 2048) :
    V m c main_v9 (ix2 (rowAt b s) k) = m ((c : Thread nD τ).loc main_arg4) (ix3 b s k) := by
  entry_read
  pointwise
  blk_ext [rowAt]

theorem V_g (c : Dev nD) (i : S4x512.Idx) : V m c main_arg5 i = m ((c : Thread nD τ).loc main_arg5) i := by
  entry_read
  rfl

theorem V_w (c : Dev nD) (k l : Fin 2048) : V m c main_v8 (ix2 k l) = m ((c : Thread nD τ).loc main_arg6) (ix2 k l) := by
  entry_read
  rfl

theorem V_gp (c : Dev nD) (k : Fin 2048) : V m c main_v10 (ix2 0 k) = m ((c : Thread nD τ).loc main_arg7) (ix1 k) := by
  entry_read
  pointwise

theorem V_gf (c : Dev nD) (k : Fin 2048) : V m c main_v11 (ix2 0 k) = m ((c : Thread nD τ).loc main_arg8) (ix1 k) := by
  entry_read
  pointwise

theorem blk0 (c : Dev nD) (t : Fin cfg0.N) (r : Fin 256) (k : Fin 512) :
    iblk m c 0 t (ix2 r k) = OA m c (ix3 (bOf r) (sOf r) k) := by
  refine Eq.trans ?_ (V_oa m c (bOf r) (sOf r) k)
  blk_ext [iblk, idx t, bOf, sOf, rowAt]

theorem blk1 (c : Dev nD) (t : Fin cfg0.N) (r : Fin 256) (k : Fin 512) :
    iblk m c 1 t (ix2 r k) = OB m c (ix3 (bOf r) (sOf r) k) := by
  refine Eq.trans ?_ (V_ob m c (bOf r) (sOf r) k)
  blk_ext [iblk, idx t, bOf, sOf, rowAt]

theorem blk2 (c : Dev nD) (t : Fin cfg0.N) (r : Fin 256) (k : Fin 512) :
    iblk m c 2 t (ix2 r k) = OC m c (ix3 (bOf r) (sOf r) k) := by
  refine Eq.trans ?_ (V_oc m c (bOf r) (sOf r) k)
  blk_ext [iblk, idx t, bOf, sOf, rowAt]

theorem blk3 (c : Dev nD) (t : Fin cfg0.N) (r : Fin 256) (k : Fin 512) :
    iblk m c 3 t (ix2 r k) = OD m c (ix3 (bOf r) (sOf r) k) := by
  refine Eq.trans ?_ (V_od m c (bOf r) (sOf r) k)
  blk_ext [iblk, idx t, bOf, sOf, rowAt]

theorem blk4 (c : Dev nD) (t : Fin cfg0.N) (n : Fin 4) (k : Fin 512) : iblk m c 4 t (ix2 n k) = m ((c : Thread nD τ).loc main_arg5) (ix2 n k) := by
  refine Eq.trans ?_ (V_g m c (ix2 n k))
  blk_ext [iblk, idx t]

theorem blk5 (c : Dev nD) (t : Fin cfg0.N) (f d : Fin 2048) : iblk m c 5 t (ix2 f d) = m ((c : Thread nD τ).loc main_arg6) (ix2 f d) := by
  refine Eq.trans ?_ (V_w m c f d)
  blk_ext [iblk, idx t]

theorem blk6 (c : Dev nD) (t : Fin cfg0.N) (r : Fin 256) (k : Fin 2048) :
    iblk m c 6 t (ix2 r k) = m ((c : Thread nD τ).loc main_arg4) (ix3 (bOf r) (sOf r) k) := by
  refine Eq.trans ?_ (V_x m c (bOf r) (sOf r) k)
  blk_ext [iblk, idx t, bOf, sOf, rowAt]

theorem blk7 (c : Dev nD) (t : Fin cfg0.N) (k : Fin 2048) : iblk m c 7 t (ix2 0 k) = m ((c : Thread nD τ).loc main_arg7) (ix1 k) := by
  refine Eq.trans ?_ (V_gp m c k)
  blk_ext [iblk, idx t]

theorem blk8 (c : Dev nD) (t : Fin cfg0.N) (k : Fin 2048) : iblk m c 8 t (ix2 0 k) = m ((c : Thread nD τ).loc main_arg8) (ix1 k) := by
  refine Eq.trans ?_ (V_gf m c k)
  blk_ext [iblk, idx t]

theorem ld0 (c : Dev nD) (t : Fin cfg0.N) (r : Fin 256) (k : Fin 512) :
    View.ld (iblk m c 0 t) r0_0 (ix2 r k) = OA m c (ix3 (bOf r) (sOf r) k) := by
  refine Eq.trans (ld_at (iblk m c 0 t) 0 _ r k (by omega) (by omega)) (Eq.trans (congrArg (iblk m c 0 t) ?_) (blk0 m c t r k))
  blk_ext

theorem ld1 (c : Dev nD) (t : Fin cfg0.N) (r : Fin 256) (k : Fin 512) :
    View.ld (iblk m c 1 t) r0_0 (ix2 r k) = OB m c (ix3 (bOf r) (sOf r) k) := by
  refine Eq.trans (ld_at (iblk m c 1 t) 0 _ r k (by omega) (by omega)) (Eq.trans (congrArg (iblk m c 1 t) ?_) (blk1 m c t r k))
  blk_ext

theorem ld2 (c : Dev nD) (t : Fin cfg0.N) (r : Fin 256) (k : Fin 512) :
    View.ld (iblk m c 2 t) r0_0 (ix2 r k) = OC m c (ix3 (bOf r) (sOf r) k) := by
  refine Eq.trans (ld_at (iblk m c 2 t) 0 _ r k (by omega) (by omega)) (Eq.trans (congrArg (iblk m c 2 t) ?_) (blk2 m c t r k))
  blk_ext

theorem ld3 (c : Dev nD) (t : Fin cfg0.N) (r : Fin 256) (k : Fin 512) :
    View.ld (iblk m c 3 t) r0_0 (ix2 r k) = OD m c (ix3 (bOf r) (sOf r) k) := by
  refine Eq.trans (ld_at (iblk m c 3 t) 0 _ r k (by omega) (by omega)) (Eq.trans (congrArg (iblk m c 3 t) ?_) (blk3 m c t r k))
  blk_ext

theorem ld4_0 (c : Dev nD) (t : Fin cfg0.N) (k : Fin 512) : View.ld (iblk m c 4 t) r0_1 (ix2 0 k) = m ((c : Thread nD τ).loc main_arg5) (ix2 0 k) :=
  Eq.trans (ld_at (iblk m c 4 t) 0 _ (0 : Fin 1) k (by decide) (by omega)) (blk4 m c t 0 k)

theorem ld4_1 (c : Dev nD) (t : Fin cfg0.N) (k : Fin 512) : View.ld (iblk m c 4 t) r0_3 (ix2 0 k) = m ((c : Thread nD τ).loc main_arg5) (ix2 1 k) :=
  Eq.trans (ld_at (iblk m c 4 t) 1 _ (0 : Fin 1) k (by decide) (by omega)) (blk4 m c t 1 k)

theorem ld4_2 (c : Dev nD) (t : Fin cfg0.N) (k : Fin 512) : View.ld (iblk m c 4 t) r0_5 (ix2 0 k) = m ((c : Thread nD τ).loc main_arg5) (ix2 2 k) :=
  Eq.trans (ld_at (iblk m c 4 t) 2 _ (0 : Fin 1) k (by decide) (by omega)) (blk4 m c t 2 k)

theorem ld4_3 (c : Dev nD) (t : Fin cfg0.N) (k : Fin 512) : View.ld (iblk m c 4 t) r0_7 (ix2 0 k) = m ((c : Thread nD τ).loc main_arg5) (ix2 3 k) :=
  Eq.trans (ld_at (iblk m c 4 t) 3 _ (0 : Fin 1) k (by decide) (by omega)) (blk4 m c t 3 k)

theorem ld5_0 (c : Dev nD) (t : Fin cfg0.N) (f : Fin 512) (d : Fin 2048) :
    View.ld (iblk m c 5 t) r0_2 (ix2 f d) = m ((c : Thread nD τ).loc main_arg6) (ix2 (⟨512 * 0 + f.val, by omega⟩ : Fin 2048) d) :=
  Eq.trans (ld_at (iblk m c 5 t) 0 _ f d (by omega) (by omega)) (blk5 m c t _ d)

theorem ld5_1 (c : Dev nD) (t : Fin cfg0.N) (f : Fin 512) (d : Fin 2048) :
    View.ld (iblk m c 5 t) r0_4 (ix2 f d) = m ((c : Thread nD τ).loc main_arg6) (ix2 (⟨512 * 1 + f.val, by omega⟩ : Fin 2048) d) :=
  Eq.trans (ld_at (iblk m c 5 t) 512 _ f d (by omega) (by omega)) (blk5 m c t _ d)

theorem ld5_2 (c : Dev nD) (t : Fin cfg0.N) (f : Fin 512) (d : Fin 2048) :
    View.ld (iblk m c 5 t) r0_6 (ix2 f d) = m ((c : Thread nD τ).loc main_arg6) (ix2 (⟨512 * 2 + f.val, by omega⟩ : Fin 2048) d) :=
  Eq.trans (ld_at (iblk m c 5 t) 1024 _ f d (by omega) (by omega)) (blk5 m c t _ d)

theorem ld5_3 (c : Dev nD) (t : Fin cfg0.N) (f : Fin 512) (d : Fin 2048) :
    View.ld (iblk m c 5 t) r0_8 (ix2 f d) = m ((c : Thread nD τ).loc main_arg6) (ix2 (⟨512 * 3 + f.val, by omega⟩ : Fin 2048) d) :=
  Eq.trans (ld_at (iblk m c 5 t) 1536 _ f d (by omega) (by omega)) (blk5 m c t _ d)

/-- A group's share in a block's row is its share in that row of the whole. -/
theorem bshare_eq (o : FVec Ideal S256x512 .bf16) (g : FVec Ideal S1x512 .f32) (w : FVec Ideal S512x2048 .bf16) (r : Fin 256) (d : Fin 2048)
    (A : FVec Ideal Cert.Reference6Ideal.S16x16x512 .f32) (G : FVec Ideal Cert.Reference6Ideal.S4x512 .f32) (W : FVec Ideal Cert.Reference6Ideal.S2048x2048 .f32)
    (b : Fin 16) (s : Fin 16) (n : Fin 4)
    (ho : ∀ k : Fin 512, (o (ix2 r k) : EReal) = A (ix3 b s k)) (hg : ∀ k : Fin 512, (g (ix2 0 k) : EReal) = G (ix2 n k))
    (hw : ∀ k : Fin 512, (w (ix2 k d) : EReal) = W (ix2 (⟨512 * n.val + k.val, by omega⟩ : Fin 2048) d)) :
    bshare o g w r d = share A G W b s d n := by
  unfold bshare share
  simp only [ho, hg, hw]

/-- The first result's row of the arguments. -/
abbrev ROW (c : Dev nD) : Fin 16 → Fin 16 → Fin 2048 → EReal :=
  row (OA m c) (OB m c) (OC m c) (OD m c) (m ((c : Thread nD τ).loc main_arg4)) (m ((c : Thread nD τ).loc main_arg5)) (m ((c : Thread nD τ).loc main_arg6))
    (m ((c : Thread nD τ).loc main_arg7))

/-- What one grid point computes for the first result. -/
def PAY1 (c : Dev nD) (t : Fin cfg0.N) : FVec Ideal S256x2048 .f32 :=
  k0_pay1 (F := Ideal)
    (k0_pay8 (iblk m c 0 t) (iblk m c 1 t) (iblk m c 2 t) (iblk m c 3 t) (iblk m c 4 t) (iblk m c 5 t) (iblk m c 6 t) (iblk m c 7 t) (iblk m c 8 t))
    (k0_pay9 (iblk m c 0 t) (iblk m c 1 t) (iblk m c 2 t) (iblk m c 3 t) (iblk m c 4 t) (iblk m c 5 t) (iblk m c 6 t) (iblk m c 7 t) (iblk m c 8 t))
    (View.ld (iblk m c 5 t) r0_8) (iblk m c 6 t) (iblk m c 7 t)

/-- And for the second. -/
def PAY2 (c : Dev nD) (t : Fin cfg0.N) : FVec Ideal S256x2048 .bf16 :=
  k0_pay2 (F := Ideal)
    (k0_pay8 (iblk m c 0 t) (iblk m c 1 t) (iblk m c 2 t) (iblk m c 3 t) (iblk m c 4 t) (iblk m c 5 t) (iblk m c 6 t) (iblk m c 7 t) (iblk m c 8 t))
    (k0_pay9 (iblk m c 0 t) (iblk m c 1 t) (iblk m c 2 t) (iblk m c 3 t) (iblk m c 4 t) (iblk m c 5 t) (iblk m c 6 t) (iblk m c 7 t) (iblk m c 8 t))
    (View.ld (iblk m c 5 t) r0_8) (iblk m c 6 t) (iblk m c 7 t) (iblk m c 8 t)

theorem point9 (c : Dev nD) (t : Fin cfg0.N) (r : Fin 256) (d : Fin 2048) : (PAY1 m c t (ix2 r d) : EReal) = ROW m c (bOf r) (sOf r) d := by
  unfold PAY1 k0_pay8 k0_pay9
  refine (pay1_at _ _ _ _ _ _ (fun k => mix (OA m c) (OB m c) (OC m c) (OD m c) (m ((c : Thread nD τ).loc main_arg5)) (m ((c : Thread nD τ).loc main_arg6)) (bOf r) (sOf r) k)
    r d fun k => ?_).trans ?_
  · refine Eq.trans ?_ (congr (congrArg _ ((pay6_at _ _ _ _ _ _ _ r k).symm)) rfl)
    unfold mix
    refine congr (congrArg _ (congr (congrArg _ (congr (congrArg _ ?_) ?_)) ?_)) ?_
    · exact ((pay3_at _ _ _ r k).trans (bshare_eq _ _ _ r k _ _ _ _ _ 0 (ld0 m c t r) (ld4_0 m c t) fun f => ld5_0 m c t f k)).symm
    · exact (bshare_eq _ _ _ r k _ _ _ _ _ 1 (ld1 m c t r) (ld4_1 m c t) fun f => ld5_1 m c t f k).symm
    · exact (bshare_eq _ _ _ r k _ _ _ _ _ 2 (ld2 m c t r) (ld4_2 m c t) fun f => ld5_2 m c t f k).symm
    · exact (bshare_eq _ _ _ r k _ _ _ _ _ 3 (ld3 m c t r) (ld4_3 m c t) fun f => ld5_3 m c t f k).symm
  · exact congr (congrArg _ (blk6 m c t r d)) (congrArg _ (blk7 m c t d))

/-- The two results of the arguments. -/
abbrev REF9 (c : Dev nD) : FVec Ideal Cert.Reference6Ideal.S256x2048 .f32 :=
  first (OA m c) (OB m c) (OC m c) (OD m c) (m ((c : Thread nD τ).loc main_arg4)) (m ((c : Thread nD τ).loc main_arg5)) (m ((c : Thread nD τ).loc main_arg6))
    (m ((c : Thread nD τ).loc main_arg7))
abbrev REF10 (c : Dev nD) : FVec Ideal Cert.Reference6Ideal.S256x2048 .bf16 :=
  second (OA m c) (OB m c) (OC m c) (OD m c) (m ((c : Thread nD τ).loc main_arg4)) (m ((c : Thread nD τ).loc main_arg5)) (m ((c : Thread nD τ).loc main_arg6))
    (m ((c : Thread nD τ).loc main_arg7)) (m ((c : Thread nD τ).loc main_arg8))

/-- What one grid point writes is the first result at the place it writes to, -/
theorem point9_ref (c : Dev nD) (t : Fin cfg0.N) (r : Fin 256) (d : Fin 2048) :
    (PAY1 m c t (ix2 r d) : EReal) = REF9 m c (ix2 (rowAt (bOf r) (sOf r)) d) :=
  (point9 m c t r d).trans (first_at _ _ _ _ _ _ _ _ (bOf r) (sOf r) d).symm

/-- and the second. -/
theorem point10_ref (c : Dev nD) (t : Fin cfg0.N) (r : Fin 256) (d : Fin 2048) :
    (PAY2 m c t (ix2 r d) : EReal) = REF10 m c (ix2 (rowAt (bOf r) (sOf r)) d) := by
  refine Eq.trans ?_ (second_at _ _ _ _ _ _ _ _ _ (bOf r) (sOf r) d).symm
  refine (pay2_at _ _ _ _ _ _ (ROW m c (bOf r) (sOf r)) r d fun k => point9 m c t r k).trans ?_
  exact congrArg _ (blk8 m c t d)

/-- The first result's array. -/
theorem final9 (c : Dev nD) : (dats m 0 c).arrAt 9 (cfgs 0).N = REF9 m c := by
  refine (dats m 0 c).arrAt_eq_of_covers 9 _ (by decide +kernel) fun t hf y => ?_
  blk_simp
  rw [after0_9]
  frame_out
  have hy : y = ix2 (y 0 : Fin 256) (y 1 : Fin 2048) := funext fun a => match a with | ⟨0, _⟩ => rfl | ⟨1, _⟩ => rfl
  show PAY1 m c t y = _
  refine (congrArg (PAY1 m c t) hy).trans ((point9_ref m c t (y 0) (y 1)).trans (congrArg (REF9 m c) ?_))
  blk_ext [idx t, bOf, sOf, rowAt]

/-- The second result's array. -/
theorem final10 (c : Dev nD) : (dats m 0 c).arrAt 10 (cfgs 0).N = REF10 m c := by
  refine (dats m 0 c).arrAt_eq_of_covers 10 _ (by decide +kernel) fun t hf y => ?_
  blk_simp
  rw [after0_10]
  frame_out
  have hy : y = ix2 (y 0 : Fin 256) (y 1 : Fin 2048) := funext fun a => match a with | ⟨0, _⟩ => rfl | ⟨1, _⟩ => rfl
  show PAY2 m c t y = _
  refine (congrArg (PAY2 m c t) hy).trans ((point10_ref m c t (y 0) (y 1)).trans (congrArg (REF10 m c) ?_))
  blk_ext [idx t, bOf, sOf, rowAt]

end Cert.Kernel6Ideal.Out

end
-- ==== Proof.Keys.lean ====
/- The latent keys and values of the cached rows: the two results entry by entry, the reference at an index, one grid point of the kernel,
   and the kernel's two result arrays. -/
module

public import proofs.«01_k».proof.Proof.Gen.Kernel7Ideal.Value
public import proofs.«01_k».proof.Proof.Gen.Reference7Ideal.Run
public import proofs.«01_k».proof.Proof.ProjSpec
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace Cert.Keys

open Idealize.ShloMosaic
open Cert.Proj (row2 row3 eq_row2 eq_row3)

/-- The stream of a row of one layer's cache, and the position in it. -/
def bOf (r : Fin 32768) : Fin 16 := ⟨r.val / 2048, by omega⟩
def sOf (r : Fin 32768) : Fin 2048 := ⟨r.val % 2048, by omega⟩

/-- The last layer's cached latents against one of the two matrices. -/
def up (C : (⟨4, ![4, 16, 2048, 256]⟩ : Shape).Idx → EReal) (W : (⟨2, ![256, 512]⟩ : Shape).Idx → EReal) (r : Fin 32768) (n : Fin 512) : EReal :=
  ∑ k : Fin 256, C (ix4 3 (bOf r) (sOf r) k) * W (ix2 k n)

/-- A head's keys: 128 columns from the latent, 64 of the cached rotary key, which is the same for all heads, 64 of zeros. -/
def kd (C : (⟨4, ![4, 16, 2048, 256]⟩ : Shape).Idx → EReal) (P : (⟨4, ![4, 16, 2048, 64]⟩ : Shape).Idx → EReal) (W : (⟨2, ![256, 512]⟩ : Shape).Idx → EReal)
    (n : Fin 4) (r : Fin 32768) (l : Fin 256) : EReal :=
  if h : l.val < 128 then up C W r ⟨n.val * 128 + l.val, by omega⟩
  else if h' : l.val < 192 then P (ix4 3 (bOf r) (sOf r) ⟨l.val - 128, by omega⟩)
  else 0

end Cert.Keys

namespace Cert.Reference7Ideal.Ref

open Idealize.ShloMosaic Idealize.ShloMosaic.TcCoe Idealize.SL.Sem
open Cert.Reference7Ideal Cert.Reference7Ideal.Gen Cert.Keys
open Cert.Proj (row2 row3 eq_row2 eq_row3)

/-- The last layer's cached rows. -/
def latents (C : FVec Ideal S4x16x2048x256 .f32) : FVec Ideal S16x2048x256 .f32 :=
  shapeCast _ (extractStridedSlice S1x16x2048x256 ![3, 0, 0, 0] C slices_S4x16x2048x256_S1x16x2048x256_3_0_0_0) shapeCasts_S1x16x2048x256_S16x2048x256
def rotary (P : FVec Ideal S4x16x2048x64 .f32) : FVec Ideal S16x2048x64 .f32 :=
  shapeCast _ (extractStridedSlice S1x16x2048x64 ![3, 0, 0, 0] P slices_S4x16x2048x64_S1x16x2048x64_3_0_0_0) shapeCasts_S1x16x2048x64_S16x2048x64

/-- The keys, and heads first with 64 columns of zeros at the end. -/
def keys (Z : FVec Ideal S16x2048x256 .f32) (R : FVec Ideal S16x2048x64 .f32) (W : FVec Ideal S256x512 .f32) : FVec Ideal S16x2048x4x192 .f32 :=
  concatenate S16x2048x4x192 3 [⟨S16x2048x4x128, (shapeCast S16x2048x4x128 (Host.dotGeneral (F := Ideal) (φ₁ := .f32) (φ₂ := .f32) dot_S16x2048x256_S256x512_S16x2048x512_2_0_01_1_n_n none Z W) shapeCasts_S16x2048x512_S16x2048x4x128 : FVec Ideal _ .f32)⟩, ⟨S16x2048x4x64, (broadcastInDim S16x2048x4x64 ![0, 1, 2, 3] bcast_S16x2048x1x64_S16x2048x4x64_0_1_2_3 (broadcastInDim S16x2048x1x64 ![0, 1, 3] bcast_S16x2048x64_S16x2048x1x64_0_1_3 R) : FVec Ideal _ .f32)⟩] concatenates_S16x2048x4x128_S16x2048x4x64_S16x2048x4x192_d3
def lay (X : FVec Ideal S16x2048x4x192 .f32) : FVec Ideal S4x32768x256 .bf16 :=
  truncf .bf16 (pad S4x32768x256 ![0, 0, 0] ![0, 0, 64] ![0, 0, 0] (transpose S4x32768x192 [1, 0, 2] (shapeCast S32768x4x192 X shapeCasts_S16x2048x4x192_S32768x4x192) transposes_S32768x4x192_S4x32768x192_1_0_2 : FVec Ideal S4x32768x192 .f32) (sitofp .f32 (constantI S_ 32 0#32)) pads_S4x32768x192_S4x32768x256_000_000_0640 h_S_) bitsLt_bf16_f32

/-- The values. -/
def vals (Z : FVec Ideal S16x2048x256 .f32) (W : FVec Ideal S256x512 .f32) : FVec Ideal S32768x512 .bf16 :=
  truncf .bf16 (shapeCast S32768x512 (Host.dotGeneral (F := Ideal) (φ₁ := .f32) (φ₂ := .f32) dot_S16x2048x256_S256x512_S16x2048x512_2_0_01_1_n_n none Z W) shapeCasts_S16x2048x512_S32768x512 : FVec Ideal S32768x512 .f32) bitsLt_bf16_f32

theorem latents_at (C : FVec Ideal S4x16x2048x256 .f32) (b : Fin 16) (s : Fin 2048) (k : Fin 256) : latents C (ix3 b s k) = C (ix4 3 b s k) := by
  pointwise [latents]
theorem rotary_at (P : FVec Ideal S4x16x2048x64 .f32) (b : Fin 16) (s : Fin 2048) (k : Fin 64) : rotary P (ix3 b s k) = P (ix4 3 b s k) := by
  pointwise [rotary]

theorem keys_at (Z : FVec Ideal S16x2048x256 .f32) (R : FVec Ideal S16x2048x64 .f32) (W : FVec Ideal S256x512 .f32) (b : Fin 16) (s : Fin 2048) (n : Fin 4)
    (l : Fin 192) : (keys Z R W (ix4 b s n l) : EReal)
    = if h : l.val < 128 then ∑ k : Fin 256, (Z (ix3 b s k) : EReal) * W (ix2 k (⟨n.val * 128 + l.val, by omega⟩ : Fin 512)) else R (ix3 b s ⟨l.val - 128, by omega⟩) := by
  pointwise [keys]

theorem lay_at (X : FVec Ideal S16x2048x4x192 .f32) (n : Fin 4) (r : Fin 32768) (l : Fin 256) :
    (lay X (ix3 n r l) : EReal) = if h : l.val < 192 then X (ix4 (bOf r) (sOf r) n ⟨l.val, h⟩) else 0 := by
  pointwise [lay]
  split
  · rfl
  · exact show (((0#32 : BitVec 32).toInt : ℝ) : EReal) = 0 by simp

theorem vals_at (Z : FVec Ideal S16x2048x256 .f32) (W : FVec Ideal S256x512 .f32) (r : Fin 32768) (n : Fin 512) :
    (vals Z W (ix2 r n) : EReal) = ∑ k : Fin 256, (Z (ix3 (bOf r) (sOf r) k) : EReal) * W (ix2 k n) := by
  pointwise [vals]
  rfl

/-- The two results over the arguments. -/
theorem kd_eq (C : FVec Ideal S4x16x2048x256 .f32) (P : FVec Ideal S4x16x2048x64 .f32) (W : FVec Ideal S256x512 .f32) :
    lay (keys (latents C) (rotary P) W) = row3 (kd C P W) := by
  refine eq_row3 _ _ fun n r l => ?_
  rw [lay_at]
  unfold kd up
  by_cases h : l.val < 192
  · rw [dif_pos h, keys_at]
    simp only [latents_at, rotary_at]
    by_cases h' : l.val < 128
    · rw [dif_pos h', dif_pos h']
    · rw [dif_neg h', dif_neg h', dif_pos h]
  · rw [dif_neg h, dif_neg (by omega), dif_neg h]

theorem vd_eq (C : FVec Ideal S4x16x2048x256 .f32) (W : FVec Ideal S256x512 .f32) : vals (latents C) W = row2 (up C W) := by
  refine eq_row2 _ _ fun r n => ?_
  rw [vals_at]
  simp only [latents_at]
  rfl

end Cert.Reference7Ideal.Ref

namespace Cert.Kernel7Ideal.Keys

open Idealize.ShloMosaic Idealize.ShloMosaic.TcCoe Idealize.SL.Sem
open Cert.Kernel7Ideal Cert.Kernel7Ideal.Gen Cert.Keys
open Cert.Proj (row2 row3 eq_row2 eq_row3)

theorem prod_at (x : FVec Ideal S512x256 .f32) (w : FVec Ideal S256x512 .bf16) (r n : Fin 512) :
    (k0_pay6 (F := Ideal) x w (ix2 r n) : EReal) = ∑ k : Fin 256, (x (ix2 r k) : EReal) * w (ix2 k n) := by
  pointwise [k0_pay6, k0_pay5]

theorem vals_at (x : FVec Ideal S512x256 .f32) (w : FVec Ideal S256x512 .bf16) (r n : Fin 512) :
    (k0_pay7 (F := Ideal) x w (ix2 r n) : EReal) = ∑ k : Fin 256, (x (ix2 r k) : EReal) * w (ix2 k n) := by
  pointwise [k0_pay7, k0_pay5]

/-- A head's piece from the latent, the columns from `o` on, -/
theorem kplain_at (o : Nat) (K : FVec Ideal S512x512 .f32) (hs : S512x512.Slices ![0, o] S512x128) (r : Fin 512) (l : Fin 128) (ho : o + l.val < 512) :
    (shapeCast S1x512x128 (truncf (F := Ideal) .bf16 (extractStridedSlice S512x128 ![0, o] K hs) bitsLt_bf16_f32) shapeCasts_S512x128_S1x512x128 (ix3 0 r l) : EReal)
      = K (ix2 r ⟨o + l.val, ho⟩) := by
  pointwise

/-- and the rotary one. -/
theorem kturned_at (K : FVec Ideal S512x128 .f32) (r : Fin 512) (l : Fin 128) :
    (k0_pay2 (F := Ideal) (k0_pay8 K) (ix3 0 r l) : EReal) = K (ix2 r l) := by
  pointwise [k0_pay2, k0_pay8]

variable (m : (ℓ : Loc nD τ sig) → Buf (Elt Ideal) ℓ)

theorem idx : ∀ t : Fin cfg0.N, win0_0.index t = ![192 + t.val, 0] ∧ win0_1.index t = ![192 + t.val, 0] ∧ win0_2.index t = ![0, 0]
    ∧ win0_3.index t = ![0, 0] ∧ win0_4.index t = ![0, t.val, 0] ∧ win0_5.index t = ![t.val, 0] :=
  (by decide +kernel : ∀ t : Fin grid0.N, _)

/-- The row that a grid point's row is. -/
def rowOf (t : Fin cfg0.N) (r : Fin 512) : Fin 32768 := ⟨512 * t.val + r.val, by have : t.val < 64 := t.isLt; omega⟩

/-- The four arguments. -/
abbrev LAT (c : Dev nD) : FVec Ideal S4x16x2048x256 .f32 := m ((c : Thread nD τ).loc main_arg0)
abbrev ROT (c : Dev nD) : FVec Ideal S4x16x2048x64 .f32 := m ((c : Thread nD τ).loc main_arg1)
abbrev WK (c : Dev nD) : FVec Ideal S256x512 .f32 := m ((c : Thread nD τ).loc main_arg2)
abbrev WV (c : Dev nD) : FVec Ideal S256x512 .f32 := m ((c : Thread nD τ).loc main_arg3)

/-- All the host's operations before the kernel, in one list. -/
theorem V_ops (c : Dev nD) (b : Ref sig .tc) : V m c b = StableHlo.after (List.flatten [hostOps0, hostOps0_1, hostOps0_2]) (fun b => m (c, b)) (Proc.devRef .tc b) := rfl

theorem V_c (c : Dev nD) (r : Fin 32768) (k : Fin 256) :
    V m c main_v0 (ix2 (⟨98304 + r.val, by omega⟩ : Fin 131072) k) = LAT m c (ix4 3 (bOf r) (sOf r) k) := by
  rw [V_ops]
  open StableHlo in after_reads_simp
  pointwise
  blk_ext [bOf, sOf]

theorem V_p (c : Dev nD) (r : Fin 32768) (l : Fin 128) :
    (V m c main_v2 (ix2 (⟨98304 + r.val, by omega⟩ : Fin 131072) l) : EReal)
      = if h : l.val < 64 then ROT m c (ix4 3 (bOf r) (sOf r) ⟨l.val, h⟩) else 0 := by
  rw [V_ops]
  open StableHlo in after_reads_simp
  simp only [StableHlo.TRef.toBuf, StableHlo.TRef.ofBuf, cast_eq]
  pointwise
  have hr : 98304 + r.val < 131072 := by omega
  by_cases h : l.val < 64
  · refine (dif_pos (show 98304 + r.val < 131072 ∧ l.val < 64 from ⟨hr, h⟩)).trans (Eq.trans ?_ (dif_pos h).symm)
    refine congrArg (m ((c : Thread nD τ).loc main_arg1)) ?_
    blk_ext [bOf, sOf]
  · refine (dif_neg (show ¬(98304 + r.val < 131072 ∧ l.val < 64) from fun h' => h h'.2)).trans (Eq.trans ?_ (dif_neg h).symm)
    exact show (((0#32 : BitVec 32).toInt : ℝ) : EReal) = 0 by simp

theorem V_wk (c : Dev nD) (i : S256x512.Idx) : V m c main_v3 i = WK m c i := by
  rw [V_ops]
  open StableHlo in after_reads_simp
  rfl

theorem V_wv (c : Dev nD) (i : S256x512.Idx) : V m c main_v4 i = WV m c i := by
  rw [V_ops]
  open StableHlo in after_reads_simp
  rfl

theorem blk0 (c : Dev nD) (t : Fin cfg0.N) (r : Fin 512) (k : Fin 256) :
    iblk m c 0 t (ix2 r k) = LAT m c (ix4 3 (bOf (rowOf t r)) (sOf (rowOf t r)) k) := by
  refine Eq.trans ?_ (V_c m c (rowOf t r) k)
  blk_ext [iblk, idx t, rowOf]

theorem blk1 (c : Dev nD) (t : Fin cfg0.N) (r : Fin 512) (l : Fin 128) :
    (iblk m c 1 t (ix2 r l) : EReal) = if h : l.val < 64 then ROT m c (ix4 3 (bOf (rowOf t r)) (sOf (rowOf t r)) ⟨l.val, h⟩) else 0 := by
  refine Eq.trans ?_ (V_p m c (rowOf t r) l)
  blk_ext [iblk, idx t, rowOf]

theorem blk2 (c : Dev nD) (t : Fin cfg0.N) (k : Fin 256) (n : Fin 512) : iblk m c 2 t (ix2 k n) = WK m c (ix2 k n) := by
  refine Eq.trans ?_ (V_wk m c (ix2 k n))
  blk_ext [iblk, idx t]

theorem blk3 (c : Dev nD) (t : Fin cfg0.N) (k : Fin 256) (n : Fin 512) : iblk m c 3 t (ix2 k n) = WV m c (ix2 k n) := by
  refine Eq.trans ?_ (V_wv m c (ix2 k n))
  blk_ext [iblk, idx t]

/-- The keys' columns from the latent, at one grid point. -/
theorem prod_up (c : Dev nD) (t : Fin cfg0.N) (r n : Fin 512) :
    (k0_pay6 (F := Ideal) (iblk m c 0 t) (iblk m c 2 t) (ix2 r n) : EReal) = up (LAT m c) (WK m c) (rowOf t r) n := by
  rw [prod_at]
  unfold up
  exact Finset.sum_congr rfl fun k _ => congr (congrArg _ (blk0 m c t r k)) (blk2 m c t k n)

theorem kplain {C P W} {t : Fin cfg0.N} (n : Fin 4) (Q : S1x512x128.Idx → EReal)
    (hQ : ∀ (r : Fin 512) (l : Fin 128), Q (ix3 0 r l) = up C W (rowOf t r) ⟨n.val * 128 + l.val, by omega⟩)
    {q : Fin 4} {r : Fin 512} {l : Fin 256} {x : S1x512x128.Idx} (h0 : q.val = n.val + (x 0).val) (x0 : (x 0).val < 1) (h1 : r.val = (x 1).val)
    (h2 : l.val = (x 2).val) (x2 : (x 2).val < 128) : Q x = kd C P W q (rowOf t r) l := by
  obtain rfl : q = n := Fin.ext (by omega)
  have hx : x = ix3 0 r (⟨l.val, by omega⟩ : Fin 128) := funext fun a => Fin.ext (match a with | ⟨0, _⟩ => Nat.lt_one_iff.1 x0 | ⟨1, _⟩ => h1.symm | ⟨2, _⟩ => h2.symm)
  rw [hx, hQ]
  unfold kd
  rw [dif_pos (show l.val < 128 by omega)]

theorem kturned {C P W} {t : Fin cfg0.N} (Q : S1x512x128.Idx → EReal)
    (hQ : ∀ (r : Fin 512) (l : Fin 128), Q (ix3 0 r l) = if h : l.val < 64 then P (ix4 3 (bOf (rowOf t r)) (sOf (rowOf t r)) ⟨l.val, h⟩) else 0)
    {q : Fin 4} {r : Fin 512} {l : Fin 256} {x : S1x512x128.Idx} (x0 : (x 0).val < 1) (h1 : r.val = (x 1).val) (h2 : l.val = 128 + (x 2).val)
    (x2 : (x 2).val < 128) : Q x = kd C P W q (rowOf t r) l := by
  have hx : x = ix3 0 r (⟨l.val - 128, by omega⟩ : Fin 128) :=
    funext fun a => Fin.ext (match a with | ⟨0, _⟩ => Nat.lt_one_iff.1 x0 | ⟨1, _⟩ => h1.symm | ⟨2, _⟩ => by show (x 2).val = l.val - 128; omega)
  rw [hx, hQ]
  unfold kd
  rw [dif_neg (show ¬l.val < 128 by omega)]
  by_cases h : l.val < 192
  · rw [dif_pos h, dif_pos (show l.val - 128 < 64 by omega)]
  · rw [dif_neg h, dif_neg (show ¬l.val - 128 < 64 by omega)]

/-- What one grid point leaves of the keys, -/
theorem out4 (c : Dev nD) (t : Fin cfg0.N) : out0_4 (F := Ideal) (iblk m c 0 t) (iblk m c 1 t) (iblk m c 2 t) (iblk m c 3 t)
    = row3 (fun q (r : Fin 512) l => kd (LAT m c) (ROT m c) (WK m c) q (rowOf t r) l) := by
  refine eq_row3 _ _ fun q r l => ?_
  unfold out0_4 k0_pay14 k0_pay13
  frame_out
  unfold k0_pay9 k0_pay11
  have hk := prod_up m c t
  have ht := fun r l => (kturned_at (iblk m c 1 t) r l).trans (blk1 m c t r l)
  generalize k0_pay6 (F := Ideal) (iblk m c 0 t) (iblk m c 2 t) = K at hk ⊢
  canon_tiles x h
  · exact kturned _ ht x0_lt h1 h2 x2_lt
  · exact kplain 3 _ (fun r l => (kplain_at 384 K slices_S512x512_o0_384_S512x128 r l (by omega)).trans (hk r _)) h0 x0_lt h1 h2 x2_lt
  · exact kturned _ ht x0_lt h1 h2 x2_lt
  · exact kplain 2 _ (fun r l => (kplain_at 256 K slices_S512x512_o0_256_S512x128 r l (by omega)).trans (hk r _)) h0 x0_lt h1 h2 x2_lt
  · exact kturned _ ht x0_lt h1 h2 x2_lt
  · exact kplain 1 _ (fun r l => (kplain_at 128 K slices_S512x512_o0_128_S512x128 r l (by omega)).trans (hk r _)) h0 x0_lt h1 h2 x2_lt
  · exact kturned _ ht x0_lt h1 h2 x2_lt
  · exact kplain 0 _ (fun r l => (kplain_at 0 K slices_S512x512_o0_0_S512x128 r l (by omega)).trans (hk r _)) (h0.trans (Nat.zero_add _).symm) x0_lt h1 h2 x2_lt

/-- and of the values. -/
theorem out5 (c : Dev nD) (t : Fin cfg0.N) : out0_5 (F := Ideal) (iblk m c 0 t) (iblk m c 1 t) (iblk m c 2 t) (iblk m c 3 t)
    = row2 (fun (r n : Fin 512) => up (LAT m c) (WV m c) (rowOf t r) n) := by
  refine eq_row2 _ _ fun r n => ?_
  unfold out0_5
  frame_out
  refine (vals_at _ _ r n).trans ?_
  unfold up
  exact Finset.sum_congr rfl fun k _ => congr (congrArg _ (blk0 m c t r k)) (blk3 m c t k n)

/-- The keys' array. -/
theorem final4 (c : Dev nD) : (dats m 0 c).arrAt 4 (cfgs 0).N
    = Cert.Reference7Ideal.Ref.lay (Cert.Reference7Ideal.Ref.keys (Cert.Reference7Ideal.Ref.latents (LAT m c)) (Cert.Reference7Ideal.Ref.rotary (ROT m c)) (WK m c)) := by
  rw [Cert.Reference7Ideal.Ref.kd_eq]
  refine (dats m 0 c).arrAt_eq_of_covers 4 _ (by decide +kernel) fun t hf y => ?_
  blk_simp
  rw [after0_4, out4]
  refine Eq.trans (b := row3 (kd (LAT m c) (ROT m c) (WK m c)) (ix3 (y 0 : Fin 4) (rowOf t (y 1 : Fin 512)) (y 2 : Fin 256))) rfl (congrArg _ ?_)
  blk_ext [idx t, rowOf]

/-- The values' array. -/
theorem final5 (c : Dev nD) : (dats m 0 c).arrAt 5 (cfgs 0).N = Cert.Reference7Ideal.Ref.vals (Cert.Reference7Ideal.Ref.latents (LAT m c)) (WV m c) := by
  rw [Cert.Reference7Ideal.Ref.vd_eq]
  refine (dats m 0 c).arrAt_eq_of_covers 5 _ (by decide +kernel) fun t hf y => ?_
  blk_simp
  rw [after0_5, out5]
  refine Eq.trans (b := row2 (up (LAT m c) (WV m c)) (ix2 (rowOf t (y 0 : Fin 512)) (y 1 : Fin 512))) rfl (congrArg _ ?_)
  blk_ext [idx t, rowOf]

end Cert.Kernel7Ideal.Keys

end
-- ==== Proof.SampleRef.lean ====
/- The sample's latent attention: the reference's result at an index, and the passage from a softmax over padded, masked scores in base two
   to the reference's softmax. -/
module

public import proofs.«01_k».proof.Proof.Gen.Reference8Ideal.Run
public import proofs.«01_k».proof.Proof.Words
public import proofs.«01_k».proof.Proof.Consts
public import proofs.«01_k».proof.Proof.Softmax
public import Idealize.ShloMosaic.Lib.Pointwise

@[expose] public section

set_option maxRecDepth 16384

noncomputable section

namespace Cert.Softmax

open Idealize.ShloMosaic

/-- Scores in base two with `⊥` past the first `n` give the natural exponentials' sums over these. -/
theorem padded_soft {n N : ℕ} (hn : n ≤ N) (L w : Fin n → EReal) (S W : Fin N → EReal)
    (hS : ∀ (j : Fin N) (h : j.val < n), S j = L ⟨j.val, h⟩ * (((Real.log 2)⁻¹ : ℝ) : EReal)) (hb : ∀ j : Fin N, ¬j.val < n → S j = ⊥)
    (hw : ∀ (j : Fin N) (h : j.val < n), W j = w ⟨j.val, h⟩) :
    ∑ j : Fin N, Ideal.exp2 (S j - Finset.univ.fold max ⊥ S) * W j = ∑ j : Fin n, Ideal.exp (L j - Finset.univ.fold max ⊥ L) * w j := by
  let l : ℕ → EReal := fun i => if h : i < n then L ⟨i, h⟩ else ⊥
  let s : ℕ → EReal := fun i => if h : i < N then S ⟨i, h⟩ else ⊥
  let v : ℕ → EReal := fun i => if h : i < N then W ⟨i, h⟩ else 0
  have hl : ∀ j : Fin n, l j.val = L j := fun j => dif_pos j.isLt
  have hs : ∀ j : Fin N, s j.val = S j := fun j => dif_pos j.isLt
  have hv : ∀ j : Fin N, v j.val = W j := fun j => dif_pos j.isLt
  have fl : top l n = Finset.univ.fold max ⊥ L := by
    have := top_add l 0 n
    rw [top_zero, max_eq_right bot_le] at this
    simp only [Nat.zero_add] at this
    rw [← this]
    congr 1
    exact funext hl
  have fs : top s N = Finset.univ.fold max ⊥ S := by
    have := top_add s 0 N
    rw [top_zero, max_eq_right bot_le] at this
    simp only [Nat.zero_add] at this
    rw [← this]
    congr 1
    exact funext hs
  have e1 : wsum s v N = ∑ j : Fin N, Ideal.exp2 (S j - Finset.univ.fold max ⊥ S) * W j := by
    unfold wsum
    rw [fs, Finset.sum_range]
    exact Finset.sum_congr rfl fun j _ => by rw [hs j, hv j]
  have e2 : wsum s v N = wsum s v n := wsum_of_bot s v hn fun j h1 h2 => (hs ⟨j, h2⟩).trans (hb ⟨j, h2⟩ (by show ¬j < n; omega))
  have e3 : wsum s v n = wsum (fun j => l j * (((Real.log 2)⁻¹ : ℝ) : EReal)) v n :=
    wsum_congr (fun j hj => by rw [hs ⟨j, by omega⟩, hS ⟨j, by omega⟩ hj, ← hl ⟨j, hj⟩]) fun _ _ => rfl
  rw [← e1, e2, e3, wsum_exp, fl, Finset.sum_range]
  exact Finset.sum_congr rfl fun j _ => by rw [hl j, hv ⟨j.val, by omega⟩, hw ⟨j.val, by omega⟩ j.isLt]

end Cert.Softmax

namespace Cert.Reference8Ideal.Ref

open Idealize.ShloMosaic Idealize.ShloMosaic.TcCoe Idealize.SL.Sem
open Cert.Reference8Ideal Cert.Reference8Ideal.Gen

section
variable {F : FTy → Type} [FloatOps F] [Named F]

/-- The cached and the new keys, and values. -/
def joinK (k : FVec F S16x2048x4x192 .f32) (k' : FVec F S16x16x4x192 .f32) : FVec F S16x2064x4x192 .f32 :=
  concatenate S16x2064x4x192 1 [⟨S16x2048x4x192, k⟩, ⟨S16x16x4x192, k'⟩] concatenates_S16x2048x4x192_S16x16x4x192_S16x2064x4x192_d1
def joinV (v : FVec F S16x2048x4x128 .f32) (v' : FVec F S16x16x4x128 .f32) : FVec F S16x2064x4x128 .f32 :=
  concatenate S16x2064x4x128 1 [⟨S16x2048x4x128, v⟩, ⟨S16x16x4x128, v'⟩] concatenates_S16x2048x4x128_S16x16x4x128_S16x2064x4x128_d1

/-- The chunks that the keys lie in, -/
def chunks : IVec S2064 32 :=
  select (andi (cmpi .ne (signi (iotaInDim S2064 32 0)) (broadcastInDim S2064 ![] bcast_S_S2064 (signi (id (constantI S_ 32 64#32))))) (cmpi .ne (Host.remsi (iotaInDim S2064 32 0) (broadcastInDim S2064 ![] bcast_S_S2064 (id (constantI S_ 32 64#32)))) (broadcastInDim S2064 ![] bcast_S_S2064 (constantI S_ 32 0#32)))) (subi (Host.divsi (iotaInDim S2064 32 0) (broadcastInDim S2064 ![] bcast_S_S2064 (id (constantI S_ 32 64#32)))) (broadcastInDim S2064 ![] bcast_S_S2064 (constantI S_ 32 1#32))) (Host.divsi (iotaInDim S2064 32 0) (broadcastInDim S2064 ![] bcast_S_S2064 (id (constantI S_ 32 64#32))))

/-- and the queries. -/
def qpos : IVec S16 32 := addi (broadcastInDim S16 ![] bcast_S_S16 (constantI S_ 32 2048#32)) (iotaInDim S16 32 0)
def qchunks : IVec S16 32 :=
  select (andi (cmpi .ne (signi qpos) (broadcastInDim S16 ![] bcast_S_S16 (signi (id (constantI S_ 32 64#32))))) (cmpi .ne (Host.remsi qpos (broadcastInDim S16 ![] bcast_S_S16 (id (constantI S_ 32 64#32)))) (broadcastInDim S16 ![] bcast_S_S16 (constantI S_ 32 0#32)))) (subi (Host.divsi qpos (broadcastInDim S16 ![] bcast_S_S16 (id (constantI S_ 32 64#32)))) (broadcastInDim S16 ![] bcast_S_S16 (constantI S_ 32 1#32))) (Host.divsi qpos (broadcastInDim S16 ![] bcast_S_S16 (id (constantI S_ 32 64#32))))

/-- Which keys a query may see. -/
def mask : IVec S16x2064 1 :=
  cmpi .sle (broadcastInDim S16x2064 ![0, 1] bcast_S1x2064_S16x2064_0_1 (broadcastInDim S1x2064 ![1] bcast_S2064_S1x2064_1 chunks))
    (broadcastInDim S16x2064 ![0, 1] bcast_S16x1_S16x2064_0_1 (broadcastInDim S16x1 ![0] bcast_S16_S16x1_0 qchunks))

/-- The masked logits. -/
def logits (q : FVec F S16x16x4x192 .f32) (k : FVec F S16x2064x4x192 .f32) : FVec F S16x4x16x2064 .f32 :=
  select (broadcastInDim S16x4x16x2064 ![2, 3] bcast_S16x2064_S16x4x16x2064_2_3 mask)
    (Host.divf (Host.dotGeneral dot_S16x16x4x192_S16x2064x4x192_S16x4x16x2064_3_3_1_1_02_02 none q k)
      (broadcastInDim S16x4x16x2064 ![] bcast_S_S16x4x16x2064 (Host.sqrt (constant S_ .f32 0x43400000#32))))
    (broadcastInDim S16x4x16x2064 ![] bcast_S_S16x4x16x2064 (id (constant S_ .f32 0xFF800000#32)))

/-- Each row's greatest logit. -/
def rowMax (l : FVec F S16x4x16x2064 .f32) : FVec F S16x4x16 .f32 :=
  Host.reduce FloatOps.maximumf l (constant S_ .f32 0xFF800000#32) reducesTo_S16x4x16x2064_S16x4x16_d3 h_S_

/-- The exponentials. -/
def probs (l : FVec F S16x4x16x2064 .f32) : FVec F S16x4x16x2064 .f32 :=
  Host.exp (subf l (broadcastInDim S16x4x16x2064 ![0, 1, 2, 3] bcast_S16x4x16x1_S16x4x16x2064_0_1_2_3 (broadcastInDim S16x4x16x1 ![0, 1, 2] bcast_S16x4x16_S16x4x16x1_0_1_2 (rowMax l))))

/-- The weighted sums over the sums of weights. -/
def result (p : FVec F S16x4x16x2064 .f32) (v : FVec F S16x2064x4x128 .f32) : FVec F S256x512 .bf16 :=
  truncf .bf16 (shapeCast S256x512 (Host.divf (transpose S16x16x4x128 [0, 3, 1, 2] (Host.dotGeneral dot_S16x2064x4x128_S16x4x16x2064_S16x4x128x16_1_3_3_2_02_01 none v p) transposes_S16x4x128x16_S16x16x4x128_0_3_1_2)
    (broadcastInDim S16x16x4x128 ![0, 1, 2, 3] bcast_S16x16x4x1_S16x16x4x128_0_1_2_3 (broadcastInDim S16x16x4x1 ![0, 1, 2] bcast_S16x16x4_S16x16x4x1_0_1_2 (transpose S16x16x4 [0, 2, 1] (Host.reduceAdd p (constant S_ .f32 0x00000000#32) reducesTo_S16x4x16x2064_S16x4x16_d3 h_S_) transposes_S16x4x16_S16x16x4_0_2_1)))) shapeCasts_S16x16x4x128_S256x512) bitsLt_bf16_f32

theorem res_eq (m : (ℓ : Loc nD τ sig) → Buf (Elt F) ℓ) (c : Dev nD) : Value.res_main_v31 m c
    = result (probs (logits (m ((c.tc : Thread nD τ).loc main_arg0)) (joinK (m ((c.tc : Thread nD τ).loc main_arg1)) (m ((c.tc : Thread nD τ).loc main_arg3)))))
        (joinV (m ((c.tc : Thread nD τ).loc main_arg2)) (m ((c.tc : Thread nD τ).loc main_arg4))) := by
  unfold Value.res_main_v31
  rfl
end

theorem joinK_at (k : FVec Ideal S16x2048x4x192 .f32) (k' : FVec Ideal S16x16x4x192 .f32) (b : Fin 16) (j : Fin 2064) (h : Fin 4) (d : Fin 192) :
    (joinK k k' (ix4 b j h d) : EReal) = if hj : j.val < 2048 then k (ix4 b ⟨j.val, hj⟩ h d) else k' (ix4 b ⟨j.val - 2048, by omega⟩ h d) := by
  pointwise [joinK]

theorem joinV_at (v : FVec Ideal S16x2048x4x128 .f32) (v' : FVec Ideal S16x16x4x128 .f32) (b : Fin 16) (j : Fin 2064) (h : Fin 4) (d : Fin 128) :
    (joinV v v' (ix4 b j h d) : EReal) = if hj : j.val < 2048 then v (ix4 b ⟨j.val, hj⟩ h d) else v' (ix4 b ⟨j.val - 2048, by omega⟩ h d) := by
  pointwise [joinV]

theorem chunks_at (j : Fin 2064) : chunks (ix1 j) = BitVec.ofNat 32 (j.val / 64) := by
  unfold chunks
  pointwise
  exact Words.chunk_host .host (show j.val < 8192 by omega)

theorem qpos_at (r : Fin 16) : qpos (ix1 r) = BitVec.ofNat 32 (2048 + r.val) := by
  pointwise [qpos]
  exact WordCmp.addi_ofNat _ _

theorem qchunks_at (r : Fin 16) : qchunks (ix1 r) = BitVec.ofNat 32 ((2048 + r.val) / 64) := by
  unfold qchunks
  pointwise
  rw [qpos_at]
  exact Words.chunk_host .host (show 2048 + r.val < 8192 by omega)

theorem mask_at (r : Fin 16) (j : Fin 2064) : mask (ix2 r j) = IntOp.cmpi .sle (BitVec.ofNat 32 (j.val / 64)) (BitVec.ofNat 32 ((2048 + r.val) / 64)) := by
  unfold mask
  pointwise
  rw [chunks_at, qchunks_at]

theorem logits_at (q : FVec Ideal S16x16x4x192 .f32) (k : FVec Ideal S16x2064x4x192 .f32) (b : Fin 16) (h : Fin 4) (r : Fin 16) (j : Fin 2064) :
    (logits q k (ix4 b h r j) : EReal)
      = (∑ d : Fin 192, (show EReal from q (ix4 b r h d)) * (show EReal from k (ix4 b j h d))) * ((1 / Real.sqrt 192 : ℝ) : EReal) := by
  unfold logits
  pointwise
  rw [mask_at, Words.select_sle (by omega) (by omega), if_pos (by omega)]
  rw [show Ideal.ofBits FTy.f32 1128267776#32 = ((192 : ℝ) : EReal) from Consts.bits_192, Ideal.sqrt_coe, if_neg (by norm_num), Ideal.div_coe (by positivity)]

theorem rowMax_at (l : FVec Ideal S16x4x16x2064 .f32) (b : Fin 16) (h : Fin 4) (r : Fin 16) :
    (rowMax l (ix3 b h r) : EReal) = Finset.univ.fold max ⊥ fun j : Fin 2064 => (show EReal from l (ix4 b h r j)) := by
  unfold rowMax
  pointwise
  rw [Consts.bits_neg_inf]

theorem probs_at (l : FVec Ideal S16x4x16x2064 .f32) (b : Fin 16) (h : Fin 4) (r : Fin 16) (j : Fin 2064) :
    (probs l (ix4 b h r j) : EReal) = Ideal.exp ((show EReal from l (ix4 b h r j)) - (show EReal from rowMax l (ix3 b h r))) := by
  unfold probs
  pointwise

theorem result_at (p : FVec Ideal S16x4x16x2064 .f32) (v : FVec Ideal S16x2064x4x128 .f32) (b : Fin 16) (h : Fin 4) (t : Fin 16) (d : Fin 128) :
    (result p v (ix2 (⟨16 * b.val + t.val, by omega⟩ : Fin 256) (⟨128 * h.val + d.val, by omega⟩ : Fin 512)) : EReal)
      = Ideal.div (∑ j : Fin 2064, (show EReal from v (ix4 b j h d)) * (show EReal from p (ix4 b h t j))) (∑ j : Fin 2064, (show EReal from p (ix4 b h t j))) := by
  unfold result
  pointwise

end Cert.Reference8Ideal.Ref

end
-- ==== Proof.Sample.lean ====
/- The sample's latent attention: one head at a grid point, the arrays that the launch stages, and the kernel's result array. -/
module

public import proofs.«01_k».proof.Proof.Gen.Kernel8Ideal.Value
public import proofs.«01_k».proof.Proof.SampleRef
public import proofs.«01_k».proof.Proof.Final
public import proofs.«01_k».proof.Proof.ProjSpec
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace Cert.Kernel8Ideal.Sample

open Idealize.ShloMosaic Idealize.ShloMosaic.TcCoe Idealize.SL.Sem
open Cert.Kernel8Ideal Cert.Kernel8Ideal.Gen
open Cert.Proj (row2 eq_row2)

section Model

variable {F : FTy → Type} [FloatOps F] [Named F]

/-- The cached keys, the new ones, and 112 rows of zeros; the same with values. -/
def joinK (k : Vec F S1x2048x256 .bf16) (k' : Vec F S1x16x256 .bf16) : FVec F S2176x256 .bf16 :=
  concatenate S2176x256 0 [⟨S2048x256, shapeCast S2048x256 k shapeCasts_S1x2048x256_S2048x256⟩, ⟨S16x256, shapeCast S16x256 k' shapeCasts_S1x16x256_S16x256⟩, ⟨S112x256, broadcast S112x256 (Scalar.ofBits .bf16 0x0000#16 : F .bf16)⟩] concatenates_S2048x256_S16x256_S112x256_S2176x256_d0
def joinV (v : Vec F S2048x128 .bf16) (v' : Vec F S16x128 .bf16) : FVec F S2176x128 .bf16 :=
  concatenate S2176x128 0 [⟨S2048x128, shapeCast S2048x128 v shapeCasts_S2048x128_S2048x128⟩, ⟨S16x128, shapeCast S16x128 v' shapeCasts_S16x128_S16x128⟩, ⟨S112x128, broadcast S112x128 (Scalar.ofBits .bf16 0x0000#16 : F .bf16)⟩] concatenates_S2048x128_S16x128_S112x128_S2176x128_d0

/-- The masked scores. -/
def scores (b : IVec S16x2176 1) (q : Vec F S1x16x256 .bf16) (k : FVec F S2176x256 .bf16) : FVec F S16x2176 .f32 :=
  select b (matmul dot_S16x256_S2176x256_S16x2176_1_1_0_0_n_n none (shapeCast S16x256 q shapeCasts_S1x16x256_S16x256 : FVec F S16x256 .bf16) k (constant S16x2176 .f32 0x00000000#32))
    (broadcast S16x2176 (Named.named κ "mask" 0xF149F2CA#32 : F .f32))

/-- The powers of two of the scores less their row's greatest. -/
def probs (s : FVec F S16x2176 .f32) : FVec F S16x2176 .f32 :=
  exp2 (subf s (broadcastTo S16x2176 (shapeCast S16x1 (multiReduction .maximumf [1] S16 s 0xFF800000#32 reduces_S16x2176_S16 (.inl rfl) rfl) shapeCasts_S16_S16x1) broadcasts_S16x1_S16x2176))

/-- The weighted sum over the sum of weights. -/
def attend (p : FVec F S16x2176 .f32) (v : FVec F S2176x128 .bf16) : FVec F S16x128 .bf16 :=
  truncf .bf16 (divf (matmul dot_S16x2176_S2176x128_S16x128_1_0_0_1_n_n none (truncf .bf16 p bitsLt_bf16_f32) v (constant S16x128 .f32 0x00000000#32))
    (broadcastTo S16x128 (shapeCast S16x1 (multiReduction .add [1] S16 p 0x00000000#32 reduces_S16x2176_S16 (.inl rfl) rfl) shapeCasts_S16_S16x1) broadcasts_S16x1_S16x128)) bitsLt_bf16_f32

/-- One head. -/
def head (b : IVec S16x2176 1) (k : Vec F S1x2048x256 .bf16) (k' : Vec F S1x16x256 .bf16) (v : Vec F S2048x128 .bf16) (v' : Vec F S16x128 .bf16) (q : Vec F S1x16x256 .bf16) :
    FVec F S16x128 .bf16 := attend (probs (scores b q (joinK k k'))) (joinV v v')

/-- The positions' chunks and the mask. -/
def kchunk : IVec S16x2176 32 := k0_pay4
def qchunk : IVec S16x2176 32 :=
  select (andi (cmpi .ne k0_pay6 k0_pay7) (cmpi .ne (remsi k0_pay2 (broadcast S16x2176 64#32)) (broadcast S16x2176 0#32))) (subi k0_pay5 (broadcast S16x2176 1#32)) k0_pay5
def ok : IVec S16x2176 1 := andi k0_pay3 (cmpi .sle kchunk qchunk)

variable (x0 : Vec F S4x16x256 .bf16) (x1 : Vec F S4x2048x256 .bf16) (x2 : Vec F S2048x512 .bf16) (x3 : Vec F S4x16x256 .bf16) (x4 : Vec F S16x512 .bf16)

/-- What one grid point stores: the four heads side by side. -/
theorem out_heads : out0_5 x0 x1 x2 x3 x4 = View.canon [⟨r0_15, head ok (View.ld x1 r0_12) (View.ld x3 r0_13) (View.ld x2 r0_14) (View.ld x4 r0_15) (View.ld x0 r0_13)⟩,
    ⟨r0_11, head ok (View.ld x1 r0_8) (View.ld x3 r0_9) (View.ld x2 r0_10) (View.ld x4 r0_11) (View.ld x0 r0_9)⟩,
    ⟨r0_7, head ok (View.ld x1 r0_4) (View.ld x3 r0_5) (View.ld x2 r0_6) (View.ld x4 r0_7) (View.ld x0 r0_5)⟩,
    ⟨r0_3, head ok (View.ld x1 r0_0) (View.ld x3 r0_1) (View.ld x2 r0_2) (View.ld x4 r0_3) (View.ld x0 r0_1)⟩] := by
  unfold out0_5
  rfl

end Model

theorem ok_at (r : Fin 16) (j : Fin 2176) {α : Type} (x y : α) : Scalar.select (ok (ix2 r j)) x y = if j.val < 2064 then x else y := by
  have hc : kchunk (ix2 r j) = BitVec.ofNat 32 (j.val / 64) := by
    pointwise [kchunk, k0_pay4]
    exact Words.chunk_kernel _ (show j.val < 8192 by omega)
  have hp : k0_pay2 (ix2 r j) = BitVec.ofNat 32 (2048 + r.val) := by
    pointwise [k0_pay2]
    exact WordCmp.addi_ofNat _ _
  have hq : qchunk (ix2 r j) = BitVec.ofNat 32 ((2048 + r.val) / 64) := by
    pointwise [qchunk, k0_pay5, k0_pay6, k0_pay7]
    rw [hp]
    exact Words.chunk_kernel _ (show 2048 + r.val < 8192 by omega)
  have h3 : k0_pay3 (ix2 r j) = IntOp.cmpi .slt (BitVec.ofNat 32 j.val) (BitVec.ofNat 32 2064) := by
    pointwise [k0_pay3]
  have e : ok (ix2 r j) = IntOp.andi (k0_pay3 (ix2 r j)) (IntOp.cmpi .sle (kchunk (ix2 r j)) (qchunk (ix2 r j))) := rfl
  rw [e, h3, hc, hq]
  split_ifs with h
  · refine WordCmp.select_of_eq_one ?_ _ _
    rw [(WordCmp.cmpi_slt_ofNat_eq_one_iff (by omega) (by omega)).2 h, (WordCmp.cmpi_sle_ofNat_eq_one_iff (by omega) (by omega)).2 (by omega)]
    rfl
  · refine WordCmp.select_of_eq_zero ?_ _ _
    rw [(WordCmp.cmpi_slt_ofNat_eq_zero_iff (by omega) (by omega)).2 (by omega)]
    exact BitVec.zero_and

theorem joinK_at (k : Vec Ideal S1x2048x256 .bf16) (k' : Vec Ideal S1x16x256 .bf16) (j : Fin 2176) (h : j.val < 2064) (d : Fin 256) :
    (joinK k k' (ix2 j d) : EReal) = if hj : j.val < 2048 then k (ix3 0 ⟨j.val, hj⟩ d) else k' (ix3 0 ⟨j.val - 2048, by omega⟩ d) := by
  pointwise [joinK]
  split_ifs <;> first | rfl | omega

theorem joinV_at (v : Vec Ideal S2048x128 .bf16) (v' : Vec Ideal S16x128 .bf16) (j : Fin 2176) (h : j.val < 2064) (d : Fin 128) :
    (joinV v v' (ix2 j d) : EReal) = if hj : j.val < 2048 then v (ix2 ⟨j.val, hj⟩ d) else v' (ix2 ⟨j.val - 2048, by omega⟩ d) := by
  pointwise [joinV]
  split_ifs <;> first | rfl | omega

theorem scores_at (q : Vec Ideal S1x16x256 .bf16) (k : FVec Ideal S2176x256 .bf16) (r : Fin 16) (j : Fin 2176) :
    (scores ok q k (ix2 r j) : EReal) = if j.val < 2064 then ∑ d : Fin 256, (q (ix3 0 r d) : EReal) * k (ix2 j d) else ⊥ := by
  have hM : (Named.named κ "mask" 0xF149F2CA#32 : Ideal .f32) = (⊥ : EReal) := rfl
  unfold scores
  pointwise
  rw [ok_at, hM]

theorem probs_at (s : FVec Ideal S16x2176 .f32) (r : Fin 16) (j : Fin 2176) :
    (probs s (ix2 r j) : EReal) = Ideal.exp2 ((s (ix2 r j) : EReal) - Finset.univ.fold max ⊥ fun k : Fin 2176 => (s (ix2 r k) : EReal)) := by
  pointwise [probs]
  rw [Consts.bits_neg_inf]
  rfl

theorem attend_at (p : FVec Ideal S16x2176 .f32) (v : FVec Ideal S2176x128 .bf16) (r : Fin 16) (d : Fin 128) :
    (attend p v (ix2 r d) : EReal) = Ideal.div (∑ j : Fin 2176, (p (ix2 r j) : EReal) * v (ix2 j d)) (∑ j : Fin 2176, (p (ix2 r j) : EReal)) := by
  pointwise [attend]

/-- A head's entry as the reference's softmax, from what its scores and values are. -/
theorem head_at (k : Vec Ideal S1x2048x256 .bf16) (k' : Vec Ideal S1x16x256 .bf16) (v : Vec Ideal S2048x128 .bf16) (v' : Vec Ideal S16x128 .bf16)
    (q : Vec Ideal S1x16x256 .bf16) (r : Fin 16) (d : Fin 128) (L w : Fin 2064 → EReal)
    (hL : ∀ (j : Fin 2176) (h : j.val < 2064), ∑ e : Fin 256, (q (ix3 0 r e) : EReal) * joinK k k' (ix2 j e) = L ⟨j.val, h⟩ * (((Real.log 2)⁻¹ : ℝ) : EReal))
    (hw : ∀ (j : Fin 2176) (h : j.val < 2064), (joinV v v' (ix2 j d) : EReal) = w ⟨j.val, h⟩) :
    (head ok k k' v v' q (ix2 r d) : EReal) = Ideal.div (∑ j, w j * Ideal.exp (L j - Finset.univ.fold max ⊥ L)) (∑ j, Ideal.exp (L j - Finset.univ.fold max ⊥ L)) := by
  have e := fun w W => Softmax.padded_soft (by norm_num : 2064 ≤ 2176) L w (fun j => (scores ok q (joinK k k') (ix2 r j) : EReal)) W
    (fun j h => by rw [scores_at, if_pos h]; exact hL j h) (fun j h => by rw [scores_at, if_neg h])
  unfold head
  rw [attend_at]
  simp only [probs_at]
  refine congr (congrArg Ideal.div ((e w _ hw).trans (Finset.sum_congr rfl fun j _ => mul_comm _ _))) ?_
  have := e (fun _ => 1) (fun _ => 1) fun _ _ => rfl
  simpa only [mul_one] using this

variable (m : (ℓ : Loc nD τ sig) → Buf (Elt Ideal) ℓ)

/-- The five arguments. -/
abbrev Q (c : Dev nD) : FVec Ideal S16x16x4x192 .f32 := m ((c : Thread nD τ).loc main_arg0)
abbrev KC (c : Dev nD) : FVec Ideal S16x2048x4x192 .f32 := m ((c : Thread nD τ).loc main_arg1)
abbrev VC (c : Dev nD) : FVec Ideal S16x2048x4x128 .f32 := m ((c : Thread nD τ).loc main_arg2)
abbrev KN (c : Dev nD) : FVec Ideal S16x16x4x192 .f32 := m ((c : Thread nD τ).loc main_arg3)
abbrev VN (c : Dev nD) : FVec Ideal S16x16x4x128 .f32 := m ((c : Thread nD τ).loc main_arg4)

/-- A stream's rows among the new ones and among the cached ones. -/
def rowN (b r : Fin 16) : Fin 256 := ⟨16 * b.val + r.val, by omega⟩
def rowC (b : Fin 16) (s : Fin 2048) : Fin 32768 := ⟨2048 * b.val + s.val, by omega⟩
/-- A head's column. -/
def colOf (h : Fin 4) (d : Fin 128) : Fin 512 := ⟨128 * h.val + d.val, by omega⟩

/-- Heads in front, 64 zero lanes behind: the new rows, and the cached ones. -/
abbrev paddedN (x : FVec Ideal S16x16x4x192 .f32) : FVec Ideal S4x256x256 .bf16 :=
  truncf .bf16 (pad S4x256x256 ![0, 0, 0] ![0, 0, 64] ![0, 0, 0]
    (transpose S4x256x192 [1, 0, 2] (shapeCast S256x4x192 x shapeCasts_S16x16x4x192_S256x4x192) transposes_S256x4x192_S4x256x192_1_0_2)
    (sitofp .f32 (constantI S_ 32 0#32)) pads_S4x256x192_S4x256x256_000_000_0640 h_S_) bitsLt_bf16_f32
abbrev paddedC (x : FVec Ideal S16x2048x4x192 .f32) : FVec Ideal S4x32768x256 .bf16 :=
  truncf .bf16 (pad S4x32768x256 ![0, 0, 0] ![0, 0, 64] ![0, 0, 0]
    (transpose S4x32768x192 [1, 0, 2] (shapeCast S32768x4x192 x shapeCasts_S16x2048x4x192_S32768x4x192) transposes_S32768x4x192_S4x32768x192_1_0_2)
    (sitofp .f32 (constantI S_ 32 0#32)) pads_S4x32768x192_S4x32768x256_000_000_0640 h_S_) bitsLt_bf16_f32

/-- The query scale as the host takes it. -/
def scale : FVec Ideal S_ .f32 :=
  Host.divf (constant S_ .f32 0x3F800000#32) (mulf (Host.sqrt (constant S_ .f32 0x43400000#32)) (Host.log (constant S_ .f32 0x40000000#32)))

/-- All the host's operations before the kernel, in one list. -/
theorem V_ops (c : Dev nD) (b : Ref sig .tc) : V m c b = StableHlo.after (List.flatten [hostOps0, hostOps0_1, hostOps0_2, hostOps0_3, hostOps0_4, hostOps0_5, hostOps0_6]) (fun b => m (c, b)) (Proc.devRef .tc b) := rfl

theorem V_v9 (c : Dev nD) : V m c main_v9 = paddedN (mulf (Q m c) (broadcastInDim S16x16x4x192 ![] bcast_S_S16x16x4x192 scale)) := by
  rw [V_ops]
  open StableHlo in after_reads_simp
  rfl

theorem V_v13 (c : Dev nD) : V m c main_v13 = paddedC (KC m c) := by
  rw [V_ops]
  open StableHlo in after_reads_simp
  rfl

theorem V_v19 (c : Dev nD) : V m c main_v19 = paddedN (KN m c) := by
  rw [V_ops]
  open StableHlo in after_reads_simp
  rfl

theorem V_v15 (c : Dev nD) (b : Fin 16) (s : Fin 2048) (h : Fin 4) (d : Fin 128) : V m c main_v15 (ix2 (rowC b s) (colOf h d)) = VC m c (ix4 b s h d) := by
  rw [V_ops]
  open StableHlo in after_reads_simp
  pointwise
  blk_ext [rowC, colOf]

theorem V_v21 (c : Dev nD) (b s : Fin 16) (h : Fin 4) (d : Fin 128) : V m c main_v21 (ix2 (rowN b s) (colOf h d)) = VN m c (ix4 b s h d) := by
  rw [V_ops]
  open StableHlo in after_reads_simp
  pointwise
  blk_ext [rowN, colOf]

theorem paddedN_at (x : FVec Ideal S16x16x4x192 .f32) (b r : Fin 16) (h : Fin 4) (d : Fin 256) :
    (paddedN x (ix3 h (rowN b r) d) : EReal) = if hd : d.val < 192 then (x (ix4 b r h (⟨d.val, hd⟩ : Fin 192)) : EReal) else (0 : EReal) := by
  pointwise [paddedN]
  split
  · congr 1
    blk_ext [rowN]
  · exact show (((0#32 : BitVec 32).toInt : ℝ) : EReal) = 0 by simp

theorem paddedC_at (x : FVec Ideal S16x2048x4x192 .f32) (b : Fin 16) (s : Fin 2048) (h : Fin 4) (d : Fin 256) :
    (paddedC x (ix3 h (rowC b s) d) : EReal) = if hd : d.val < 192 then (x (ix4 b s h (⟨d.val, hd⟩ : Fin 192)) : EReal) else (0 : EReal) := by
  pointwise [paddedC]
  split
  · congr 1
    blk_ext [rowC]
  · exact show (((0#32 : BitVec 32).toInt : ℝ) : EReal) = 0 by simp

theorem scale_at (j : S_.Idx) : (scale j : EReal) = ((1 / (Real.sqrt 192 * Real.log 2) : ℝ) : EReal) := by
  pointwise [scale]
  have h2 : (0 : ℝ) < Real.log 2 := Real.log_pos (by norm_num)
  rw [show Ideal.ofBits FTy.f32 1128267776#32 = ((192 : ℝ) : EReal) from Consts.bits_192,
    show Ideal.ofBits FTy.f32 1073741824#32 = ((2 : ℝ) : EReal) from Consts.bits_2, Ideal.sqrt_coe, Ideal.log_coe, if_neg (by norm_num), if_neg (by norm_num),
    ← EReal.coe_mul, Ideal.div_coe (by positivity), one_mul]

theorem idx : ∀ t : Fin cfg0.N, win0_0.index t = ![0, t.val, 0] ∧ win0_1.index t = ![0, t.val, 0] ∧ win0_2.index t = ![t.val, 0]
    ∧ win0_3.index t = ![0, t.val, 0] ∧ win0_4.index t = ![t.val, 0] ∧ win0_5.index t = ![t.val, 0] :=
  (by decide +kernel : ∀ t : Fin grid0.N, _)

/-- The stream of a grid point. -/
def bOf (t : Fin cfg0.N) : Fin 16 := t

theorem blk0 (c : Dev nD) (t : Fin cfg0.N) (h : Fin 4) (r : Fin 16) (d : Fin 256) : iblk m c 0 t (ix3 h r d) = V m c main_v9 (ix3 h (rowN (bOf t) r) d) := by
  blk_ext [iblk, idx t, bOf, rowN]

theorem blk1 (c : Dev nD) (t : Fin cfg0.N) (h : Fin 4) (s : Fin 2048) (d : Fin 256) : iblk m c 1 t (ix3 h s d) = V m c main_v13 (ix3 h (rowC (bOf t) s) d) := by
  blk_ext [iblk, idx t, bOf, rowC]

theorem blk2 (c : Dev nD) (t : Fin cfg0.N) (s : Fin 2048) (n : Fin 512) : iblk m c 2 t (ix2 s n) = V m c main_v15 (ix2 (rowC (bOf t) s) n) := by
  blk_ext [iblk, idx t, bOf, rowC]

theorem blk3 (c : Dev nD) (t : Fin cfg0.N) (h : Fin 4) (r : Fin 16) (d : Fin 256) : iblk m c 3 t (ix3 h r d) = V m c main_v19 (ix3 h (rowN (bOf t) r) d) := by
  blk_ext [iblk, idx t, bOf, rowN]

theorem blk4 (c : Dev nD) (t : Fin cfg0.N) (r : Fin 16) (n : Fin 512) : iblk m c 4 t (ix2 r n) = V m c main_v21 (ix2 (rowN (bOf t) r) n) := by
  blk_ext [iblk, idx t, bOf, rowN]

/-- A load of one of four heads, -/
theorem ld_head {e : EltTy} {B C : Nat} (X : (⟨3, ![4, B, C]⟩ : Shape).Idx → Elt Ideal e) (g : Nat) (h : Fin 4) (hg : h.val = g) (inb) (r : Fin B) (k : Fin C) :
    View.ld X (Rect.unit (s := ⟨3, ![4, B, C]⟩) ![g, 0, 0] ![1, B, C] inb) (ix3 0 r k) = X (ix3 h r k) := by
  subst hg
  refine congrArg X ?_
  funext x
  apply Fin.ext
  fin_cases x
  · show h.val + 1 * 0 = h.val
    omega
  · show 0 + 1 * r.val = r.val
    omega
  · show 0 + 1 * k.val = k.val
    omega

/-- and of its columns. -/
theorem ld_cols {e : EltTy} {B : Nat} (X : (⟨2, ![B, 512]⟩ : Shape).Idx → Elt Ideal e) (g : Nat) (h : Fin 4) (hg : 128 * h.val = g) (inb) (r : Fin B) (k : Fin 128) :
    View.ld X (Rect.unit (s := ⟨2, ![B, 512]⟩) ![0, g] ![B, 128] inb) (ix2 r k) = X (ix2 r (colOf h k)) := by
  subst hg
  refine congrArg X ?_
  funext x
  apply Fin.ext
  fin_cases x
  · show 0 + 1 * r.val = r.val
    omega
  · show 128 * h.val + 1 * k.val = 128 * h.val + k.val
    omega

/-- The reference's result over the arguments. -/
abbrev REF (q : FVec Ideal S16x16x4x192 .f32) (k : FVec Ideal S16x2048x4x192 .f32) (v : FVec Ideal S16x2048x4x128 .f32) (k' : FVec Ideal S16x16x4x192 .f32)
    (v' : FVec Ideal S16x16x4x128 .f32) : FVec Ideal S256x512 .bf16 :=
  Cert.Reference8Ideal.Ref.result (Cert.Reference8Ideal.Ref.probs (Cert.Reference8Ideal.Ref.logits q (Cert.Reference8Ideal.Ref.joinK k k')))
    (Cert.Reference8Ideal.Ref.joinV v v')

/-- One head of one stream. -/
theorem head_ref (c : Dev nD) (t : Fin cfg0.N) (h : Fin 4) (k : Vec Ideal S1x2048x256 .bf16) (k' : Vec Ideal S1x16x256 .bf16) (v : Vec Ideal S2048x128 .bf16)
    (v' : Vec Ideal S16x128 .bf16) (q : Vec Ideal S1x16x256 .bf16)
    (hk : ∀ (s : Fin 2048) (d : Fin 256), k (ix3 0 s d) = iblk m c 1 t (ix3 h s d)) (hk' : ∀ (s : Fin 16) (d : Fin 256), k' (ix3 0 s d) = iblk m c 3 t (ix3 h s d))
    (hv : ∀ (s : Fin 2048) (d : Fin 128), v (ix2 s d) = iblk m c 2 t (ix2 s (colOf h d))) (hv' : ∀ (s : Fin 16) (d : Fin 128), v' (ix2 s d) = iblk m c 4 t (ix2 s (colOf h d)))
    (hq : ∀ (s : Fin 16) (d : Fin 256), q (ix3 0 s d) = iblk m c 0 t (ix3 h s d)) (r : Fin 16) (d : Fin 128) :
    (head ok k k' v v' q (ix2 r d) : EReal) = REF (Q m c) (KC m c) (VC m c) (KN m c) (VN m c) (ix2 (rowN (bOf t) r) (colOf h d)) := by
  refine (head_at k k' v v' q r d (fun j => (Cert.Reference8Ideal.Ref.logits (Q m c) (Cert.Reference8Ideal.Ref.joinK (KC m c) (KN m c)) (ix4 (bOf t) h r j) : EReal))
    (fun j => (Cert.Reference8Ideal.Ref.joinV (VC m c) (VN m c) (ix4 (bOf t) j h d) : EReal)) (fun j hj => ?_) fun j hj => ?_).trans ?_
  · rw [Cert.Reference8Ideal.Ref.logits_at, ← Cert.KernelIdeal.Final.scaled_sum, ← Cert.KernelIdeal.Final.sum_padded]
    refine Finset.sum_congr rfl fun e _ => congr (congrArg _ ?_) ?_
    · rw [hq, blk0, V_v9, paddedN_at]
      split_ifs
      · pointwise
        rw [show (scale ix0 : EReal) = _ from scale_at ix0]
      · rfl
    · rw [joinK_at _ _ _ hj]
      simp only [Cert.Reference8Ideal.Ref.joinK_at]
      by_cases hc : j.val < 2048
      · simp only [dif_pos hc]
        rw [hk, blk1, V_v13, paddedC_at]
      · simp only [dif_neg hc]
        rw [hk', blk3, V_v19, paddedN_at]
  · rw [joinV_at _ _ _ hj, Cert.Reference8Ideal.Ref.joinV_at]
    by_cases hc : j.val < 2048
    · simp only [dif_pos hc]
      rw [hv, blk2, V_v15]
    · simp only [dif_neg hc]
      rw [hv', blk4, V_v21]
  · refine Eq.trans ?_ (Cert.Reference8Ideal.Ref.result_at _ _ (bOf t) h r d).symm
    simp only [Cert.Reference8Ideal.Ref.probs_at, Cert.Reference8Ideal.Ref.rowMax_at]

/-- A head's entry where the block has it. -/
theorem tile (G : Fin 16 → Fin 512 → EReal) (P : S16x128.Idx → EReal) (h : Fin 4) (hP : ∀ (r : Fin 16) (d : Fin 128), P (ix2 r d) = G r (colOf h d))
    {r : Fin 16} {n : Fin 512} {x : S16x128.Idx} (h0 : r.val = (x 0).val) (h1 : n.val = 128 * h.val + (x 1).val) : P x = G r n := by
  have hx : x = ix2 r (x 1 : Fin 128) := funext fun a => Fin.ext (match a with | ⟨0, _⟩ => h0.symm | ⟨1, _⟩ => rfl)
  exact ((congrArg P hx).trans (hP r (x 1 : Fin 128))).trans (congrArg (G r) (Fin.ext h1.symm))

/-- What one grid point leaves. -/
theorem out5 (c : Dev nD) (t : Fin cfg0.N) : out0_5 (F := Ideal) (iblk m c 0 t) (iblk m c 1 t) (iblk m c 2 t) (iblk m c 3 t) (iblk m c 4 t)
    = row2 (fun (r : Fin 16) (n : Fin 512) => (REF (Q m c) (KC m c) (VC m c) (KN m c) (VN m c) (ix2 (rowN (bOf t) r) n) : EReal)) := by
  have H := fun h k k' v v' q hk hk' hv hv' hq r d => head_ref m c t h k k' v v' q hk hk' hv hv' hq r d
  let G : Fin 16 → Fin 512 → EReal := fun r n => REF (Q m c) (KC m c) (VC m c) (KN m c) (VN m c) (ix2 (rowN (bOf t) r) n)
  refine eq_row2 _ _ fun r n => ?_
  rw [out_heads]
  canon_tiles x h
  · exact tile G (head (F := Ideal) ok _ _ _ _ _) 3 (H 3 _ _ _ _ _ (fun s d => ld_head _ 3 3 rfl _ s d) (fun s d => ld_head _ 3 3 rfl _ s d) (fun s d => ld_cols _ 384 3 rfl _ s d) (fun s d => ld_cols _ 384 3 rfl _ s d) fun s d => ld_head _ 3 3 rfl _ s d) h0 h1
  · exact tile G (head (F := Ideal) ok _ _ _ _ _) 2 (H 2 _ _ _ _ _ (fun s d => ld_head _ 2 2 rfl _ s d) (fun s d => ld_head _ 2 2 rfl _ s d) (fun s d => ld_cols _ 256 2 rfl _ s d) (fun s d => ld_cols _ 256 2 rfl _ s d) fun s d => ld_head _ 2 2 rfl _ s d) h0 h1
  · exact tile G (head (F := Ideal) ok _ _ _ _ _) 1 (H 1 _ _ _ _ _ (fun s d => ld_head _ 1 1 rfl _ s d) (fun s d => ld_head _ 1 1 rfl _ s d) (fun s d => ld_cols _ 128 1 rfl _ s d) (fun s d => ld_cols _ 128 1 rfl _ s d) fun s d => ld_head _ 1 1 rfl _ s d) h0 h1
  · exact tile G (head (F := Ideal) ok _ _ _ _ _) 0 (H 0 _ _ _ _ _ (fun s d => ld_head _ 0 0 rfl _ s d) (fun s d => ld_head _ 0 0 rfl _ s d) (fun s d => ld_cols _ 0 0 rfl _ s d) (fun s d => ld_cols _ 0 0 rfl _ s d) fun s d => ld_head _ 0 0 rfl _ s d) h0 (h1.trans (Nat.zero_add _).symm)

/-- The result array. -/
theorem final (c : Dev nD) : (dats m 0 c).arrAt 5 (cfgs 0).N = REF (Q m c) (KC m c) (VC m c) (KN m c) (VN m c) := by
  refine (dats m 0 c).arrAt_eq_of_covers 5 _ (by decide +kernel) fun t hf y => ?_
  blk_simp
  rw [after0_5, out5]
  refine Eq.trans (b := (REF (Q m c) (KC m c) (VC m c) (KN m c) (VN m c) (ix2 (rowN (bOf t) (y 0 : Fin 16)) (y 1 : Fin 512)) : EReal)) rfl (congrArg _ ?_)
  blk_ext [idx t, rowN, bOf]

end Cert.Kernel8Ideal.Sample

end
-- ==== Proof.Band.lean ====
/- Group A's attention of the sample: the reference's result at an index, one pair of heads at a grid point, the arrays that the launch
   stages, and the kernel's result array. -/
module

public import proofs.«01_k».proof.Proof.Gen.Kernel9Ideal.Value
public import proofs.«01_k».proof.Proof.Gen.Reference9Ideal.Run
public import proofs.«01_k».proof.Proof.SampleRef
public import proofs.«01_k».proof.Proof.ProjSpec
public import Idealize.ShloMosaic.Lib.Pointwise
public import Idealize.ShloMosaic.Lib.Pipeline.ValueKit
public import Idealize.ShloMosaic.Lib.Claim
public import Idealize.ShloMosaic.Lib.StableHlo.RunRead

@[expose] public section

set_option maxRecDepth 16384

noncomputable section

namespace Cert.Reference9Ideal.Ref

open Idealize.ShloMosaic Idealize.ShloMosaic.TcCoe Idealize.SL.Sem
open Cert.Reference9Ideal Cert.Reference9Ideal.Gen

section
variable {F : FTy → Type} [FloatOps F] [Named F]

/-- The cached and the new keys, or values. -/
def join (k : FVec F S16x512x8x64 .f32) (k' : FVec F S16x16x8x64 .f32) : FVec F S16x528x8x64 .f32 :=
  concatenate S16x528x8x64 1 [⟨S16x512x8x64, k⟩, ⟨S16x16x8x64, k'⟩] concatenates_S16x512x8x64_S16x16x8x64_S16x528x8x64_d1

/-- The logits with their bias. -/
def logits (q : FVec F S16x16x8x64 .f32) (k : FVec F S16x528x8x64 .f32) (t : FVec F S8x16x640 .f32) : FVec F S16x8x16x528 .f32 :=
  addf (Host.divf (Host.dotGeneral dot_S16x16x8x64_S16x528x8x64_S16x8x16x528_3_3_1_1_02_02 none q k) (broadcastInDim S16x8x16x528 ![] bcast_S_S16x8x16x528 (Host.sqrt (constant S_ .f32 0x42800000#32))))
    (broadcastInDim S16x8x16x528 ![0, 1, 2, 3] bcast_S1x8x16x528_S16x8x16x528_0_1_2_3 (broadcastInDim S1x8x16x528 ![1, 2, 3] bcast_S8x16x528_S1x8x16x528_1_2_3 (extractStridedSlice S8x16x528 ![0, 0, 0] t slices_S8x16x640_S8x16x528_0_0_0)))

/-- Each row's greatest logit. -/
def rowMax (l : FVec F S16x8x16x528 .f32) : FVec F S16x8x16 .f32 :=
  Host.reduce FloatOps.maximumf l (constant S_ .f32 0xFF800000#32) reducesTo_S16x8x16x528_S16x8x16_d3 h_S_

/-- The exponentials. -/
def probs (l : FVec F S16x8x16x528 .f32) : FVec F S16x8x16x528 .f32 :=
  Host.exp (subf l (broadcastInDim S16x8x16x528 ![0, 1, 2, 3] bcast_S16x8x16x1_S16x8x16x528_0_1_2_3 (broadcastInDim S16x8x16x1 ![0, 1, 2] bcast_S16x8x16_S16x8x16x1_0_1_2 (rowMax l))))

/-- The weighted sums over the sums of weights. -/
def result (p : FVec F S16x8x16x528 .f32) (v : FVec F S16x528x8x64 .f32) : FVec F S256x512 .bf16 :=
  truncf .bf16 (shapeCast S256x512 (Host.divf (transpose S16x16x8x64 [0, 3, 1, 2] (Host.dotGeneral dot_S16x528x8x64_S16x8x16x528_S16x8x64x16_1_3_3_2_02_01 none v p) transposes_S16x8x64x16_S16x16x8x64_0_3_1_2)
    (broadcastInDim S16x16x8x64 ![0, 1, 2, 3] bcast_S16x16x8x1_S16x16x8x64_0_1_2_3 (broadcastInDim S16x16x8x1 ![0, 1, 2] bcast_S16x16x8_S16x16x8x1_0_1_2 (transpose S16x16x8 [0, 2, 1] (Host.reduceAdd p (constant S_ .f32 0x00000000#32) reducesTo_S16x8x16x528_S16x8x16_d3 h_S_) transposes_S16x8x16_S16x16x8_0_2_1)))) shapeCasts_S16x16x8x64_S256x512) bitsLt_bf16_f32

theorem res_eq (m : (ℓ : Loc nD τ sig) → Buf (Elt F) ℓ) (c : Dev nD) : Value.res_main_v23 m c
    = result (probs (logits (m ((c.tc : Thread nD τ).loc main_arg0)) (join (m ((c.tc : Thread nD τ).loc main_arg1)) (m ((c.tc : Thread nD τ).loc main_arg3))) (m ((c.tc : Thread nD τ).loc main_arg5))))
        (join (m ((c.tc : Thread nD τ).loc main_arg2)) (m ((c.tc : Thread nD τ).loc main_arg4))) := by
  unfold Value.res_main_v23
  rfl
end

theorem bits_64 : Ideal.ofBits .f32 0x42800000#32 = ((64 : ℝ) : EReal) := by
  simp [Ideal.ofBits, Ideal.ieee, -EReal.coe_mul]
  norm_num

theorem join_at (k : FVec Ideal S16x512x8x64 .f32) (k' : FVec Ideal S16x16x8x64 .f32) (b : Fin 16) (j : Fin 528) (h : Fin 8) (d : Fin 64) :
    (join k k' (ix4 b j h d) : EReal) = if hj : j.val < 512 then k (ix4 b ⟨j.val, hj⟩ h d) else k' (ix4 b ⟨j.val - 512, by omega⟩ h d) := by
  pointwise [join]

theorem logits_at (q : FVec Ideal S16x16x8x64 .f32) (k : FVec Ideal S16x528x8x64 .f32) (t : FVec Ideal S8x16x640 .f32) (b : Fin 16) (h : Fin 8) (r : Fin 16) (j : Fin 528) :
    (logits q k t (ix4 b h r j) : EReal)
      = (∑ d : Fin 64, (show EReal from q (ix4 b r h d)) * (show EReal from k (ix4 b j h d))) * ((1 / Real.sqrt 64 : ℝ) : EReal)
        + (show EReal from t (ix3 h r (⟨j.val, by omega⟩ : Fin 640))) := by
  unfold logits
  pointwise
  rw [show Ideal.ofBits FTy.f32 1115684864#32 = ((64 : ℝ) : EReal) from bits_64, Ideal.sqrt_coe, if_neg (by norm_num), Ideal.div_coe (by positivity)]

theorem rowMax_at (l : FVec Ideal S16x8x16x528 .f32) (b : Fin 16) (h : Fin 8) (r : Fin 16) :
    (rowMax l (ix3 b h r) : EReal) = Finset.univ.fold max ⊥ fun j : Fin 528 => (show EReal from l (ix4 b h r j)) := by
  unfold rowMax
  pointwise
  rw [Consts.bits_neg_inf]

theorem probs_at (l : FVec Ideal S16x8x16x528 .f32) (b : Fin 16) (h : Fin 8) (r : Fin 16) (j : Fin 528) :
    (probs l (ix4 b h r j) : EReal) = Ideal.exp ((show EReal from l (ix4 b h r j)) - (show EReal from rowMax l (ix3 b h r))) := by
  unfold probs
  pointwise

theorem result_at (p : FVec Ideal S16x8x16x528 .f32) (v : FVec Ideal S16x528x8x64 .f32) (b : Fin 16) (h : Fin 8) (t : Fin 16) (d : Fin 64) :
    (result p v (ix2 (⟨16 * b.val + t.val, by omega⟩ : Fin 256) (⟨64 * h.val + d.val, by omega⟩ : Fin 512)) : EReal)
      = Ideal.div (∑ j : Fin 528, (show EReal from v (ix4 b j h d)) * (show EReal from p (ix4 b h t j))) (∑ j : Fin 528, (show EReal from p (ix4 b h t j))) := by
  unfold result
  pointwise

end Cert.Reference9Ideal.Ref

namespace Cert.Kernel9Ideal.Band

open Idealize.ShloMosaic Idealize.ShloMosaic.TcCoe Idealize.SL.Sem
open Cert.Kernel9Ideal Cert.Kernel9Ideal.Gen
open Cert.Proj (row2 eq_row2)

section Model

variable {F : FTy → Type} [FloatOps F] [Named F]

/-- The cached keys, the new ones, and 112 rows of zeros; the same with values. -/
def join (k : Vec F S512x128 .f32) (k' : Vec F S16x128 .f32) : FVec F S640x128 .bf16 :=
  concatenate S640x128 0 [⟨S512x128, truncf .bf16 (shapeCast S512x128 k shapeCasts_S512x128_S512x128 : FVec F S512x128 .f32) bitsLt_bf16_f32⟩,
    ⟨S16x128, truncf .bf16 (shapeCast S16x128 k' shapeCasts_S16x128_S16x128 : FVec F S16x128 .f32) bitsLt_bf16_f32⟩,
    ⟨S112x128, broadcast S112x128 (Scalar.ofBits .bf16 0x0000#16 : F .bf16)⟩] concatenates_S512x128_S16x128_S112x128_S640x128_d0

/-- The lanes of a pair's first head, and of its second. -/
def lower : IVec S16x128 1 := k0_pay2
def upper : IVec S16x128 1 := xori k0_pay2 (constantI S16x128 1 1#1)

/-- The scores with their bias. -/
def scores (b : IVec S16x128 1) (q : Vec F S16x128 .bf16) (k : FVec F S640x128 .bf16) (t : Vec F S1x16x640 .f32) : FVec F S16x640 .f32 :=
  addf (mulf (shapeCast S16x640 t shapeCasts_S1x16x640_S16x640) (broadcast S16x640 (Named.named κ "log2e" 0x3FB8AA3B#32 : F .f32)))
    (matmul dot_S16x128_S640x128_S16x640_1_1_0_0_n_n none (select b (shapeCast S16x128 q shapeCasts_S16x128_S16x128 : FVec F S16x128 .bf16) (broadcast S16x128 (Scalar.ofBits .bf16 0x0000#16 : F .bf16)))
      k (constant S16x640 .f32 0x00000000#32))

/-- The powers of two of the scores less their row's greatest. -/
def probs (s : FVec F S16x640 .f32) : FVec F S16x640 .f32 :=
  exp2 (subf s (broadcastTo S16x640 (shapeCast S16x1 (multiReduction .maximumf [1] S16 s 0xFF800000#32 reduces_S16x640_S16 (.inl rfl) rfl) shapeCasts_S16_S16x1) broadcasts_S16x1_S16x640))

/-- The weighted sum over the sum of weights. -/
def attend (p : FVec F S16x640 .f32) (v : FVec F S640x128 .bf16) : FVec F S16x128 .f32 :=
  divf (matmul dot_S16x640_S640x128_S16x128_1_0_0_1_n_n none (truncf .bf16 p bitsLt_bf16_f32) v (constant S16x128 .f32 0x00000000#32))
    (broadcastTo S16x128 (shapeCast S16x1 (multiReduction .add [1] S16 p 0x00000000#32 reduces_S16x640_S16 (.inl rfl) rfl) shapeCasts_S16_S16x1) broadcasts_S16x1_S16x128)

/-- One head, on its pair's lanes. -/
def head (b : IVec S16x128 1) (k : Vec F S512x128 .f32) (k' : Vec F S16x128 .f32) (v : Vec F S512x128 .f32) (v' : Vec F S16x128 .f32) (q : Vec F S16x128 .bf16)
    (t : Vec F S1x16x640 .f32) : FVec F S16x128 .f32 := attend (probs (scores b q (join k k') t)) (join v v')

/-- Two heads side by side. -/
def pair (k : Vec F S512x128 .f32) (k' : Vec F S16x128 .f32) (v : Vec F S512x128 .f32) (v' : Vec F S16x128 .f32) (q : Vec F S16x128 .bf16)
    (t t' : Vec F S1x16x640 .f32) : FVec F S16x128 .bf16 :=
  truncf .bf16 (select lower (head lower k k' v v' q t) (head upper k k' v v' q t')) bitsLt_bf16_f32

variable (x0 : Vec F S16x512 .bf16) (x1 x2 : Vec F S512x512 .f32) (x3 x4 : Vec F S16x512 .f32) (x5 : Vec F S8x16x640 .f32)

/-- What one grid point stores: the four pairs of heads side by side. -/
theorem out_pairs : out0_6 x0 x1 x2 x3 x4 x5 = View.canon [⟨r0_12, pair (View.ld x1 r0_13) (View.ld x3 r0_12) (View.ld x2 r0_13) (View.ld x4 r0_12) (View.ld x0 r0_12) (View.ld x5 r0_14) (View.ld x5 r0_15)⟩,
    ⟨r0_8, pair (View.ld x1 r0_9) (View.ld x3 r0_8) (View.ld x2 r0_9) (View.ld x4 r0_8) (View.ld x0 r0_8) (View.ld x5 r0_10) (View.ld x5 r0_11)⟩,
    ⟨r0_4, pair (View.ld x1 r0_5) (View.ld x3 r0_4) (View.ld x2 r0_5) (View.ld x4 r0_4) (View.ld x0 r0_4) (View.ld x5 r0_6) (View.ld x5 r0_7)⟩,
    ⟨r0_0, pair (View.ld x1 r0_1) (View.ld x3 r0_0) (View.ld x2 r0_1) (View.ld x4 r0_0) (View.ld x0 r0_0) (View.ld x5 r0_2) (View.ld x5 r0_3)⟩] := by
  unfold out0_6
  rfl

end Model

theorem lower_at (r : Fin 16) (e : Fin 128) {α : Type} (x y : α) : Scalar.select (lower (ix2 r e)) x y = if e.val / 64 = (0 : Fin 2).val then x else y := by
  have h : lower (ix2 r e) = IntOp.cmpi .slt (BitVec.ofNat 32 e.val) (BitVec.ofNat 32 64) := by
    pointwise [lower, k0_pay2]
  rw [h]
  by_cases he : e.val < 64
  · rw [if_pos (show e.val / 64 = (0 : Fin 2).val from (by omega : e.val / 64 = 0)), (WordCmp.cmpi_slt_ofNat_eq_one_iff (by omega) (by omega)).2 he]
    rfl
  · rw [if_neg (show ¬e.val / 64 = (0 : Fin 2).val from (by omega : ¬e.val / 64 = 0)), (WordCmp.cmpi_slt_ofNat_eq_zero_iff (by omega) (by omega)).2 (by omega)]
    rfl

theorem upper_at (r : Fin 16) (e : Fin 128) {α : Type} (x y : α) : Scalar.select (upper (ix2 r e)) x y = if e.val / 64 = (1 : Fin 2).val then x else y := by
  have h : upper (ix2 r e) = IntOp.cmpi .slt (BitVec.ofNat 32 e.val) (BitVec.ofNat 32 64) ^^^ 1#1 := by
    pointwise [upper, k0_pay2]
    rfl
  rw [h]
  by_cases he : e.val < 64
  · rw [if_neg (show ¬e.val / 64 = (1 : Fin 2).val from (by omega : ¬e.val / 64 = 1)), (WordCmp.cmpi_slt_ofNat_eq_one_iff (by omega) (by omega)).2 he]
    rfl
  · rw [if_pos (show e.val / 64 = (1 : Fin 2).val from (by omega : e.val / 64 = 1)), (WordCmp.cmpi_slt_ofNat_eq_zero_iff (by omega) (by omega)).2 (by omega)]
    rfl

theorem join_at (k : Vec Ideal S512x128 .f32) (k' : Vec Ideal S16x128 .f32) (j : Fin 640) (h : j.val < 528) (d : Fin 128) :
    (join k k' (ix2 j d) : EReal) = if hj : j.val < 512 then k (ix2 ⟨j.val, hj⟩ d) else k' (ix2 ⟨j.val - 512, by omega⟩ d) := by
  pointwise [join]
  split_ifs <;> first | rfl | omega

/-- The rows of zeros. -/
theorem join_zero (k : Vec Ideal S512x128 .f32) (k' : Vec Ideal S16x128 .f32) (j : Fin 640) (h : ¬j.val < 528) (d : Fin 128) : (join k k' (ix2 j d) : EReal) = 0 := by
  pointwise [join]
  split_ifs <;> first | rfl | omega

/-- A product over the lanes of one head of a pair. -/
theorem half_sum (hh : Fin 2) (f g : Fin 128 → EReal) : ∑ e : Fin 128, (if e.val / 64 = hh.val then f e else 0) * g e
    = ∑ d : Fin 64, f ⟨64 * hh.val + d.val, by omega⟩ * g ⟨64 * hh.val + d.val, by omega⟩ := by
  refine (Fin.sum_univ_add (a := 64) (b := 64) fun e : Fin 128 => (if e.val / 64 = hh.val then f e else 0) * g e).trans ?_
  have h1 : ∀ d : Fin 64, (Fin.castAdd 64 d).val / 64 = 0 := fun d => Nat.div_eq_of_lt d.isLt
  have h2 : ∀ d : Fin 64, (Fin.natAdd 64 d).val / 64 = 1 := fun d => by
    show (64 + d.val) / 64 = 1
    omega
  simp only [h1, h2]
  fin_cases hh
  · simp only [Fin.mk_one, Fin.zero_eta, Fin.val_zero, if_true, one_ne_zero, if_false, zero_mul, Finset.sum_const_zero, add_zero]
    exact Finset.sum_congr rfl fun d _ => congr (congrArg _ (congrArg f (Fin.ext (by show d.val = 64 * 0 + d.val; omega)))) (congrArg g (Fin.ext (by show d.val = 64 * 0 + d.val; omega)))
  · simp only [Fin.mk_one, Fin.val_one, if_true, zero_ne_one, if_false, zero_mul, Finset.sum_const_zero, zero_add]
    exact Finset.sum_congr rfl fun d _ => rfl

theorem scores_at (b : IVec S16x128 1) (hh : Fin 2) (hb : ∀ (r : Fin 16) (e : Fin 128) (x y : EReal), Scalar.select (b (ix2 r e)) x y = if e.val / 64 = hh.val then x else y)
    (q : Vec Ideal S16x128 .bf16) (k : FVec Ideal S640x128 .bf16) (t : Vec Ideal S1x16x640 .f32) (r : Fin 16) (j : Fin 640) :
    (scores b q k t (ix2 r j) : EReal) = (t (ix3 0 r j) : EReal) * (((Real.log 2)⁻¹ : ℝ) : EReal)
      + ∑ d : Fin 64, (q (ix2 r (⟨64 * hh.val + d.val, by omega⟩ : Fin 128)) : EReal) * k (ix2 j (⟨64 * hh.val + d.val, by omega⟩ : Fin 128)) := by
  have hM : (Named.named κ "log2e" 0x3FB8AA3B#32 : Ideal .f32) = (((Real.log 2)⁻¹ : ℝ) : EReal) := rfl
  rw [← half_sum hh (fun e => (q (ix2 r e) : EReal)) fun e => (k (ix2 j e) : EReal)]
  unfold scores
  pointwise
  rw [hM]
  refine congrArg _ (Finset.sum_congr rfl fun e _ => ?_)
  rw [hb]
  split_ifs
  · rfl
  · exact (zero_mul _).symm

theorem probs_at (s : FVec Ideal S16x640 .f32) (r : Fin 16) (j : Fin 640) :
    (probs s (ix2 r j) : EReal) = Ideal.exp2 ((s (ix2 r j) : EReal) - Finset.univ.fold max ⊥ fun k : Fin 640 => (s (ix2 r k) : EReal)) := by
  pointwise [probs]
  rw [Consts.bits_neg_inf]
  rfl

theorem attend_at (p : FVec Ideal S16x640 .f32) (v : FVec Ideal S640x128 .bf16) (r : Fin 16) (d : Fin 128) :
    (attend p v (ix2 r d) : EReal) = Ideal.div (∑ j : Fin 640, (p (ix2 r j) : EReal) * v (ix2 j d)) (∑ j : Fin 640, (p (ix2 r j) : EReal)) := by
  pointwise [attend]

/-- A head's entry as the reference's softmax, from what its scores and values are. -/
theorem head_at (b : IVec S16x128 1) (k : Vec Ideal S512x128 .f32) (k' : Vec Ideal S16x128 .f32) (v : Vec Ideal S512x128 .f32) (v' : Vec Ideal S16x128 .f32)
    (q : Vec Ideal S16x128 .bf16) (t : Vec Ideal S1x16x640 .f32) (r : Fin 16) (d : Fin 128) (L w : Fin 528 → EReal)
    (hL : ∀ (j : Fin 640) (h : j.val < 528), (scores b q (join k k') t (ix2 r j) : EReal) = L ⟨j.val, h⟩ * (((Real.log 2)⁻¹ : ℝ) : EReal))
    (hb : ∀ j : Fin 640, ¬j.val < 528 → (scores b q (join k k') t (ix2 r j) : EReal) = ⊥)
    (hw : ∀ (j : Fin 640) (h : j.val < 528), (join v v' (ix2 j d) : EReal) = w ⟨j.val, h⟩) :
    (head b k k' v v' q t (ix2 r d) : EReal) = Ideal.div (∑ j, w j * Ideal.exp (L j - Finset.univ.fold max ⊥ L)) (∑ j, Ideal.exp (L j - Finset.univ.fold max ⊥ L)) := by
  have e := fun w W => Softmax.padded_soft (by norm_num : 528 ≤ 640) L w (fun j => (scores b q (join k k') t (ix2 r j) : EReal)) W hL hb
  unfold head
  rw [attend_at]
  simp only [probs_at]
  refine congr (congrArg Ideal.div ((e w _ hw).trans (Finset.sum_congr rfl fun j _ => mul_comm _ _))) ?_
  have := e (fun _ => 1) (fun _ => 1) fun _ _ => rfl
  simpa only [mul_one] using this

/-- The query scale is the reference's times the reciprocal of `log 2`. -/
theorem scaled_sum (f g : Fin 64 → EReal) :
    ∑ d, f d * ((1 / (Real.sqrt 64 * Real.log 2) : ℝ) : EReal) * g d
      = (∑ d, f d * g d) * ((1 / Real.sqrt 64 : ℝ) : EReal) * (((Real.log 2)⁻¹ : ℝ) : EReal) := by
  have hl : 0 < Real.log 2 := Real.log_pos (by norm_num)
  have h0 : (0 : EReal) ≤ ((1 / (Real.sqrt 64 * Real.log 2) : ℝ) : EReal) := EReal.coe_nonneg.2 (by positivity)
  rw [mul_assoc (∑ d, f d * g d), ← EReal.coe_mul, show 1 / Real.sqrt 64 * (Real.log 2)⁻¹ = 1 / (Real.sqrt 64 * Real.log 2) by field_simp,
    mul_comm (∑ d, f d * g d), Softmax.mul_sum_of_nonneg _ h0 (EReal.coe_ne_top _)]
  refine Finset.sum_congr rfl fun d _ => ?_
  rw [mul_comm (f d), mul_assoc]

variable (m : (ℓ : Loc nD τ sig) → Buf (Elt Ideal) ℓ)

/-- The six arguments. -/
abbrev Q (c : Dev nD) : FVec Ideal S16x16x8x64 .f32 := m ((c : Thread nD τ).loc main_arg0)
abbrev KC (c : Dev nD) : FVec Ideal S16x512x8x64 .f32 := m ((c : Thread nD τ).loc main_arg1)
abbrev VC (c : Dev nD) : FVec Ideal S16x512x8x64 .f32 := m ((c : Thread nD τ).loc main_arg2)
abbrev KN (c : Dev nD) : FVec Ideal S16x16x8x64 .f32 := m ((c : Thread nD τ).loc main_arg3)
abbrev VN (c : Dev nD) : FVec Ideal S16x16x8x64 .f32 := m ((c : Thread nD τ).loc main_arg4)
abbrev BT (c : Dev nD) : FVec Ideal S8x16x640 .f32 := m ((c : Thread nD τ).loc main_arg5)

/-- A stream's rows among the new ones and among the cached ones. -/
def rowN (b r : Fin 16) : Fin 256 := ⟨16 * b.val + r.val, by omega⟩
def rowC (b : Fin 16) (s : Fin 512) : Fin 8192 := ⟨512 * b.val + s.val, by omega⟩
/-- A head's column, a pair's column, and a pair's head. -/
def colOf (h : Fin 8) (d : Fin 64) : Fin 512 := ⟨64 * h.val + d.val, by omega⟩
def colP (p : Fin 4) (e : Fin 128) : Fin 512 := ⟨128 * p.val + e.val, by omega⟩
def hd (p : Fin 4) (hh : Fin 2) : Fin 8 := ⟨2 * p.val + hh.val, by omega⟩

theorem colP_lane (p : Fin 4) (hh : Fin 2) (d : Fin 64) : colP p (⟨64 * hh.val + d.val, by omega⟩ : Fin 128) = colOf (hd p hh) d :=
  Fin.ext (by simp only [colP, colOf, hd]; omega)

/-- The query scale as the host takes it. -/
def scale : FVec Ideal S_ .f32 :=
  Host.divf (constant S_ .f32 0x3F800000#32) (mulf (Host.sqrt (constant S_ .f32 0x42800000#32)) (Host.log (constant S_ .f32 0x40000000#32)))

theorem scale_at (j : S_.Idx) : (scale j : EReal) = ((1 / (Real.sqrt 64 * Real.log 2) : ℝ) : EReal) := by
  pointwise [scale]
  have h2 : (0 : ℝ) < Real.log 2 := Real.log_pos (by norm_num)
  rw [show Ideal.ofBits FTy.f32 1115684864#32 = ((64 : ℝ) : EReal) from Cert.Reference9Ideal.Ref.bits_64,
    show Ideal.ofBits FTy.f32 1073741824#32 = ((2 : ℝ) : EReal) from Consts.bits_2, Ideal.sqrt_coe, Ideal.log_coe, if_neg (by norm_num), if_neg (by norm_num),
    ← EReal.coe_mul, Ideal.div_coe (by positivity), one_mul]

/-- All the host's operations before the kernel, in one list. -/
theorem V_ops (c : Dev nD) (b : Ref sig .tc) : V m c b = StableHlo.after (List.flatten [hostOps0, hostOps0_1, hostOps0_2]) (fun b => m (c, b)) (Proc.devRef .tc b) := rfl

theorem V_v12 (c : Dev nD) : V m c main_v12 = truncf .bf16 (shapeCast S256x512 (mulf (Q m c) (broadcastInDim S16x16x8x64 ![] bcast_S_S16x16x8x64 scale)) shapeCasts_S16x16x8x64_S256x512) bitsLt_bf16_f32 := by
  rw [V_ops]
  open StableHlo in after_reads_simp
  rfl

theorem V_q (c : Dev nD) (b r : Fin 16) (h : Fin 8) (d : Fin 64) :
    (V m c main_v12 (ix2 (rowN b r) (colOf h d)) : EReal) = (Q m c (ix4 b r h d) : EReal) * ((1 / (Real.sqrt 64 * Real.log 2) : ℝ) : EReal) := by
  rw [V_v12, ← scale_at ix0]
  pointwise
  congr 1
  blk_ext [rowN, colOf]

theorem V_v13 (c : Dev nD) (b : Fin 16) (s : Fin 512) (h : Fin 8) (d : Fin 64) : V m c main_v13 (ix2 (rowC b s) (colOf h d)) = KC m c (ix4 b s h d) := by
  rw [V_ops]
  open StableHlo in after_reads_simp
  pointwise
  blk_ext [rowC, colOf]

theorem V_v14 (c : Dev nD) (b : Fin 16) (s : Fin 512) (h : Fin 8) (d : Fin 64) : V m c main_v14 (ix2 (rowC b s) (colOf h d)) = VC m c (ix4 b s h d) := by
  rw [V_ops]
  open StableHlo in after_reads_simp
  pointwise
  blk_ext [rowC, colOf]

theorem V_v15 (c : Dev nD) (b s : Fin 16) (h : Fin 8) (d : Fin 64) : V m c main_v15 (ix2 (rowN b s) (colOf h d)) = KN m c (ix4 b s h d) := by
  rw [V_ops]
  open StableHlo in after_reads_simp
  pointwise
  blk_ext [rowN, colOf]

theorem V_v16 (c : Dev nD) (b s : Fin 16) (h : Fin 8) (d : Fin 64) : V m c main_v16 (ix2 (rowN b s) (colOf h d)) = VN m c (ix4 b s h d) := by
  rw [V_ops]
  open StableHlo in after_reads_simp
  pointwise
  blk_ext [rowN, colOf]

theorem V_v8 (c : Dev nD) (h : Fin 8) (r : Fin 16) (j : Fin 640) : (V m c main_v8 (ix3 h r j) : EReal) = if j.val < 528 then (BT m c (ix3 h r j) : EReal) else ⊥ := by
  rw [V_ops]
  open StableHlo in after_reads_simp
  simp only [StableHlo.TRef.toBuf, StableHlo.TRef.ofBuf, cast_eq]
  pointwise
  rw [show (id (constant (F := Ideal) S_ FTy.f32 4286578688#32) ix0 : EReal) = ⊥ from Consts.bits_neg_inf]
  split_ifs with hj
  · exact WordCmp.select_of_eq_one ((WordCmp.cmpi_slt_ofNat_eq_one_iff (by omega) (by omega)).2 hj) _ _
  · exact WordCmp.select_of_eq_zero ((WordCmp.cmpi_slt_ofNat_eq_zero_iff (by omega) (by omega)).2 (by omega)) _ _

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![t.val, 0] :=
  (by decide +kernel : ∀ t : Fin grid0.N, _)

/-- The stream of a grid point. -/
def bOf (t : Fin cfg0.N) : Fin 16 := t

theorem blk0 (c : Dev nD) (t : Fin cfg0.N) (r : Fin 16) (n : Fin 512) : iblk m c 0 t (ix2 r n) = V m c main_v12 (ix2 (rowN (bOf t) r) n) := by
  blk_ext [iblk, idx t, bOf, rowN]

theorem blk1 (c : Dev nD) (t : Fin cfg0.N) (s n : Fin 512) : iblk m c 1 t (ix2 s n) = V m c main_v13 (ix2 (rowC (bOf t) s) n) := by
  blk_ext [iblk, idx t, bOf, rowC]

theorem blk2 (c : Dev nD) (t : Fin cfg0.N) (s n : Fin 512) : iblk m c 2 t (ix2 s n) = V m c main_v14 (ix2 (rowC (bOf t) s) n) := by
  blk_ext [iblk, idx t, bOf, rowC]

theorem blk3 (c : Dev nD) (t : Fin cfg0.N) (r : Fin 16) (n : Fin 512) : iblk m c 3 t (ix2 r n) = V m c main_v15 (ix2 (rowN (bOf t) r) n) := by
  blk_ext [iblk, idx t, bOf, rowN]

theorem blk4 (c : Dev nD) (t : Fin cfg0.N) (r : Fin 16) (n : Fin 512) : iblk m c 4 t (ix2 r n) = V m c main_v16 (ix2 (rowN (bOf t) r) n) := by
  blk_ext [iblk, idx t, bOf, rowN]

theorem blk5 (c : Dev nD) (t : Fin cfg0.N) (h : Fin 8) (r : Fin 16) (j : Fin 640) : iblk m c 5 t (ix3 h r j) = V m c main_v8 (ix3 h r j) := by
  blk_ext [iblk, idx t]

/-- A load of one head's bias, -/
theorem ld_head {e : EltTy} {B C : Nat} (X : (⟨3, ![8, B, C]⟩ : Shape).Idx → Elt Ideal e) (g : Nat) (h : Fin 8) (hg : h.val = g) (inb) (r : Fin B) (k : Fin C) :
    View.ld X (Rect.unit (s := ⟨3, ![8, B, C]⟩) ![g, 0, 0] ![1, B, C] inb) (ix3 0 r k) = X (ix3 h r k) := by
  subst hg
  refine congrArg X ?_
  funext x
  apply Fin.ext
  fin_cases x
  · show h.val + 1 * 0 = h.val
    omega
  · show 0 + 1 * r.val = r.val
    omega
  · show 0 + 1 * k.val = k.val
    omega

/-- and of a pair's columns. -/
theorem ld_cols {e : EltTy} {B : Nat} (X : (⟨2, ![B, 512]⟩ : Shape).Idx → Elt Ideal e) (g : Nat) (p : Fin 4) (hg : 128 * p.val = g) (inb) (r : Fin B) (k : Fin 128) :
    View.ld X (Rect.unit (s := ⟨2, ![B, 512]⟩) ![0, g] ![B, 128] inb) (ix2 r k) = X (ix2 r (colP p k)) := by
  subst hg
  refine congrArg X ?_
  funext x
  apply Fin.ext
  fin_cases x
  · show 0 + 1 * r.val = r.val
    omega
  · show 128 * p.val + 1 * k.val = 128 * p.val + k.val
    omega

/-- The reference's result over the arguments. -/
abbrev REF (q : FVec Ideal S16x16x8x64 .f32) (k v : FVec Ideal S16x512x8x64 .f32) (k' v' : FVec Ideal S16x16x8x64 .f32) (t : FVec Ideal S8x16x640 .f32) : FVec Ideal S256x512 .bf16 :=
  Cert.Reference9Ideal.Ref.result (Cert.Reference9Ideal.Ref.probs (Cert.Reference9Ideal.Ref.logits q (Cert.Reference9Ideal.Ref.join k k') t))
    (Cert.Reference9Ideal.Ref.join v v')

/-- What one grid point should leave at a row and a column. -/
abbrev G (c : Dev nD) (t : Fin cfg0.N) (r : Fin 16) (n : Fin 512) : EReal := REF (Q m c) (KC m c) (VC m c) (KN m c) (VN m c) (BT m c) (ix2 (rowN (bOf t) r) n)

/-- One head of one stream. -/
theorem head_ref (c : Dev nD) (t : Fin cfg0.N) (p : Fin 4) (hh : Fin 2) (b : IVec S16x128 1)
    (hb : ∀ (r : Fin 16) (e : Fin 128) (x y : EReal), Scalar.select (b (ix2 r e)) x y = if e.val / 64 = hh.val then x else y)
    (k : Vec Ideal S512x128 .f32) (k' : Vec Ideal S16x128 .f32) (v : Vec Ideal S512x128 .f32) (v' : Vec Ideal S16x128 .f32) (q : Vec Ideal S16x128 .bf16) (tb : Vec Ideal S1x16x640 .f32)
    (hk : ∀ (s : Fin 512) (e : Fin 128), k (ix2 s e) = iblk m c 1 t (ix2 s (colP p e))) (hk' : ∀ (s : Fin 16) (e : Fin 128), k' (ix2 s e) = iblk m c 3 t (ix2 s (colP p e)))
    (hv : ∀ (s : Fin 512) (e : Fin 128), v (ix2 s e) = iblk m c 2 t (ix2 s (colP p e))) (hv' : ∀ (s : Fin 16) (e : Fin 128), v' (ix2 s e) = iblk m c 4 t (ix2 s (colP p e)))
    (hq : ∀ (s : Fin 16) (e : Fin 128), q (ix2 s e) = iblk m c 0 t (ix2 s (colP p e)))
    (ht : ∀ (s : Fin 16) (j : Fin 640), tb (ix3 0 s j) = iblk m c 5 t (ix3 (hd p hh) s j)) (r : Fin 16) (d : Fin 64) :
    (head b k k' v v' q tb (ix2 r (⟨64 * hh.val + d.val, by omega⟩ : Fin 128)) : EReal) = G m c t r (colOf (hd p hh) d) := by
  have hi : 0 < (Real.log 2)⁻¹ := inv_pos.2 (Real.log_pos (by norm_num))
  refine (head_at b k k' v v' q tb r _ (fun j => (Cert.Reference9Ideal.Ref.logits (Q m c) (Cert.Reference9Ideal.Ref.join (KC m c) (KN m c)) (BT m c) (ix4 (bOf t) (hd p hh) r j) : EReal))
    (fun j => (Cert.Reference9Ideal.Ref.join (VC m c) (VN m c) (ix4 (bOf t) j (hd p hh) d) : EReal)) (fun j hj => ?_) (fun j hj => ?_) fun j hj => ?_).trans ?_
  · rw [scores_at b hh hb, Cert.Reference9Ideal.Ref.logits_at, EReal.right_distrib_of_nonneg_of_ne_top (EReal.coe_nonneg.2 hi.le) (EReal.coe_ne_top _), ← scaled_sum, add_comm]
    refine congr (congrArg _ (Finset.sum_congr rfl fun e _ => congr (congrArg _ ?_) ?_)) (congrArg (· * _) ?_)
    · rw [hq, colP_lane, blk0, V_q]
    · rw [join_at _ _ _ hj, Cert.Reference9Ideal.Ref.join_at]
      by_cases hc : j.val < 512
      · simp only [dif_pos hc]
        rw [hk, colP_lane, blk1, V_v13]
      · simp only [dif_neg hc]
        rw [hk', colP_lane, blk3, V_v15]
    · rw [ht, blk5, V_v8, if_pos hj]
  · rw [scores_at b hh hb, ht, blk5, V_v8, if_neg hj, EReal.bot_mul_coe_of_pos hi, EReal.bot_add]
  · rw [join_at _ _ _ hj, Cert.Reference9Ideal.Ref.join_at]
    by_cases hc : j.val < 512
    · simp only [dif_pos hc]
      rw [hv, colP_lane, blk2, V_v14]
    · simp only [dif_neg hc]
      rw [hv', colP_lane, blk4, V_v16]
  · refine Eq.trans ?_ (Cert.Reference9Ideal.Ref.result_at _ _ (bOf t) (hd p hh) r d).symm
    simp only [Cert.Reference9Ideal.Ref.probs_at, Cert.Reference9Ideal.Ref.rowMax_at]

/-- A pair of heads of one stream. -/
theorem pair_ref (c : Dev nD) (t : Fin cfg0.N) (p : Fin 4) (k : Vec Ideal S512x128 .f32) (k' : Vec Ideal S16x128 .f32) (v : Vec Ideal S512x128 .f32) (v' : Vec Ideal S16x128 .f32)
    (q : Vec Ideal S16x128 .bf16) (tb tb' : Vec Ideal S1x16x640 .f32)
    (hk : ∀ (s : Fin 512) (e : Fin 128), k (ix2 s e) = iblk m c 1 t (ix2 s (colP p e))) (hk' : ∀ (s : Fin 16) (e : Fin 128), k' (ix2 s e) = iblk m c 3 t (ix2 s (colP p e)))
    (hv : ∀ (s : Fin 512) (e : Fin 128), v (ix2 s e) = iblk m c 2 t (ix2 s (colP p e))) (hv' : ∀ (s : Fin 16) (e : Fin 128), v' (ix2 s e) = iblk m c 4 t (ix2 s (colP p e)))
    (hq : ∀ (s : Fin 16) (e : Fin 128), q (ix2 s e) = iblk m c 0 t (ix2 s (colP p e)))
    (ht : ∀ (s : Fin 16) (j : Fin 640), tb (ix3 0 s j) = iblk m c 5 t (ix3 (hd p 0) s j)) (ht' : ∀ (s : Fin 16) (j : Fin 640), tb' (ix3 0 s j) = iblk m c 5 t (ix3 (hd p 1) s j))
    (r : Fin 16) (e : Fin 128) : (pair k k' v v' q tb tb' (ix2 r e) : EReal) = G m c t r (colP p e) := by
  have h : (pair k k' v v' q tb tb' (ix2 r e) : EReal) = Scalar.select (lower (ix2 r e)) (head lower k k' v v' q tb (ix2 r e)) (head upper k k' v v' q tb' (ix2 r e)) := rfl
  rw [h, lower_at]
  by_cases he : e.val < 64
  · have h0 : e = (⟨64 * (0 : Fin 2).val + (⟨e.val, he⟩ : Fin 64).val, by show 64 * 0 + e.val < 128; omega⟩ : Fin 128) := Fin.ext (by show e.val = 64 * 0 + e.val; omega)
    rw [if_pos (show e.val / 64 = (0 : Fin 2).val from (by omega : e.val / 64 = 0))]
    have H := head_ref m c t p 0 lower (fun r e x y => lower_at r e x y) k k' v v' q tb hk hk' hv hv' hq ht r ⟨e.val, he⟩
    rw [← colP_lane, ← h0] at H
    exact H
  · have h1 : e = (⟨64 * (1 : Fin 2).val + (⟨e.val - 64, by omega⟩ : Fin 64).val, by show 64 * 1 + (e.val - 64) < 128; omega⟩ : Fin 128) := Fin.ext (by show e.val = 64 * 1 + (e.val - 64); omega)
    rw [if_neg (show ¬e.val / 64 = (0 : Fin 2).val from (by omega : ¬e.val / 64 = 0))]
    have H := head_ref m c t p 1 upper (fun r e x y => upper_at r e x y) k k' v v' q tb' hk hk' hv hv' hq ht' r ⟨e.val - 64, by omega⟩
    rw [← colP_lane, ← h1] at H
    exact H

/-- A pair's entry where the block has it. -/
theorem tile (G : Fin 16 → Fin 512 → EReal) (P : S16x128.Idx → EReal) (p : Fin 4) (hP : ∀ (r : Fin 16) (e : Fin 128), P (ix2 r e) = G r (colP p e))
    {r : Fin 16} {n : Fin 512} {x : S16x128.Idx} (h0 : r.val = (x 0).val) (h1 : n.val = 128 * p.val + (x 1).val) : P x = G r n := by
  have hx : x = ix2 r (x 1 : Fin 128) := funext fun a => Fin.ext (match a with | ⟨0, _⟩ => h0.symm | ⟨1, _⟩ => rfl)
  exact ((congrArg P hx).trans (hP r (x 1 : Fin 128))).trans (congrArg (G r) (Fin.ext h1.symm))

/-- What one grid point leaves. -/
theorem out6 (c : Dev nD) (t : Fin cfg0.N) : out0_6 (F := Ideal) (iblk m c 0 t) (iblk m c 1 t) (iblk m c 2 t) (iblk m c 3 t) (iblk m c 4 t) (iblk m c 5 t) = row2 (G m c t) := by
  have H := fun p k k' v v' q tb tb' hk hk' hv hv' hq ht ht' r e => pair_ref m c t p k k' v v' q tb tb' hk hk' hv hv' hq ht ht' r e
  refine eq_row2 _ _ fun r n => ?_
  rw [out_pairs]
  canon_tiles x h
  · exact tile (G m c t) (pair (F := Ideal) _ _ _ _ _ _ _) 3 (H 3 _ _ _ _ _ _ _ (fun s d => ld_cols _ 384 3 rfl _ s d) (fun s d => ld_cols _ 384 3 rfl _ s d) (fun s d => ld_cols _ 384 3 rfl _ s d)
      (fun s d => ld_cols _ 384 3 rfl _ s d) (fun s d => ld_cols _ 384 3 rfl _ s d) (fun s d => ld_head _ 6 (hd 3 0) rfl _ s d) fun s d => ld_head _ 7 (hd 3 1) rfl _ s d) h0 h1
  · exact tile (G m c t) (pair (F := Ideal) _ _ _ _ _ _ _) 2 (H 2 _ _ _ _ _ _ _ (fun s d => ld_cols _ 256 2 rfl _ s d) (fun s d => ld_cols _ 256 2 rfl _ s d) (fun s d => ld_cols _ 256 2 rfl _ s d)
      (fun s d => ld_cols _ 256 2 rfl _ s d) (fun s d => ld_cols _ 256 2 rfl _ s d) (fun s d => ld_head _ 4 (hd 2 0) rfl _ s d) fun s d => ld_head _ 5 (hd 2 1) rfl _ s d) h0 h1
  · exact tile (G m c t) (pair (F := Ideal) _ _ _ _ _ _ _) 1 (H 1 _ _ _ _ _ _ _ (fun s d => ld_cols _ 128 1 rfl _ s d) (fun s d => ld_cols _ 128 1 rfl _ s d) (fun s d => ld_cols _ 128 1 rfl _ s d)
      (fun s d => ld_cols _ 128 1 rfl _ s d) (fun s d => ld_cols _ 128 1 rfl _ s d) (fun s d => ld_head _ 2 (hd 1 0) rfl _ s d) fun s d => ld_head _ 3 (hd 1 1) rfl _ s d) h0 h1
  · exact tile (G m c t) (pair (F := Ideal) _ _ _ _ _ _ _) 0 (H 0 _ _ _ _ _ _ _ (fun s d => ld_cols _ 0 0 rfl _ s d) (fun s d => ld_cols _ 0 0 rfl _ s d) (fun s d => ld_cols _ 0 0 rfl _ s d)
      (fun s d => ld_cols _ 0 0 rfl _ s d) (fun s d => ld_cols _ 0 0 rfl _ s d) (fun s d => ld_head _ 0 (hd 0 0) rfl _ s d) fun s d => ld_head _ 1 (hd 0 1) rfl _ s d) h0 (h1.trans (Nat.zero_add _).symm)

/-- The result array. -/
theorem final (c : Dev nD) : (dats m 0 c).arrAt 6 (cfgs 0).N = REF (Q m c) (KC m c) (VC m c) (KN m c) (VN m c) (BT m c) := by
  refine (dats m 0 c).arrAt_eq_of_covers 6 _ (by decide +kernel) fun t hf y => ?_
  blk_simp
  rw [after0_6, out6]
  refine Eq.trans (b := (REF (Q m c) (KC m c) (VC m c) (KN m c) (VN m c) (BT m c) (ix2 (rowN (bOf t) (y 0 : Fin 16)) (y 1 : Fin 512)) : EReal)) rfl (congrArg _ ?_)
  blk_ext [idx t, rowN, bOf]

end Cert.Kernel9Ideal.Band

end
-- ==== Proof.lean ====
/- The certificate's claim: for each program pair the frames of the kernel, its idealization and the reference, the step from the kernel
   to its idealization, and the equality of the two results over the extended reals. -/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.ProjFrame
public import proofs.«01_k».proof.Proof.ProjFrameIdeal
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Final
public import proofs.«01_k».proof.Proof.FfnValue
public import proofs.«01_k».proof.Proof.OutValue
public import proofs.«01_k».proof.Proof.ProjClaim
public import proofs.«01_k».proof.Proof.FfnSample
public import proofs.«01_k».proof.Proof.OutSample
public import proofs.«01_k».proof.Proof.Keys
public import proofs.«01_k».proof.Proof.Sample
public import proofs.«01_k».proof.Proof.Band
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

theorem frame_kernel : Cert.quiescent_Kernel := fun m ρ _ => Cert.Kernel.Gen.frame m ρ

theorem frame_kernelIdeal : Cert.quiescent_KernelIdeal := fun m ρ _ => Cert.KernelIdeal.Gen.frame m ρ

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal := IdealRules.named_const.statement _ _ _ _ _ rfl

theorem algebraic : Cert.algebraic_KernelIdeal_ReferenceIdeal := by
  pair_intro
  · run_from Cert.KernelIdeal.Value.run_blocks m g
  · run_from Cert.ReferenceIdeal.Value.run (F := Ideal) m' g'
    rw [Cert.ReferenceIdeal.Ref.res_eq]
    obtain ⟨h0, h1, h2⟩ := hagree c
    rw [h0, h1, h2]
    exact (Cert.KernelIdeal.Final.final m c).symm

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves2 : Cert.preserves_Kernel2_Kernel2Ideal := trivial

theorem algebraic2 : Cert.algebraic_Kernel2Ideal_Reference2Ideal := by
  pair_intro
  · run_from Cert.Kernel2Ideal.Value.run_blocks m g
  · run_from Cert.Reference2Ideal.Value.run (F := Ideal) m' g'
    exact (Cert.Kernel2Ideal.Ffn.final m c).symm

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3Ideal : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

theorem preserves3 : Cert.preserves_Kernel3_Kernel3Ideal := trivial

theorem algebraic3 : Cert.algebraic_Kernel3Ideal_Reference3Ideal := by
  pair_intro
  · run_from Cert.Kernel3Ideal.Value.run_blocks m g
  · run_from Cert.Reference3Ideal.Value.run (F := Ideal) m' g'
    all_goals obtain ⟨h0, h1, h2, h3, h4, h5, h6, h7, h8⟩ := hagree c
    · refine (Cert.Reference3Ideal.Ref.res0_eq m' c).trans ?_
      rw [h0, h1, h2, h3, h4, h5, h6, h7]
      exact (Cert.Kernel3Ideal.Out.final9 m c).symm
    · refine (Cert.Reference3Ideal.Ref.res1_eq m' c).trans ?_
      rw [h0, h1, h2, h3, h4, h5, h6, h7, h8]
      exact (Cert.Kernel3Ideal.Out.final10 m c).symm

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4Ideal : Cert.quiescent_Reference4Ideal := fun m ρ _ =>
  (θ_run Cert.Reference4Ideal.defs _ _).mono (fun r h => ⟨fun c => (h c).2.2.2.2.2.2.2.2.2.2.2.2.2.2.2.2.2.2.2.2.2, sem_eq_zero_of_no_sems (by decide) r.2⟩)
    (Cert.Reference4Ideal.Value.run (F := Ideal) m ρ)

theorem preserves4 : Cert.preserves_Kernel4_Kernel4Ideal := ⟨IdealRules.named_const.statement _ _ _ _ _ rfl, IdealRules.named_const.statement _ _ _ _ _ rfl,
    IdealRules.named_const.statement _ _ _ _ _ rfl, IdealRules.named_const.statement _ _ _ _ _ rfl⟩

theorem algebraic4 : Cert.algebraic_Kernel4Ideal_Reference4Ideal := by
  exact Cert.Proj.same

theorem frame_kernel5 : Cert.quiescent_Kernel5 := fun m ρ _ => Cert.Kernel5.Gen.frame m ρ

theorem frame_kernel5Ideal : Cert.quiescent_Kernel5Ideal := fun m ρ _ => Cert.Kernel5Ideal.Gen.frame m ρ

theorem frame_reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves5 : Cert.preserves_Kernel5_Kernel5Ideal := trivial

theorem algebraic5 : Cert.algebraic_Kernel5Ideal_Reference5Ideal := by
  pair_intro
  · run_from Cert.Kernel5Ideal.Value.run_blocks m g
  · run_from Cert.Reference5Ideal.Value.run (F := Ideal) m' g'
    exact (Cert.Kernel5Ideal.Ffn.final m c).symm

theorem frame_kernel6 : Cert.quiescent_Kernel6 := fun m ρ _ => Cert.Kernel6.Gen.frame m ρ

theorem frame_kernel6Ideal : Cert.quiescent_Kernel6Ideal := fun m ρ _ => Cert.Kernel6Ideal.Gen.frame m ρ

theorem frame_reference6Ideal : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

theorem preserves6 : Cert.preserves_Kernel6_Kernel6Ideal := trivial

theorem algebraic6 : Cert.algebraic_Kernel6Ideal_Reference6Ideal := by
  pair_intro
  · run_from Cert.Kernel6Ideal.Value.run_blocks m g
  · run_from Cert.Reference6Ideal.Value.run (F := Ideal) m' g'
    all_goals obtain ⟨h0, h1, h2, h3, h4, h5, h6, h7, h8⟩ := hagree c
    · refine (Cert.Reference6Ideal.Ref.res0_eq m' c).trans ?_
      rw [h0, h1, h2, h3, h4, h5, h6, h7]
      exact (Cert.Kernel6Ideal.Out.final9 m c).symm
    · refine (Cert.Reference6Ideal.Ref.res1_eq m' c).trans ?_
      rw [h0, h1, h2, h3, h4, h5, h6, h7, h8]
      exact (Cert.Kernel6Ideal.Out.final10 m c).symm

theorem frame_kernel7 : Cert.quiescent_Kernel7 := fun m ρ _ => Cert.Kernel7.Gen.frame m ρ

theorem frame_kernel7Ideal : Cert.quiescent_Kernel7Ideal := fun m ρ _ => Cert.Kernel7Ideal.Gen.frame m ρ

theorem frame_reference7Ideal : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

theorem preserves7 : Cert.preserves_Kernel7_Kernel7Ideal := trivial

theorem algebraic7 : Cert.algebraic_Kernel7Ideal_Reference7Ideal := by
  pair_intro
  · run_from Cert.Kernel7Ideal.Value.run_blocks m g
  · run_from Cert.Reference7Ideal.Value.run (F := Ideal) m' g'
    · exact (Cert.Kernel7Ideal.Keys.final4 m c).symm
    · exact (Cert.Kernel7Ideal.Keys.final5 m c).symm

theorem frame_kernel8 : Cert.quiescent_Kernel8 := fun m ρ _ => Cert.Kernel8.Gen.frame m ρ

theorem frame_kernel8Ideal : Cert.quiescent_Kernel8Ideal := fun m ρ _ => Cert.Kernel8Ideal.Gen.frame m ρ

theorem frame_reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem preserves8 : Cert.preserves_Kernel8_Kernel8Ideal := IdealRules.named_const.statement _ _ _ _ _ rfl

theorem algebraic8 : Cert.algebraic_Kernel8Ideal_Reference8Ideal := by
  pair_intro
  · run_from Cert.Kernel8Ideal.Value.run_blocks m g
  · run_from Cert.Reference8Ideal.Value.run (F := Ideal) m' g'
    rw [Cert.Reference8Ideal.Ref.res_eq]
    obtain ⟨h0, h1, h2, h3, h4⟩ := hagree c
    rw [h0, h1, h2, h3, h4]
    exact (Cert.Kernel8Ideal.Sample.final m c).symm

theorem frame_kernel9 : Cert.quiescent_Kernel9 := fun m ρ _ => Cert.Kernel9.Gen.frame m ρ

theorem frame_kernel9Ideal : Cert.quiescent_Kernel9Ideal := fun m ρ _ => Cert.Kernel9Ideal.Gen.frame m ρ

theorem frame_reference9Ideal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem preserves9 : Cert.preserves_Kernel9_Kernel9Ideal := IdealRules.named_const.statement _ _ _ _ _ rfl

theorem algebraic9 : Cert.algebraic_Kernel9Ideal_Reference9Ideal := by
  pair_intro
  · run_from Cert.Kernel9Ideal.Value.run_blocks m g
  · run_from Cert.Reference9Ideal.Value.run (F := Ideal) m' g'
    rw [Cert.Reference9Ideal.Ref.res_eq]
    obtain ⟨h0, h1, h2, h3, h4, h5⟩ := hagree c
    rw [h0, h1, h2, h3, h4, h5]
    exact (Cert.Kernel9Ideal.Band.final m c).symm

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts,
  frame_kernel, frame_kernelIdeal, frame_referenceIdeal, frame_kernel2, frame_kernel2Ideal, frame_reference2Ideal, frame_kernel3, frame_kernel3Ideal, frame_reference3Ideal, frame_kernel4, frame_kernel4Ideal, frame_reference4Ideal, frame_kernel5, frame_kernel5Ideal, frame_reference5Ideal, frame_kernel6, frame_kernel6Ideal, frame_reference6Ideal, frame_kernel7, frame_kernel7Ideal, frame_reference7Ideal, frame_kernel8, frame_kernel8Ideal, frame_reference8Ideal, frame_kernel9, frame_kernel9Ideal, frame_reference9Ideal,
  preserves, algebraic, preserves2, algebraic2, preserves3, algebraic3, preserves4, algebraic4, preserves5, algebraic5, preserves6, algebraic6, preserves7, algebraic7, preserves8, algebraic8, preserves9, algebraic9⟩

end Cert.Proof

end
